-- ==== Defs.lean ====
def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_NormQuant [hPre_slots_in_cache : Cert.Pre_slots_in_cache.Facts] (m : (ℓ : Loc Cert.NormQuant.nD Cert.NormQuant.τ Cert.NormQuant.sig) → Buf (Elt Bits) ℓ) : Prop :=
  ∀ c : Dev Cert.NormQuant.nD,
    (Cert.Pre_slots_in_cache.fn (F := Bits) (m ((c.tc : Thread Cert.NormQuant.nD Cert.NormQuant.τ).loc Cert.NormQuant.main_arg0)) (m ((c.tc : Thread Cert.NormQuant.nD Cert.NormQuant.τ).loc Cert.NormQuant.main_arg1)) (m ((c.tc : Thread Cert.NormQuant.nD Cert.NormQuant.τ).loc Cert.NormQuant.main_arg2)) (m ((c.tc : Thread Cert.NormQuant.nD Cert.NormQuant.τ).loc Cert.NormQuant.main_arg3))) = (fun _ => 1#1)

def Pre_NormQuantIdeal [hPre_slots_in_cache : Cert.Pre_slots_in_cache.Facts] (m : (ℓ : Loc Cert.NormQuantIdeal.nD Cert.NormQuantIdeal.τ Cert.NormQuantIdeal.sig) → Buf (Elt Ideal) ℓ) : Prop :=
  ∀ c : Dev Cert.NormQuantIdeal.nD,
    (Cert.Pre_slots_in_cache.fn (F := Ideal) (m ((c.tc : Thread Cert.NormQuantIdeal.nD Cert.NormQuantIdeal.τ).loc Cert.NormQuantIdeal.main_arg0)) (m ((c.tc : Thread Cert.NormQuantIdeal.nD Cert.NormQuantIdeal.τ).loc Cert.NormQuantIdeal.main_arg1)) (m ((c.tc : Thread Cert.NormQuantIdeal.nD Cert.NormQuantIdeal.τ).loc Cert.NormQuantIdeal.main_arg2)) (m ((c.tc : Thread Cert.NormQuantIdeal.nD Cert.NormQuantIdeal.τ).loc Cert.NormQuantIdeal.main_arg3))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_slots_in_cache [hPre_slots_in_cache : Cert.Pre_slots_in_cache.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_slots_in_cache.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3))) = (fun _ => 1#1)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6))
      ∧ r.2.sem = fun _ => 0)

def quiescent_NormQuant [hNormQuant : Cert.NormQuant.Facts] [hPre_slots_in_cache : Cert.Pre_slots_in_cache.Facts] : Prop :=
  ∀ (m : (ℓ : Loc Cert.NormQuant.nD Cert.NormQuant.τ Cert.NormQuant.sig) → Buf (Elt Bits) ℓ) (g : Dev Cert.NormQuant.nD → PrngReg), Pre_NormQuant m →
    θ_run (Cert.NormQuant.defs (F := Bits)) (onTc (τ := Cert.NormQuant.τ) (Cert.NormQuant.main (F := Bits))) ⟨m, fun _ => 0, g⟩ (fun r => (∀ c : Dev Cert.NormQuant.nD,
      r.2.mem ((c.tc : Thread Cert.NormQuant.nD Cert.NormQuant.τ).loc Cert.NormQuant.main_arg0) = m ((c.tc : Thread Cert.NormQuant.nD Cert.NormQuant.τ).loc Cert.NormQuant.main_arg0)
      ∧ r.2.mem ((c.tc : Thread Cert.NormQuant.nD Cert.NormQuant.τ).loc Cert.NormQuant.main_arg1) = m ((c.tc : Thread Cert.NormQuant.nD Cert.NormQuant.τ).loc Cert.NormQuant.main_arg1)
      ∧ r.2.mem ((c.tc : Thread Cert.NormQuant.nD Cert.NormQuant.τ).loc Cert.NormQuant.main_arg2) = m ((c.tc : Thread Cert.NormQuant.nD Cert.NormQuant.τ).loc Cert.NormQuant.main_arg2)
      ∧ r.2.mem ((c.tc : Thread Cert.NormQuant.nD Cert.NormQuant.τ).loc Cert.NormQuant.main_arg3) = m ((c.tc : Thread Cert.NormQuant.nD Cert.NormQuant.τ).loc Cert.NormQuant.main_arg3))
      ∧ r.2.sem = fun _ => 0)

def quiescent_NormQuantIdeal [hNormQuantIdeal : Cert.NormQuantIdeal.Facts] [hPre_slots_in_cache : Cert.Pre_slots_in_cache.Facts] : Prop :=
  ∀ (m : (ℓ : Loc Cert.NormQuantIdeal.nD Cert.NormQuantIdeal.τ Cert.NormQuantIdeal.sig) → Buf (Elt Ideal) ℓ) (g : Dev Cert.NormQuantIdeal.nD → PrngReg), Pre_NormQuantIdeal m →
    θ_run (Cert.NormQuantIdeal.defs (F := Ideal)) (onTc (τ := Cert.NormQuantIdeal.τ) (Cert.NormQuantIdeal.main (F := Ideal))) ⟨m, fun _ => 0, g⟩ (fun r => (∀ c : Dev Cert.NormQuantIdeal.nD,
      r.2.mem ((c.tc : Thread Cert.NormQuantIdeal.nD Cert.NormQuantIdeal.τ).loc Cert.NormQuantIdeal.main_arg0) = m ((c.tc : Thread Cert.NormQuantIdeal.nD Cert.NormQuantIdeal.τ).loc Cert.NormQuantIdeal.main_arg0)
      ∧ r.2.mem ((c.tc : Thread Cert.NormQuantIdeal.nD Cert.NormQuantIdeal.τ).loc Cert.NormQuantIdeal.main_arg1) = m ((c.tc : Thread Cert.NormQuantIdeal.nD Cert.NormQuantIdeal.τ).loc Cert.NormQuantIdeal.main_arg1)
      ∧ r.2.mem ((c.tc : Thread Cert.NormQuantIdeal.nD Cert.NormQuantIdeal.τ).loc Cert.NormQuantIdeal.main_arg2) = m ((c.tc : Thread Cert.NormQuantIdeal.nD Cert.NormQuantIdeal.τ).loc Cert.NormQuantIdeal.main_arg2)
      ∧ r.2.mem ((c.tc : Thread Cert.NormQuantIdeal.nD Cert.NormQuantIdeal.τ).loc Cert.NormQuantIdeal.main_arg3) = m ((c.tc : Thread Cert.NormQuantIdeal.nD Cert.NormQuantIdeal.τ).loc Cert.NormQuantIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_NormReferenceIdeal_pre_slots_in_cache [hNormReferenceIdeal : Cert.NormReferenceIdeal.Facts] [hPre_slots_in_cache : Cert.Pre_slots_in_cache.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_slots_in_cache m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def preserves_OutProj_OutProjIdeal : Prop :=
  True

def algebraic_OutProjIdeal_OutReferenceIdeal [hOutProjIdeal : Cert.OutProjIdeal.Facts] [hOutReferenceIdeal : Cert.OutReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutProjIdeal m →
    (∀ c : Dev Cert.OutProjIdeal.nD,
      m' ((c.tc : Thread Cert.OutReferenceIdeal.nD Cert.OutReferenceIdeal.τ).loc Cert.OutReferenceIdeal.main_arg0) = m ((c.tc : Thread Cert.OutProjIdeal.nD Cert.OutProjIdeal.τ).loc Cert.OutProjIdeal.main_arg0)
      ∧ m' ((c.tc : Thread Cert.OutReferenceIdeal.nD Cert.OutReferenceIdeal.τ).loc Cert.OutReferenceIdeal.main_arg1) = m ((c.tc : Thread Cert.OutProjIdeal.nD Cert.OutProjIdeal.τ).loc Cert.OutProjIdeal.main_arg1)
      ∧ m' ((c.tc : Thread Cert.OutReferenceIdeal.nD Cert.OutReferenceIdeal.τ).loc Cert.OutReferenceIdeal.main_arg2) = m ((c.tc : Thread Cert.OutProjIdeal.nD Cert.OutProjIdeal.τ).loc Cert.OutProjIdeal.main_arg2)
      ∧ m' ((c.tc : Thread Cert.OutReferenceIdeal.nD Cert.OutReferenceIdeal.τ).loc Cert.OutReferenceIdeal.main_arg3) = m ((c.tc : Thread Cert.OutProjIdeal.nD Cert.OutProjIdeal.τ).loc Cert.OutProjIdeal.main_arg3)
      ∧ m' ((c.tc : Thread Cert.OutReferenceIdeal.nD Cert.OutReferenceIdeal.τ).loc Cert.OutReferenceIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v17) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_InProj_InProjIdeal : Prop :=
  True

def algebraic_InProjIdeal_InReferenceIdeal_on_in_proj_defined [hInProjIdeal : Cert.InProjIdeal.Facts] [hInReferenceIdeal : Cert.InReferenceIdeal.Facts] [hOn_in_proj_defined : Cert.On_in_proj_defined.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InProjIdeal m →
    (∀ c : Dev Cert.InProjIdeal.nD,
      m' ((c.tc : Thread Cert.InReferenceIdeal.nD Cert.InReferenceIdeal.τ).loc Cert.InReferenceIdeal.main_arg0) = m ((c.tc : Thread Cert.InProjIdeal.nD Cert.InProjIdeal.τ).loc Cert.InProjIdeal.main_arg0)
      ∧ m' ((c.tc : Thread Cert.InReferenceIdeal.nD Cert.InReferenceIdeal.τ).loc Cert.InReferenceIdeal.main_arg1) = m ((c.tc : Thread Cert.InProjIdeal.nD Cert.InProjIdeal.τ).loc Cert.InProjIdeal.main_arg1)
      ∧ m' ((c.tc : Thread Cert.InReferenceIdeal.nD Cert.InReferenceIdeal.τ).loc Cert.InReferenceIdeal.main_arg2) = m ((c.tc : Thread Cert.InProjIdeal.nD Cert.InProjIdeal.τ).loc Cert.InProjIdeal.main_arg2)
      ∧ m' ((c.tc : Thread Cert.InReferenceIdeal.nD Cert.InReferenceIdeal.τ).loc Cert.InReferenceIdeal.main_arg3) = m ((c.tc : Thread Cert.InProjIdeal.nD Cert.InProjIdeal.τ).loc Cert.InProjIdeal.main_arg3)
      ∧ m' ((c.tc : Thread Cert.InReferenceIdeal.nD Cert.InReferenceIdeal.τ).loc Cert.InReferenceIdeal.main_arg4) = m ((c.tc : Thread Cert.InProjIdeal.nD Cert.InProjIdeal.τ).loc Cert.InProjIdeal.main_arg4)
      ∧ m' ((c.tc : Thread Cert.InReferenceIdeal.nD Cert.InReferenceIdeal.τ).loc Cert.InReferenceIdeal.main_arg5) = m ((c.tc : Thread Cert.InProjIdeal.nD Cert.InProjIdeal.τ).loc Cert.InProjIdeal.main_arg5)
      ∧ m' ((c.tc : Thread Cert.InReferenceIdeal.nD Cert.InReferenceIdeal.τ).loc Cert.InReferenceIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v4_0)) (v1 : (c : Dev Cert.InProjIdeal.nD) → Buf (Elt Ideal) ((c.tc : Thread Cert.InProjIdeal.nD Cert.InProjIdeal.τ).loc Cert.InProjIdeal.main_v4_1)) (v2 : (c : Dev Cert.InProjIdeal.nD) → Buf (Elt Ideal) ((c.tc : Thread Cert.InProjIdeal.nD Cert.InProjIdeal.τ).loc Cert.InProjIdeal.main_v4_2)) (v3 : (c : Dev Cert.InProjIdeal.nD) → Buf (Elt Ideal) ((c.tc : Thread Cert.InProjIdeal.nD Cert.InProjIdeal.τ).loc Cert.InProjIdeal.main_v4_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          (∀ i : (⟨3, ![36, 720, 128]⟩ : Shape).Idx, (Cert.On_in_proj_defined.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6))).1 i = 1#1 → r.2.mem ((c.tc : Thread Cert.InProjIdeal.nD Cert.InProjIdeal.τ).loc Cert.InProjIdeal.main_v4_0) i = v0 c i)
          ∧ (∀ i : (⟨3, ![24, 720, 128]⟩ : Shape).Idx, (Cert.On_in_proj_defined.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6))).2.1 i = 1#1 → r.2.mem ((c.tc : Thread Cert.InProjIdeal.nD Cert.InProjIdeal.τ).loc Cert.InProjIdeal.main_v4_1) i = v1 c i)
          ∧ (∀ i : (⟨2, ![720, 128]⟩ : Shape).Idx, (Cert.On_in_proj_defined.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6))).2.2.1 i = 1#1 → r.2.mem ((c.tc : Thread Cert.InProjIdeal.nD Cert.InProjIdeal.τ).loc Cert.InProjIdeal.main_v4_2) i = v2 c i)
          ∧ (∀ i : (⟨3, ![144, 3, 4608]⟩ : Shape).Idx, (Cert.On_in_proj_defined.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6))).2.2.2 i = 1#1 → r.2.mem ((c.tc : Thread Cert.InProjIdeal.nD Cert.InProjIdeal.τ).loc Cert.InProjIdeal.main_v4_3) i = v3 c i)
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          (∀ i : (⟨3, ![36, 720, 128]⟩ : Shape).Idx, (Cert.On_in_proj_defined.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6))).1 i = 1#1 → r.2.mem ((c.tc : Thread Cert.InReferenceIdeal.nD Cert.InReferenceIdeal.τ).loc Cert.InReferenceIdeal.main_v86) i = v0 c i)
          ∧ (∀ i : (⟨3, ![24, 720, 128]⟩ : Shape).Idx, (Cert.On_in_proj_defined.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6))).2.1 i = 1#1 → r.2.mem ((c.tc : Thread Cert.InReferenceIdeal.nD Cert.InReferenceIdeal.τ).loc Cert.InReferenceIdeal.main_v92) i = v1 c i)
          ∧ (∀ i : (⟨2, ![720, 128]⟩ : Shape).Idx, (Cert.On_in_proj_defined.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6))).2.2.1 i = 1#1 → r.2.mem ((c.tc : Thread Cert.InReferenceIdeal.nD Cert.InReferenceIdeal.τ).loc Cert.InReferenceIdeal.main_v97) i = v2 c i)
          ∧ (∀ i : (⟨3, ![144, 3, 4608]⟩ : Shape).Idx, (Cert.On_in_proj_defined.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6))).2.2.2 i = 1#1 → r.2.mem ((c.tc : Thread Cert.InReferenceIdeal.nD Cert.InReferenceIdeal.τ).loc Cert.InReferenceIdeal.main_v81) i = v3 c i)
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6))

def preserves_NormQuant_NormQuantIdeal : Prop :=
  True

def algebraic_NormQuantIdeal_NormReferenceIdeal [hNormQuantIdeal : Cert.NormQuantIdeal.Facts] [hNormReferenceIdeal : Cert.NormReferenceIdeal.Facts] [hPre_slots_in_cache : Cert.Pre_slots_in_cache.Facts] : Prop :=
  ∀ (m : (ℓ : Loc Cert.NormQuantIdeal.nD Cert.NormQuantIdeal.τ Cert.NormQuantIdeal.sig) → Buf (Elt Ideal) ℓ) (g : Dev Cert.NormQuantIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormQuantIdeal m →
    (∀ c : Dev Cert.NormQuantIdeal.nD,
      m' ((c.tc : Thread Cert.NormReferenceIdeal.nD Cert.NormReferenceIdeal.τ).loc Cert.NormReferenceIdeal.main_arg0) = m ((c.tc : Thread Cert.NormQuantIdeal.nD Cert.NormQuantIdeal.τ).loc Cert.NormQuantIdeal.main_arg0)
      ∧ m' ((c.tc : Thread Cert.NormReferenceIdeal.nD Cert.NormReferenceIdeal.τ).loc Cert.NormReferenceIdeal.main_arg1) = m ((c.tc : Thread Cert.NormQuantIdeal.nD Cert.NormQuantIdeal.τ).loc Cert.NormQuantIdeal.main_arg1)
      ∧ m' ((c.tc : Thread Cert.NormReferenceIdeal.nD Cert.NormReferenceIdeal.τ).loc Cert.NormReferenceIdeal.main_arg2) = m ((c.tc : Thread Cert.NormQuantIdeal.nD Cert.NormQuantIdeal.τ).loc Cert.NormQuantIdeal.main_arg2)
      ∧ m' ((c.tc : Thread Cert.NormReferenceIdeal.nD Cert.NormReferenceIdeal.τ).loc Cert.NormReferenceIdeal.main_arg3) = m ((c.tc : Thread Cert.NormQuantIdeal.nD Cert.NormQuantIdeal.τ).loc Cert.NormQuantIdeal.main_arg3)) →
    ∃ (v0 : (c : Dev Cert.NormQuantIdeal.nD) → Buf (Elt Ideal) ((c.tc : Thread Cert.NormQuantIdeal.nD Cert.NormQuantIdeal.τ).loc Cert.NormQuantIdeal.main_v1_0)) (v1 : (c : Dev Cert.NormQuantIdeal.nD) → Buf (Elt Ideal) ((c.tc : Thread Cert.NormQuantIdeal.nD Cert.NormQuantIdeal.τ).loc Cert.NormQuantIdeal.main_v1_1)) (v2 : (c : Dev Cert.NormQuantIdeal.nD) → Buf (Elt Ideal) ((c.tc : Thread Cert.NormQuantIdeal.nD Cert.NormQuantIdeal.τ).loc Cert.NormQuantIdeal.main_v1_2)) (v3 : (c : Dev Cert.NormQuantIdeal.nD) → Buf (Elt Ideal) ((c.tc : Thread Cert.NormQuantIdeal.nD Cert.NormQuantIdeal.τ).loc Cert.NormQuantIdeal.main_v1_3)),
      θ_run (Cert.NormQuantIdeal.defs (F := Ideal)) (onTc (τ := Cert.NormQuantIdeal.τ) (Cert.NormQuantIdeal.main (F := Ideal))) ⟨m, fun _ => 0, g⟩ (fun r => ∀ c : Dev Cert.NormQuantIdeal.nD,
          r.2.mem ((c.tc : Thread Cert.NormQuantIdeal.nD Cert.NormQuantIdeal.τ).loc Cert.NormQuantIdeal.main_v1_0) = v0 c
          ∧ r.2.mem ((c.tc : Thread Cert.NormQuantIdeal.nD Cert.NormQuantIdeal.τ).loc Cert.NormQuantIdeal.main_v1_1) = v1 c
          ∧ r.2.mem ((c.tc : Thread Cert.NormQuantIdeal.nD Cert.NormQuantIdeal.τ).loc Cert.NormQuantIdeal.main_v1_2) = v2 c
          ∧ r.2.mem ((c.tc : Thread Cert.NormQuantIdeal.nD Cert.NormQuantIdeal.τ).loc Cert.NormQuantIdeal.main_v1_3) = v3 c
          ∧ r.2.mem ((c.tc : Thread Cert.NormQuantIdeal.nD Cert.NormQuantIdeal.τ).loc Cert.NormQuantIdeal.main_arg0) = m ((c.tc : Thread Cert.NormQuantIdeal.nD Cert.NormQuantIdeal.τ).loc Cert.NormQuantIdeal.main_arg0)
          ∧ r.2.mem ((c.tc : Thread Cert.NormQuantIdeal.nD Cert.NormQuantIdeal.τ).loc Cert.NormQuantIdeal.main_arg1) = m ((c.tc : Thread Cert.NormQuantIdeal.nD Cert.NormQuantIdeal.τ).loc Cert.NormQuantIdeal.main_arg1)
          ∧ r.2.mem ((c.tc : Thread Cert.NormQuantIdeal.nD Cert.NormQuantIdeal.τ).loc Cert.NormQuantIdeal.main_arg2) = m ((c.tc : Thread Cert.NormQuantIdeal.nD Cert.NormQuantIdeal.τ).loc Cert.NormQuantIdeal.main_arg2)
          ∧ r.2.mem ((c.tc : Thread Cert.NormQuantIdeal.nD Cert.NormQuantIdeal.τ).loc Cert.NormQuantIdeal.main_arg3) = m ((c.tc : Thread Cert.NormQuantIdeal.nD Cert.NormQuantIdeal.τ).loc Cert.NormQuantIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v27) = v0 c
          ∧ r.2.mem ((c.tc : Thread Cert.NormReferenceIdeal.nD Cert.NormReferenceIdeal.τ).loc Cert.NormReferenceIdeal.main_v20) = v1 c
          ∧ r.2.mem ((c.tc : Thread Cert.NormReferenceIdeal.nD Cert.NormReferenceIdeal.τ).loc Cert.NormReferenceIdeal.main_v31) = v2 c
          ∧ r.2.mem ((c.tc : Thread Cert.NormReferenceIdeal.nD Cert.NormReferenceIdeal.τ).loc Cert.NormReferenceIdeal.main_v36) = v3 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def Claim : Prop :=
  ∃ (hOutProj : Cert.OutProj.Facts) (hOutProjIdeal : Cert.OutProjIdeal.Facts) (hOutReferenceIdeal : Cert.OutReferenceIdeal.Facts) (hInProj : Cert.InProj.Facts) (hInProjIdeal : Cert.InProjIdeal.Facts) (hInReferenceIdeal : Cert.InReferenceIdeal.Facts) (hNormQuant : Cert.NormQuant.Facts) (hNormQuantIdeal : Cert.NormQuantIdeal.Facts) (hNormReferenceIdeal : Cert.NormReferenceIdeal.Facts) (hPre_slots_in_cache : Cert.Pre_slots_in_cache.Facts) (hOn_in_proj_defined : Cert.On_in_proj_defined.Facts),
    quiescent_OutProj (hOutProj := hOutProj)
    ∧ quiescent_OutProjIdeal (hOutProjIdeal := hOutProjIdeal)
    ∧ quiescent_OutReferenceIdeal (hOutReferenceIdeal := hOutReferenceIdeal)
    ∧ quiescent_InProj (hInProj := hInProj)
    ∧ quiescent_InProjIdeal (hInProjIdeal := hInProjIdeal)
    ∧ quiescent_InReferenceIdeal (hInReferenceIdeal := hInReferenceIdeal)
    ∧ quiescent_NormQuant (hNormQuant := hNormQuant) (hPre_slots_in_cache := hPre_slots_in_cache)
    ∧ quiescent_NormQuantIdeal (hNormQuantIdeal := hNormQuantIdeal) (hPre_slots_in_cache := hPre_slots_in_cache)
    ∧ quiescent_NormReferenceIdeal (hNormReferenceIdeal := hNormReferenceIdeal)
    ∧ quiescent_NormReferenceIdeal_pre_slots_in_cache (hNormReferenceIdeal := hNormReferenceIdeal) (hPre_slots_in_cache := hPre_slots_in_cache)
    ∧ preserves_OutProj_OutProjIdeal
    ∧ algebraic_OutProjIdeal_OutReferenceIdeal (hOutProjIdeal := hOutProjIdeal) (hOutReferenceIdeal := hOutReferenceIdeal)
    ∧ preserves_InProj_InProjIdeal
    ∧ algebraic_InProjIdeal_InReferenceIdeal_on_in_proj_defined (hInProjIdeal := hInProjIdeal) (hInReferenceIdeal := hInReferenceIdeal) (hOn_in_proj_defined := hOn_in_proj_defined)
    ∧ preserves_NormQuant_NormQuantIdeal
    ∧ algebraic_NormQuantIdeal_NormReferenceIdeal (hNormQuantIdeal := hNormQuantIdeal) (hNormReferenceIdeal := hNormReferenceIdeal) (hPre_slots_in_cache := hPre_slots_in_cache)
-- ==== On_in_proj_defined.lean ====
abbrev S720x2048 : Shape := ⟨2, ![720, 2048]⟩
abbrev S720x128 : Shape := ⟨2, ![720, 128]⟩
abbrev S2048x7692 : Shape := ⟨2, ![2048, 7692]⟩
abbrev S7692 : Shape := ⟨1, ![7692]⟩
abbrev S4608x4 : Shape := ⟨2, ![4608, 4]⟩
abbrev S18x36x24x128 : Shape := ⟨4, ![18, 36, 24, 128]⟩
abbrev S144 : Shape := ⟨1, ![144]⟩
abbrev S128 : Shape := ⟨1, ![128]⟩
abbrev S_ : Shape := ⟨0, ![]⟩
abbrev S36x720x128 : Shape := ⟨3, ![36, 720, 128]⟩
abbrev S24x720x128 : Shape := ⟨3, ![24, 720, 128]⟩
abbrev S1x128 : Shape := ⟨2, ![1, 128]⟩
abbrev S144x1x1 : Shape := ⟨3, ![144, 1, 1]⟩
abbrev S144x3x4608 : Shape := ⟨3, ![144, 3, 4608]⟩

class Facts : Prop where
  bcast_S_S128 : S_.BroadcastsInDim S128 (![] : Fin 0 → Fin S128.rank)
  bcast_S_S144 : S_.BroadcastsInDim S144 (![] : Fin 0 → Fin S144.rank)
  bcast_S_S36x720x128 : S_.BroadcastsInDim S36x720x128 (![] : Fin 0 → Fin S36x720x128.rank)
  bcast_S_S24x720x128 : S_.BroadcastsInDim S24x720x128 (![] : Fin 0 → Fin S24x720x128.rank)
  bcast_S128_S1x128_1 : S128.BroadcastsInDim S1x128 (![1] : Fin 1 → Fin S1x128.rank)
  bcast_S1x128_S720x128_0_1 : S1x128.BroadcastsInDim S720x128 (![0, 1] : Fin 2 → Fin S720x128.rank)
  bcast_S144_S144x1x1_0 : S144.BroadcastsInDim S144x1x1 (![0] : Fin 1 → Fin S144x1x1.rank)
  bcast_S144x1x1_S144x3x4608_0_1_2 : S144x1x1.BroadcastsInDim S144x3x4608 (![0, 1, 2] : Fin 3 → Fin S144x3x4608.rank)

variable [Facts]

def fn {F : FTy → Type} [FloatOps F] (main_arg0 : FVec F S720x2048 .bf16) (main_arg1 : FVec F S720x128 .f32) (main_arg2 : IVec S2048x7692 8) (main_arg3 : FVec F S7692 .f32) (main_arg4 : FVec F S4608x4 .f32) (main_arg5 : FVec F S18x36x24x128 .f32) (main_arg6 : IVec S144 32) : IVec S36x720x128 1 × IVec S24x720x128 1 × IVec S720x128 1 × IVec S144x3x4608 1 :=
  let main_v0 : IVec S128 32 := iotaInDim S128 32 0
  let main_c : IVec S_ 32 := constantI S_ 32 12#32
  let main_v1 : IVec S128 32 := broadcastInDim S128 ![] bcast_S_S128 main_c
  let main_v2 : IVec S128 1 := cmpi .slt main_v0 main_v1
  let main_c_0 : IVec S_ 32 := constantI S_ 32 1#32
  let main_v3 : IVec S144 32 := broadcastInDim S144 ![] bcast_S_S144 main_c_0
  let main_v4 : IVec S144 1 := cmpi .sge main_arg6 main_v3
  let main_c_1 : IVec S_ 32 := constantI S_ 32 5#32
  let main_v5 : IVec S144 32 := broadcastInDim S144 ![] bcast_S_S144 main_c_1
  let main_v6 : IVec S144 1 := cmpi .sle main_arg6 main_v5
  let main_v7 : IVec S144 1 := andi main_v4 main_v6
  let main_c_2 : IVec S_ 1 := constantI S_ 1 1#1
  let main_v8 : IVec S36x720x128 1 := broadcastInDim S36x720x128 ![] bcast_S_S36x720x128 main_c_2
  let main_c_3 : IVec S_ 1 := constantI S_ 1 1#1
  let main_v9 : IVec S24x720x128 1 := broadcastInDim S24x720x128 ![] bcast_S_S24x720x128 main_c_3
  let main_v10 : IVec S1x128 1 := broadcastInDim S1x128 ![1] bcast_S128_S1x128_1 main_v2
  let main_v11 : IVec S720x128 1 := broadcastInDim S720x128 ![0, 1] bcast_S1x128_S720x128_0_1 main_v10
  let main_v12 : IVec S144x1x1 1 := broadcastInDim S144x1x1 ![0] bcast_S144_S144x1x1_0 main_v7
  let main_v13 : IVec S144x3x4608 1 := broadcastInDim S144x3x4608 ![0, 1, 2] bcast_S144x1x1_S144x3x4608_0_1_2 main_v12
  (main_v8, main_v9, main_v11, main_v13)
-- ==== Pre_slots_in_cache.lean ====
abbrev S144x5x2048 : Shape := ⟨3, ![144, 5, 2048]⟩
abbrev S2048 : Shape := ⟨1, ![2048]⟩
abbrev S181x3x4608 : Shape := ⟨3, ![181, 3, 4608]⟩
abbrev S144 : Shape := ⟨1, ![144]⟩
abbrev S_ : Shape := ⟨0, ![]⟩

class Facts : Prop where
  bcast_S_S144 : S_.BroadcastsInDim S144 (![] : Fin 0 → Fin S144.rank)
  reducesTo_S144_S_d0 : S144.ReducesTo [0] S_
  h_S_ : 0 < S_.numel

variable [Facts]

def fn {F : FTy → Type} [FloatOps F] (main_arg0 : FVec F S144x5x2048 .bf16) (main_arg1 : FVec F S2048 .f32) (main_arg2 : FVec F S181x3x4608 .bf16) (main_arg3 : IVec S144 32) : IVec S_ 1 :=
  let main_c : IVec S_ 32 := constantI S_ 32 0#32
  let main_v0 : IVec S144 32 := broadcastInDim S144 ![] bcast_S_S144 main_c
  let main_v1 : IVec S144 1 := cmpi .sge main_arg3 main_v0
  let main_c_0 : IVec S_ 32 := constantI S_ 32 181#32
  let main_v2 : IVec S144 32 := broadcastInDim S144 ![] bcast_S_S144 main_c_0
  let main_v3 : IVec S144 1 := cmpi .slt main_arg3 main_v2
  let main_v4 : IVec S144 1 := andi main_v1 main_v3
  let main_c_1 : IVec S_ 1 := constantI S_ 1 1#1
  let main_v5 : IVec S_ 1 := (fun x v => Host.reduce IntOp.andi x v reducesTo_S144_S_d0 h_S_) main_v4 main_c_1
  main_v5
-- ==== OutProj.lean ====
abbrev S1152x3072 : Shape := ⟨2, ![1152, 3072]⟩
abbrev S144x8x128 : Shape := ⟨3, ![144, 8, 128]⟩
abbrev S3072x2048 : Shape := ⟨2, ![3072, 2048]⟩
abbrev S2048 : Shape := ⟨1, ![2048]⟩
abbrev S144x5x2048 : Shape := ⟨3, ![144, 5, 2048]⟩
abbrev S1x2048 : Shape := ⟨2, ![1, 2048]⟩
abbrev S3072x256 : Shape := ⟨2, ![3072, 256]⟩
abbrev S1x256 : Shape := ⟨2, ![1, 256]⟩
abbrev S144x5x256 : Shape := ⟨3, ![144, 5, 256]⟩
abbrev S1152x256 : Shape := ⟨2, ![1152, 256]⟩
abbrev S5x256 : Shape := ⟨2, ![5, 256]⟩
abbrev S1x5x1 : Shape := ⟨3, ![1, 5, 1]⟩
abbrev S5x1 : Shape := ⟨2, ![5, 1]⟩
abbrev S1x5x256 : Shape := ⟨3, ![1, 5, 256]⟩

abbrev nBuf : Space → Nat
  | .hbm => 7
  | .vmem => 10
  | .smem => 0
  | _ => 0

abbrev bufTy : (tb : Table) → Fin (tcTables nBuf tb) → BufTy
  | .hbm, ⟨0, _⟩ => ⟨S1152x3072, .f32⟩
  | .hbm, ⟨1, _⟩ => ⟨S144x8x128, .f32⟩
  | .hbm, ⟨2, _⟩ => ⟨S3072x2048, .i8⟩
  | .hbm, ⟨3, _⟩ => ⟨S2048, .f32⟩
  | .hbm, ⟨4, _⟩ => ⟨S144x5x2048, .bf16⟩
  | .hbm, ⟨5, _⟩ => ⟨S1x2048, .f32⟩
  | .hbm, ⟨6, _⟩ => ⟨S144x5x2048, .bf16⟩
  | .local _ .vmem, ⟨0, _⟩ => ⟨S1152x3072, .f32⟩
  | .local _ .vmem, ⟨1, _⟩ => ⟨S144x8x128, .f32⟩
  | .local _ .vmem, ⟨2, _⟩ => ⟨S3072x256, .i8⟩
  | .local _ .vmem, ⟨3, _⟩ => ⟨S3072x256, .i8⟩
  | .local _ .vmem, ⟨4, _⟩ => ⟨S1x256, .f32⟩
  | .local _ .vmem, ⟨5, _⟩ => ⟨S1x256, .f32⟩
  | .local _ .vmem, ⟨6, _⟩ => ⟨S144x5x256, .bf16⟩
  | .local _ .vmem, ⟨7, _⟩ => ⟨S144x5x256, .bf16⟩
  | .local _ .vmem, ⟨8, _⟩ => ⟨S144x5x256, .bf16⟩
  | .local _ .vmem, ⟨9, _⟩ => ⟨S144x5x256, .bf16⟩
  | _, _ => ⟨S1152x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S1152x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S144x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3072x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S144x5x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S144x5x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutReferenceIdeal.lean ====
abbrev S1152x3072 : Shape := ⟨2, ![1152, 3072]⟩
abbrev S144x8x128 : Shape := ⟨3, ![144, 8, 128]⟩
abbrev S3072x2048 : Shape := ⟨2, ![3072, 2048]⟩
abbrev S2048 : Shape := ⟨1, ![2048]⟩
abbrev S144x5x2048 : Shape := ⟨3, ![144, 5, 2048]⟩
abbrev S144x8x3072 : Shape := ⟨3, ![144, 8, 3072]⟩
abbrev S144x5x3072 : Shape := ⟨3, ![144, 5, 3072]⟩
abbrev S144x5x1 : Shape := ⟨3, ![144, 5, 1]⟩
abbrev S144x5 : Shape := ⟨2, ![144, 5]⟩
abbrev S1x1x2048 : Shape := ⟨3, ![1, 1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S1152x3072, .f32⟩
  | .hbm, ⟨1, _⟩ => ⟨S144x8x128, .f32⟩
  | .hbm, ⟨2, _⟩ => ⟨S3072x2048, .i8⟩
  | .hbm, ⟨3, _⟩ => ⟨S2048, .f32⟩
  | .hbm, ⟨4, _⟩ => ⟨S144x5x2048, .bf16⟩
  | .hbm, ⟨5, _⟩ => ⟨S144x8x3072, .f32⟩
  | .hbm, ⟨6, _⟩ => ⟨S144x5x3072, .f32⟩
  | .hbm, ⟨7, _⟩ => ⟨S144x5x3072, .bf16⟩
  | .hbm, ⟨8, _⟩ => ⟨S144x5x1, .f32⟩
  | .hbm, ⟨9, _⟩ => ⟨S144x5, .f32⟩
  | .hbm, ⟨10, _⟩ => ⟨S3072x2048, .i32⟩
  | .hbm, ⟨11, _⟩ => ⟨S3072x2048, .f32⟩
  | .hbm, ⟨12, _⟩ => ⟨S3072x2048, .bf16⟩
  | .hbm, ⟨13, _⟩ => ⟨S144x5x2048, .f32⟩
  | .hbm, ⟨14, _⟩ => ⟨S144x5x1, .f32⟩
  | .hbm, ⟨15, _⟩ => ⟨S1x1x2048, .f32⟩
  | .hbm, ⟨16, _⟩ => ⟨S144x5x2048, .f32⟩
  | .hbm, ⟨17, _⟩ => ⟨S144x5x2048, .f32⟩
  | .hbm, ⟨18, _⟩ => ⟨S144x5x2048, .f32⟩
  | .hbm, ⟨19, _⟩ => ⟨S144x5x2048, .f32⟩
  | .hbm, ⟨20, _⟩ => ⟨S144x5x2048, .f32⟩
  | .hbm, ⟨21, _⟩ => ⟨S144x5x2048, .f32⟩
  | .hbm, ⟨22, _⟩ => ⟨S144x5x2048, .bf16⟩
  | _, _ => ⟨S1152x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== InProj.lean ====
abbrev S720x2048 : Shape := ⟨2, ![720, 2048]⟩
abbrev S720x128 : Shape := ⟨2, ![720, 128]⟩
abbrev S2048x7692 : Shape := ⟨2, ![2048, 7692]⟩
abbrev S7692 : Shape := ⟨1, ![7692]⟩
abbrev S4608x4 : Shape := ⟨2, ![4608, 4]⟩
abbrev S18x36x24x128 : Shape := ⟨4, ![18, 36, 24, 128]⟩
abbrev S144 : Shape := ⟨1, ![144]⟩
abbrev S144x1 : Shape := ⟨2, ![144, 1]⟩
abbrev S144x128 : Shape := ⟨2, ![144, 128]⟩
abbrev S1x7692 : Shape := ⟨2, ![1, 7692]⟩
abbrev S4x4608 : Shape := ⟨2, ![4, 4608]⟩
abbrev S36x720x128 : Shape := ⟨3, ![36, 720, 128]⟩
abbrev S24x720x128 : Shape := ⟨3, ![24, 720, 128]⟩
abbrev S144x3x4608 : Shape := ⟨3, ![144, 3, 4608]⟩
abbrev S2048x256 : Shape := ⟨2, ![2048, 256]⟩
abbrev S1x256 : Shape := ⟨2, ![1, 256]⟩
abbrev S4x256 : Shape := ⟨2, ![4, 256]⟩
abbrev S18x2x24x128 : Shape := ⟨4, ![18, 2, 24, 128]⟩
abbrev S2x720x128 : Shape := ⟨3, ![2, 720, 128]⟩
abbrev S144x3x256 : Shape := ⟨3, ![144, 3, 256]⟩
abbrev S2x24x128 : Shape := ⟨3, ![2, 24, 128]⟩
abbrev S720x256 : Shape := ⟨2, ![720, 256]⟩
abbrev S720x1 : Shape := ⟨2, ![720, 1]⟩
abbrev S1x720x128 : Shape := ⟨3, ![1, 720, 128]⟩
abbrev S8x128 : Shape := ⟨2, ![8, 128]⟩
abbrev S4x128 : Shape := ⟨2, ![4, 128]⟩
abbrev S1x1x8x128 : Shape := ⟨4, ![1, 1, 8, 128]⟩
abbrev S1x8x128 : Shape := ⟨3, ![1, 8, 128]⟩
abbrev S1x128 : Shape := ⟨2, ![1, 128]⟩
abbrev S1x3x128 : Shape := ⟨3, ![1, 3, 128]⟩
abbrev S3x128 : Shape := ⟨2, ![3, 128]⟩
abbrev S3x256 : Shape := ⟨2, ![3, 256]⟩
abbrev S1x3x256 : Shape := ⟨3, ![1, 3, 256]⟩
abbrev S720 : Shape := ⟨1, ![720]⟩

abbrev nBuf : Space → Nat
  | .hbm => 15
  | .vmem => 19
  | .smem => 0
  | _ => 0

abbrev bufTy : (tb : Table) → Fin (tcTables nBuf tb) → BufTy
  | .hbm, ⟨0, _⟩ => ⟨S720x2048, .bf16⟩
  | .hbm, ⟨1, _⟩ => ⟨S720x128, .f32⟩
  | .hbm, ⟨2, _⟩ => ⟨S2048x7692, .i8⟩
  | .hbm, ⟨3, _⟩ => ⟨S7692, .f32⟩
  | .hbm, ⟨4, _⟩ => ⟨S4608x4, .f32⟩
  | .hbm, ⟨5, _⟩ => ⟨S18x36x24x128, .f32⟩
  | .hbm, ⟨6, _⟩ => ⟨S144, .i32⟩
  | .hbm, ⟨7, _⟩ => ⟨S144x1, .i32⟩
  | .hbm, ⟨8, _⟩ => ⟨S144x128, .i32⟩
  | .hbm, ⟨9, _⟩ => ⟨S1x7692, .f32⟩
  | .hbm, ⟨10, _⟩ => ⟨S4x4608, .f32⟩
  | .hbm, ⟨11, _⟩ => ⟨S36x720x128, .f32⟩
  | .hbm, ⟨12, _⟩ => ⟨S24x720x128, .f32⟩
  | .hbm, ⟨13, _⟩ => ⟨S720x128, .f32⟩
  | .hbm, ⟨14, _⟩ => ⟨S144x3x4608, .bf16⟩
  | .local _ .vmem, ⟨0, _⟩ => ⟨S720x2048, .bf16⟩
  | .local _ .vmem, ⟨1, _⟩ => ⟨S720x128, .f32⟩
  | .local _ .vmem, ⟨2, _⟩ => ⟨S2048x256, .i8⟩
  | .local _ .vmem, ⟨3, _⟩ => ⟨S2048x256, .i8⟩
  | .local _ .vmem, ⟨4, _⟩ => ⟨S1x256, .f32⟩
  | .local _ .vmem, ⟨5, _⟩ => ⟨S1x256, .f32⟩
  | .local _ .vmem, ⟨6, _⟩ => ⟨S4x256, .f32⟩
  | .local _ .vmem, ⟨7, _⟩ => ⟨S4x256, .f32⟩
  | .local _ .vmem, ⟨8, _⟩ => ⟨S18x2x24x128, .f32⟩
  | .local _ .vmem, ⟨9, _⟩ => ⟨S18x2x24x128, .f32⟩
  | .local _ .vmem, ⟨10, _⟩ => ⟨S144x128, .i32⟩
  | .local _ .vmem, ⟨11, _⟩ => ⟨S2x720x128, .f32⟩
  | .local _ .vmem, ⟨12, _⟩ => ⟨S2x720x128, .f32⟩
  | .local _ .vmem, ⟨13, _⟩ => ⟨S2x720x128, .f32⟩
  | .local _ .vmem, ⟨14, _⟩ => ⟨S2x720x128, .f32⟩
  | .local _ .vmem, ⟨15, _⟩ => ⟨S720x128, .f32⟩
  | .local _ .vmem, ⟨16, _⟩ => ⟨S144x3x256, .bf16⟩
  | .local _ .vmem, ⟨17, _⟩ => ⟨S144x3x256, .bf16⟩
  | .local _ .vmem, ⟨18, _⟩ => ⟨S2x24x128, .f32⟩
  | _, _ => ⟨S720x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![31], ![false]⟩

def k0_cond1 (i : grid0.Coords) : BitVec 1 :=
  let arg0 : BitVec 32 := BitVec.ofNat 32 (i 0).val
  let c18_i32 : BitVec 32 := 18#32
  let v13 : BitVec 1 := Scalar.cmpi .slt arg0 c18_i32
  let v14 : BitVec 32 := Scalar.extui v13
  let c0_i32 : BitVec 32 := 0#32
  let v15 : BitVec 1 := Scalar.cmpi .ne v14 c0_i32
  v15

@[reducible] def k0_t1_loop : Scf.Loop 32 :=
  let c0_i32_16 : BitVec 32 := 0#32
  let c18_i32_17 : BitVec 32 := 18#32
  let v32 : BitVec 32 := Scalar.addi c0_i32_16 c18_i32_17
  let c1_i32 : BitVec 32 := 1#32
  ⟨c0_i32_16, v32, c1_i32⟩
def k0_mult1 (k0_t1 : Fin k0_t1_loop.trips) : BitVec 32 :=
  let c0_i32_16 : BitVec 32 := 0#32
  let c1_i32 : BitVec 32 := 1#32
  let arg13 : BitVec 32 := Scf.iv c0_i32_16 c1_i32 k0_t1
  let c40_i32 : BitVec 32 := 40#32
  let v36 : BitVec 32 := Scalar.muli arg13 c40_i32
  v36
def k0_mult2 (k0_t1 : Fin k0_t1_loop.trips) : BitVec 32 :=
  let c0_i32_16 : BitVec 32 := 0#32
  let c1_i32 : BitVec 32 := 1#32
  let arg13 : BitVec 32 := Scf.iv c0_i32_16 c1_i32 k0_t1
  let c8_i32 : BitVec 32 := 8#32
  let v38 : BitVec 32 := Scalar.muli arg13 c8_i32
  v38
def k0_off1 (k0_t1 : Fin k0_t1_loop.trips) : Fin 2 → Nat :=
  let c0_i32_16 : BitVec 32 := 0#32
  let c1_i32 : BitVec 32 := 1#32
  let arg13 : BitVec 32 := Scf.iv c0_i32_16 c1_i32 k0_t1
  let c8_i32 : BitVec 32 := 8#32
  let v38 : BitVec 32 := Scalar.muli arg13 c8_i32
  let v39 : BitVec 32 := v38
  let v40 : Index := Scalar.indexCast v39
  let c0_20 : Index := 0#32
  ![v40.toNat, 0]
def k0_off2 (k0_t1 : Fin k0_t1_loop.trips) : Fin 4 → Nat :=
  let c0_i32_16 : BitVec 32 := 0#32
  let c1_i32 : BitVec 32 := 1#32
  let arg13 : BitVec 32 := Scf.iv c0_i32_16 c1_i32 k0_t1
  let v45 : Index := Scalar.indexCast arg13
  let c0_23 : Index := 0#32
  let c0_24 : Index := 0#32
  let c0_25 : Index := 0#32
  ![v45.toNat, 0, 0, 0]
def k0_off3 (k0_t1 : Fin k0_t1_loop.trips) : Fin 4 → Nat :=
  let c0_i32_16 : BitVec 32 := 0#32
  let c1_i32 : BitVec 32 := 1#32
  let arg13 : BitVec 32 := Scf.iv c0_i32_16 c1_i32 k0_t1
  let v48 : Index := Scalar.indexCast arg13
  let c0_26 : Index := 0#32
  let c8 : Index := 8#32
  let c0_27 : Index := 0#32
  ![v48.toNat, 0, 8, 0]
def k0_off4 (k0_t1 : Fin k0_t1_loop.trips) : Fin 4 → Nat :=
  let c0_i32_16 : BitVec 32 := 0#32
  let c1_i32 : BitVec 32 := 1#32
  let arg13 : BitVec 32 := Scf.iv c0_i32_16 c1_i32 k0_t1
  let v51 : Index := Scalar.indexCast arg13
  let c0_28 : Index := 0#32
  let c16 : Index := 16#32
  let c0_29 : Index := 0#32
  ![v51.toNat, 0, 16, 0]
def k0_off5 (k0_t1 : Fin k0_t1_loop.trips) (c0_i32_30 : BitVec 32) : Fin 3 → Nat :=
  let c0_31 : Index := 0#32
  let c0_i32_16 : BitVec 32 := 0#32
  let c1_i32 : BitVec 32 := 1#32
  let arg13 : BitVec 32 := Scf.iv c0_i32_16 c1_i32 k0_t1
  let c40_i32 : BitVec 32 := 40#32
  let v36 : BitVec 32 := Scalar.muli arg13 c40_i32
  let v37 : BitVec 32 := v36
  let v54 : BitVec 32 := Scalar.addi v37 c0_i32_30
  let v55 : Index := Scalar.indexCast v54
  let c0_32 : Index := 0#32
  ![0, v55.toNat, 0]
def k0_off6 (k0_t1 : Fin k0_t1_loop.trips) : Fin 4 → Nat :=
  let c0_i32_16 : BitVec 32 := 0#32
  let c1_i32 : BitVec 32 := 1#32
  let arg13 : BitVec 32 := Scf.iv c0_i32_16 c1_i32 k0_t1
  let v231 : Index := Scalar.indexCast arg13
  let c1_75 : Index := 1#32
  let c0_76 : Index := 0#32
  let c0_77 : Index := 0#32
  ![v231.toNat, 1, 0, 0]
def k0_off7 (k0_t1 : Fin k0_t1_loop.trips) : Fin 4 → Nat :=
  let c0_i32_16 : BitVec 32 := 0#32
  let c1_i32 : BitVec 32 := 1#32
  let arg13 : BitVec 32 := Scf.iv c0_i32_16 c1_i32 k0_t1
  let v234 : Index := Scalar.indexCast arg13
  let c1_78 : Index := 1#32
  let c8_79 : Index := 8#32
  let c0_80 : Index := 0#32
  ![v234.toNat, 1, 8, 0]
def k0_off8 (k0_t1 : Fin k0_t1_loop.trips) : Fin 4 → Nat :=
  let c0_i32_16 : BitVec 32 := 0#32
  let c1_i32 : BitVec 32 := 1#32
  let arg13 : BitVec 32 := Scf.iv c0_i32_16 c1_i32 k0_t1
  let v237 : Index := Scalar.indexCast arg13
  let c1_81 : Index := 1#32
  let c16_82 : Index := 16#32
  let c0_83 : Index := 0#32
  ![v237.toNat, 1, 16, 0]
def k0_off9 (k0_t1 : Fin k0_t1_loop.trips) (c0_i32_84 : BitVec 32) : Fin 3 → Nat :=
  let c1_85 : Index := 1#32
  let c0_i32_16 : BitVec 32 := 0#32
  let c1_i32 : BitVec 32 := 1#32
  let arg13 : BitVec 32 := Scf.iv c0_i32_16 c1_i32 k0_t1
  let c40_i32 : BitVec 32 := 40#32
  let v36 : BitVec 32 := Scalar.muli arg13 c40_i32
  let v37 : BitVec 32 := v36
  let v240 : BitVec 32 := Scalar.addi v37 c0_i32_84
  let v241 : Index := Scalar.indexCast v240
  let c0_86 : Index := 0#32
  ![1, v241.toNat, 0]
def k0_off10 (k0_t1 : Fin k0_t1_loop.trips) (c0_i32_142 : BitVec 32) : Fin 3 → Nat :=
  let c0_i32_16 : BitVec 32 := 0#32
  let c1_i32 : BitVec 32 := 1#32
  let arg13 : BitVec 32 := Scf.iv c0_i32_16 c1_i32 k0_t1
  let c8_i32_141 : BitVec 32 := 8#32
  let v421 : BitVec 32 := Scalar.muli arg13 c8_i32_141
  let v422 : BitVec 32 := Scalar.addi v421 c0_i32_142
  let v423 : Index := Scalar.indexCast v422
  let c0_143 : Index := 0#32
  let c0_144 : Index := 0#32
  ![v423.toNat, 0, 0]
def k0_cond2 (i : grid0.Coords) : BitVec 1 :=
  let arg0 : BitVec 32 := BitVec.ofNat 32 (i 0).val
  let c6_i32 : BitVec 32 := 6#32
  let v33 : BitVec 1 := Scalar.cmpi .slt arg0 c6_i32
  let v34 : BitVec 32 := Scalar.extui v33
  let c0_i32_19 : BitVec 32 := 0#32
  let v35 : BitVec 1 := Scalar.cmpi .ne v34 c0_i32_19
  v35

def k0_cond3 (i : grid0.Coords) : BitVec 1 :=
  let arg0 : BitVec 32 := BitVec.ofNat 32 (i 0).val
  let c18_i32_7 : BitVec 32 := 18#32
  let v16 : BitVec 1 := Scalar.cmpi .sge arg0 c18_i32_7
  let c30_i32 : BitVec 32 := 30#32
  let v17 : BitVec 1 := Scalar.cmpi .slt arg0 c30_i32
  let v18 : BitVec 1 := Scalar.andi v16 v17
  let v19 : BitVec 32 := Scalar.extui v18
  let c0_i32_8 : BitVec 32 := 0#32
  let v20 : BitVec 1 := Scalar.cmpi .ne v19 c0_i32_8
  v20

def k0_cond4 (i : grid0.Coords) : BitVec 1 :=
  let arg0 : BitVec 32 := BitVec.ofNat 32 (i 0).val
  let c30_i32_9 : BitVec 32 := 30#32
  let v21 : BitVec 1 := Scalar.cmpi .eq arg0 c30_i32_9
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c17_i32 : BitVec 32 := 17#32
  let v1 : BitVec 32 := Scalar.maxsi c0_i32_0 v0
  let v2 : BitVec 32 := Scalar.minsi c17_i32 v1
  let c0_i32_1 : BitVec 32 := 0#32
  let c0_i32_2 : BitVec 32 := 0#32
  ![c0_i32_1.toNat, v2.toNat]

def cc0_transform_5 (i : grid0.Coords) : Fin 4 → Nat :=
  let arg0 : BitVec 32 := BitVec.ofNat 32 (i 0).val
  let c0_i32 : BitVec 32 := 0#32
  let v0 : BitVec 32 := Scalar.subi arg0 c0_i32
  let c0_i32_0 : BitVec 32 := 0#32
  let c17_i32 : BitVec 32 := 17#32
  let v1 : BitVec 32 := Scalar.maxsi c0_i32_0 v0
  let v2 : BitVec 32 := Scalar.minsi c17_i32 v1
  let c0_i32_1 : BitVec 32 := 0#32
  let c0_i32_2 : BitVec 32 := 0#32
  let c0_i32_3 : BitVec 32 := 0#32
  let c0_i32_4 : BitVec 32 := 0#32
  ![c0_i32_1.toNat, v2.toNat, c0_i32_2.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c17_i32 : BitVec 32 := 17#32
  let v1 : BitVec 32 := Scalar.maxsi c0_i32_0 v0
  let v2 : BitVec 32 := Scalar.minsi c17_i32 v1
  let c0_i32_1 : BitVec 32 := 0#32
  let c0_i32_2 : BitVec 32 := 0#32
  let c0_i32_3 : BitVec 32 := 0#32
  ![v2.toNat, c0_i32_1.toNat, c0_i32_2.toNat]

def cc0_transform_8 (i : grid0.Coords) : Fin 3 → Nat :=
  let arg0 : BitVec 32 := BitVec.ofNat 32 (i 0).val
  let c18_i32 : BitVec 32 := 18#32
  let v0 : BitVec 32 := Scalar.subi arg0 c18_i32
  let c0_i32 : BitVec 32 := 0#32
  let c11_i32 : BitVec 32 := 11#32
  let v1 : BitVec 32 := Scalar.maxsi c0_i32 v0
  let v2 : BitVec 32 := Scalar.minsi c11_i32 v1
  let c0_i32_0 : BitVec 32 := 0#32
  let c0_i32_1 : BitVec 32 := 0#32
  let c0_i32_2 : BitVec 32 := 0#32
  ![v2.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c17_i32 : BitVec 32 := 17#32
  let v1 : BitVec 32 := Scalar.maxsi c0_i32_0 v0
  let v2 : BitVec 32 := Scalar.minsi c17_i32 v1
  let c0_i32_1 : BitVec 32 := 0#32
  let c0_i32_2 : BitVec 32 := 0#32
  let c0_i32_3 : BitVec 32 := 0#32
  ![c0_i32_1.toNat, c0_i32_2.toNat, v2.toNat]

abbrev stage0_0 : Fin 1 → Memref sig .tc .vmem S720x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S720x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S18x2x24x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S144x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x720x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x720x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S720x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S144x3x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InReferenceIdeal.lean ====
abbrev S720x2048 : Shape := ⟨2, ![720, 2048]⟩
abbrev S720x128 : Shape := ⟨2, ![720, 128]⟩
abbrev S2048x7692 : Shape := ⟨2, ![2048, 7692]⟩
abbrev S7692 : Shape := ⟨1, ![7692]⟩
abbrev S4608x4 : Shape := ⟨2, ![4608, 4]⟩
abbrev S18x36x24x128 : Shape := ⟨4, ![18, 36, 24, 128]⟩
abbrev S144 : Shape := ⟨1, ![144]⟩
abbrev S18x5x8x2048 : Shape := ⟨4, ![18, 5, 8, 2048]⟩
abbrev S18x8x5x2048 : Shape := ⟨4, ![18, 8, 5, 2048]⟩
abbrev S144x5x2048 : Shape := ⟨3, ![144, 5, 2048]⟩
abbrev S18x5x8x128 : Shape := ⟨4, ![18, 5, 8, 128]⟩
abbrev S18x8x5x128 : Shape := ⟨4, ![18, 8, 5, 128]⟩
abbrev S144x5x128 : Shape := ⟨3, ![144, 5, 128]⟩
abbrev S144x5x1 : Shape := ⟨3, ![144, 5, 1]⟩
abbrev S144x5 : Shape := ⟨2, ![144, 5]⟩
abbrev S144x5x7692 : Shape := ⟨3, ![144, 5, 7692]⟩
abbrev S1x1x7692 : Shape := ⟨3, ![1, 1, 7692]⟩
abbrev S144x5x4608 : Shape := ⟨3, ![144, 5, 4608]⟩
abbrev S144x5x3072 : Shape := ⟨3, ![144, 5, 3072]⟩
abbrev S144x5x12 : Shape := ⟨3, ![144, 5, 12]⟩
abbrev S18x36x3x8x128 : Shape := ⟨5, ![18, 36, 3, 8, 128]⟩
abbrev S18x8x3x36x128 : Shape := ⟨5, ![18, 8, 3, 36, 128]⟩
abbrev S144x3x4608 : Shape := ⟨3, ![144, 3, 4608]⟩
abbrev S144x8x4608 : Shape := ⟨3, ![144, 8, 4608]⟩
abbrev S4608x1 : Shape := ⟨2, ![4608, 1]⟩
abbrev S4608 : Shape := ⟨1, ![4608]⟩
abbrev S1x1x4608 : Shape := ⟨3, ![1, 1, 4608]⟩
abbrev S_ : Shape := ⟨0, ![]⟩
abbrev S144x5x1536 : Shape := ⟨3, ![144, 5, 1536]⟩
abbrev S144x5x6x256 : Shape := ⟨4, ![144, 5, 6, 256]⟩
abbrev S144x5x6 : Shape := ⟨3, ![144, 5, 6]⟩
abbrev S144x5x6x1 : Shape := ⟨4, ![144, 5, 6, 1]⟩
abbrev S144x5x3x256 : Shape := ⟨4, ![144, 5, 3, 256]⟩
abbrev S144x5x768 : Shape := ⟨3, ![144, 5, 768]⟩
abbrev S144x1 : Shape := ⟨2, ![144, 1]⟩
abbrev S3 : Shape := ⟨1, ![3]⟩
abbrev S1x3 : Shape := ⟨2, ![1, 3]⟩
abbrev S144x3 : Shape := ⟨2, ![144, 3]⟩
abbrev S144x3x1 : Shape := ⟨3, ![144, 3, 1]⟩
abbrev S1 : Shape := ⟨1, ![1]⟩
abbrev S1x1x1 : Shape := ⟨3, ![1, 1, 1]⟩
abbrev S18x8x5x4608 : Shape := ⟨4, ![18, 8, 5, 4608]⟩
abbrev S18x5x8x4608 : Shape := ⟨4, ![18, 5, 8, 4608]⟩
abbrev S720x4608 : Shape := ⟨2, ![720, 4608]⟩
abbrev S720x36x128 : Shape := ⟨3, ![720, 36, 128]⟩
abbrev S36x720x128 : Shape := ⟨3, ![36, 720, 128]⟩
abbrev S18x8x5x3072 : Shape := ⟨4, ![18, 8, 5, 3072]⟩
abbrev S18x5x8x3072 : Shape := ⟨4, ![18, 5, 8, 3072]⟩
abbrev S720x3072 : Shape := ⟨2, ![720, 3072]⟩
abbrev S720x24x128 : Shape := ⟨3, ![720, 24, 128]⟩
abbrev S24x720x128 : Shape := ⟨3, ![24, 720, 128]⟩

abbrev nBuf : Space → Nat
  | .hbm => 139
  | .vmem => 0
  | .smem => 0
  | _ => 0

abbrev hbmTy0_0 (i : Nat) : BufTy := match i % 128 with
  | 0 => ⟨S720x2048, .bf16⟩
  | 1 => ⟨S720x128, .f32⟩
  | 2 => ⟨S2048x7692, .i8⟩
  | 3 => ⟨S7692, .f32⟩
  | 4 => ⟨S4608x4, .f32⟩
  | 5 => ⟨S18x36x24x128, .f32⟩
  | 6 => ⟨S144, .i32⟩
  | 7 => ⟨S18x5x8x2048, .bf16⟩
  | 8 => ⟨S18x8x5x2048, .bf16⟩
  | 9 => ⟨S144x5x2048, .bf16⟩
  | 10 => ⟨S18x5x8x128, .f32⟩
  | 11 => ⟨S18x8x5x128, .f32⟩
  | 12 => ⟨S144x5x128, .f32⟩
  | 13 => ⟨S144x5x1, .f32⟩
  | 14 => ⟨S144x5, .f32⟩
  | 15 => ⟨S2048x7692, .i32⟩
  | 16 => ⟨S2048x7692, .f32⟩
  | 17 => ⟨S2048x7692, .bf16⟩
  | 18 => ⟨S144x5x7692, .f32⟩
  | 19 => ⟨S144x5x1, .f32⟩
  | 20 => ⟨S1x1x7692, .f32⟩
  | 21 => ⟨S144x5x7692, .f32⟩
  | 22 => ⟨S144x5x7692, .f32⟩
  | 23 => ⟨S144x5x7692, .f32⟩
  | 24 => ⟨S144x5x7692, .f32⟩
  | 25 => ⟨S144x5x7692, .bf16⟩
  | 26 => ⟨S144x5x4608, .bf16⟩
  | 27 => ⟨S144x5x3072, .bf16⟩
  | 28 => ⟨S144x5x12, .bf16⟩
  | 29 => ⟨S18x36x3x8x128, .f32⟩
  | 30 => ⟨S18x8x3x36x128, .f32⟩
  | 31 => ⟨S144x3x4608, .f32⟩
  | 32 => ⟨S144x3x4608, .bf16⟩
  | 33 => ⟨S144x8x4608, .bf16⟩
  | 34 => ⟨S144x8x4608, .f32⟩
  | 35 => ⟨S144x5x4608, .f32⟩
  | 36 => ⟨S4608x1, .f32⟩
  | 37 => ⟨S4608, .f32⟩
  | 38 => ⟨S1x1x4608, .f32⟩
  | 39 => ⟨S144x5x4608, .f32⟩
  | 40 => ⟨S144x5x4608, .f32⟩
  | 41 => ⟨S144x5x4608, .f32⟩
  | 42 => ⟨S4608x1, .f32⟩
  | 43 => ⟨S4608, .f32⟩
  | 44 => ⟨S1x1x4608, .f32⟩
  | 45 => ⟨S144x5x4608, .f32⟩
  | 46 => ⟨S144x5x4608, .f32⟩
  | 47 => ⟨S144x5x4608, .f32⟩
  | 48 => ⟨S144x5x4608, .f32⟩
  | 49 => ⟨S4608x1, .f32⟩
  | 50 => ⟨S4608, .f32⟩
  | 51 => ⟨S1x1x4608, .f32⟩
  | 52 => ⟨S144x5x4608, .f32⟩
  | 53 => ⟨S144x5x4608, .f32⟩
  | 54 => ⟨S144x5x4608, .f32⟩
  | 55 => ⟨S144x5x4608, .f32⟩
  | 56 => ⟨S4608x1, .f32⟩
  | 57 => ⟨S4608, .f32⟩
  | 58 => ⟨S1x1x4608, .f32⟩
  | 59 => ⟨S144x5x4608, .f32⟩
  | 60 => ⟨S144x5x4608, .f32⟩
  | 61 => ⟨S144x5x4608, .f32⟩
  | 62 => ⟨S144x5x4608, .f32⟩
  | 63 => ⟨S144x5x4608, .f32⟩
  | 64 => ⟨S_, .f32⟩
  | 65 => ⟨S144x5x4608, .f32⟩
  | 66 => ⟨S144x5x4608, .f32⟩
  | 67 => ⟨S_, .f32⟩
  | 68 => ⟨S144x5x4608, .f32⟩
  | 69 => ⟨S144x5x4608, .f32⟩
  | 70 => ⟨S144x5x4608, .f32⟩
  | 71 => ⟨S144x5x1536, .f32⟩
  | 72 => ⟨S144x5x6x256, .f32⟩
  | 73 => ⟨S144x5x6x256, .f32⟩
  | 74 => ⟨S_, .f32⟩
  | 75 => ⟨S144x5x6, .f32⟩
  | 76 => ⟨S144x5x6x1, .f32⟩
  | 77 => ⟨S_, .f32⟩
  | 78 => ⟨S144x5x6x1, .f32⟩
  | 79 => ⟨S144x5x6x1, .f32⟩
  | 80 => ⟨S144x5x6x1, .f32⟩
  | 81 => ⟨S144x5x6x256, .f32⟩
  | 82 => ⟨S144x5x6x256, .f32⟩
  | 83 => ⟨S144x5x3x256, .f32⟩
  | 84 => ⟨S_, .f32⟩
  | 85 => ⟨S144x5x3x256, .f32⟩
  | 86 => ⟨S144x5x3x256, .f32⟩
  | 87 => ⟨S144x5x3x256, .f32⟩
  | 88 => ⟨S144x5x3072, .f32⟩
  | 89 => ⟨S144x5x768, .f32⟩
  | 90 => ⟨S144x5x768, .f32⟩
  | 91 => ⟨S144x5x4608, .f32⟩
  | 92 => ⟨S144x1, .i32⟩
  | 93 => ⟨S3, .i32⟩
  | 94 => ⟨S1x3, .i32⟩
  | 95 => ⟨S144x3, .i32⟩
  | 96 => ⟨S144x3, .i32⟩
  | 97 => ⟨S144x3, .i32⟩
  | 98 => ⟨S144x3x1, .i32⟩
  | 99 => ⟨S_, .i32⟩
  | 100 => ⟨S144x3x1, .i32⟩
  | 101 => ⟨S144x3x1, .i1⟩
  | 102 => ⟨S_, .i32⟩
  | 103 => ⟨S144x3x1, .i32⟩
  | 104 => ⟨S144x3x1, .i32⟩
  | 105 => ⟨S144x3x1, .i32⟩
  | 106 => ⟨S1, .i32⟩
  | 107 => ⟨S_, .i32⟩
  | 108 => ⟨S144x3x1, .i32⟩
  | 109 => ⟨S144x3x1, .i1⟩
  | 110 => ⟨S1x1x1, .i32⟩
  | 111 => ⟨S144x3x1, .i32⟩
  | 112 => ⟨S144x3x1, .i1⟩
  | 113 => ⟨S144x3x1, .i1⟩
  | 114 => ⟨S_, .i1⟩
  | 115 => ⟨S144x3, .i1⟩
  | 116 => ⟨S144x3x4608, .bf16⟩
  | 117 => ⟨S144x3x4608, .i1⟩
  | 118 => ⟨S_, .bf16⟩
  | 119 => ⟨S144x3x4608, .bf16⟩
  | 120 => ⟨S144x3x4608, .bf16⟩
  | 121 => ⟨S18x8x5x4608, .f32⟩
  | 122 => ⟨S18x5x8x4608, .f32⟩
  | 123 => ⟨S720x4608, .f32⟩
  | 124 => ⟨S720x36x128, .f32⟩
  | 125 => ⟨S36x720x128, .f32⟩
  | 126 => ⟨S144x5x3072, .f32⟩
  | 127 => ⟨S18x8x5x3072, .f32⟩
  | _ => ⟨S720x2048, .bf16⟩

abbrev hbmTy0_1 (i : Nat) : BufTy := match i % 128 with
  | 0 => ⟨S18x5x8x3072, .f32⟩
  | 1 => ⟨S720x3072, .f32⟩
  | 2 => ⟨S720x24x128, .f32⟩
  | 3 => ⟨S24x720x128, .f32⟩
  | 4 => ⟨S144x5x12, .f32⟩
  | 5 => ⟨S_, .i32⟩
  | 6 => ⟨S_, .f32⟩
  | 7 => ⟨S144x5x128, .f32⟩
  | 8 => ⟨S18x8x5x128, .f32⟩
  | 9 => ⟨S18x5x8x128, .f32⟩
  | 10 => ⟨S720x128, .f32⟩
  | _ => ⟨S720x2048, .bf16⟩

abbrev hbmTy (i : Nat) : BufTy := match i / 128 with
  | 0 => hbmTy0_0 i
  | 1 => hbmTy0_1 i
  | _ => ⟨S720x2048, .bf16⟩

abbrev bufTy : (tb : Table) → Fin (tcTables nBuf tb) → BufTy
  | .hbm, ⟨i, _⟩ => hbmTy i
  | _, _ => ⟨S720x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst : Ref sig .tc := ⟨.hbm, 74, rfl⟩
abbrev main_v59 : Ref sig .tc := ⟨.hbm, 75, rfl⟩
abbrev main_v60 : Ref sig .tc := ⟨.hbm, 76, rfl⟩
abbrev main_cst_0 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_1 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_call1_c : Ref sig .tc := ⟨.hbm, 99, rfl⟩
abbrev main_call1_v0 : Ref sig .tc := ⟨.hbm, 100, rfl⟩
abbrev main_call1_v1 : Ref sig .tc := ⟨.hbm, 101, rfl⟩
abbrev main_call1_c_0 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_c_1 : Ref sig .tc := ⟨.hbm, 106, rfl⟩
abbrev main_call1_c_2 : Ref sig .tc := ⟨.hbm, 107, rfl⟩
abbrev main_call1_v5 : Ref sig .tc := ⟨.hbm, 108, rfl⟩
abbrev main_call1_v6 : Ref sig .tc := ⟨.hbm, 109, rfl⟩
abbrev main_call1_v7 : Ref sig .tc := ⟨.hbm, 110, rfl⟩
abbrev main_call1_v8 : Ref sig .tc := ⟨.hbm, 111, rfl⟩
abbrev main_call1_v9 : Ref sig .tc := ⟨.hbm, 112, rfl⟩
abbrev main_call1_v10 : Ref sig .tc := ⟨.hbm, 113, rfl⟩
abbrev main_call1_c_3 : Ref sig .tc := ⟨.hbm, 114, rfl⟩
abbrev main_call1_v11 : Ref sig .tc := ⟨.hbm, 115, rfl⟩
abbrev main_call1_v12 : Ref sig .tc := ⟨.hbm, 116, rfl⟩
abbrev main_call1_v13 : Ref sig .tc := ⟨.hbm, 117, rfl⟩
abbrev main_call1_cst : Ref sig .tc := ⟨.hbm, 118, rfl⟩
abbrev main_call1_v14 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_c : Ref sig .tc := ⟨.hbm, 133, rfl⟩
abbrev main_call2_v0 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩

abbrev nD : Nat := 1
abbrev τ : Topo := Topo.v7x

variable {F : FTy → Type} [FloatOps F]
-- ==== NormQuant.lean ====
abbrev S144x5x2048 : Shape := ⟨3, ![144, 5, 2048]⟩
abbrev S2048 : Shape := ⟨1, ![2048]⟩
abbrev S181x3x4608 : Shape := ⟨3, ![181, 3, 4608]⟩
abbrev S144 : Shape := ⟨1, ![144]⟩
abbrev S1x2048 : Shape := ⟨2, ![1, 2048]⟩
abbrev S144x5 : Shape := ⟨2, ![144, 5]⟩
abbrev S720x2048 : Shape := ⟨2, ![720, 2048]⟩
abbrev S720x128 : Shape := ⟨2, ![720, 128]⟩
abbrev S18x36x24x128 : Shape := ⟨4, ![18, 36, 24, 128]⟩
abbrev S8x5x2048 : Shape := ⟨3, ![8, 5, 2048]⟩
abbrev S1x3x4608 : Shape := ⟨3, ![1, 3, 4608]⟩
abbrev S1 : Shape := ⟨1, ![1]⟩
abbrev S8x5 : Shape := ⟨2, ![8, 5]⟩
abbrev S40x2048 : Shape := ⟨2, ![40, 2048]⟩
abbrev S40x128 : Shape := ⟨2, ![40, 128]⟩
abbrev S1x36x24x128 : Shape := ⟨4, ![1, 36, 24, 128]⟩
abbrev S16x40x128 : Shape := ⟨3, ![16, 40, 128]⟩
abbrev S1x5x2048 : Shape := ⟨3, ![1, 5, 2048]⟩
abbrev S5x2048 : Shape := ⟨2, ![5, 2048]⟩
abbrev S5x128 : Shape := ⟨2, ![5, 128]⟩
abbrev S1x5x128 : Shape := ⟨3, ![1, 5, 128]⟩
abbrev S8x128 : Shape := ⟨2, ![8, 128]⟩
abbrev S1x8x128 : Shape := ⟨3, ![1, 8, 128]⟩
abbrev S8x2048 : Shape := ⟨2, ![8, 2048]⟩
abbrev S8 : Shape := ⟨1, ![8]⟩
abbrev S8x1 : Shape := ⟨2, ![8, 1]⟩
abbrev S1x40x128 : Shape := ⟨3, ![1, 40, 128]⟩
abbrev S3x4608 : Shape := ⟨2, ![3, 4608]⟩
abbrev S3x128 : Shape := ⟨2, ![3, 128]⟩
abbrev S1x1x3x128 : Shape := ⟨4, ![1, 1, 3, 128]⟩

abbrev nBuf : Space → Nat
  | .hbm => 9
  | .vmem => 30
  | .smem => 1
  | _ => 0

abbrev bufTy : (tb : Table) → Fin (tcTables nBuf tb) → BufTy
  | .hbm, ⟨0, _⟩ => ⟨S144x5x2048, .bf16⟩
  | .hbm, ⟨1, _⟩ => ⟨S2048, .f32⟩
  | .hbm, ⟨2, _⟩ => ⟨S181x3x4608, .bf16⟩
  | .hbm, ⟨3, _⟩ => ⟨S1x2048, .f32⟩
  | .hbm, ⟨4, _⟩ => ⟨S144x5x2048, .i8⟩
  | .hbm, ⟨5, _⟩ => ⟨S144x5, .f32⟩
  | .hbm, ⟨6, _⟩ => ⟨S720x2048, .bf16⟩
  | .hbm, ⟨7, _⟩ => ⟨S720x128, .f32⟩
  | .hbm, ⟨8, _⟩ => ⟨S18x36x24x128, .f32⟩
  | .local _ .vmem, ⟨0, _⟩ => ⟨S8x5x2048, .bf16⟩
  | .local _ .vmem, ⟨1, _⟩ => ⟨S8x5x2048, .bf16⟩
  | .local _ .vmem, ⟨2, _⟩ => ⟨S1x2048, .f32⟩
  | .local _ .vmem, ⟨3, _⟩ => ⟨S1x3x4608, .bf16⟩
  | .local _ .vmem, ⟨4, _⟩ => ⟨S1x3x4608, .bf16⟩
  | .local _ .vmem, ⟨5, _⟩ => ⟨S1x3x4608, .bf16⟩
  | .local _ .vmem, ⟨6, _⟩ => ⟨S1x3x4608, .bf16⟩
  | .local _ .vmem, ⟨7, _⟩ => ⟨S1x3x4608, .bf16⟩
  | .local _ .vmem, ⟨8, _⟩ => ⟨S1x3x4608, .bf16⟩
  | .local _ .vmem, ⟨9, _⟩ => ⟨S1x3x4608, .bf16⟩
  | .local _ .vmem, ⟨10, _⟩ => ⟨S1x3x4608, .bf16⟩
  | .local _ .vmem, ⟨11, _⟩ => ⟨S1x3x4608, .bf16⟩
  | .local _ .vmem, ⟨12, _⟩ => ⟨S1x3x4608, .bf16⟩
  | .local _ .vmem, ⟨13, _⟩ => ⟨S1x3x4608, .bf16⟩
  | .local _ .vmem, ⟨14, _⟩ => ⟨S1x3x4608, .bf16⟩
  | .local _ .vmem, ⟨15, _⟩ => ⟨S1x3x4608, .bf16⟩
  | .local _ .vmem, ⟨16, _⟩ => ⟨S1x3x4608, .bf16⟩
  | .local _ .vmem, ⟨17, _⟩ => ⟨S1x3x4608, .bf16⟩
  | .local _ .vmem, ⟨18, _⟩ => ⟨S1x3x4608, .bf16⟩
  | .local _ .vmem, ⟨19, _⟩ => ⟨S8x5x2048, .i8⟩
  | .local _ .vmem, ⟨20, _⟩ => ⟨S8x5x2048, .i8⟩
  | .local _ .vmem, ⟨21, _⟩ => ⟨S8x5, .f32⟩
  | .local _ .vmem, ⟨22, _⟩ => ⟨S8x5, .f32⟩
  | .local _ .vmem, ⟨23, _⟩ => ⟨S40x2048, .bf16⟩
  | .local _ .vmem, ⟨24, _⟩ => ⟨S40x2048, .bf16⟩
  | .local _ .vmem, ⟨25, _⟩ => ⟨S40x128, .f32⟩
  | .local _ .vmem, ⟨26, _⟩ => ⟨S40x128, .f32⟩
  | .local _ .vmem, ⟨27, _⟩ => ⟨S1x36x24x128, .f32⟩
  | .local _ .vmem, ⟨28, _⟩ => ⟨S1x36x24x128, .f32⟩
  | .local _ .vmem, ⟨29, _⟩ => ⟨S16x40x128, .f32⟩
  | .local _ .smem, ⟨0, _⟩ => ⟨S144, .i32⟩
  | _, _ => ⟨S144x5x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨1, ![18], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ (r : Fin 8), ∀ a, (k0_off1 i (BitVec.ofNat 32 r.val)) a + S1.size a ≤ S144.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  let v3 : BitVec 32 := pf.at 0 (Rect.unit (s := S144) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_3 (k0_off1_inb : ∀ i : grid0.Coords, ∀ (r : Fin 8), ∀ a, (k0_off1 i (BitVec.ofNat 32 r.val)) a + S1.size a ≤ S144.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let v2 : Index := Scalar.indexCast v1
  let v3 : BitVec 32 := pf.at 0 (Rect.unit (s := S144) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off1_inb : ∀ i : grid0.Coords, ∀ (r : Fin 8), ∀ a, (k0_off1 i (BitVec.ofNat 32 r.val)) a + S1.size a ≤ S144.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let v2 : Index := Scalar.indexCast v1
  let v3 : BitVec 32 := pf.at 0 (Rect.unit (s := S144) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off1_inb : ∀ i : grid0.Coords, ∀ (r : Fin 8), ∀ a, (k0_off1 i (BitVec.ofNat 32 r.val)) a + S1.size a ≤ S144.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let v2 : Index := Scalar.indexCast v1
  let v3 : BitVec 32 := pf.at 0 (Rect.unit (s := S144) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off1_inb : ∀ i : grid0.Coords, ∀ (r : Fin 8), ∀ a, (k0_off1 i (BitVec.ofNat 32 r.val)) a + S1.size a ≤ S144.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let v2 : Index := Scalar.indexCast v1
  let v3 : BitVec 32 := pf.at 0 (Rect.unit (s := S144) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off1_inb : ∀ i : grid0.Coords, ∀ (r : Fin 8), ∀ a, (k0_off1 i (BitVec.ofNat 32 r.val)) a + S1.size a ≤ S144.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let v2 : Index := Scalar.indexCast v1
  let v3 : BitVec 32 := pf.at 0 (Rect.unit (s := S144) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_8 (k0_off1_inb : ∀ i : grid0.Coords, ∀ (r : Fin 8), ∀ a, (k0_off1 i (BitVec.ofNat 32 r.val)) a + S1.size a ≤ S144.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let v2 : Index := Scalar.indexCast v1
  let v3 : BitVec 32 := pf.at 0 (Rect.unit (s := S144) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_9 (k0_off1_inb : ∀ i : grid0.Coords, ∀ (r : Fin 8), ∀ a, (k0_off1 i (BitVec.ofNat 32 r.val)) a + S1.size a ≤ S144.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let v2 : Index := Scalar.indexCast v1
  let v3 : BitVec 32 := pf.at 0 (Rect.unit (s := S144) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x5x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x3x4608 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x4608 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x4608 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x4608 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x3x4608 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x3x4608 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3x4608 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x3x4608 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x5x2048 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x5 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S40x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S40x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x36x24x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== NormReferenceIdeal.lean ====
abbrev S144x5x2048 : Shape := ⟨3, ![144, 5, 2048]⟩
abbrev S2048 : Shape := ⟨1, ![2048]⟩
abbrev S181x3x4608 : Shape := ⟨3, ![181, 3, 4608]⟩
abbrev S144 : Shape := ⟨1, ![144]⟩
abbrev S_ : Shape := ⟨0, ![]⟩
abbrev S144x5 : Shape := ⟨2, ![144, 5]⟩
abbrev S144x5x1 : Shape := ⟨3, ![144, 5, 1]⟩
abbrev S1x1x2048 : Shape := ⟨3, ![1, 1, 2048]⟩
abbrev S18x8x5x2048 : Shape := ⟨4, ![18, 8, 5, 2048]⟩
abbrev S18x5x8x2048 : Shape := ⟨4, ![18, 5, 8, 2048]⟩
abbrev S720x2048 : Shape := ⟨2, ![720, 2048]⟩
abbrev S144x5x128 : Shape := ⟨3, ![144, 5, 128]⟩
abbrev S18x8x5x128 : Shape := ⟨4, ![18, 8, 5, 128]⟩
abbrev S18x5x8x128 : Shape := ⟨4, ![18, 5, 8, 128]⟩
abbrev S720x128 : Shape := ⟨2, ![720, 128]⟩

abbrev nBuf : Space → Nat
  | .hbm => 57
  | .vmem => 0
  | .smem => 0
  | _ => 0

abbrev bufTy : (tb : Table) → Fin (tcTables nBuf tb) → BufTy
  | .hbm, ⟨0, _⟩ => ⟨S144x5x2048, .bf16⟩
  | .hbm, ⟨1, _⟩ => ⟨S2048, .f32⟩
  | .hbm, ⟨2, _⟩ => ⟨S181x3x4608, .bf16⟩
  | .hbm, ⟨3, _⟩ => ⟨S144, .i32⟩
  | .hbm, ⟨4, _⟩ => ⟨S144x5x2048, .f32⟩
  | .hbm, ⟨5, _⟩ => ⟨S144x5x2048, .f32⟩
  | .hbm, ⟨6, _⟩ => ⟨S_, .f32⟩
  | .hbm, ⟨7, _⟩ => ⟨S144x5, .f32⟩
  | .hbm, ⟨8, _⟩ => ⟨S144x5x1, .f32⟩
  | .hbm, ⟨9, _⟩ => ⟨S_, .f32⟩
  | .hbm, ⟨10, _⟩ => ⟨S144x5x1, .f32⟩
  | .hbm, ⟨11, _⟩ => ⟨S144x5x1, .f32⟩
  | .hbm, ⟨12, _⟩ => ⟨S_, .f32⟩
  | .hbm, ⟨13, _⟩ => ⟨S144x5x1, .f32⟩
  | .hbm, ⟨14, _⟩ => ⟨S144x5x1, .f32⟩
  | .hbm, ⟨15, _⟩ => ⟨S144x5x1, .f32⟩
  | .hbm, ⟨16, _⟩ => ⟨S144x5x2048, .f32⟩
  | .hbm, ⟨17, _⟩ => ⟨S144x5x2048, .f32⟩
  | .hbm, ⟨18, _⟩ => ⟨S1x1x2048, .f32⟩
  | .hbm, ⟨19, _⟩ => ⟨S144x5x2048, .f32⟩
  | .hbm, ⟨20, _⟩ => ⟨S144x5x2048, .f32⟩
  | .hbm, ⟨21, _⟩ => ⟨S144x5x2048, .f32⟩
  | .hbm, ⟨22, _⟩ => ⟨S_, .f32⟩
  | .hbm, ⟨23, _⟩ => ⟨S144x5, .f32⟩
  | .hbm, ⟨24, _⟩ => ⟨S_, .f32⟩
  | .hbm, ⟨25, _⟩ => ⟨S144x5, .f32⟩
  | .hbm, ⟨26, _⟩ => ⟨S144x5, .i1⟩
  | .hbm, ⟨27, _⟩ => ⟨S_, .f32⟩
  | .hbm, ⟨28, _⟩ => ⟨S144x5, .f32⟩
  | .hbm, ⟨29, _⟩ => ⟨S144x5, .f32⟩
  | .hbm, ⟨30, _⟩ => ⟨S_, .f32⟩
  | .hbm, ⟨31, _⟩ => ⟨S_, .f32⟩
  | .hbm, ⟨32, _⟩ => ⟨S144x5, .f32⟩
  | .hbm, ⟨33, _⟩ => ⟨S144x5, .f32⟩
  | .hbm, ⟨34, _⟩ => ⟨S144x5x1, .f32⟩
  | .hbm, ⟨35, _⟩ => ⟨S144x5x2048, .f32⟩
  | .hbm, ⟨36, _⟩ => ⟨S144x5x2048, .f32⟩
  | .hbm, ⟨37, _⟩ => ⟨S144x5x2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S144x5x2048, .f32⟩
  | .hbm, ⟨42, _⟩ => ⟨S144x5x2048, .f32⟩
  | .hbm, ⟨43, _⟩ => ⟨S_, .f32⟩
  | .hbm, ⟨44, _⟩ => ⟨S144x5x2048, .f32⟩
  | .hbm, ⟨45, _⟩ => ⟨S144x5x2048, .f32⟩
  | .hbm, ⟨46, _⟩ => ⟨S144x5x2048, .i32⟩
  | .hbm, ⟨47, _⟩ => ⟨S144x5x2048, .i8⟩
  | .hbm, ⟨48, _⟩ => ⟨S144x5x2048, .bf16⟩
  | .hbm, ⟨49, _⟩ => ⟨S18x8x5x2048, .bf16⟩
  | .hbm, ⟨50, _⟩ => ⟨S18x5x8x2048, .bf16⟩
  | .hbm, ⟨51, _⟩ => ⟨S720x2048, .bf16⟩
  | .hbm, ⟨52, _⟩ => ⟨S144x5x1, .f32⟩
  | .hbm, ⟨53, _⟩ => ⟨S144x5x128, .f32⟩
  | .hbm, ⟨54, _⟩ => ⟨S18x8x5x128, .f32⟩
  | .hbm, ⟨55, _⟩ => ⟨S18x5x8x128, .f32⟩
  | .hbm, ⟨56, _⟩ => ⟨S720x128, .f32⟩
  | _, _ => ⟨S144x5x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_cst_7 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Proof.OutBlock.lean ====
/-
  One grid point of the output projection kernel `OutProjIdeal`, over the extended reals. The body multiplies the 1152 code rows
  by one block of 256 weight columns and then stores, run by run, five rows of the product rescaled and added to the run's
  residual. `out_apply` states what the staging buffer of the result holds afterwards, one element at a time.
-/
module

public import proofs.«01_k».proof.Proof.Gen.OutProjIdeal.Value
public import Idealize.ShloMosaic.Lib.ValueIdx
public import Idealize.ShloMosaic.Lib.ValueLayout
public import Idealize.ShloMosaic.PureOps.Ideal.Laws

@[expose] public section

set_option maxRecDepth 16384

noncomputable section

namespace Cert.OutProjIdeal.Block

open Cert.OutProjIdeal Cert.OutProjIdeal.Gen Idealize.ShloMosaic Idealize.ShloMosaic.TcCoe Idealize.SL.Sem
open Idealize.ShloMosaic.ValueIdx

/-- One element of the rescaled product plus residual, from the product `V` of all the code rows with the weight block: run `i 0`
    has its tokens in rows `8 * i 0 + i 1`. -/
def rescaled (V : FVec Ideal S1152x256 .f32) (x1 : Vec Ideal S144x8x128 .f32) (x3 : Vec Ideal S1x256 .f32)
    (x4 : Vec Ideal S144x5x256 .bf16) (i : S144x5x256.Idx) : EReal :=
  V (ix2 (⟨8 * (i 0).val + (i 1).val, by
      have h0 : (i 0).val < 144 := (i 0).isLt
      have h1 : (i 1).val < 5 := (i 1).isLt
      omega⟩ : Fin 1152) (⟨(i 2).val, (i 2).isLt⟩ : Fin 256))
    * (x1 (ix3 (⟨(i 0).val, (i 0).isLt⟩ : Fin 144) (⟨(i 1).val, by have h1 : (i 1).val < 5 := (i 1).isLt; omega⟩ : Fin 8) (0 : Fin 128))
      * x3 (ix2 (0 : Fin 1) (⟨(i 2).val, (i 2).isLt⟩ : Fin 256)))
    + x4 i

/-- One store of the body, for the run `b`: the five rows from row `o = 8 * b` of the product, times the run's row scales and the
    block's column scales, plus the run's residual. The body prints this once for each of its 144 runs. -/
theorem piece (V : FVec Ideal S1152x256 .f32) (x1 : Vec Ideal S144x8x128 .f32) (x3 : Vec Ideal S1x256 .f32)
    (x4 : Vec Ideal S144x5x256 .bf16) (b o : ℕ) (ho : o = 8 * b) (hs : S1152x256.Slices ![o, 0] S5x256)
    (inb1 : ∀ a, (![b, 0, 0] : Fin S144x8x128.rank → ℕ) a + S1x5x1.size a ≤ S144x8x128.size a)
    (inb3 : ∀ a, (![0, 0] : Fin S1x256.rank → ℕ) a + S1x256.size a ≤ S1x256.size a)
    (inb4 : ∀ a, (![b, 0, 0] : Fin S144x5x256.rank → ℕ) a + S1x5x256.size a ≤ S144x5x256.size a)
    (h1 : S1x5x1.ShapeCasts S5x1) (h2 : S5x1.Broadcasts S5x256) (h3 : S1x256.ShapeCasts S1x256) (h4 : S1x256.Broadcasts S5x256)
    (h5 : S1x5x256.ShapeCasts S5x256) (h6 : S5x256.ShapeCasts S1x5x256) (hb : FTy.bf16.bits < FTy.f32.bits)
    (x : S1x5x256.Idx) :
    (shapeCast S1x5x256 (truncf .bf16 (addf (mulf (extractStridedSlice S5x256 ![o, 0] V hs)
        (mulf (broadcastTo S5x256 (shapeCast S5x1 (View.ld x1 (Rect.unit (s := S144x8x128) ![b, 0, 0] S1x5x1.size inb1)) h1) h2)
          (broadcastTo S5x256 (shapeCast S1x256 (View.ld x3 (Rect.unit (s := S1x256) ![0, 0] S1x256.size inb3)) h3) h4)))
        (extf .f32 (shapeCast S5x256 (View.ld x4 (Rect.unit (s := S144x5x256) ![b, 0, 0] S1x5x256.size inb4)) h5 : FVec Ideal S5x256 .bf16) hb) : FVec Ideal S5x256 .f32) hb) h6
        : FVec Ideal S1x5x256 .bf16) x
      = rescaled V x1 x3 x4 ((Rect.unit (s := S144x5x256) ![b, 0, 0] S1x5x256.size inb4).emb x) := by
  subst ho
  obtain ⟨u, r, l, rfl⟩ : ∃ (u : Fin 1) (r : Fin 5) (l : Fin 256), x = ix3 u r l := ⟨x 0, x 1, x 2, eq_ix3 x⟩
  obtain rfl : u = 0 := Subsingleton.elim _ _
  rw [shapeCast_ab_1ab_apply]
  simp only [truncf_apply, addf_apply, mulf_apply, extf_apply, Ideal.truncf_def, Ideal.addf_def, Ideal.mulf_def, Ideal.extf_def]
  rw [shapeCast_self _ h3, slice2_axis0_apply _ V hs r l ⟨8 * b + r.val, Nat.lt_of_lt_of_le (Nat.add_lt_add_left r.isLt _) (hs.2 0)⟩ rfl]
  rw [broadcastTo_apply _ h2 (ix2 r l) (ix2 r (0 : Fin 1)) (fun a => match a with | ⟨0, _⟩ => rfl | ⟨1, _⟩ => rfl)]
  rw [broadcastTo_apply _ h4 (ix2 r l) (ix2 (0 : Fin 1) l) (fun a => match a with | ⟨0, _⟩ => rfl | ⟨1, _⟩ => rfl)]
  rw [shapeCast_1ab_ab_apply _ h1, shapeCast_1ab_ab_apply _ h5]
  unfold rescaled
  refine congrArg₂ (· + ·) (congrArg₂ (· * ·) (congrArg V ?_) (congrArg₂ (· * ·) (congrArg x1 ?_) (congrArg x3 ?_))) rfl
  · funext a; apply Fin.ext
    match a with
    | ⟨0, _⟩ => show 8 * b + r.val = 8 * (b + 1 * 0) + (0 + 1 * r.val); omega
    | ⟨1, _⟩ => show l.val = 0 + 1 * l.val; omega
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

set_option maxHeartbeats 4000000 in
/-- What the result's staging buffer holds after the body: every element is the rescaled product plus residual. -/
theorem out_apply (x0 : Vec Ideal S1152x3072 .f32) (x1 : Vec Ideal S144x8x128 .f32) (x2 : Vec Ideal S3072x256 .i8)
    (x3 : Vec Ideal S1x256 .f32) (x4 : Vec Ideal S144x5x256 .bf16) (i : S144x5x256.Idx) :
    out0_5 x0 x1 x2 x3 x4 i = rescaled (k0_pay3 (View.ld x0 r0_0) (View.ld x2 r0_1)) x1 x3 x4 i := by
  unfold_out out0_5
  refine View.canon_apply_of_pieces _ _ ?_ i (cover0_5 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ i)
  repeat' refine List.forall_mem_cons.mpr ⟨?_, ?_⟩
  all_goals first
    | exact piece (k0_pay3 (View.ld x0 r0_0) (View.ld x2 r0_1)) x1 x3 x4 _ _ (by rfl) (by decide) _ _ _ shapeCasts_S1x5x1_S5x1
        broadcasts_S5x1_S5x256 shapeCasts_S1x256_S1x256 broadcasts_S1x256_S5x256 shapeCasts_S1x5x256_S5x256
        shapeCasts_S5x256_S1x5x256 bitsLt_bf16_f32
    | exact fun _ h => absurd h List.not_mem_nil

end Cert.OutProjIdeal.Block

end
-- ==== Proof.OutValue.lean ====
/-
  The output projection `OutProjIdeal` over the extended reals, as a whole array. `product_apply` reads the body's matrix product,
  the `arg…_block` lemmas read the blocks that a grid point is given, `flushed_eq` states that grid point `t` writes block `t` of
  `result`, and `run` that the whole kernel leaves `result` in its result array.
-/
module

public import proofs.«01_k».proof.Proof.OutBlock
public import Idealize.ShloMosaic.Lib.StableHlo.Run

@[expose] public section

set_option maxRecDepth 16384

noncomputable section

namespace Cert.OutProjIdeal.Block

open Cert.OutProjIdeal Cert.OutProjIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The projection of the codes `y` (row `8 * b + s` for token `s` of run `b`) by the weight codes `w`, scaled by the row scales and
    the column scales, plus the residual. -/
def projected (y : S1152x3072.Idx → EReal) (ys : S144x8x128.Idx → EReal) (w : S3072x2048.Idx → BitVec 8) (ws : S2048.Idx → EReal)
    (x : S144x5x2048.Idx → EReal) (b : Fin 144) (s : Fin 5) (n : Fin 2048) : EReal :=
  (∑ k : Fin 3072, y (ix2 (⟨8 * b.val + s.val, by omega⟩ : Fin 1152) k) * (((w (ix2 k n)).toInt : ℝ) : EReal))
    * (ys (ix3 b (⟨s.val, by omega⟩ : Fin 8) (0 : Fin 128)) * ws (ix1 n)) + x (ix3 b s n)

/-- The result array of the kernel as a function of the argument arrays. -/
def result (c : Dev nD) : S144x5x2048.Idx → EReal := fun i =>
  projected (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) (i 2)

/-- The dimension numbers of the body's product. -/
abbrev dims := dot_S1152x3072_S3072x256_S1152x256_1_0_0_1_n_n

theorem lhs_row (i : S1152x256.Idx) (q : dims.contr.Idx) : (dims.lhsIdx i q 0).val = (i 0).val := by
  unfold DotDims.lhsIdx
  rw [dif_neg (show ¬(0 : Fin S1152x3072.rank) ∈ dims.lhsBatch by decide),
    dif_pos (show (0 : Fin S1152x3072.rank) ∈ dims.lhsNonContracting by decide)]
  rfl

theorem rhs_col (i : S1152x256.Idx) (q : dims.contr.Idx) : (dims.rhsIdx i q 1).val = (i 1).val := by
  unfold DotDims.rhsIdx
  rw [dif_neg (show ¬(1 : Fin S3072x256.rank) ∈ dims.rhsBatch by decide),
    dif_pos (show (1 : Fin S3072x256.rank) ∈ dims.rhsNonContracting by decide)]
  rfl

/-- The body's product of the codes with one weight block, read at an element: the sum over the 3072 features. -/
theorem product_apply (x0 : Vec Ideal S1152x3072 .f32) (x2 : Vec Ideal S3072x256 .i8) (r : Fin 1152) (l : Fin 256) :
    (k0_pay3 x0 x2 : S1152x256.Idx → EReal) (ix2 r l) = ∑ k : Fin 3072, x0 (ix2 r k) * (((x2 (ix2 k l)).toInt : ℝ) : EReal) := by
  unfold k0_pay3
  simp only [matmul]
  rw [Ideal.matmul_constant_zero_apply, ← Equiv.sum_comp (contrEquiv1 dims 3072 rfl rfl).symm]
  refine Finset.sum_congr rfl fun k _ => ?_
  have hk := contrEquiv1_symm_val dims 3072 rfl rfl k
  have el : dims.lhsIdx (ix2 r l) ((contrEquiv1 dims 3072 rfl rfl).symm k) = ix2 r k := funext fun a => Fin.ext (by
    match a with
    | ⟨0, _⟩ => exact lhs_row _ _
    | ⟨1, _⟩ => exact (dims.lhsIdx_val_of_single rfl _ _).trans hk)
  have er : dims.rhsIdx (ix2 r l) ((contrEquiv1 dims 3072 rfl rfl).symm k) = ix2 k l := funext fun a => Fin.ext (by
    match a with
    | ⟨0, _⟩ => exact (dims.rhsIdx_val_of_single rfl _ _).trans hk
    | ⟨1, _⟩ => exact rhs_col _ _)
  rw [el, er]
  rfl

/-- Where each window's block lies at a grid point, decided over the grid. -/
theorem index_facts : ∀ t : Fin cfg0.N, win0_0.index t 0 = 0 ∧ win0_0.index t 1 = 0
    ∧ win0_1.index t 0 = 0 ∧ win0_1.index t 1 = 0 ∧ win0_1.index t 2 = 0
    ∧ win0_2.index t 0 = 0 ∧ win0_2.index t 1 = t.val ∧ win0_3.index t 0 = 0 ∧ win0_3.index t 1 = t.val
    ∧ win0_4.index t 0 = 0 ∧ win0_4.index t 1 = 0 ∧ win0_4.index t 2 = t.val
    ∧ win0_5.index t 0 = 0 ∧ win0_5.index t 1 = 0 ∧ win0_5.index t 2 = t.val :=
  (by decide +kernel : ∀ t : Fin grid0.N, win0_0.index t 0 = 0 ∧ win0_0.index t 1 = 0
    ∧ win0_1.index t 0 = 0 ∧ win0_1.index t 1 = 0 ∧ win0_1.index t 2 = 0
    ∧ win0_2.index t 0 = 0 ∧ win0_2.index t 1 = t.val ∧ win0_3.index t 0 = 0 ∧ win0_3.index t 1 = t.val
    ∧ win0_4.index t 0 = 0 ∧ win0_4.index t 1 = 0 ∧ win0_4.index t 2 = t.val
    ∧ win0_5.index t 0 = 0 ∧ win0_5.index t 1 = 0 ∧ win0_5.index t 2 = t.val)

theorem points : cfg0.N = 8 := by decide +kernel

theorem point_lt (t : Fin cfg0.N) : t.val < 8 := points ▸ t.isLt

/-- The column scales reach the kernel as one row. -/
theorem scales_row (c : Dev nD) (n : Fin 2048) :
    (V m c main_v0 : S1x2048.Idx → EReal) (ix2 (0 : Fin 1) n) = m ((c : Thread nD τ).loc main_arg3) (ix1 n) := by
  have h : (V m c main_v0 : S1x2048.Idx → EReal) = shapeCast S1x2048 (m ((c : Thread nD τ).loc main_arg3)) shapeCasts_S2048_S1x2048 := by
    unfold V; after_results <;> rfl
  rw [h]
  exact shapeCast_a_1a_apply _ _ _ _

/-- Every point is given all the codes. -/
theorem arg0_block (c : Dev nD) (t : Fin cfg0.N) (r : Fin 1152) (k : Fin 3072) :
    (iblk m c 0 t : Vec Ideal S1152x3072 .f32) (ix2 r k) = m ((c : Thread nD τ).loc main_arg0) (ix2 r k) := by
  obtain ⟨h0, h1, -⟩ := index_facts t
  unfold iblk
  rw [View.read_apply]
  show V m c main_arg0 _ = _
  rw [V_main_arg0]
  congr 1
  funext a; apply Fin.ext
  match a with
  | ⟨0, _⟩ => show win0_0.index t 0 * 1152 + 1 * r.val = r.val; rw [h0]; omega
  | ⟨1, _⟩ => show win0_0.index t 1 * 3072 + 1 * k.val = k.val; rw [h1]; omega

/-- Every point is given all the row scales. -/
theorem arg1_block (c : Dev nD) (t : Fin cfg0.N) (b : Fin 144) (s : Fin 8) (l : Fin 128) :
    (iblk m c 1 t : Vec Ideal S144x8x128 .f32) (ix3 b s l) = m ((c : Thread nD τ).loc main_arg1) (ix3 b s l) := by
  obtain ⟨-, -, h0, h1, h2, -⟩ := index_facts t
  unfold iblk
  rw [View.read_apply]
  show V m c main_arg1 _ = _
  rw [V_main_arg1]
  congr 1
  funext a; apply Fin.ext
  match a with
  | ⟨0, _⟩ => show win0_1.index t 0 * 144 + 1 * b.val = b.val; rw [h0]; omega
  | ⟨1, _⟩ => show win0_1.index t 1 * 8 + 1 * s.val = s.val; rw [h1]; omega
  | ⟨2, _⟩ => show win0_1.index t 2 * 128 + 1 * l.val = l.val; rw [h2]; omega

/-- Point `t` is given the weight columns from `256 * t`. -/
theorem arg2_block (c : Dev nD) (t : Fin cfg0.N) (k : Fin 3072) (l : Fin 256) :
    (iblk m c 2 t : Vec Ideal S3072x256 .i8) (ix2 k l)
      = m ((c : Thread nD τ).loc main_arg2) (ix2 k (⟨256 * t.val + l.val, by have := point_lt t; omega⟩ : Fin 2048)) := by
  obtain ⟨-, -, -, -, -, h0, h1, -⟩ := index_facts t
  unfold iblk
  rw [View.read_apply]
  show V m c main_arg2 _ = _
  rw [V_main_arg2]
  congr 1
  funext a; apply Fin.ext
  match a with
  | ⟨0, _⟩ => show win0_2.index t 0 * 3072 + 1 * k.val = k.val; rw [h0]; omega
  | ⟨1, _⟩ => show win0_2.index t 1 * 256 + 1 * l.val = 256 * t.val + l.val; rw [h1]; omega

/-- Point `t` is given the column scales from `256 * t`. -/
theorem arg3_block (c : Dev nD) (t : Fin cfg0.N) (l : Fin 256) :
    (iblk m c 3 t : Vec Ideal S1x256 .f32) (ix2 (0 : Fin 1) l)
      = m ((c : Thread nD τ).loc main_arg3) (ix1 (⟨256 * t.val + l.val, by have := point_lt t; omega⟩ : Fin 2048)) := by
  obtain ⟨-, -, -, -, -, -, -, h0, h1, -⟩ := index_facts t
  rw [← scales_row m c]
  unfold iblk
  rw [View.read_apply]
  show V m c main_v0 _ = V m c main_v0 _
  congr 1
  funext a; apply Fin.ext
  match a with
  | ⟨0, _⟩ => show win0_3.index t 0 * 1 + 1 * 0 = 0; rw [h0]
  | ⟨1, _⟩ => show win0_3.index t 1 * 256 + 1 * l.val = 256 * t.val + l.val; rw [h1]; omega

/-- Point `t` is given the residual's columns from `256 * t`. -/
theorem arg4_block (c : Dev nD) (t : Fin cfg0.N) (b : Fin 144) (s : Fin 5) (l : Fin 256) :
    (iblk m c 4 t : Vec Ideal S144x5x256 .bf16) (ix3 b s l)
      = m ((c : Thread nD τ).loc main_arg4) (ix3 b s (⟨256 * t.val + l.val, by have := point_lt t; omega⟩ : Fin 2048)) := by
  obtain ⟨-, -, -, -, -, -, -, -, -, h0, h1, h2, -⟩ := index_facts t
  unfold iblk
  rw [View.read_apply]
  show V m c main_arg4 _ = _
  rw [V_main_arg4]
  congr 1
  funext a; apply Fin.ext
  match a with
  | ⟨0, _⟩ => show win0_4.index t 0 * 144 + 1 * b.val = b.val; rw [h0]; omega
  | ⟨1, _⟩ => show win0_4.index t 1 * 5 + 1 * s.val = s.val; rw [h1]; omega
  | ⟨2, _⟩ => show win0_4.index t 2 * 256 + 1 * l.val = 256 * t.val + l.val; rw [h2]; omega

/-- Grid point `t` writes back block `t` of the result. -/
theorem flushed_eq (c : Dev nD) (t : Fin cfg0.N) :
    (dats m 0 c).flushed 5 t = ((cfg0.win 5).blk t).view.read (Elt Ideal) (result m c) := by
  obtain ⟨-, -, -, -, -, -, -, -, -, -, -, -, h0, h1, h2⟩ := index_facts t
  have ht := point_lt t
  rw [Value.flushed5]
  funext j
  obtain ⟨b, s, l, rfl⟩ : ∃ (b : Fin 144) (s : Fin 5) (l : Fin 256), j = ix3 b s l := ⟨j 0, j 1, j 2, eq_ix3 (n0 := 144) (n1 := 5) (n2 := 256) j⟩
  rw [View.read_apply]
  show out0_5 (iblk m c 0 t) (iblk m c 1 t) (iblk m c 2 t) (iblk m c 3 t) (iblk m c 4 t) (ix3 b s l) = result m c _
  rw [out_apply]
  have hz0 : (![0, 0] : Fin S1152x3072.rank → Nat) = fun _ => 0 := funext fun a => by fin_cases a <;> rfl
  have hz2 : (![0, 0] : Fin S3072x256.rank → Nat) = fun _ => 0 := funext fun a => by fin_cases a <;> rfl
  rw [View.ld_unit_zero hz0, View.ld_unit_zero hz2]
  have hi : ∀ e : Fin 3, (((cfg0.win 5).blk t).view.emb (ix3 b s l) e).val
      = ((ix3 b s (⟨256 * t.val + l.val, by omega⟩ : Fin 2048) : S144x5x2048.Idx) e).val := fun e => by
    match e with
    | ⟨0, _⟩ => show win0_5.index t 0 * 144 + 1 * b.val = b.val; rw [h0]; omega
    | ⟨1, _⟩ => show win0_5.index t 1 * 5 + 1 * s.val = s.val; rw [h1]; omega
    | ⟨2, _⟩ => show win0_5.index t 2 * 256 + 1 * l.val = 256 * t.val + l.val; rw [h2]; omega
  rw [show ((cfg0.win 5).blk t).view.emb (ix3 b s l) = (ix3 b s (⟨256 * t.val + l.val, by omega⟩ : Fin 2048) : S144x5x2048.Idx) from
    funext fun e => Fin.ext (hi e)]
  unfold rescaled result projected
  dsimp only
  rw [product_apply]
  refine congrArg₂ (· + ·) (congrArg₂ (· * ·) (Finset.sum_congr rfl fun k _ => ?_) (congrArg₂ (· * ·) ?_ ?_)) ?_
  · exact congrArg₂ (· * ·) (arg0_block m c t _ k) (congrArg (fun z : BitVec 8 => ((z.toInt : ℝ) : EReal)) (arg2_block m c t k l))
  · exact arg1_block m c t b _ _
  · exact arg3_block m c t l
  · exact arg4_block m c t b s l

/-- The kernel's result array, once every block is written back. -/
theorem final_out (c : Dev nD) : (dats m 0 c).arrAt 5 cfg0.N = result m c :=
  (dats m 0 c).arrAt_eq_of_cover 5 (result m c) (fun t _ => flushed_eq m c t) fun i => by
    have hi0 : (i 0 : Nat) < 144 := (i 0).isLt
    have hi1 : (i 1 : Nat) < 5 := (i 1).isLt
    have hi2 : (i 2 : Nat) < 2048 := (i 2).isLt
    have hN := points
    obtain ⟨t, ht⟩ : ∃ t : Fin cfg0.N, t.val = (i 2).val / 256 := ⟨⟨(i 2).val / 256, by omega⟩, rfl⟩
    obtain ⟨-, -, -, -, -, -, -, -, -, -, -, -, h0, h1, h2⟩ := index_facts t
    refine ⟨t, flush0_5 t, ?_⟩
    show i ∈ ((View.whole main_v1).slice (win0_5.rect t)).set
    rw [View.set_slice_whole, Rect.mem_set_unit]
    intro a
    match a with
    | ⟨0, _⟩ => show win0_5.index t 0 * 144 ≤ (i 0 : Nat) ∧ (i 0 : Nat) < win0_5.index t 0 * 144 + 144; rw [h0]; omega
    | ⟨1, _⟩ => show win0_5.index t 1 * 5 ≤ (i 1 : Nat) ∧ (i 1 : Nat) < win0_5.index t 1 * 5 + 5; rw [h1]; omega
    | ⟨2, _⟩ => show win0_5.index t 2 * 256 ≤ (i 2 : Nat) ∧ (i 2 : Nat) < win0_5.index t 2 * 256 + 256; rw [h2, ht]; omega

/-- The kernel's run: the result array holds `result`, the arguments are unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_out m c), (h c).2⟩) (Value.run_blocks m ρ)

end Cert.OutProjIdeal.Block

end
-- ==== Proof.OutReference.lean ====
/-
  The reference of the output projection, over the extended reals: its result array, element by element, is `projected`, the same
  closed form that the kernel is proved to compute.
-/
module

public import proofs.«01_k».proof.Proof.OutValue
public import proofs.«01_k».proof.Proof.Gen.OutReferenceIdeal.Read

@[expose] public section

set_option maxRecDepth 16384

noncomputable section

namespace Cert.OutReferenceIdeal.Closed

open Cert.OutReferenceIdeal Cert.OutReferenceIdeal.Read Idealize.ShloMosaic Idealize.ShloMosaic.TcCoe
open Idealize.ShloMosaic.ValueIdx Cert.OutProjIdeal.Block

/-- A sign-extended code has the code's value. -/
theorem widened (b : BitVec 8) : (((b.signExtend 32).toInt : ℝ) : EReal) = ((b.toInt : ℝ) : EReal) := by
  rw [BitVec.toInt_signExtend_of_le (by decide)]

/-- The reference's result at an element. -/
theorem value_eq (x0 : S1152x3072.Idx → EReal) (x1 : S144x8x128.Idx → EReal) (x2 : S3072x2048.Idx → BitVec 8)
    (x3 : S2048.Idx → EReal) (x4 : S144x5x2048.Idx → EReal) :
    (val_main_v17 (F := Ideal) x0 x1 x2 x3 x4 : S144x5x2048.Idx → EReal) = fun i => projected x0 x1 x2 x3 x4 (i 0) (i 1) (i 2) := by
  funext i
  obtain ⟨b, s, n, rfl⟩ : ∃ (b : Fin 144) (s : Fin 5) (n : Fin 2048), i = ix3 b s n := ⟨i 0, i 1, i 2, eq_ix3 (n0 := 144) (n1 := 5) (n2 := 2048) i⟩
  rw [val_main_v17_apply, val_main_v16_apply, val_main_v14_apply, val_main_v13_apply, val_main_v15_apply, val_main_v8_apply,
    val_main_v11_apply, val_main_v9_apply, val_main_v4_apply, val_main_v3_apply, val_main_v12_apply, val_main_v10_apply]
  simp only [val_main_v2_apply, val_main_v1_apply, val_main_v0_apply, val_main_v7_apply, val_main_v6_apply, val_main_v5_apply,
    Ideal.truncf_def, Ideal.extf_def, Ideal.addf_def, Ideal.mulf_def]
  unfold projected
  refine congrArg₂ (· + ·) (congrArg₂ (· * ·) (Finset.sum_congr rfl fun k _ => congrArg₂ (· * ·) (congrArg x0 ?_) ?_)
    (congrArg₂ (· * ·) (congrArg x1 ?_) (congrArg x3 ?_))) rfl
  · funext a; apply Fin.ext
    match a with
    | ⟨0, _⟩ => show ((b.val * 8 + s.val) * 3072 + k.val) / 3072 = 8 * b.val + s.val; omega
    | ⟨1, _⟩ => show ((b.val * 8 + s.val) * 3072 + k.val) % 3072 = k.val; omega
  · refine (widened _).trans (congrArg (fun z : BitVec 8 => ((z.toInt : ℝ) : EReal)) (congrArg x2 ?_))
    funext a; apply Fin.ext
    match a with
    | ⟨0, _⟩ => rfl
    | ⟨1, _⟩ => rfl
  · funext a; apply Fin.ext
    match a with
    | ⟨0, _⟩ => show (b.val * 5 + s.val) / 5 = b.val; omega
    | ⟨1, _⟩ => show (b.val * 5 + s.val) / 1 % 5 = s.val; omega
    | ⟨2, _⟩ => rfl
  · funext a; apply Fin.ext
    match a with
    | ⟨0, _⟩ => rfl

end Cert.OutReferenceIdeal.Closed

end
-- ==== Proof.InBody.lean ====
/-
  The body of the call `in_proj`, at one grid point, for any float values. The body multiplies the staged codes, and then does one of four
  things by the point: below 6 the causal convolution and the normalisation of q and k, below 18 the convolution alone, below 30 it
  stores the product as the gate z, and at 30 as the columns a and b. Each theorem says what the twelve buffers hold afterwards.
-/
module

public import proofs.«01_k».proof.Proof.Gen.InProj.Frame
public import proofs.«01_k».proof.Proof.Gen.InProj.Loops

@[expose] public section

set_option maxRecDepth 16384

noncomputable section

namespace Cert.InProj.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.InProj Cert.InProj.Gen

variable {F : FTy → Type} [FloatOps F]
local notation "𝕄" => MT nD τ sig Unit (Elt F) ℕ (UR sig nD τ) ℕ

variable (c : Dev nD) (E : Set ℕ) (i : grid0.Coords) (arg1 : Memref sig .tc .vmem S720x2048 .bf16) (harg1 : arg1.IsWhole) (arg2 : Memref sig .tc .vmem S720x128 .f32) (harg2 : arg2.IsWhole) (arg3 : Memref sig .tc .vmem S2048x256 .i8) (harg3 : arg3.IsWhole) (arg4 : Memref sig .tc .vmem S1x256 .f32) (harg4 : arg4.IsWhole) (arg5 : Memref sig .tc .vmem S4x256 .f32) (harg5 : arg5.IsWhole) (arg6 : Memref sig .tc .vmem S18x2x24x128 .f32) (harg6 : arg6.IsWhole) (arg7 : Memref sig .tc .vmem S144x128 .i32) (harg7 : arg7.IsWhole) (arg8 : Memref sig .tc .vmem S2x720x128 .f32) (harg8 : arg8.IsWhole) (arg9 : Memref sig .tc .vmem S2x720x128 .f32) (harg9 : arg9.IsWhole) (arg10 : Memref sig .tc .vmem S720x128 .f32) (harg10 : arg10.IsWhole) (arg11 : Memref sig .tc .vmem S144x3x256 .bf16) (harg11 : arg11.IsWhole) (arg12 : Memref sig .tc .vmem S2x24x128 .f32) (harg12 : arg12.IsWhole)
variable (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty)

/-- The twelve buffers of the body, each whole at the contents named. -/
abbrev held (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))

/-- The two stores of the product, columns 0 to 127 and columns 128 to 255, into the two halves of the block of q, k and v. -/
def entry8 : List (View.Piece (Elt F) S2x720x128 .f32) :=
  [⟨Rect.unit (s := S2x720x128) ![1, 0, 0] S1x720x128.size inb_S2x720x128_S1x720x128_1_0_0, k0_pay3 (View.readAt (Elt F) arg1.view (Rect.unit (s := S720x2048) ![0, 0] S720x2048.size inb_S720x2048_S720x2048_0_0).toLoadRect f1) (View.readAt (Elt F) arg3.view (Rect.unit (s := S2048x256) ![0, 0] S2048x256.size inb_S2048x256_S2048x256_0_0).toLoadRect f3) (View.readAt (Elt F) arg2.view (Rect.unit (s := S720x128) ![0, 0] S720x1.size inb_S720x128_S720x1_0_0).toLoadRect f2) (View.readAt (Elt F) arg4.view (Rect.unit (s := S1x256) ![0, 0] S1x256.size inb_S1x256_S1x256_0_0).toLoadRect f4)⟩,
   ⟨Rect.unit (s := S2x720x128) ![0, 0, 0] S1x720x128.size inb_S2x720x128_S1x720x128_0_0_0, k0_pay2 (View.readAt (Elt F) arg1.view (Rect.unit (s := S720x2048) ![0, 0] S720x2048.size inb_S720x2048_S720x2048_0_0).toLoadRect f1) (View.readAt (Elt F) arg3.view (Rect.unit (s := S2048x256) ![0, 0] S2048x256.size inb_S2048x256_S2048x256_0_0).toLoadRect f3) (View.readAt (Elt F) arg2.view (Rect.unit (s := S720x128) ![0, 0] S720x1.size inb_S720x128_S720x1_0_0).toLoadRect f2) (View.readAt (Elt F) arg4.view (Rect.unit (s := S1x256) ![0, 0] S1x256.size inb_S1x256_S1x256_0_0).toLoadRect f4)⟩]

/-- The two stores of the product into the two halves of the block of z. -/
def entry9 : List (View.Piece (Elt F) S2x720x128 .f32) :=
  [⟨Rect.unit (s := S2x720x128) ![1, 0, 0] S1x720x128.size inb_S2x720x128_S1x720x128_1_0_0, k0_pay10 (View.readAt (Elt F) arg1.view (Rect.unit (s := S720x2048) ![0, 0] S720x2048.size inb_S720x2048_S720x2048_0_0).toLoadRect f1) (View.readAt (Elt F) arg3.view (Rect.unit (s := S2048x256) ![0, 0] S2048x256.size inb_S2048x256_S2048x256_0_0).toLoadRect f3) (View.readAt (Elt F) arg2.view (Rect.unit (s := S720x128) ![0, 0] S720x1.size inb_S720x128_S720x1_0_0).toLoadRect f2) (View.readAt (Elt F) arg4.view (Rect.unit (s := S1x256) ![0, 0] S1x256.size inb_S1x256_S1x256_0_0).toLoadRect f4)⟩,
   ⟨Rect.unit (s := S2x720x128) ![0, 0, 0] S1x720x128.size inb_S2x720x128_S1x720x128_0_0_0, k0_pay9 (View.readAt (Elt F) arg1.view (Rect.unit (s := S720x2048) ![0, 0] S720x2048.size inb_S720x2048_S720x2048_0_0).toLoadRect f1) (View.readAt (Elt F) arg3.view (Rect.unit (s := S2048x256) ![0, 0] S2048x256.size inb_S2048x256_S2048x256_0_0).toLoadRect f3) (View.readAt (Elt F) arg2.view (Rect.unit (s := S720x128) ![0, 0] S720x1.size inb_S720x128_S720x1_0_0).toLoadRect f2) (View.readAt (Elt F) arg4.view (Rect.unit (s := S1x256) ![0, 0] S1x256.size inb_S1x256_S1x256_0_0).toLoadRect f4)⟩]

/-- The store of the product's first 128 columns into the block of a and b. -/
def entry10 : List (View.Piece (Elt F) S720x128 .f32) :=
  [⟨Rect.unit (s := S720x128) ![0, 0] S720x128.size inb_S720x128_S720x128_0_0, k0_pay11 (View.readAt (Elt F) arg1.view (Rect.unit (s := S720x2048) ![0, 0] S720x2048.size inb_S720x2048_S720x2048_0_0).toLoadRect f1) (View.readAt (Elt F) arg3.view (Rect.unit (s := S2048x256) ![0, 0] S2048x256.size inb_S2048x256_S2048x256_0_0).toLoadRect f3) (View.readAt (Elt F) arg2.view (Rect.unit (s := S720x128) ![0, 0] S720x1.size inb_S720x128_S720x1_0_0).toLoadRect f2) (View.readAt (Elt F) arg4.view (Rect.unit (s := S1x256) ![0, 0] S1x256.size inb_S1x256_S1x256_0_0).toLoadRect f4)⟩]

/-- The stores of the convolution's first `n` trips, into the block of q, k and v, the block of the new cache and the scratch. -/
def trips (h1 : k0_cond1 i = 1#1) (n : ℕ) :=
  pb_k0_t1 (F := F) Variants.none c none i arg1 harg1 arg2 harg2 arg3 harg3 arg4 harg4 arg5 harg5 arg6 harg6 arg7 harg7 arg8 harg8 arg9 harg9 arg10 harg10 arg11 harg11 arg12 harg12 h1 f5 f6 f7
    (arg8.view.writes (Elt F) arg8.view.junk (entry8 arg1 arg2 arg3 arg4 f1 f2 f3 f4)) f11 f12 n

/-- The block of q, k and v after the convolution. -/
def conv8 (h1 : k0_cond1 i = 1#1) : BufTy.Contents (Elt F) arg8.view.ty :=
  arg8.view.writes (Elt F) arg8.view.junk ((trips c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1 k0_t1_loop.trips).1 ++ entry8 arg1 arg2 arg3 arg4 f1 f2 f3 f4)

/-- The block of the new cache after the convolution. -/
def conv11 (h1 : k0_cond1 i = 1#1) : BufTy.Contents (Elt F) arg11.view.ty :=
  arg11.view.writes (Elt F) f11 (trips c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1 k0_t1_loop.trips).2.1

/-- The block of q and k after the normalisation: each half normalised by the sums over both. -/
def norm8 (h1 : k0_cond1 i = 1#1) : BufTy.Contents (Elt F) arg8.view.ty :=
  arg8.view.writes (Elt F) arg8.view.junk
    (⟨Rect.unit (s := S2x720x128) ![1, 0, 0] S1x720x128.size inb_S2x720x128_S1x720x128_1_0_0, k0_pay8 i
        (View.readAt (Elt F) arg8.view (Rect.unit (s := S2x720x128) ![0, 0, 0] S1x720x128.size inb_S2x720x128_S1x720x128_0_0_0).toLoadRect (conv8 c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1))
        (View.readAt (Elt F) arg8.view (Rect.unit (s := S2x720x128) ![1, 0, 0] S1x720x128.size inb_S2x720x128_S1x720x128_1_0_0).toLoadRect (conv8 c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1))⟩ ::
     ⟨Rect.unit (s := S2x720x128) ![0, 0, 0] S1x720x128.size inb_S2x720x128_S1x720x128_0_0_0, k0_pay7 i
        (View.readAt (Elt F) arg8.view (Rect.unit (s := S2x720x128) ![0, 0, 0] S1x720x128.size inb_S2x720x128_S1x720x128_0_0_0).toLoadRect (conv8 c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1))
        (View.readAt (Elt F) arg8.view (Rect.unit (s := S2x720x128) ![1, 0, 0] S1x720x128.size inb_S2x720x128_S1x720x128_1_0_0).toLoadRect (conv8 c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1))⟩ ::
     ((trips c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1 k0_t1_loop.trips).1 ++ entry8 arg1 arg2 arg3 arg4 f1 f2 f3 f4))

set_option maxHeartbeats 4000000 in
/-- A point of v: the product stored, then the convolution. -/
theorem sound_conv (h1 : k0_cond1 i = 1#1) (h2 : ¬ k0_cond2 i = 1#1) (h3 : ¬ k0_cond3 i = 1#1) (h4 : ¬ k0_cond4 i = 1#1) (K : PUnit → sProp 𝕄) :
    iprop(held c arg1 arg2 arg3 arg4 arg5 arg6 arg7 arg8 arg9 arg10 arg11 arg12 f1 f2 f3 f4 f5 f6 f7 f8 f9 f10 f11 f12
      ∗ (∀ g12, held c arg1 arg2 arg3 arg4 arg5 arg6 arg7 arg8 arg9 arg10 arg11 arg12 f1 f2 f3 f4 f5 f6 f7 (conv8 c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1) f9 f10 (conv11 c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1) g12 -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel
  iintro ⟨⟨H1, H2, H3, H4, H5, H6, H7, H8, H9, H10, H11, H12⟩, Hk⟩
  sl_exec (disch := first | sl_exact h1 | sl_exact h2 | sl_exact h3 | sl_exact h4)
  sl_step
  iapply Hk $$ %_
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxHeartbeats 4000000 in
/-- A point of q or k: the product stored, the convolution, the normalisation. -/
theorem sound_qk (h1 : k0_cond1 i = 1#1) (h2 : k0_cond2 i = 1#1) (h3 : ¬ k0_cond3 i = 1#1) (h4 : ¬ k0_cond4 i = 1#1) (K : PUnit → sProp 𝕄) :
    iprop(held c arg1 arg2 arg3 arg4 arg5 arg6 arg7 arg8 arg9 arg10 arg11 arg12 f1 f2 f3 f4 f5 f6 f7 f8 f9 f10 f11 f12
      ∗ (∀ g12, held c arg1 arg2 arg3 arg4 arg5 arg6 arg7 arg8 arg9 arg10 arg11 arg12 f1 f2 f3 f4 f5 f6 f7 (norm8 c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1) f9 f10 (conv11 c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1) g12 -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel
  iintro ⟨⟨H1, H2, H3, H4, H5, H6, H7, H8, H9, H10, H11, H12⟩, Hk⟩
  sl_exec (disch := first | sl_exact h1 | sl_exact h2 | sl_exact h3 | sl_exact h4)
  sl_step
  iapply Hk $$ %_
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxHeartbeats 4000000 in
/-- A point of z: the product stored. -/
theorem sound_gate (h1 : ¬ k0_cond1 i = 1#1) (h3 : k0_cond3 i = 1#1) (h4 : ¬ k0_cond4 i = 1#1) (K : PUnit → sProp 𝕄) :
    iprop(held c arg1 arg2 arg3 arg4 arg5 arg6 arg7 arg8 arg9 arg10 arg11 arg12 f1 f2 f3 f4 f5 f6 f7 f8 f9 f10 f11 f12
      ∗ (∀ g12, held c arg1 arg2 arg3 arg4 arg5 arg6 arg7 arg8 arg9 arg10 arg11 arg12 f1 f2 f3 f4 f5 f6 f7 f8 (arg9.view.writes (Elt F) f9 (entry9 arg1 arg2 arg3 arg4 f1 f2 f3 f4)) f10 f11 g12 -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel
  iintro ⟨⟨H1, H2, H3, H4, H5, H6, H7, H8, H9, H10, H11, H12⟩, Hk⟩
  sl_exec (disch := first | sl_exact h1 | sl_exact h3 | sl_exact h4)
  sl_step
  iapply Hk $$ %_
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxHeartbeats 4000000 in
/-- The last point: the product stored as a and b. -/
theorem sound_ab (h1 : ¬ k0_cond1 i = 1#1) (h3 : ¬ k0_cond3 i = 1#1) (h4 : k0_cond4 i = 1#1) (K : PUnit → sProp 𝕄) :
    iprop(held c arg1 arg2 arg3 arg4 arg5 arg6 arg7 arg8 arg9 arg10 arg11 arg12 f1 f2 f3 f4 f5 f6 f7 f8 f9 f10 f11 f12
      ∗ (∀ g12, held c arg1 arg2 arg3 arg4 arg5 arg6 arg7 arg8 arg9 arg10 arg11 arg12 f1 f2 f3 f4 f5 f6 f7 f8 f9 (arg10.view.writes (Elt F) f10 (entry10 arg1 arg2 arg3 arg4 f1 f2 f3 f4)) f11 g12 -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel
  iintro ⟨⟨H1, H2, H3, H4, H5, H6, H7, H8, H9, H10, H11, H12⟩, Hk⟩
  sl_exec (disch := first | sl_exact h1 | sl_exact h3 | sl_exact h4)
  sl_step
  iapply Hk $$ %_
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.InProj.Body

end
-- ==== Proof.InRun.lean ====
/-
  The run of the call `in_proj`, for any float values and for any relation `R` between what a staging buffer holds before the body and
  after it. `Keeps` lists what the body's stores have to satisfy; `run` is the whole call.
-/
module

public import proofs.«01_k».proof.Proof.InBody
public import Idealize.ShloMosaic.Lib.Pipeline.ArrRel

@[expose] public section

set_option maxRecDepth 16384

noncomputable section

namespace Cert.InProj.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.InProj Cert.InProj.Gen Cert.InProj.Body

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- A relation, for each window and grid point, between what the body finds in the window's staging buffer and what it leaves there. -/
abbrev Rel (F : FTy → Type) [FloatOps F] := (w : Fin cfg0.W) → Fin cfg0.N → (Y X : (cfg0.win w).block.Idx → Elt F (cfg0.win w).elt) → Prop

variable (R : Dev nD → Rel F)

/-- The arrays as the call finds them; the relation `R` for what the body leaves. -/
def rdats (c : Dev nD) : RDat τ (Elt F) Unit ℕ (UR sig nD τ) ℕ cfg0 c where
  A w := V m c (Pipeline.arrRef spec0 w)
  after := R c
  Φ _ := Pipeline.ΦA spec0 c
  q _ := fullShare
  owed _ := 0

/-- Which of the body's four branches each point takes. -/
theorem conds : ∀ t : Fin grid0.N, (k0_cond1 (grid0.coords t) = 1#1 ↔ t.val < 18) ∧ (k0_cond2 (grid0.coords t) = 1#1 ↔ t.val < 6)
    ∧ (k0_cond3 (grid0.coords t) = 1#1 ↔ 18 ≤ t.val ∧ t.val < 30) ∧ (k0_cond4 (grid0.coords t) = 1#1 ↔ t.val = 30) := by decide +kernel

theorem lt31 (t : Fin cfg0.N) : t.val < 31 := t.isLt

/-- The scratch buffer as the body is handed it. -/
abbrev sc : Memref sig .tc .vmem S2x24x128 .f32 := Memref.whole cc0_scratch0
theorem hsc : (sc).IsWhole := Memref.isWhole_whole _

/-- What the body's stores have to satisfy for `R`, given what the staging buffers may hold when the body runs. -/
structure Keeps (c : Dev nD) : Prop where
  /-- A buffer that the body does not write is in the relation to itself. -/
  same : ∀ w t Y, (w.val < 7 ∨ (w.val = 7 ∨ w.val = 10) ∧ 18 ≤ t.val ∨ w.val = 8 ∧ (t.val < 18 ∨ t.val = 30) ∨ w.val = 9 ∧ t.val < 30) → R c w t Y Y
  /-- The block of q, k and v and the block of the new cache, at a point of v. -/
  conv : ∀ (t : Fin cfg0.N) (h1 : k0_cond1 (grid0.coords t) = 1#1), ¬ t.val < 6 → ∀ (Y : (w : Fin cfg0.W) → (cfg0.win w).block.Idx → Elt F (cfg0.win w).elt), (∀ w, (rdats m R c).Finds w t (Y w)) → ∀ (f1 : BufTy.Contents (Elt F) (st0_0 t).view.ty) (f2 : BufTy.Contents (Elt F) (st0_1 t).view.ty) (f3 : BufTy.Contents (Elt F) (st0_2 t).view.ty) (f4 : BufTy.Contents (Elt F) (st0_3 t).view.ty) (f5 : BufTy.Contents (Elt F) (st0_4 t).view.ty) (f6 : BufTy.Contents (Elt F) (st0_5 t).view.ty) (f7 : BufTy.Contents (Elt F) (st0_6 t).view.ty) (f11 : BufTy.Contents (Elt F) (st0_10 t).view.ty) (f12 : BufTy.Contents (Elt F) sc.view.ty),
    (st0_0 t).view.read (Elt F) f1 = Y 0 → (st0_1 t).view.read (Elt F) f2 = Y 1 → (st0_2 t).view.read (Elt F) f3 = Y 2 → (st0_3 t).view.read (Elt F) f4 = Y 3 → (st0_4 t).view.read (Elt F) f5 = Y 4 → (st0_5 t).view.read (Elt F) f6 = Y 5 → (st0_6 t).view.read (Elt F) f7 = Y 6 →
    R c 7 t (Y 7) ((st0_7 t).view.read (Elt F) (conv8 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) sc hsc f1 f2 f3 f4 f5 f6 f7 f11 f12 h1))
      ∧ R c 10 t (Y 10) ((st0_10 t).view.read (Elt F) (conv11 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) sc hsc f1 f2 f3 f4 f5 f6 f7 f11 f12 h1))
  /-- The same at a point of q or k. -/
  qk : ∀ (t : Fin cfg0.N) (h1 : k0_cond1 (grid0.coords t) = 1#1), t.val < 6 → ∀ (Y : (w : Fin cfg0.W) → (cfg0.win w).block.Idx → Elt F (cfg0.win w).elt), (∀ w, (rdats m R c).Finds w t (Y w)) → ∀ (f1 : BufTy.Contents (Elt F) (st0_0 t).view.ty) (f2 : BufTy.Contents (Elt F) (st0_1 t).view.ty) (f3 : BufTy.Contents (Elt F) (st0_2 t).view.ty) (f4 : BufTy.Contents (Elt F) (st0_3 t).view.ty) (f5 : BufTy.Contents (Elt F) (st0_4 t).view.ty) (f6 : BufTy.Contents (Elt F) (st0_5 t).view.ty) (f7 : BufTy.Contents (Elt F) (st0_6 t).view.ty) (f11 : BufTy.Contents (Elt F) (st0_10 t).view.ty) (f12 : BufTy.Contents (Elt F) sc.view.ty),
    (st0_0 t).view.read (Elt F) f1 = Y 0 → (st0_1 t).view.read (Elt F) f2 = Y 1 → (st0_2 t).view.read (Elt F) f3 = Y 2 → (st0_3 t).view.read (Elt F) f4 = Y 3 → (st0_4 t).view.read (Elt F) f5 = Y 4 → (st0_5 t).view.read (Elt F) f6 = Y 5 → (st0_6 t).view.read (Elt F) f7 = Y 6 →
    R c 7 t (Y 7) ((st0_7 t).view.read (Elt F) (norm8 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) sc hsc f1 f2 f3 f4 f5 f6 f7 f11 f12 h1))
      ∧ R c 10 t (Y 10) ((st0_10 t).view.read (Elt F) (conv11 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) sc hsc f1 f2 f3 f4 f5 f6 f7 f11 f12 h1))
  /-- The block of z. -/
  gate : ∀ (t : Fin cfg0.N), 18 ≤ t.val → t.val < 30 → ∀ (Y : (w : Fin cfg0.W) → (cfg0.win w).block.Idx → Elt F (cfg0.win w).elt), (∀ w, (rdats m R c).Finds w t (Y w)) → ∀ (f1 : BufTy.Contents (Elt F) (st0_0 t).view.ty) (f2 : BufTy.Contents (Elt F) (st0_1 t).view.ty) (f3 : BufTy.Contents (Elt F) (st0_2 t).view.ty) (f4 : BufTy.Contents (Elt F) (st0_3 t).view.ty) (f9 : BufTy.Contents (Elt F) (st0_8 t).view.ty),
    (st0_0 t).view.read (Elt F) f1 = Y 0 → (st0_1 t).view.read (Elt F) f2 = Y 1 → (st0_2 t).view.read (Elt F) f3 = Y 2 → (st0_3 t).view.read (Elt F) f4 = Y 3 →
    R c 8 t (Y 8) ((st0_8 t).view.read (Elt F) ((st0_8 t).view.writes (Elt F) f9 (entry9 (st0_0 t) (st0_1 t) (st0_2 t) (st0_3 t) f1 f2 f3 f4)))
  /-- The block of a and b. -/
  ab : ∀ (t : Fin cfg0.N), t.val = 30 → ∀ (Y : (w : Fin cfg0.W) → (cfg0.win w).block.Idx → Elt F (cfg0.win w).elt), (∀ w, (rdats m R c).Finds w t (Y w)) → ∀ (f1 : BufTy.Contents (Elt F) (st0_0 t).view.ty) (f2 : BufTy.Contents (Elt F) (st0_1 t).view.ty) (f3 : BufTy.Contents (Elt F) (st0_2 t).view.ty) (f4 : BufTy.Contents (Elt F) (st0_3 t).view.ty) (f10 : BufTy.Contents (Elt F) (st0_9 t).view.ty),
    (st0_0 t).view.read (Elt F) f1 = Y 0 → (st0_1 t).view.read (Elt F) f2 = Y 1 → (st0_2 t).view.read (Elt F) f3 = Y 2 → (st0_3 t).view.read (Elt F) f4 = Y 3 →
    R c 9 t (Y 9) ((st0_9 t).view.read (Elt F) ((st0_9 t).view.writes (Elt F) f10 (entry10 (st0_0 t) (st0_1 t) (st0_2 t) (st0_3 t) f1 f2 f3 f4)))

/-- The invariant of the region: the scratch buffer, at any contents, and the generator's register. -/
theorem phi_eq (c : Dev nD) : (Pipeline.ΦA spec0 c : sProp 𝕄) = iprop((∃ X, owns (c : Thread nD τ) sc fullShare X) ∗ ∃ r, prngReg c r) := by
  unfold Pipeline.ΦA
  rw [scopedRest0_eq]
  simp only [owns_whole]
  try rfl

/-- The body table's row at a point is the body on the point's buffers. -/
theorem defs₀_row (t : Fin cfg0.N) :
    defs₀ (F := F) .tc cfg0.body (cfg0.bodyArgs t (cfg0.slots t)) = bodyAt0 t := by
  unfold defs₀; rw [Defs.onTc_tc]

/-- What the body is handed, and what it gives back. -/
def bodyPre (c : Dev nD) (t : Fin cfg0.N) (Y : (w : Fin cfg0.W) → (cfg0.win w).block.Idx → Elt F (cfg0.win w).elt) : sProp 𝕄 :=
  iprop((rdats m R c).Φ t.castSucc ∗ (rdats m R c).owesAt () t.castSucc
    ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10))
def bodyPost (c : Dev nD) (t : Fin cfg0.N) (Y : (w : Fin cfg0.W) → (cfg0.win w).block.Idx → Elt F (cfg0.win w).elt) : sProp 𝕄 :=
  iprop((rdats m R c).Φ t.succ ∗ (rdats m R c).owesAt () t.succ
    ∗ (∃ X, ⌜R c 0 t (Y 0) X⌝ ∗ owns (c : Thread nD τ) (st0_0 t) fullShare X) ∗ (∃ X, ⌜R c 1 t (Y 1) X⌝ ∗ owns (c : Thread nD τ) (st0_1 t) fullShare X) ∗ (∃ X, ⌜R c 2 t (Y 2) X⌝ ∗ owns (c : Thread nD τ) (st0_2 t) fullShare X) ∗ (∃ X, ⌜R c 3 t (Y 3) X⌝ ∗ owns (c : Thread nD τ) (st0_3 t) fullShare X) ∗ (∃ X, ⌜R c 4 t (Y 4) X⌝ ∗ owns (c : Thread nD τ) (st0_4 t) fullShare X) ∗ (∃ X, ⌜R c 5 t (Y 5) X⌝ ∗ owns (c : Thread nD τ) (st0_5 t) fullShare X) ∗ (∃ X, ⌜R c 6 t (Y 6) X⌝ ∗ owns (c : Thread nD τ) (st0_6 t) fullShare X) ∗ (∃ X, ⌜R c 7 t (Y 7) X⌝ ∗ owns (c : Thread nD τ) (st0_7 t) fullShare X) ∗ (∃ X, ⌜R c 8 t (Y 8) X⌝ ∗ owns (c : Thread nD τ) (st0_8 t) fullShare X) ∗ (∃ X, ⌜R c 9 t (Y 9) X⌝ ∗ owns (c : Thread nD τ) (st0_9 t) fullShare X) ∗ (∃ X, ⌜R c 10 t (Y 10) X⌝ ∗ owns (c : Thread nD τ) (st0_10 t) fullShare X))

set_option maxHeartbeats 4000000 in
/-- The body at any point, by the branch it takes. -/
theorem sound_body (c : Dev nD) (hR : Keeps m R c) (t : Fin cfg0.N) (Y : (w : Fin cfg0.W) → (cfg0.win w).block.Idx → Elt F (cfg0.win w).elt)
    (hY : ∀ w, (rdats m R c).Finds w t (Y w)) :
    bodyPre m R c t Y ⊢ wp frame (wpE (defs₀ (F := F)) Variants.none c none) Set.univ (bodyAt0 t) (fun _ => bodyPost m R c t Y) := by
  unfold bodyPre bodyPost bodyAt0
  rw [show (rdats m R c).Φ t.succ = (rdats m R c).Φ t.castSucc from rfl,
    show (rdats m R c).owesAt () t.succ = (rdats m R c).owesAt () t.castSucc from rfl,
    show (rdats m R c).Φ t.castSucc = Pipeline.ΦA spec0 c from rfl]
  rw [phi_eq]
  unfold owns
  obtain ⟨e1, e2, e3, e4⟩ := conds t
  have ht := lt31 t
  by_cases h1 : t.val < 18
  · by_cases h2 : t.val < 6
    · iintro ⟨⟨⟨%Xs, %fs, %hfs, HS⟩, HP⟩, Ho, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩
      iapply (Body.sound_qk c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) sc hsc f1 f2 f3 f4 f5 f6 f7 f8 f9 f10 f11 fs (e1.mpr h1) (e2.mpr h2) (fun h => by have := e3.mp h; omega) (fun h => by have := e4.mp h; omega) _)
      isplitl [H1 H2 H3 H4 H5 H6 H7 H8 H9 H10 H11 HS]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact HS
      iintro %g12 ⟨H1, H2, H3, H4, H5, H6, H7, H8, H9, H10, H11, HS⟩
      isplitl [HS HP]
      · isplitl [HS]
        · iexists _; iexists g12; isplitr
          swap; · iexact HS
          ipureintro; rfl
        iexact HP
      isplitl [Ho]; · iexact Ho
      isplitl [H1]
      · iexists _; isplitr
        swap
        · iexists _; isplitr
          swap; · iexact H1
          ipureintro; rfl
        · ipureintro; exact hf1 ▸ hR.same 0 t _ (by simp; try omega)
      isplitl [H2]
      · iexists _; isplitr
        swap
        · iexists _; isplitr
          swap; · iexact H2
          ipureintro; rfl
        · ipureintro; exact hf2 ▸ hR.same 1 t _ (by simp; try omega)
      isplitl [H3]
      · iexists _; isplitr
        swap
        · iexists _; isplitr
          swap; · iexact H3
          ipureintro; rfl
        · ipureintro; exact hf3 ▸ hR.same 2 t _ (by simp; try omega)
      isplitl [H4]
      · iexists _; isplitr
        swap
        · iexists _; isplitr
          swap; · iexact H4
          ipureintro; rfl
        · ipureintro; exact hf4 ▸ hR.same 3 t _ (by simp; try omega)
      isplitl [H5]
      · iexists _; isplitr
        swap
        · iexists _; isplitr
          swap; · iexact H5
          ipureintro; rfl
        · ipureintro; exact hf5 ▸ hR.same 4 t _ (by simp; try omega)
      isplitl [H6]
      · iexists _; isplitr
        swap
        · iexists _; isplitr
          swap; · iexact H6
          ipureintro; rfl
        · ipureintro; exact hf6 ▸ hR.same 5 t _ (by simp; try omega)
      isplitl [H7]
      · iexists _; isplitr
        swap
        · iexists _; isplitr
          swap; · iexact H7
          ipureintro; rfl
        · ipureintro; exact hf7 ▸ hR.same 6 t _ (by simp; try omega)
      isplitl [H8]
      · iexists _; isplitr
        swap
        · iexists _; isplitr
          swap; · iexact H8
          ipureintro; rfl
        · ipureintro; exact (hR.qk t (e1.mpr h1) h2 Y hY f1 f2 f3 f4 f5 f6 f7 f11 fs hf1 hf2 hf3 hf4 hf5 hf6 hf7).1
      isplitl [H9]
      · iexists _; isplitr
        swap
        · iexists _; isplitr
          swap; · iexact H9
          ipureintro; rfl
        · ipureintro; exact hf9 ▸ hR.same 8 t _ (by simp; try omega)
      isplitl [H10]
      · iexists _; isplitr
        swap
        · iexists _; isplitr
          swap; · iexact H10
          ipureintro; rfl
        · ipureintro; exact hf10 ▸ hR.same 9 t _ (by simp; try omega)
      iexists _; isplitr
      swap
      · iexists _; isplitr
        swap; · iexact H11
        ipureintro; rfl
      · ipureintro; exact (hR.qk t (e1.mpr h1) h2 Y hY f1 f2 f3 f4 f5 f6 f7 f11 fs hf1 hf2 hf3 hf4 hf5 hf6 hf7).2
    · iintro ⟨⟨⟨%Xs, %fs, %hfs, HS⟩, HP⟩, Ho, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩
      iapply (Body.sound_conv c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) sc hsc f1 f2 f3 f4 f5 f6 f7 f8 f9 f10 f11 fs (e1.mpr h1) (fun h => h2 (e2.mp h)) (fun h => by have := e3.mp h; omega) (fun h => by have := e4.mp h; omega) _)
      isplitl [H1 H2 H3 H4 H5 H6 H7 H8 H9 H10 H11 HS]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact HS
      iintro %g12 ⟨H1, H2, H3, H4, H5, H6, H7, H8, H9, H10, H11, HS⟩
      isplitl [HS HP]
      · isplitl [HS]
        · iexists _; iexists g12; isplitr
          swap; · iexact HS
          ipureintro; rfl
        iexact HP
      isplitl [Ho]; · iexact Ho
      isplitl [H1]
      · iexists _; isplitr
        swap
        · iexists _; isplitr
          swap; · iexact H1
          ipureintro; rfl
        · ipureintro; exact hf1 ▸ hR.same 0 t _ (by simp; try omega)
      isplitl [H2]
      · iexists _; isplitr
        swap
        · iexists _; isplitr
          swap; · iexact H2
          ipureintro; rfl
        · ipureintro; exact hf2 ▸ hR.same 1 t _ (by simp; try omega)
      isplitl [H3]
      · iexists _; isplitr
        swap
        · iexists _; isplitr
          swap; · iexact H3
          ipureintro; rfl
        · ipureintro; exact hf3 ▸ hR.same 2 t _ (by simp; try omega)
      isplitl [H4]
      · iexists _; isplitr
        swap
        · iexists _; isplitr
          swap; · iexact H4
          ipureintro; rfl
        · ipureintro; exact hf4 ▸ hR.same 3 t _ (by simp; try omega)
      isplitl [H5]
      · iexists _; isplitr
        swap
        · iexists _; isplitr
          swap; · iexact H5
          ipureintro; rfl
        · ipureintro; exact hf5 ▸ hR.same 4 t _ (by simp; try omega)
      isplitl [H6]
      · iexists _; isplitr
        swap
        · iexists _; isplitr
          swap; · iexact H6
          ipureintro; rfl
        · ipureintro; exact hf6 ▸ hR.same 5 t _ (by simp; try omega)
      isplitl [H7]
      · iexists _; isplitr
        swap
        · iexists _; isplitr
          swap; · iexact H7
          ipureintro; rfl
        · ipureintro; exact hf7 ▸ hR.same 6 t _ (by simp; try omega)
      isplitl [H8]
      · iexists _; isplitr
        swap
        · iexists _; isplitr
          swap; · iexact H8
          ipureintro; rfl
        · ipureintro; exact (hR.conv t (e1.mpr h1) h2 Y hY f1 f2 f3 f4 f5 f6 f7 f11 fs hf1 hf2 hf3 hf4 hf5 hf6 hf7).1
      isplitl [H9]
      · iexists _; isplitr
        swap
        · iexists _; isplitr
          swap; · iexact H9
          ipureintro; rfl
        · ipureintro; exact hf9 ▸ hR.same 8 t _ (by simp; try omega)
      isplitl [H10]
      · iexists _; isplitr
        swap
        · iexists _; isplitr
          swap; · iexact H10
          ipureintro; rfl
        · ipureintro; exact hf10 ▸ hR.same 9 t _ (by simp; try omega)
      iexists _; isplitr
      swap
      · iexists _; isplitr
        swap; · iexact H11
        ipureintro; rfl
      · ipureintro; exact (hR.conv t (e1.mpr h1) h2 Y hY f1 f2 f3 f4 f5 f6 f7 f11 fs hf1 hf2 hf3 hf4 hf5 hf6 hf7).2
  · by_cases h3 : t.val < 30
    · iintro ⟨⟨⟨%Xs, %fs, %hfs, HS⟩, HP⟩, Ho, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩
      iapply (Body.sound_gate c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) sc hsc f1 f2 f3 f4 f5 f6 f7 f8 f9 f10 f11 fs (fun h => h1 (e1.mp h)) (e3.mpr ⟨by omega, h3⟩) (fun h => by have := e4.mp h; omega) _)
      isplitl [H1 H2 H3 H4 H5 H6 H7 H8 H9 H10 H11 HS]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact HS
      iintro %g12 ⟨H1, H2, H3, H4, H5, H6, H7, H8, H9, H10, H11, HS⟩
      isplitl [HS HP]
      · isplitl [HS]
        · iexists _; iexists g12; isplitr
          swap; · iexact HS
          ipureintro; rfl
        iexact HP
      isplitl [Ho]; · iexact Ho
      isplitl [H1]
      · iexists _; isplitr
        swap
        · iexists _; isplitr
          swap; · iexact H1
          ipureintro; rfl
        · ipureintro; exact hf1 ▸ hR.same 0 t _ (by simp; try omega)
      isplitl [H2]
      · iexists _; isplitr
        swap
        · iexists _; isplitr
          swap; · iexact H2
          ipureintro; rfl
        · ipureintro; exact hf2 ▸ hR.same 1 t _ (by simp; try omega)
      isplitl [H3]
      · iexists _; isplitr
        swap
        · iexists _; isplitr
          swap; · iexact H3
          ipureintro; rfl
        · ipureintro; exact hf3 ▸ hR.same 2 t _ (by simp; try omega)
      isplitl [H4]
      · iexists _; isplitr
        swap
        · iexists _; isplitr
          swap; · iexact H4
          ipureintro; rfl
        · ipureintro; exact hf4 ▸ hR.same 3 t _ (by simp; try omega)
      isplitl [H5]
      · iexists _; isplitr
        swap
        · iexists _; isplitr
          swap; · iexact H5
          ipureintro; rfl
        · ipureintro; exact hf5 ▸ hR.same 4 t _ (by simp; try omega)
      isplitl [H6]
      · iexists _; isplitr
        swap
        · iexists _; isplitr
          swap; · iexact H6
          ipureintro; rfl
        · ipureintro; exact hf6 ▸ hR.same 5 t _ (by simp; try omega)
      isplitl [H7]
      · iexists _; isplitr
        swap
        · iexists _; isplitr
          swap; · iexact H7
          ipureintro; rfl
        · ipureintro; exact hf7 ▸ hR.same 6 t _ (by simp; try omega)
      isplitl [H8]
      · iexists _; isplitr
        swap
        · iexists _; isplitr
          swap; · iexact H8
          ipureintro; rfl
        · ipureintro; exact hf8 ▸ hR.same 7 t _ (by simp; try omega)
      isplitl [H9]
      · iexists _; isplitr
        swap
        · iexists _; isplitr
          swap; · iexact H9
          ipureintro; rfl
        · ipureintro; exact hR.gate t (by omega) h3 Y hY f1 f2 f3 f4 f9 hf1 hf2 hf3 hf4
      isplitl [H10]
      · iexists _; isplitr
        swap
        · iexists _; isplitr
          swap; · iexact H10
          ipureintro; rfl
        · ipureintro; exact hf10 ▸ hR.same 9 t _ (by simp; try omega)
      iexists _; isplitr
      swap
      · iexists _; isplitr
        swap; · iexact H11
        ipureintro; rfl
      · ipureintro; exact hf11 ▸ hR.same 10 t _ (by simp; try omega)
    · iintro ⟨⟨⟨%Xs, %fs, %hfs, HS⟩, HP⟩, Ho, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩
      iapply (Body.sound_ab c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) sc hsc f1 f2 f3 f4 f5 f6 f7 f8 f9 f10 f11 fs (fun h => h1 (e1.mp h)) (fun h => by have := e3.mp h; omega) (e4.mpr (by omega)) _)
      isplitl [H1 H2 H3 H4 H5 H6 H7 H8 H9 H10 H11 HS]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact HS
      iintro %g12 ⟨H1, H2, H3, H4, H5, H6, H7, H8, H9, H10, H11, HS⟩
      isplitl [HS HP]
      · isplitl [HS]
        · iexists _; iexists g12; isplitr
          swap; · iexact HS
          ipureintro; rfl
        iexact HP
      isplitl [Ho]; · iexact Ho
      isplitl [H1]
      · iexists _; isplitr
        swap
        · iexists _; isplitr
          swap; · iexact H1
          ipureintro; rfl
        · ipureintro; exact hf1 ▸ hR.same 0 t _ (by simp; try omega)
      isplitl [H2]
      · iexists _; isplitr
        swap
        · iexists _; isplitr
          swap; · iexact H2
          ipureintro; rfl
        · ipureintro; exact hf2 ▸ hR.same 1 t _ (by simp; try omega)
      isplitl [H3]
      · iexists _; isplitr
        swap
        · iexists _; isplitr
          swap; · iexact H3
          ipureintro; rfl
        · ipureintro; exact hf3 ▸ hR.same 2 t _ (by simp; try omega)
      isplitl [H4]
      · iexists _; isplitr
        swap
        · iexists _; isplitr
          swap; · iexact H4
          ipureintro; rfl
        · ipureintro; exact hf4 ▸ hR.same 3 t _ (by simp; try omega)
      isplitl [H5]
      · iexists _; isplitr
        swap
        · iexists _; isplitr
          swap; · iexact H5
          ipureintro; rfl
        · ipureintro; exact hf5 ▸ hR.same 4 t _ (by simp; try omega)
      isplitl [H6]
      · iexists _; isplitr
        swap
        · iexists _; isplitr
          swap; · iexact H6
          ipureintro; rfl
        · ipureintro; exact hf6 ▸ hR.same 5 t _ (by simp; try omega)
      isplitl [H7]
      · iexists _; isplitr
        swap
        · iexists _; isplitr
          swap; · iexact H7
          ipureintro; rfl
        · ipureintro; exact hf7 ▸ hR.same 6 t _ (by simp; try omega)
      isplitl [H8]
      · iexists _; isplitr
        swap
        · iexists _; isplitr
          swap; · iexact H8
          ipureintro; rfl
        · ipureintro; exact hf8 ▸ hR.same 7 t _ (by simp; try omega)
      isplitl [H9]
      · iexists _; isplitr
        swap
        · iexists _; isplitr
          swap; · iexact H9
          ipureintro; rfl
        · ipureintro; exact hf9 ▸ hR.same 8 t _ (by simp; try omega)
      isplitl [H10]
      · iexists _; isplitr
        swap
        · iexists _; isplitr
          swap; · iexact H10
          ipureintro; rfl
        · ipureintro; exact hR.ab t (by omega) Y hY f1 f2 f3 f4 f10 hf1 hf2 hf3 hf4
      iexists _; isplitr
      swap
      · iexists _; isplitr
        swap; · iexact H11
        ipureintro; rfl
      · ipureintro; exact hf11 ▸ hR.same 10 t _ (by simp; try omega)

/-- The library's body obligation, from `sound_body`. -/
theorem body_obligation (c : Dev nD) (hR : Keeps m R c) : (rdats m R c).BodyObligation (defs₀ (F := F)) Variants.none () Set.univ := fun t Y hY => by
  rw [bigSep_W0, bigSep_W0, defs₀_row]
  exact triple_restated (sound_body m R c hR t Y hY) rfl .rfl fun _ => .rfl

set_option backward.isDefEq.respectTransparency.types false in
set_option maxHeartbeats 800000 in
/-- The call, from any memory with zero counters: every weakly fair execution terminates, each array ends in the relation, every other
    array of the caller's ends as it began, and every counter ends at zero. -/
theorem run (hR : ∀ c, Keeps m R c) : θ_run defs (onTc (τ := τ) (main (F := F))) (s₀ m ρ)
    (fun r => RDat.FramePost cfg0 (rdats m R) (V m) r ∧ r.2.sem = fun _ => 0) :=
  Pipeline.RDat.θ_run_frame (Q' := _) cfgs (0 : Fin 1) launch0 defs₀ Variants.none (rdats m R) m ρ main
    (hbody := fun c => body_obligation m R c (hR c)) (hshare := fun c w => by unfold RDat.share; split <;> rfl)
    (howed := fun _ _ => rfl) (V := V m) (hmain := hmain m Variants.none) (hA := fun _ _ => rfl) (hΦ := fun _ _ => rfl)

/-- The arguments end as they began, off the run's post. -/
theorem kept (r : PUnit × MemSt nD τ sig (Elt F)) (h : RDat.FramePost cfg0 (rdats m R) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h.arr_in c 0 rfl).trans (V_main_arg0 m c), (h.arr_in c 1 rfl).trans (V_main_arg1 m c), (h.arr_in c 2 rfl).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   (h.arr_in c 5 rfl).trans (V_main_arg5 m c),
   ((h c).2 main_arg6 (Pipeline.mem_restRefs_of main_arg6 (by decide) (by decide))).trans (V_main_arg6 m c)⟩

/-- THE FRAME of the call: it terminates without fault, its arguments end as they began, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => kept m (fun _ _ _ _ _ => True) r h.1 c, h.2⟩)
    (run m ρ (fun _ _ _ _ _ => True) fun c => ⟨fun _ _ _ _ => trivial, by intros; exact ⟨trivial, trivial⟩, by intros; exact ⟨trivial, trivial⟩,
      by intros; trivial, by intros; trivial⟩)

end Cert.InProj.Run

end
-- ==== Proof.InBodyIdeal.lean ====
/-
  The body of the call `in_proj`, at one grid point, for any float values. The body multiplies the staged codes, and then does one of four
  things by the point: below 6 the causal convolution and the normalisation of q and k, below 18 the convolution alone, below 30 it
  stores the product as the gate z, and at 30 as the columns a and b. Each theorem says what the twelve buffers hold afterwards.
-/
module

public import proofs.«01_k».proof.Proof.Gen.InProjIdeal.Frame
public import proofs.«01_k».proof.Proof.Gen.InProjIdeal.Loops

@[expose] public section

set_option maxRecDepth 16384

noncomputable section

namespace Cert.InProjIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.InProjIdeal Cert.InProjIdeal.Gen

variable {F : FTy → Type} [FloatOps F]
local notation "𝕄" => MT nD τ sig Unit (Elt F) ℕ (UR sig nD τ) ℕ

variable (c : Dev nD) (E : Set ℕ) (i : grid0.Coords) (arg1 : Memref sig .tc .vmem S720x2048 .bf16) (harg1 : arg1.IsWhole) (arg2 : Memref sig .tc .vmem S720x128 .f32) (harg2 : arg2.IsWhole) (arg3 : Memref sig .tc .vmem S2048x256 .i8) (harg3 : arg3.IsWhole) (arg4 : Memref sig .tc .vmem S1x256 .f32) (harg4 : arg4.IsWhole) (arg5 : Memref sig .tc .vmem S4x256 .f32) (harg5 : arg5.IsWhole) (arg6 : Memref sig .tc .vmem S18x2x24x128 .f32) (harg6 : arg6.IsWhole) (arg7 : Memref sig .tc .vmem S144x128 .i32) (harg7 : arg7.IsWhole) (arg8 : Memref sig .tc .vmem S2x720x128 .f32) (harg8 : arg8.IsWhole) (arg9 : Memref sig .tc .vmem S2x720x128 .f32) (harg9 : arg9.IsWhole) (arg10 : Memref sig .tc .vmem S720x128 .f32) (harg10 : arg10.IsWhole) (arg11 : Memref sig .tc .vmem S144x3x256 .bf16) (harg11 : arg11.IsWhole) (arg12 : Memref sig .tc .vmem S2x24x128 .f32) (harg12 : arg12.IsWhole)
variable (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty)

/-- The twelve buffers of the body, each whole at the contents named. -/
abbrev held (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))

/-- The two stores of the product, columns 0 to 127 and columns 128 to 255, into the two halves of the block of q, k and v. -/
def entry8 : List (View.Piece (Elt F) S2x720x128 .f32) :=
  [⟨Rect.unit (s := S2x720x128) ![1, 0, 0] S1x720x128.size inb_S2x720x128_S1x720x128_1_0_0, k0_pay3 (View.readAt (Elt F) arg1.view (Rect.unit (s := S720x2048) ![0, 0] S720x2048.size inb_S720x2048_S720x2048_0_0).toLoadRect f1) (View.readAt (Elt F) arg3.view (Rect.unit (s := S2048x256) ![0, 0] S2048x256.size inb_S2048x256_S2048x256_0_0).toLoadRect f3) (View.readAt (Elt F) arg2.view (Rect.unit (s := S720x128) ![0, 0] S720x1.size inb_S720x128_S720x1_0_0).toLoadRect f2) (View.readAt (Elt F) arg4.view (Rect.unit (s := S1x256) ![0, 0] S1x256.size inb_S1x256_S1x256_0_0).toLoadRect f4)⟩,
   ⟨Rect.unit (s := S2x720x128) ![0, 0, 0] S1x720x128.size inb_S2x720x128_S1x720x128_0_0_0, k0_pay2 (View.readAt (Elt F) arg1.view (Rect.unit (s := S720x2048) ![0, 0] S720x2048.size inb_S720x2048_S720x2048_0_0).toLoadRect f1) (View.readAt (Elt F) arg3.view (Rect.unit (s := S2048x256) ![0, 0] S2048x256.size inb_S2048x256_S2048x256_0_0).toLoadRect f3) (View.readAt (Elt F) arg2.view (Rect.unit (s := S720x128) ![0, 0] S720x1.size inb_S720x128_S720x1_0_0).toLoadRect f2) (View.readAt (Elt F) arg4.view (Rect.unit (s := S1x256) ![0, 0] S1x256.size inb_S1x256_S1x256_0_0).toLoadRect f4)⟩]

/-- The two stores of the product into the two halves of the block of z. -/
def entry9 : List (View.Piece (Elt F) S2x720x128 .f32) :=
  [⟨Rect.unit (s := S2x720x128) ![1, 0, 0] S1x720x128.size inb_S2x720x128_S1x720x128_1_0_0, k0_pay10 (View.readAt (Elt F) arg1.view (Rect.unit (s := S720x2048) ![0, 0] S720x2048.size inb_S720x2048_S720x2048_0_0).toLoadRect f1) (View.readAt (Elt F) arg3.view (Rect.unit (s := S2048x256) ![0, 0] S2048x256.size inb_S2048x256_S2048x256_0_0).toLoadRect f3) (View.readAt (Elt F) arg2.view (Rect.unit (s := S720x128) ![0, 0] S720x1.size inb_S720x128_S720x1_0_0).toLoadRect f2) (View.readAt (Elt F) arg4.view (Rect.unit (s := S1x256) ![0, 0] S1x256.size inb_S1x256_S1x256_0_0).toLoadRect f4)⟩,
   ⟨Rect.unit (s := S2x720x128) ![0, 0, 0] S1x720x128.size inb_S2x720x128_S1x720x128_0_0_0, k0_pay9 (View.readAt (Elt F) arg1.view (Rect.unit (s := S720x2048) ![0, 0] S720x2048.size inb_S720x2048_S720x2048_0_0).toLoadRect f1) (View.readAt (Elt F) arg3.view (Rect.unit (s := S2048x256) ![0, 0] S2048x256.size inb_S2048x256_S2048x256_0_0).toLoadRect f3) (View.readAt (Elt F) arg2.view (Rect.unit (s := S720x128) ![0, 0] S720x1.size inb_S720x128_S720x1_0_0).toLoadRect f2) (View.readAt (Elt F) arg4.view (Rect.unit (s := S1x256) ![0, 0] S1x256.size inb_S1x256_S1x256_0_0).toLoadRect f4)⟩]

/-- The store of the product's first 128 columns into the block of a and b. -/
def entry10 : List (View.Piece (Elt F) S720x128 .f32) :=
  [⟨Rect.unit (s := S720x128) ![0, 0] S720x128.size inb_S720x128_S720x128_0_0, k0_pay11 (View.readAt (Elt F) arg1.view (Rect.unit (s := S720x2048) ![0, 0] S720x2048.size inb_S720x2048_S720x2048_0_0).toLoadRect f1) (View.readAt (Elt F) arg3.view (Rect.unit (s := S2048x256) ![0, 0] S2048x256.size inb_S2048x256_S2048x256_0_0).toLoadRect f3) (View.readAt (Elt F) arg2.view (Rect.unit (s := S720x128) ![0, 0] S720x1.size inb_S720x128_S720x1_0_0).toLoadRect f2) (View.readAt (Elt F) arg4.view (Rect.unit (s := S1x256) ![0, 0] S1x256.size inb_S1x256_S1x256_0_0).toLoadRect f4)⟩]

/-- The stores of the convolution's first `n` trips, into the block of q, k and v, the block of the new cache and the scratch. -/
def trips (h1 : k0_cond1 i = 1#1) (n : ℕ) :=
  pb_k0_t1 (F := F) Variants.none c none i arg1 harg1 arg2 harg2 arg3 harg3 arg4 harg4 arg5 harg5 arg6 harg6 arg7 harg7 arg8 harg8 arg9 harg9 arg10 harg10 arg11 harg11 arg12 harg12 h1 f5 f6 f7
    (arg8.view.writes (Elt F) arg8.view.junk (entry8 arg1 arg2 arg3 arg4 f1 f2 f3 f4)) f11 f12 n

/-- The block of q, k and v after the convolution. -/
def conv8 (h1 : k0_cond1 i = 1#1) : BufTy.Contents (Elt F) arg8.view.ty :=
  arg8.view.writes (Elt F) arg8.view.junk ((trips c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1 k0_t1_loop.trips).1 ++ entry8 arg1 arg2 arg3 arg4 f1 f2 f3 f4)

/-- The block of the new cache after the convolution. -/
def conv11 (h1 : k0_cond1 i = 1#1) : BufTy.Contents (Elt F) arg11.view.ty :=
  arg11.view.writes (Elt F) f11 (trips c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1 k0_t1_loop.trips).2.1

/-- The block of q and k after the normalisation: each half normalised by the sums over both. -/
def norm8 (h1 : k0_cond1 i = 1#1) : BufTy.Contents (Elt F) arg8.view.ty :=
  arg8.view.writes (Elt F) arg8.view.junk
    (⟨Rect.unit (s := S2x720x128) ![1, 0, 0] S1x720x128.size inb_S2x720x128_S1x720x128_1_0_0, k0_pay8 i
        (View.readAt (Elt F) arg8.view (Rect.unit (s := S2x720x128) ![0, 0, 0] S1x720x128.size inb_S2x720x128_S1x720x128_0_0_0).toLoadRect (conv8 c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1))
        (View.readAt (Elt F) arg8.view (Rect.unit (s := S2x720x128) ![1, 0, 0] S1x720x128.size inb_S2x720x128_S1x720x128_1_0_0).toLoadRect (conv8 c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1))⟩ ::
     ⟨Rect.unit (s := S2x720x128) ![0, 0, 0] S1x720x128.size inb_S2x720x128_S1x720x128_0_0_0, k0_pay7 i
        (View.readAt (Elt F) arg8.view (Rect.unit (s := S2x720x128) ![0, 0, 0] S1x720x128.size inb_S2x720x128_S1x720x128_0_0_0).toLoadRect (conv8 c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1))
        (View.readAt (Elt F) arg8.view (Rect.unit (s := S2x720x128) ![1, 0, 0] S1x720x128.size inb_S2x720x128_S1x720x128_1_0_0).toLoadRect (conv8 c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1))⟩ ::
     ((trips c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1 k0_t1_loop.trips).1 ++ entry8 arg1 arg2 arg3 arg4 f1 f2 f3 f4))

set_option maxHeartbeats 4000000 in
/-- A point of v: the product stored, then the convolution. -/
theorem sound_conv (h1 : k0_cond1 i = 1#1) (h2 : ¬ k0_cond2 i = 1#1) (h3 : ¬ k0_cond3 i = 1#1) (h4 : ¬ k0_cond4 i = 1#1) (K : PUnit → sProp 𝕄) :
    iprop(held c arg1 arg2 arg3 arg4 arg5 arg6 arg7 arg8 arg9 arg10 arg11 arg12 f1 f2 f3 f4 f5 f6 f7 f8 f9 f10 f11 f12
      ∗ (∀ g12, held c arg1 arg2 arg3 arg4 arg5 arg6 arg7 arg8 arg9 arg10 arg11 arg12 f1 f2 f3 f4 f5 f6 f7 (conv8 c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1) f9 f10 (conv11 c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1) g12 -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel
  iintro ⟨⟨H1, H2, H3, H4, H5, H6, H7, H8, H9, H10, H11, H12⟩, Hk⟩
  sl_exec (disch := first | sl_exact h1 | sl_exact h2 | sl_exact h3 | sl_exact h4)
  sl_step
  iapply Hk $$ %_
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxHeartbeats 4000000 in
/-- A point of q or k: the product stored, the convolution, the normalisation. -/
theorem sound_qk (h1 : k0_cond1 i = 1#1) (h2 : k0_cond2 i = 1#1) (h3 : ¬ k0_cond3 i = 1#1) (h4 : ¬ k0_cond4 i = 1#1) (K : PUnit → sProp 𝕄) :
    iprop(held c arg1 arg2 arg3 arg4 arg5 arg6 arg7 arg8 arg9 arg10 arg11 arg12 f1 f2 f3 f4 f5 f6 f7 f8 f9 f10 f11 f12
      ∗ (∀ g12, held c arg1 arg2 arg3 arg4 arg5 arg6 arg7 arg8 arg9 arg10 arg11 arg12 f1 f2 f3 f4 f5 f6 f7 (norm8 c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1) f9 f10 (conv11 c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1) g12 -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel
  iintro ⟨⟨H1, H2, H3, H4, H5, H6, H7, H8, H9, H10, H11, H12⟩, Hk⟩
  sl_exec (disch := first | sl_exact h1 | sl_exact h2 | sl_exact h3 | sl_exact h4)
  sl_step
  iapply Hk $$ %_
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxHeartbeats 4000000 in
/-- A point of z: the product stored. -/
theorem sound_gate (h1 : ¬ k0_cond1 i = 1#1) (h3 : k0_cond3 i = 1#1) (h4 : ¬ k0_cond4 i = 1#1) (K : PUnit → sProp 𝕄) :
    iprop(held c arg1 arg2 arg3 arg4 arg5 arg6 arg7 arg8 arg9 arg10 arg11 arg12 f1 f2 f3 f4 f5 f6 f7 f8 f9 f10 f11 f12
      ∗ (∀ g12, held c arg1 arg2 arg3 arg4 arg5 arg6 arg7 arg8 arg9 arg10 arg11 arg12 f1 f2 f3 f4 f5 f6 f7 f8 (arg9.view.writes (Elt F) f9 (entry9 arg1 arg2 arg3 arg4 f1 f2 f3 f4)) f10 f11 g12 -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel
  iintro ⟨⟨H1, H2, H3, H4, H5, H6, H7, H8, H9, H10, H11, H12⟩, Hk⟩
  sl_exec (disch := first | sl_exact h1 | sl_exact h3 | sl_exact h4)
  sl_step
  iapply Hk $$ %_
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxHeartbeats 4000000 in
/-- The last point: the product stored as a and b. -/
theorem sound_ab (h1 : ¬ k0_cond1 i = 1#1) (h3 : ¬ k0_cond3 i = 1#1) (h4 : k0_cond4 i = 1#1) (K : PUnit → sProp 𝕄) :
    iprop(held c arg1 arg2 arg3 arg4 arg5 arg6 arg7 arg8 arg9 arg10 arg11 arg12 f1 f2 f3 f4 f5 f6 f7 f8 f9 f10 f11 f12
      ∗ (∀ g12, held c arg1 arg2 arg3 arg4 arg5 arg6 arg7 arg8 arg9 arg10 arg11 arg12 f1 f2 f3 f4 f5 f6 f7 f8 f9 (arg10.view.writes (Elt F) f10 (entry10 arg1 arg2 arg3 arg4 f1 f2 f3 f4)) f11 g12 -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel
  iintro ⟨⟨H1, H2, H3, H4, H5, H6, H7, H8, H9, H10, H11, H12⟩, Hk⟩
  sl_exec (disch := first | sl_exact h1 | sl_exact h3 | sl_exact h4)
  sl_step
  iapply Hk $$ %_
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.InProjIdeal.Body

end
-- ==== Proof.InLoopLoad.lean ====
/-
  What one trip of the loop over the groups of runs loads, and what its payloads are, one element at a time, over the extended reals.
-/
module

public import proofs.«01_k».proof.Proof.InBodyIdeal
public import Idealize.ShloMosaic.Lib.ValueIdx
public import Idealize.ShloMosaic.Lib.ValueLayout
public import Idealize.ShloMosaic.Lib.WritesUnit
public import Idealize.ShloMosaic.Lib.Pipeline.ValueKit
public import Idealize.ShloMosaic.PureOps.Ideal.Laws

@[expose] public section

set_option maxRecDepth 16384

noncomputable section

namespace Cert.InProjIdeal.Loop

open Idealize.ShloMosaic hiding ix1 ix2 ix3 ix4 eq_ix1 eq_ix2 eq_ix3 eq_ix4
open Idealize.ShloMosaic.TcCoe Idealize.SL.Sem Idealize.ShloMosaic.ValueIdx
open Cert.InProjIdeal Cert.InProjIdeal.Gen

/-! ## What the loop computes -/

/-- `y` times its logistic. -/
def silu (y : EReal) : EReal := y * Ideal.logistic y

/-- Four taps, added from the first on. -/
def taps (a b c d w0 w1 w2 w3 : EReal) : EReal := a * w0 + b * w1 + c * w2 + d * w3

/-- The row that the accepted length picks: lengths 2 to 5 pick their own, any other length the first. -/
def pick (a : BitVec 32) (y1 y2 y3 y4 y5 : EReal) : EReal :=
  if a = 5#32 then y5 else if a = 4#32 then y4 else if a = 3#32 then y3 else if a = 2#32 then y2 else y1

/-- Row `d` of the extended sequence of run `8 * g + i`, in half `l` of the block at lane `n`: three rows of the cache, then five
    tokens. -/
def ext (CP : S18x2x24x128.Idx → EReal) (G : S2x720x128.Idx → EReal) (l : Fin 2) (g : Fin 18) (d i : Fin 8) (n : Fin 128) : EReal :=
  if h : d.val < 3 then CP (ix4 g l (⟨8 * d.val + i.val, by omega⟩ : Fin 24) n)
  else G (ix3 l (⟨40 * g.val + 8 * (d.val - 3) + i.val, by omega⟩ : Fin 720) n)

theorem ext_lt (CP : S18x2x24x128.Idx → EReal) (G : S2x720x128.Idx → EReal) (l : Fin 2) (g : Fin 18) (d i : Fin 8) (n : Fin 128) (h : d.val < 3) :
    ext CP G l g d i n = CP (ix4 g l (⟨8 * d.val + i.val, by omega⟩ : Fin 24) n) := dif_pos h

theorem ext_ge (CP : S18x2x24x128.Idx → EReal) (G : S2x720x128.Idx → EReal) (l : Fin 2) (g : Fin 18) (d i : Fin 8) (n : Fin 128) (h : ¬ d.val < 3) :
    ext CP G l g d i n = G (ix3 l (⟨40 * g.val + 8 * (d.val - 3) + i.val, by omega⟩ : Fin 720) n) := dif_neg h

/-- The column of half `l` at lane `n`. -/
def col (l : Fin 2) (n : Fin 128) : Fin 256 := ⟨128 * l.val + n.val, by omega⟩

/-- The convolution of token `t`, through `silu`. -/
def act (W : S4x256.Idx → EReal) (CP : S18x2x24x128.Idx → EReal) (G : S2x720x128.Idx → EReal) (l : Fin 2) (g : Fin 18) (t : Fin 5)
    (i : Fin 8) (n : Fin 128) : EReal :=
  silu (taps (ext CP G l g ⟨t.val, by omega⟩ i n) (ext CP G l g ⟨t.val + 1, by omega⟩ i n) (ext CP G l g ⟨t.val + 2, by omega⟩ i n)
    (ext CP G l g ⟨t.val + 3, by omega⟩ i n) (W (ix2 (0 : Fin 4) (col l n))) (W (ix2 (1 : Fin 4) (col l n))) (W (ix2 (2 : Fin 4) (col l n)))
    (W (ix2 (3 : Fin 4) (col l n))))

/-- Row `d` of the new cache: the row of the extended sequence that lies `d` after the accepted length. -/
def kept (CP : S18x2x24x128.Idx → EReal) (A : S144x128.Idx → BitVec 32) (G : S2x720x128.Idx → EReal) (l : Fin 2) (g : Fin 18) (d : Fin 3)
    (i : Fin 8) (n : Fin 128) : EReal :=
  pick (A (ix2 (⟨8 * g.val + i.val, by omega⟩ : Fin 144) n)) (ext CP G l g ⟨d.val + 1, by omega⟩ i n) (ext CP G l g ⟨d.val + 2, by omega⟩ i n)
    (ext CP G l g ⟨d.val + 3, by omega⟩ i n) (ext CP G l g ⟨d.val + 4, by omega⟩ i n) (ext CP G l g ⟨d.val + 5, by omega⟩ i n)

/-- `act` at a place of the block: row `40 * g + 8 * t + i` holds token `t` of run `8 * g + i`. -/
def actAt (W : S4x256.Idx → EReal) (CP : S18x2x24x128.Idx → EReal) (G : S2x720x128.Idx → EReal) (l : Fin 2) (r : Fin 720) (n : Fin 128) : EReal :=
  act W CP G l ⟨r.val / 40, by omega⟩ ⟨r.val % 40 / 8, by omega⟩ ⟨r.val % 8, by omega⟩ n

/-- `kept` at a place of the block of the new cache. -/
def keptAt (CP : S18x2x24x128.Idx → EReal) (A : S144x128.Idx → BitVec 32) (G : S2x720x128.Idx → EReal) (b : Fin 144) (d : Fin 3) (e : Fin 256) : EReal :=
  kept CP A G ⟨e.val / 128, by omega⟩ ⟨b.val / 8, by omega⟩ d ⟨b.val % 8, by omega⟩ ⟨e.val % 128, by omega⟩

/-! ## The payloads, at an index -/

theorem row_apply (w : FVec Ideal S4x128 .f32) (o : ℕ) (ho : o < 4) (h : S4x128.Slices ![o, 0] S1x128) (h' : S1x128.Broadcasts S8x128)
    (i : Fin 8) (n : Fin 128) :
    broadcastTo S8x128 (extractStridedSlice S1x128 ![o, 0] w h) h' (ix2 i n) = w (ix2 (⟨o, ho⟩ : Fin 4) n) :=
  (broadcastTo_1b_ab_apply _ h' i n).trans (slice2_axis0_apply o w h (0 : Fin 1) n ⟨o, ho⟩ rfl)

theorem taps_apply (w : FVec Ideal S4x128 .f32) (a b c d : FVec Ideal S8x128 .f32) (i : Fin 8) (n : Fin 128) :
    k0_pay22 w a b c d (ix3 (0 : Fin 1) i n)
      = silu (taps (a (ix2 i n)) (b (ix2 i n)) (c (ix2 i n)) (d (ix2 i n)) (w (ix2 (0 : Fin 4) n)) (w (ix2 (1 : Fin 4) n))
          (w (ix2 (2 : Fin 4) n)) (w (ix2 (3 : Fin 4) n))) := by
  unfold k0_pay22
  rw [shapeCast_ab_1ab_apply]
  simp only [mulf_apply, addf_apply, logistic_apply, Ideal.mulf_def, Ideal.addf_def, Ideal.logistic_def]
  rw [row_apply w 0 (by omega), row_apply w 1 (by omega), row_apply w 2 (by omega), row_apply w 3 (by omega)]
  rfl

theorem sel_eq (a b : BitVec 32) (x y : EReal) : Scalar.select (IntOp.cmpi .eq a b) x y = if a = b then x else y := by
  by_cases h : a = b
  · subst h; rw [if_pos rfl]; simp [Scalar.select, IntOp.cmpi]
  · have hb : (a == b) = false := by simp [h]
    rw [if_neg h]; simp [Scalar.select, IntOp.cmpi, hb]

theorem pick_apply (q : IVec S8x128 32) (y1 y2 y3 y4 y5 : FVec Ideal S8x128 .f32) (i : Fin 8) (n : Fin 128) :
    k0_pay29 q y1 y2 y3 y4 y5 (ix3 (0 : Fin 1) i n)
      = pick (q (ix2 i n)) (y1 (ix2 i n)) (y2 (ix2 i n)) (y3 (ix2 i n)) (y4 (ix2 i n)) (y5 (ix2 i n)) := by
  unfold k0_pay29
  rw [shapeCast_ab_1ab_apply]
  simp only [select_apply, cmpi_apply, broadcast_apply, sel_eq]
  rfl

theorem rows_lo (a b : Vec Ideal S1x3x128 .f32) (d : Fin 3) (n : Fin 128) :
    k0_pay5 a b (ix3 (0 : Fin 1) d (col 0 n)) = a (ix3 (0 : Fin 1) d n) := by
  unfold k0_pay5
  rw [shapeCast_ab_1ab_apply, truncf_apply]
  rw [concatenate_apply_piece (t := S3x256) 1 _ _ _ 0 (by simp) S3x128 _ rfl rfl 0 rfl (ix2 d n)
    (fun b hb => by match b with | ⟨0, _⟩ => rfl | ⟨1, _⟩ => exact absurd rfl hb) (by show 0 + n.val = 128 * 0 + n.val; omega),
    shapeCast_1ab_ab_apply]

theorem rows_hi (a b : Vec Ideal S1x3x128 .f32) (d : Fin 3) (n : Fin 128) :
    k0_pay5 a b (ix3 (0 : Fin 1) d (col 1 n)) = b (ix3 (0 : Fin 1) d n) := by
  unfold k0_pay5
  rw [shapeCast_ab_1ab_apply, truncf_apply]
  rw [concatenate_apply_piece (t := S3x256) 1 _ _ _ 1 (by simp) S3x128 _ rfl rfl 128 rfl (ix2 d n)
    (fun b hb => by match b with | ⟨0, _⟩ => rfl | ⟨1, _⟩ => exact absurd rfl hb) (by show 128 + n.val = 128 * 1 + n.val; omega),
    shapeCast_1ab_ab_apply]

/-! ## Stores of slabs, read back -/

section Slab

variable {sig' : RefSig} {κ : Kind} {sp : Space} {A B C A' B' C' : ℕ} {e : EltTy} {Val : EltTy → Type} (v : View sig' κ sp ⟨3, ![A, B, C]⟩ e)
  (f : v.ty.Contents Val) {off : Fin 3 → ℕ}

/-- A place inside the newest slab reads the slab. -/
theorem slab_hit (x y z : ℕ) (inb) (w : (Rect.unit (s := ⟨3, ![A, B, C]⟩) off ![A', B', C'] inb).shape.Idx → Val e) (L) (heq : off = ![x, y, z])
    (p : Fin A) (q : Fin B) (r : Fin C) (p' : Fin A') (q' : Fin B') (r' : Fin C') (hp : p.val = x + p'.val) (hq : q.val = y + q'.val)
    (hr : r.val = z + r'.val) :
    v.read Val (v.writes Val f (⟨Rect.unit (s := ⟨3, ![A, B, C]⟩) off ![A', B', C'] inb, w⟩ :: L)) (ix3 p q r) = w (ix3 p' q' r') :=
  View.read_writes_cons_unit_of_mem v f inb w L (ix3 p q r) (ix3 p' q' r') heq fun a => by
    match a with
    | ⟨0, _⟩ => exact hp
    | ⟨1, _⟩ => exact hq
    | ⟨2, _⟩ => exact hr

/-- `a` is `g` where `P` holds and `f` where it does not. -/
structure Got {α : Type} (P : Prop) (a g f : α) : Prop where
  yes : P → a = g
  no : ¬ P → a = f

theorem Got.of_iff {α : Type} {P Q : Prop} {a g f : α} (h : Got P a g f) (e : Q ↔ P) : Got Q a g f := ⟨fun q => h.yes (e.mp q), fun q => h.no fun p => q (e.mpr p)⟩

/-- No store: the contents. -/
theorem slab_nil (G : (⟨3, ![A, B, C]⟩ : Shape).Idx → Val e) (y) : Got False (v.read Val (v.writes Val f []) y) (G y) (v.read Val f y) :=
  ⟨fun h => h.elim, fun _ => rfl⟩

/-- One more store, of a slab of `G`. -/
theorem slab_cons (G : (⟨3, ![A, B, C]⟩ : Shape).Idx → Val e) (F : Val e) (x y z : ℕ) (inb)
    (w : (Rect.unit (s := ⟨3, ![A, B, C]⟩) off ![A', B', C'] inb).shape.Idx → Val e) (L) (heq : off = ![x, y, z])
    (p : Fin A) (q : Fin B) (r : Fin C) (Q : Prop)
    (hw : ∀ (p' : Fin A') (q' : Fin B') (r' : Fin C'), p.val = x + p'.val → q.val = y + q'.val → r.val = z + r'.val → w (ix3 p' q' r') = G (ix3 p q r))
    (hL : Got Q (v.read Val (v.writes Val f L) (ix3 p q r)) (G (ix3 p q r)) F) :
    Got ((x ≤ p.val ∧ p.val < x + A') ∧ (y ≤ q.val ∧ q.val < y + B') ∧ (z ≤ r.val ∧ r.val < z + C') ∨ Q)
      (v.read Val (v.writes Val f (⟨Rect.unit (s := ⟨3, ![A, B, C]⟩) off ![A', B', C'] inb, w⟩ :: L)) (ix3 p q r)) (G (ix3 p q r)) F := by
  by_cases h : (x ≤ p.val ∧ p.val < x + A') ∧ (y ≤ q.val ∧ q.val < y + B') ∧ (z ≤ r.val ∧ r.val < z + C')
  · obtain ⟨⟨h1, h1'⟩, ⟨h2, h2'⟩, h3, h3'⟩ := h
    have e : v.read Val (v.writes Val f (⟨Rect.unit (s := ⟨3, ![A, B, C]⟩) off ![A', B', C'] inb, w⟩ :: L)) (ix3 p q r) = G (ix3 p q r) :=
      (slab_hit v f x y z inb w L heq p q r ⟨p.val - x, by omega⟩ ⟨q.val - y, by omega⟩ ⟨r.val - z, by omega⟩
        (by show p.val = x + (p.val - x); omega) (by show q.val = y + (q.val - y); omega) (by show r.val = z + (r.val - z); omega)).trans
        (hw _ _ _ (by show p.val = x + (p.val - x); omega) (by show q.val = y + (q.val - y); omega) (by show r.val = z + (r.val - z); omega))
    exact ⟨fun _ => e, fun hn => absurd (Or.inl ⟨⟨h1, h1'⟩, ⟨h2, h2'⟩, h3, h3'⟩) hn⟩
  · have e : v.read Val (v.writes Val f (⟨Rect.unit (s := ⟨3, ![A, B, C]⟩) off ![A', B', C'] inb, w⟩ :: L)) (ix3 p q r)
        = v.read Val (v.writes Val f L) (ix3 p q r) := by
      by_cases hp : p.val < x ∨ x + A' ≤ p.val
      · exact View.read_writes_cons_unit_of_not_mem v f inb w L (ix3 p q r) heq 0 hp
      · by_cases hq : q.val < y ∨ y + B' ≤ q.val
        · exact View.read_writes_cons_unit_of_not_mem v f inb w L (ix3 p q r) heq 1 hq
        · exact View.read_writes_cons_unit_of_not_mem v f inb w L (ix3 p q r) heq 2 (by
            have : r.val < z ∨ z + C' ≤ r.val := by omega
            exact this)
    rw [e]
    exact ⟨fun hq => hL.yes (hq.resolve_left h), fun hn => hL.no fun hq => hn (Or.inr hq)⟩

end Slab

/-! ## The offsets of one trip -/

theorem trips_le : k0_t1_loop.trips ≤ 18 := k0_t1_abs.2.1
theorem trips_eq : k0_t1_loop.trips = 18 := by decide +kernel

theorem offs : ∀ k : Fin k0_t1_loop.trips, k0_off1 k = ![8 * k.val, 0] ∧ k0_off2 k = ![k.val, 0, 0, 0] ∧ k0_off3 k = ![k.val, 0, 8, 0]
    ∧ k0_off4 k = ![k.val, 0, 16, 0] ∧ k0_off6 k = ![k.val, 1, 0, 0] ∧ k0_off7 k = ![k.val, 1, 8, 0] ∧ k0_off8 k = ![k.val, 1, 16, 0] := by
  decide +kernel

theorem off5 : ∀ k : Fin k0_t1_loop.trips, ∀ t : Fin 5, k0_off5 k (BitVec.ofNat 32 (8 * t.val)) = ![0, 40 * k.val + 8 * t.val, 0] := by decide +kernel
theorem off9 : ∀ k : Fin k0_t1_loop.trips, ∀ t : Fin 5, k0_off9 k (BitVec.ofNat 32 (8 * t.val)) = ![1, 40 * k.val + 8 * t.val, 0] := by decide +kernel
theorem off10 : ∀ k : Fin k0_t1_loop.trips, ∀ i : Fin 8, k0_off10 k (BitVec.ofNat 32 i.val) = ![8 * k.val + i.val, 0, 0] := by decide +kernel

/-! ## The loads of one trip -/

variable (c : Dev nD) (i : grid0.Coords) (arg1 : Memref sig .tc .vmem S720x2048 .bf16) (harg1 : arg1.IsWhole) (arg2 : Memref sig .tc .vmem S720x128 .f32) (harg2 : arg2.IsWhole) (arg3 : Memref sig .tc .vmem S2048x256 .i8) (harg3 : arg3.IsWhole) (arg4 : Memref sig .tc .vmem S1x256 .f32) (harg4 : arg4.IsWhole) (arg5 : Memref sig .tc .vmem S4x256 .f32) (harg5 : arg5.IsWhole) (arg6 : Memref sig .tc .vmem S18x2x24x128 .f32) (harg6 : arg6.IsWhole) (arg7 : Memref sig .tc .vmem S144x128 .i32) (harg7 : arg7.IsWhole) (arg8 : Memref sig .tc .vmem S2x720x128 .f32) (harg8 : arg8.IsWhole) (arg9 : Memref sig .tc .vmem S2x720x128 .f32) (harg9 : arg9.IsWhole) (arg10 : Memref sig .tc .vmem S720x128 .f32) (harg10 : arg10.IsWhole) (arg11 : Memref sig .tc .vmem S144x3x256 .bf16) (harg11 : arg11.IsWhole) (arg12 : Memref sig .tc .vmem S2x24x128 .f32) (harg12 : arg12.IsWhole)
variable (h1 : k0_cond1 i = 1#1) (f5 : BufTy.Contents (Elt Ideal) arg5.view.ty) (f6 : BufTy.Contents (Elt Ideal) arg6.view.ty) (f7 : BufTy.Contents (Elt Ideal) arg7.view.ty)
variable (k : Fin k0_t1_loop.trips) (f8 : BufTy.Contents (Elt Ideal) arg8.view.ty) (f11 : BufTy.Contents (Elt Ideal) arg11.view.ty) (f12 : BufTy.Contents (Elt Ideal) arg12.view.ty)

/-- The trip's number as the number of a group of runs. -/
def grp (k : Fin k0_t1_loop.trips) : Fin 18 := ⟨k.val, Nat.lt_of_lt_of_le k.isLt trips_le⟩

/-- The filter of half `l`, as loaded. -/
def filt : Fin 2 → FVec Ideal S4x128 .f32 := ![trip_k0_t1.sl.v44 arg5 f5, trip_k0_t1.sl.v230 arg5 f5]

/-- The eight rows of the extended sequence of half `l`, as loaded. -/
def rows : Fin 2 → Fin 8 → FVec Ideal S8x128 .f32 :=
  ![![trip_k0_t1.sl.v47 i arg6 h1 f6 k, trip_k0_t1.sl.v50 i arg6 h1 f6 k, trip_k0_t1.sl.v53 i arg6 h1 f6 k, trip_k0_t1.sl.v57 i arg8 h1 k f8,
      trip_k0_t1.sl.v61 i arg8 h1 k f8, trip_k0_t1.sl.v65 i arg8 h1 k f8, trip_k0_t1.sl.r_1 i arg8 h1 k f8, trip_k0_t1.sl.r_2 i arg8 h1 k f8],
    ![trip_k0_t1.sl.v233 i arg6 h1 f6 k, trip_k0_t1.sl.v236 i arg6 h1 f6 k, trip_k0_t1.sl.v239 i arg6 h1 f6 k, trip_k0_t1.sl.v243 i arg8 h1 k f8,
      trip_k0_t1.sl.r_6 i arg8 h1 k f8, trip_k0_t1.sl.r_7 i arg8 h1 k f8, trip_k0_t1.sl.r_8 i arg8 h1 k f8, trip_k0_t1.sl.r_9 i arg8 h1 k f8]]

theorem filt_load (o : ℕ) (v : View sig .tc .vmem S4x256 .f32) (f : v.ty.Contents (Elt Ideal)) (inb) (h) (r : Fin 4) (n : Fin 128) (q : Fin 256)
    (hq : q.val = o + n.val) :
    (shapeCast S4x128 (View.readAt (Elt Ideal) v (Rect.unit (s := S4x256) ![0, o] S4x128.size inb).toLoadRect f) h : S4x128.Idx → EReal) (ix2 r n)
      = v.read (Elt Ideal) f (ix2 r q) := by
  refine (congrFun (shapeCast_self (s := S4x128) _ h) (ix2 r n)).trans ?_
  exact View.ld_unit_apply_of (v.read (Elt Ideal) f) ![0, o] S4x128.size inb (ix2 r n) (ix2 r q) fun a => by
    match a with
    | ⟨0, _⟩ => exact (Nat.zero_add _).symm
    | ⟨1, _⟩ => exact hq

theorem filt_apply (l : Fin 2) (r : Fin 4) (n : Fin 128) : filt arg5 f5 l (ix2 r n) = arg5.view.read (Elt Ideal) f5 (ix2 r (col l n)) := by
  match l with
  | ⟨0, _⟩ => exact filt_load 0 arg5.view f5 _ _ r n _ (by show 128 * 0 + n.val = 0 + n.val; omega)
  | ⟨1, _⟩ => exact filt_load 128 arg5.view f5 _ _ r n _ (by show 128 * 1 + n.val = 128 + n.val; omega)

theorem cache_load (v : View sig .tc .vmem S18x2x24x128 .f32) (f : v.ty.Contents (Elt Ideal)) (off : Fin 4 → ℕ) (g l o : ℕ) (heq : off = ![g, l, o, 0]) (inb) (h)
    (r : Fin 8) (n : Fin 128) (g' : Fin 18) (l' : Fin 2) (q : Fin 24) (hg : g'.val = g) (hl : l'.val = l) (hq : q.val = o + r.val) :
    (shapeCast S8x128 (View.readAt (Elt Ideal) v (Rect.unit (s := S18x2x24x128) off S1x1x8x128.size inb).toLoadRect f) h : S8x128.Idx → EReal) (ix2 r n)
      = v.read (Elt Ideal) f (ix4 g' l' q n) := by
  subst heq
  rw [shapeCast_apply _ h (ix2 r n) (ix4 (0 : Fin 1) (0 : Fin 1) r n) (by
    rw [Shape.rowMajor_val_two, Shape.rowMajor_val_four]
    show ((0 * 1 + 0) * 8 + r.val) * 128 + n.val = r.val * 128 + n.val
    omega)]
  exact View.ld_unit_apply_of (v.read (Elt Ideal) f) ![g, l, o, 0] S1x1x8x128.size inb (ix4 (0 : Fin 1) (0 : Fin 1) r n) (ix4 g' l' q n) fun a => by
    match a with
    | ⟨0, _⟩ => exact hg
    | ⟨1, _⟩ => exact hl
    | ⟨2, _⟩ => exact hq
    | ⟨3, _⟩ => exact (Nat.zero_add _).symm

theorem token_load (v : View sig .tc .vmem S2x720x128 .f32) (f : v.ty.Contents (Elt Ideal)) (off : Fin 3 → ℕ) (l o : ℕ) (heq : off = ![l, o, 0]) (inb) (h)
    (r : Fin 8) (n : Fin 128) (l' : Fin 2) (q : Fin 720) (hl : l'.val = l) (hq : q.val = o + r.val) :
    (shapeCast S8x128 (View.readAt (Elt Ideal) v (Rect.unit (s := S2x720x128) off S1x8x128.size inb).toLoadRect f) h : S8x128.Idx → EReal) (ix2 r n)
      = v.read (Elt Ideal) f (ix3 l' q n) := by
  subst heq
  rw [shapeCast_1ab_ab_apply]
  exact View.ld_unit_apply_of (v.read (Elt Ideal) f) ![l, o, 0] S1x8x128.size inb (ix3 (0 : Fin 1) r n) (ix3 l' q n) fun a => by
    match a with
    | ⟨0, _⟩ => exact hl
    | ⟨1, _⟩ => exact hq
    | ⟨2, _⟩ => exact (Nat.zero_add _).symm

set_option maxHeartbeats 2000000 in
/-- Each loaded row is the extended sequence's. -/
theorem rows_apply (l : Fin 2) (d r : Fin 8) (n : Fin 128) :
    rows i arg6 arg8 h1 f6 k f8 l d (ix2 r n) = ext (arg6.view.read (Elt Ideal) f6) (arg8.view.read (Elt Ideal) f8) l (grp k) d r n := by
  obtain ⟨-, o2, o3, o4, o6, o7, o8⟩ := offs k
  match l, d with
  | ⟨0, _⟩, ⟨0, _⟩ =>
    refine Eq.trans ?_ (ext_lt _ _ _ _ _ _ _ (show 0 < 3 by decide)).symm
    exact cache_load arg6.view f6 (k0_off2 k) k.val 0 0 o2 _ _ r n _ _ _ rfl rfl rfl
  | ⟨0, _⟩, ⟨1, _⟩ =>
    refine Eq.trans ?_ (ext_lt _ _ _ _ _ _ _ (show 1 < 3 by decide)).symm
    exact cache_load arg6.view f6 (k0_off3 k) k.val 0 8 o3 _ _ r n _ _ _ rfl rfl rfl
  | ⟨0, _⟩, ⟨2, _⟩ =>
    refine Eq.trans ?_ (ext_lt _ _ _ _ _ _ _ (show 2 < 3 by decide)).symm
    exact cache_load arg6.view f6 (k0_off4 k) k.val 0 16 o4 _ _ r n _ _ _ rfl rfl rfl
  | ⟨0, _⟩, ⟨3, _⟩ =>
    refine Eq.trans ?_ (ext_ge _ _ _ _ _ _ _ (show ¬ 3 < 3 by decide)).symm
    exact token_load arg8.view f8 (k0_off5 k 0#32) 0 (40 * k.val + 0) (off5 k 0) _ _ r n _ _ rfl rfl
  | ⟨0, _⟩, ⟨4, _⟩ =>
    refine Eq.trans ?_ (ext_ge _ _ _ _ _ _ _ (show ¬ 4 < 3 by decide)).symm
    exact token_load arg8.view f8 (k0_off5 k 8#32) 0 (40 * k.val + 8) (off5 k 1) _ _ r n _ _ rfl rfl
  | ⟨0, _⟩, ⟨5, _⟩ =>
    refine Eq.trans ?_ (ext_ge _ _ _ _ _ _ _ (show ¬ 5 < 3 by decide)).symm
    exact token_load arg8.view f8 (k0_off5 k 16#32) 0 (40 * k.val + 16) (off5 k 2) _ _ r n _ _ rfl rfl
  | ⟨0, _⟩, ⟨6, _⟩ =>
    refine Eq.trans ?_ (ext_ge _ _ _ _ _ _ _ (show ¬ 6 < 3 by decide)).symm
    exact token_load arg8.view f8 (k0_off5 k 24#32) 0 (40 * k.val + 24) (off5 k 3) _ _ r n _ _ rfl rfl
  | ⟨0, _⟩, ⟨7, _⟩ =>
    refine Eq.trans ?_ (ext_ge _ _ _ _ _ _ _ (show ¬ 7 < 3 by decide)).symm
    exact token_load arg8.view f8 (k0_off5 k 32#32) 0 (40 * k.val + 32) (off5 k 4) _ _ r n _ _ rfl rfl
  | ⟨1, _⟩, ⟨0, _⟩ =>
    refine Eq.trans ?_ (ext_lt _ _ _ _ _ _ _ (show 0 < 3 by decide)).symm
    exact cache_load arg6.view f6 (k0_off6 k) k.val 1 0 o6 _ _ r n _ _ _ rfl rfl rfl
  | ⟨1, _⟩, ⟨1, _⟩ =>
    refine Eq.trans ?_ (ext_lt _ _ _ _ _ _ _ (show 1 < 3 by decide)).symm
    exact cache_load arg6.view f6 (k0_off7 k) k.val 1 8 o7 _ _ r n _ _ _ rfl rfl rfl
  | ⟨1, _⟩, ⟨2, _⟩ =>
    refine Eq.trans ?_ (ext_lt _ _ _ _ _ _ _ (show 2 < 3 by decide)).symm
    exact cache_load arg6.view f6 (k0_off8 k) k.val 1 16 o8 _ _ r n _ _ _ rfl rfl rfl
  | ⟨1, _⟩, ⟨3, _⟩ =>
    refine Eq.trans ?_ (ext_ge _ _ _ _ _ _ _ (show ¬ 3 < 3 by decide)).symm
    exact token_load arg8.view f8 (k0_off9 k 0#32) 1 (40 * k.val + 0) (off9 k 0) _ _ r n _ _ rfl rfl
  | ⟨1, _⟩, ⟨4, _⟩ =>
    refine Eq.trans ?_ (ext_ge _ _ _ _ _ _ _ (show ¬ 4 < 3 by decide)).symm
    exact token_load arg8.view f8 (k0_off9 k 8#32) 1 (40 * k.val + 8) (off9 k 1) _ _ r n _ _ rfl rfl
  | ⟨1, _⟩, ⟨5, _⟩ =>
    refine Eq.trans ?_ (ext_ge _ _ _ _ _ _ _ (show ¬ 5 < 3 by decide)).symm
    exact token_load arg8.view f8 (k0_off9 k 16#32) 1 (40 * k.val + 16) (off9 k 2) _ _ r n _ _ rfl rfl
  | ⟨1, _⟩, ⟨6, _⟩ =>
    refine Eq.trans ?_ (ext_ge _ _ _ _ _ _ _ (show ¬ 6 < 3 by decide)).symm
    exact token_load arg8.view f8 (k0_off9 k 24#32) 1 (40 * k.val + 24) (off9 k 3) _ _ r n _ _ rfl rfl
  | ⟨1, _⟩, ⟨7, _⟩ =>
    refine Eq.trans ?_ (ext_ge _ _ _ _ _ _ _ (show ¬ 7 < 3 by decide)).symm
    exact token_load arg8.view f8 (k0_off9 k 32#32) 1 (40 * k.val + 32) (off9 k 4) _ _ r n _ _ rfl rfl

theorem acc_load (n : Fin 128) (r : Fin 8) : trip_k0_t1.sl.v42 i arg7 h1 f7 k (ix2 r n)
    = arg7.view.read (Elt Ideal) f7 (ix2 (⟨8 * (grp k).val + r.val, by have := (grp k).isLt; omega⟩ : Fin 144) n) := by
  unfold trip_k0_t1.sl.v42
  refine (congrFun (shapeCast_self (s := S8x128) _ _) (ix2 r n)).trans ?_
  refine View.ld_unit_apply_of (arg7.view.read (Elt Ideal) f7) (k0_off1 k) S8x128.size _ (ix2 r n) _ fun a => ?_
  refine Eq.trans ?_ (congrArg (· + (ix2 r n a).val) (congrFun (offs k).1 a).symm)
  match a with
  | ⟨0, _⟩ => rfl
  | ⟨1, _⟩ => exact (Nat.zero_add _).symm

end Cert.InProjIdeal.Loop

end
-- ==== Proof.InTrip.lean ====
/-
  The loop over the eighteen groups of eight runs, over the extended reals. One trip convolves five tokens of eight runs, in the two halves of
  the block's 256 channels, and copies three rows of each run's extended sequence into the block of the new cache. `loop8` and `loop11` say
  what the two blocks hold after the whole loop, one element at a time.
-/
module

public import proofs.«01_k».proof.Proof.InLoopLoad
public import Idealize.ShloMosaic.Lib.ValueIdx
public import Idealize.ShloMosaic.Lib.ValueLayout
public import Idealize.ShloMosaic.Lib.WritesUnit
public import Idealize.ShloMosaic.Lib.Pipeline.ValueKit
public import Idealize.ShloMosaic.PureOps.Ideal.Laws

@[expose] public section

set_option maxRecDepth 16384

noncomputable section

namespace Cert.InProjIdeal.Loop

open Idealize.ShloMosaic hiding ix1 ix2 ix3 ix4 eq_ix1 eq_ix2 eq_ix3 eq_ix4
open Idealize.ShloMosaic.TcCoe Idealize.SL.Sem Idealize.ShloMosaic.ValueIdx
open Cert.InProjIdeal Cert.InProjIdeal.Gen

variable (c : Dev nD) (i : grid0.Coords) (arg1 : Memref sig .tc .vmem S720x2048 .bf16) (harg1 : arg1.IsWhole) (arg2 : Memref sig .tc .vmem S720x128 .f32) (harg2 : arg2.IsWhole) (arg3 : Memref sig .tc .vmem S2048x256 .i8) (harg3 : arg3.IsWhole) (arg4 : Memref sig .tc .vmem S1x256 .f32) (harg4 : arg4.IsWhole) (arg5 : Memref sig .tc .vmem S4x256 .f32) (harg5 : arg5.IsWhole) (arg6 : Memref sig .tc .vmem S18x2x24x128 .f32) (harg6 : arg6.IsWhole) (arg7 : Memref sig .tc .vmem S144x128 .i32) (harg7 : arg7.IsWhole) (arg8 : Memref sig .tc .vmem S2x720x128 .f32) (harg8 : arg8.IsWhole) (arg9 : Memref sig .tc .vmem S2x720x128 .f32) (harg9 : arg9.IsWhole) (arg10 : Memref sig .tc .vmem S720x128 .f32) (harg10 : arg10.IsWhole) (arg11 : Memref sig .tc .vmem S144x3x256 .bf16) (harg11 : arg11.IsWhole) (arg12 : Memref sig .tc .vmem S2x24x128 .f32) (harg12 : arg12.IsWhole)
variable (h1 : k0_cond1 i = 1#1) (f5 : BufTy.Contents (Elt Ideal) arg5.view.ty) (f6 : BufTy.Contents (Elt Ideal) arg6.view.ty) (f7 : BufTy.Contents (Elt Ideal) arg7.view.ty)
variable (k : Fin k0_t1_loop.trips) (f8 : BufTy.Contents (Elt Ideal) arg8.view.ty) (f11 : BufTy.Contents (Elt Ideal) arg11.view.ty) (f12 : BufTy.Contents (Elt Ideal) arg12.view.ty)

/-- One store of the convolution: token `t` of half `l`. -/
theorem store8 (l : Fin 2) (t : Fin 5) (p : Fin 2) (q : Fin 720) (r : Fin 128) (p' : Fin 1) (q' : Fin 8) (r' : Fin 128) (hp : p.val = l.val + p'.val)
    (hq : q.val = 40 * k.val + 8 * t.val + q'.val) (hr : r.val = 0 + r'.val) :
    k0_pay22 (filt arg5 f5 l) (rows i arg6 arg8 h1 f6 k f8 l ⟨t.val, by omega⟩) (rows i arg6 arg8 h1 f6 k f8 l ⟨t.val + 1, by omega⟩) (rows i arg6 arg8 h1 f6 k f8 l ⟨t.val + 2, by omega⟩) (rows i arg6 arg8 h1 f6 k f8 l ⟨t.val + 3, by omega⟩) (ix3 p' q' r')
      = actAt (arg5.view.read (Elt Ideal) f5) (arg6.view.read (Elt Ideal) f6) (arg8.view.read (Elt Ideal) f8) p q r := by
  have hp' : p'.val = 0 := by omega
  obtain rfl : p' = 0 := Fin.ext hp'
  obtain rfl : p = l := Fin.ext (by rw [hp, hp']; rfl)
  obtain rfl : r = r' := Fin.ext (by omega)
  rw [taps_apply, rows_apply, rows_apply, rows_apply, rows_apply, filt_apply, filt_apply, filt_apply, filt_apply]
  unfold actAt
  rw [show (⟨q.val / 40, by omega⟩ : Fin 18) = grp k from Fin.ext (by show q.val / 40 = k.val; omega),
    show (⟨q.val % 40 / 8, by omega⟩ : Fin 5) = t from Fin.ext (by show q.val % 40 / 8 = t.val; omega),
    show (⟨q.val % 8, by omega⟩ : Fin 8) = q' from Fin.ext (by show q.val % 8 = q'.val; omega)]
  rfl

set_option maxHeartbeats 4000000 in
/-- THE TRIP'S TEN STORES into the block of q, k and v: the forty rows of the trip's group are convolved, the others kept. -/
theorem trip8 (p : Fin 2) (q : Fin 720) (r : Fin 128) :
    Got (q.val / 40 = k.val) (arg8.view.read (Elt Ideal) (arg8.view.writes (Elt Ideal) f8 (tripL_k0_t1 Variants.none c none i arg1 harg1 arg2 harg2 arg3 harg3 arg4 harg4 arg5 harg5 arg6 harg6 arg7 harg7 arg8 harg8 arg9 harg9 arg10 harg10 arg11 harg11 arg12 harg12 h1 f5 f6 f7 k f8 f11 f12).1) (ix3 p q r))
      (actAt (arg5.view.read (Elt Ideal) f5) (arg6.view.read (Elt Ideal) f6) (arg8.view.read (Elt Ideal) f8) p q r) (arg8.view.read (Elt Ideal) f8 (ix3 p q r)) := by
  unfold tripL_k0_t1 trip_k0_t1
  dsimp only
  have S := fun l t => store8 i arg5 arg6 arg8 h1 f5 f6 k f8 l t p q r
  refine Got.of_iff
    (slab_cons arg8.view f8 (fun y => actAt (arg5.view.read (Elt Ideal) f5) (arg6.view.read (Elt Ideal) f6) (arg8.view.read (Elt Ideal) f8) (y 0) (y 1) (y 2)) _ 1 (40 * k.val + 32) 0 _ _ _ (off9 k 4) p q r _ (S 1 4)
    (slab_cons arg8.view f8 (fun y => actAt (arg5.view.read (Elt Ideal) f5) (arg6.view.read (Elt Ideal) f6) (arg8.view.read (Elt Ideal) f8) (y 0) (y 1) (y 2)) _ 1 (40 * k.val + 24) 0 _ _ _ (off9 k 3) p q r _ (S 1 3)
    (slab_cons arg8.view f8 (fun y => actAt (arg5.view.read (Elt Ideal) f5) (arg6.view.read (Elt Ideal) f6) (arg8.view.read (Elt Ideal) f8) (y 0) (y 1) (y 2)) _ 1 (40 * k.val + 16) 0 _ _ _ (off9 k 2) p q r _ (S 1 2)
    (slab_cons arg8.view f8 (fun y => actAt (arg5.view.read (Elt Ideal) f5) (arg6.view.read (Elt Ideal) f6) (arg8.view.read (Elt Ideal) f8) (y 0) (y 1) (y 2)) _ 1 (40 * k.val + 8) 0 _ _ _ (off9 k 1) p q r _ (S 1 1)
    (slab_cons arg8.view f8 (fun y => actAt (arg5.view.read (Elt Ideal) f5) (arg6.view.read (Elt Ideal) f6) (arg8.view.read (Elt Ideal) f8) (y 0) (y 1) (y 2)) _ 1 (40 * k.val + 0) 0 _ _ _ (off9 k 0) p q r _ (S 1 0)
    (slab_cons arg8.view f8 (fun y => actAt (arg5.view.read (Elt Ideal) f5) (arg6.view.read (Elt Ideal) f6) (arg8.view.read (Elt Ideal) f8) (y 0) (y 1) (y 2)) _ 0 (40 * k.val + 32) 0 _ _ _ (off5 k 4) p q r _ (S 0 4)
    (slab_cons arg8.view f8 (fun y => actAt (arg5.view.read (Elt Ideal) f5) (arg6.view.read (Elt Ideal) f6) (arg8.view.read (Elt Ideal) f8) (y 0) (y 1) (y 2)) _ 0 (40 * k.val + 24) 0 _ _ _ (off5 k 3) p q r _ (S 0 3)
    (slab_cons arg8.view f8 (fun y => actAt (arg5.view.read (Elt Ideal) f5) (arg6.view.read (Elt Ideal) f6) (arg8.view.read (Elt Ideal) f8) (y 0) (y 1) (y 2)) _ 0 (40 * k.val + 16) 0 _ _ _ (off5 k 2) p q r _ (S 0 2)
    (slab_cons arg8.view f8 (fun y => actAt (arg5.view.read (Elt Ideal) f5) (arg6.view.read (Elt Ideal) f6) (arg8.view.read (Elt Ideal) f8) (y 0) (y 1) (y 2)) _ 0 (40 * k.val + 8) 0 _ _ _ (off5 k 1) p q r _ (S 0 1)
    (slab_cons arg8.view f8 (fun y => actAt (arg5.view.read (Elt Ideal) f5) (arg6.view.read (Elt Ideal) f6) (arg8.view.read (Elt Ideal) f8) (y 0) (y 1) (y 2)) _ 0 (40 * k.val + 0) 0 _ _ _ (off5 k 0) p q r _ (S 0 0)
(slab_nil arg8.view f8 (fun y => actAt (arg5.view.read (Elt Ideal) f5) (arg6.view.read (Elt Ideal) f6) (arg8.view.read (Elt Ideal) f8) (y 0) (y 1) (y 2)) (ix3 p q r)))))))))))) ?_
  have hp : p.val = 0 ∨ p.val = 1 := by have := p.isLt; omega
  rcases hp with hp | hp <;> simp [hp] <;> omega

end Cert.InProjIdeal.Loop

end
-- ==== Proof.InScratch.lean ====
/-
  What one trip of the loop over the groups of runs leaves in the block of the new cache, over the extended reals.
-/
module

public import proofs.«01_k».proof.Proof.InLoopLoad
public import Idealize.ShloMosaic.Lib.ValueIdx
public import Idealize.ShloMosaic.Lib.ValueLayout
public import Idealize.ShloMosaic.Lib.WritesUnit
public import Idealize.ShloMosaic.Lib.Pipeline.ValueKit
public import Idealize.ShloMosaic.PureOps.Ideal.Laws

@[expose] public section

set_option maxRecDepth 16384

noncomputable section

namespace Cert.InProjIdeal.Loop

open Idealize.ShloMosaic hiding ix1 ix2 ix3 ix4 eq_ix1 eq_ix2 eq_ix3 eq_ix4
open Idealize.ShloMosaic.TcCoe Idealize.SL.Sem Idealize.ShloMosaic.ValueIdx
open Cert.InProjIdeal Cert.InProjIdeal.Gen

variable (c : Dev nD) (i : grid0.Coords) (arg1 : Memref sig .tc .vmem S720x2048 .bf16) (harg1 : arg1.IsWhole) (arg2 : Memref sig .tc .vmem S720x128 .f32) (harg2 : arg2.IsWhole) (arg3 : Memref sig .tc .vmem S2048x256 .i8) (harg3 : arg3.IsWhole) (arg4 : Memref sig .tc .vmem S1x256 .f32) (harg4 : arg4.IsWhole) (arg5 : Memref sig .tc .vmem S4x256 .f32) (harg5 : arg5.IsWhole) (arg6 : Memref sig .tc .vmem S18x2x24x128 .f32) (harg6 : arg6.IsWhole) (arg7 : Memref sig .tc .vmem S144x128 .i32) (harg7 : arg7.IsWhole) (arg8 : Memref sig .tc .vmem S2x720x128 .f32) (harg8 : arg8.IsWhole) (arg9 : Memref sig .tc .vmem S2x720x128 .f32) (harg9 : arg9.IsWhole) (arg10 : Memref sig .tc .vmem S720x128 .f32) (harg10 : arg10.IsWhole) (arg11 : Memref sig .tc .vmem S144x3x256 .bf16) (harg11 : arg11.IsWhole) (arg12 : Memref sig .tc .vmem S2x24x128 .f32) (harg12 : arg12.IsWhole)
variable (h1 : k0_cond1 i = 1#1) (f5 : BufTy.Contents (Elt Ideal) arg5.view.ty) (f6 : BufTy.Contents (Elt Ideal) arg6.view.ty) (f7 : BufTy.Contents (Elt Ideal) arg7.view.ty)
variable (k : Fin k0_t1_loop.trips) (f8 : BufTy.Contents (Elt Ideal) arg8.view.ty) (f11 : BufTy.Contents (Elt Ideal) arg11.view.ty) (f12 : BufTy.Contents (Elt Ideal) arg12.view.ty)

/-! ## The scratch and the block of the new cache -/

/-- The scratch of group `g`: row `q` is row `q / 8` of the new cache of the group's run `q % 8`. -/
def scrAt (CP : S18x2x24x128.Idx → EReal) (A : S144x128.Idx → BitVec 32) (G : S2x720x128.Idx → EReal) (g : Fin 18) (p : Fin 2) (q : Fin 24) (r : Fin 128) : EReal :=
  kept CP A G p g ⟨q.val / 8, by omega⟩ ⟨q.val % 8, by omega⟩ r

/-- One store into the scratch: row `d` of the new cache of the trip's eight runs, half `l`. -/
theorem store12 (l : Fin 2) (d : Fin 3) (p : Fin 2) (q : Fin 24) (r : Fin 128) (p' : Fin 1) (q' : Fin 8) (r' : Fin 128) (hp : p.val = l.val + p'.val)
    (hq : q.val = 8 * d.val + q'.val) (hr : r.val = 0 + r'.val) :
    k0_pay29 (trip_k0_t1.sl.v42 i arg7 h1 f7 k) (rows i arg6 arg8 h1 f6 k f8 l ⟨d.val + 1, by omega⟩) (rows i arg6 arg8 h1 f6 k f8 l ⟨d.val + 2, by omega⟩) (rows i arg6 arg8 h1 f6 k f8 l ⟨d.val + 3, by omega⟩) (rows i arg6 arg8 h1 f6 k f8 l ⟨d.val + 4, by omega⟩) (rows i arg6 arg8 h1 f6 k f8 l ⟨d.val + 5, by omega⟩) (ix3 p' q' r')
      = scrAt (arg6.view.read (Elt Ideal) f6) (arg7.view.read (Elt Ideal) f7) (arg8.view.read (Elt Ideal) f8) (grp k) p q r := by
  have hp' : p'.val = 0 := by omega
  obtain rfl : p' = 0 := Fin.ext hp'
  obtain rfl : p = l := Fin.ext (by rw [hp, hp']; rfl)
  obtain rfl : r = r' := Fin.ext (by omega)
  rw [pick_apply, rows_apply, rows_apply, rows_apply, rows_apply, rows_apply, acc_load]
  unfold scrAt
  rw [show (⟨q.val / 8, by omega⟩ : Fin 3) = d from Fin.ext (by show q.val / 8 = d.val; omega),
    show (⟨q.val % 8, by omega⟩ : Fin 8) = q' from Fin.ext (by show q.val % 8 = q'.val; omega)]
  rfl

set_option maxHeartbeats 4000000 in
/-- The scratch after its six stores. -/
theorem scratch (p : Fin 2) (q : Fin 24) (r : Fin 128) :
    arg12.view.read (Elt Ideal) (arg12.view.writes (Elt Ideal) arg12.view.junk (trip_k0_t1.sl.HW_arg12_6 i arg6 arg7 arg8 h1 f6 f7 k f8)) (ix3 p q r)
      = scrAt (arg6.view.read (Elt Ideal) f6) (arg7.view.read (Elt Ideal) f7) (arg8.view.read (Elt Ideal) f8) (grp k) p q r := by
  have S := fun l d => store12 i arg6 arg7 arg8 h1 f6 f7 k f8 l d p q r
  suffices L : Got True (arg12.view.read (Elt Ideal) (arg12.view.writes (Elt Ideal) arg12.view.junk (trip_k0_t1.sl.HW_arg12_6 i arg6 arg7 arg8 h1 f6 f7 k f8)) (ix3 p q r)) (scrAt (arg6.view.read (Elt Ideal) f6) (arg7.view.read (Elt Ideal) f7) (arg8.view.read (Elt Ideal) f8) (grp k) p q r)
      (arg12.view.read (Elt Ideal) arg12.view.junk (ix3 p q r)) by
    exact L.yes trivial
  unfold trip_k0_t1.sl.HW_arg12_6
  refine Got.of_iff
    (slab_cons arg12.view (arg12.view.junk (Val := Elt Ideal)) (fun y => scrAt (arg6.view.read (Elt Ideal) f6) (arg7.view.read (Elt Ideal) f7) (arg8.view.read (Elt Ideal) f8) (grp k) (y 0) (y 1) (y 2)) _ 1 16 0 _ _ _ rfl p q r _ (S 1 2)
    (slab_cons arg12.view (arg12.view.junk (Val := Elt Ideal)) (fun y => scrAt (arg6.view.read (Elt Ideal) f6) (arg7.view.read (Elt Ideal) f7) (arg8.view.read (Elt Ideal) f8) (grp k) (y 0) (y 1) (y 2)) _ 1 8 0 _ _ _ rfl p q r _ (S 1 1)
    (slab_cons arg12.view (arg12.view.junk (Val := Elt Ideal)) (fun y => scrAt (arg6.view.read (Elt Ideal) f6) (arg7.view.read (Elt Ideal) f7) (arg8.view.read (Elt Ideal) f8) (grp k) (y 0) (y 1) (y 2)) _ 1 0 0 _ _ _ rfl p q r _ (S 1 0)
    (slab_cons arg12.view (arg12.view.junk (Val := Elt Ideal)) (fun y => scrAt (arg6.view.read (Elt Ideal) f6) (arg7.view.read (Elt Ideal) f7) (arg8.view.read (Elt Ideal) f8) (grp k) (y 0) (y 1) (y 2)) _ 0 16 0 _ _ _ rfl p q r _ (S 0 2)
    (slab_cons arg12.view (arg12.view.junk (Val := Elt Ideal)) (fun y => scrAt (arg6.view.read (Elt Ideal) f6) (arg7.view.read (Elt Ideal) f7) (arg8.view.read (Elt Ideal) f8) (grp k) (y 0) (y 1) (y 2)) _ 0 8 0 _ _ _ rfl p q r _ (S 0 1)
    (slab_cons arg12.view (arg12.view.junk (Val := Elt Ideal)) (fun y => scrAt (arg6.view.read (Elt Ideal) f6) (arg7.view.read (Elt Ideal) f7) (arg8.view.read (Elt Ideal) f8) (grp k) (y 0) (y 1) (y 2)) _ 0 0 0 _ _ _ rfl p q r _ (S 0 0)
(slab_nil arg12.view (arg12.view.junk (Val := Elt Ideal)) (fun y => scrAt (arg6.view.read (Elt Ideal) f6) (arg7.view.read (Elt Ideal) f7) (arg8.view.read (Elt Ideal) f8) (grp k) (y 0) (y 1) (y 2)) (ix3 p q r)))))))) ?_
  have hp : p.val = 0 ∨ p.val = 1 := by have := p.isLt; omega
  have := q.isLt
  rcases hp with hp | hp <;> simp [hp] <;> omega

theorem scr_inb (l : Fin 2) (j : Fin 8) : ∀ a, S1x3x128.size a = 0 ∨ (![l.val, j.val, 0] : Fin 3 → ℕ) a + (![1, 8, 1] : Fin 3 → ℕ) a * (S1x3x128.size a - 1) < S2x24x128.size a := fun a => Or.inr (by
  match a with
  | ⟨0, _⟩ => show l.val + 1 * 0 < 2; omega
  | ⟨1, _⟩ => show j.val + 8 * 2 < 24; omega
  | ⟨2, _⟩ => show 0 + 1 * 127 < 128; omega)

/-- The three rows of run `8 * k + j` in half `l` of the scratch. -/
def scr (l : Fin 2) (j : Fin 8) : Vec Ideal S1x3x128 .f32 :=
  arg12.view.readCov (trip_k0_t1.sl.HW_arg12_6 i arg6 arg7 arg8 h1 f6 f7 k f8) { off := ![l.val, j.val, 0], size := S1x3x128.size, stride := ![1, 8, 1], inb := scr_inb l j }

theorem scr_apply (l : Fin 2) (j : Fin 8) (d : Fin 3) (n : Fin 128) : scr i arg6 arg7 arg8 arg12 h1 f6 f7 k f8 l j (ix3 (0 : Fin 1) d n) = kept (arg6.view.read (Elt Ideal) f6) (arg7.view.read (Elt Ideal) f7) (arg8.view.read (Elt Ideal) f8) l (grp k) d j n := by
  unfold scr
  refine (congrArg (arg12.view.read (Elt Ideal) (arg12.view.writes (Elt Ideal) arg12.view.junk (trip_k0_t1.sl.HW_arg12_6 i arg6 arg7 arg8 h1 f6 f7 k f8)))
    (funext fun a => Fin.ext (show _ = ((ix3 l (⟨j.val + 8 * d.val, by omega⟩ : Fin 24) n : S2x24x128.Idx) a).val from ?_))).trans
    ((scratch i arg6 arg7 arg8 arg12 h1 f6 f7 k f8 l ⟨j.val + 8 * d.val, by omega⟩ n).trans ?_)
  · match a with
    | ⟨0, _⟩ => show l.val + 1 * 0 = l.val; omega
    | ⟨1, _⟩ => rfl
    | ⟨2, _⟩ => show 0 + 1 * n.val = n.val; omega
  · unfold scrAt
    rw [show (⟨(⟨j.val + 8 * d.val, by omega⟩ : Fin 24).val / 8, by omega⟩ : Fin 3) = d from Fin.ext (by show (j.val + 8 * d.val) / 8 = d.val; omega),
      show (⟨(⟨j.val + 8 * d.val, by omega⟩ : Fin 24).val % 8, by omega⟩ : Fin 8) = j from Fin.ext (by show (j.val + 8 * d.val) % 8 = j.val; omega)]

/-- One store into the block of the new cache: the three rows of run `8 * k + j`. -/
theorem store11 (j : Fin 8) (p : Fin 144) (q : Fin 3) (r : Fin 256) (p' : Fin 1) (q' : Fin 3) (r' : Fin 256) (hp : p.val = 8 * k.val + j.val + p'.val)
    (hq : q.val = 0 + q'.val) (hr : r.val = 0 + r'.val) :
    k0_pay5 (scr i arg6 arg7 arg8 arg12 h1 f6 f7 k f8 0 j) (scr i arg6 arg7 arg8 arg12 h1 f6 f7 k f8 1 j) (ix3 p' q' r') = keptAt (arg6.view.read (Elt Ideal) f6) (arg7.view.read (Elt Ideal) f7) (arg8.view.read (Elt Ideal) f8) p q r := by
  have hp' : p'.val = 0 := by omega
  obtain rfl : p' = 0 := Fin.ext hp'
  obtain rfl : q = q' := Fin.ext (by omega)
  obtain rfl : r = r' := Fin.ext (by omega)
  unfold keptAt
  rw [show (⟨p.val / 8, by omega⟩ : Fin 18) = grp k from Fin.ext (by show p.val / 8 = k.val; omega),
    show (⟨p.val % 8, by omega⟩ : Fin 8) = j from Fin.ext (by show p.val % 8 = j.val; omega)]
  by_cases h : r.val < 128
  · obtain ⟨n, rfl⟩ : ∃ n, r = col 0 n := ⟨⟨r.val, h⟩, Fin.ext (by show r.val = 128 * 0 + r.val; omega)⟩
    rw [rows_lo, scr_apply]
    congr 1
    · exact Fin.ext (by show 0 = (128 * 0 + n.val) / 128; omega)
    · exact Fin.ext (by show n.val = (128 * 0 + n.val) % 128; omega)
  · have hr : r.val < 256 := r.isLt
    obtain ⟨n, rfl⟩ : ∃ n, r = col 1 n := ⟨⟨r.val - 128, by omega⟩, Fin.ext (by show r.val = 128 * 1 + (r.val - 128); omega)⟩
    rw [rows_hi, scr_apply]
    congr 1
    · exact Fin.ext (by show 1 = (128 * 1 + n.val) / 128; omega)
    · exact Fin.ext (by show n.val = (128 * 1 + n.val) % 128; omega)

set_option maxHeartbeats 4000000 in
/-- THE TRIP'S EIGHT STORES into the block of the new cache. -/
theorem trip11 (p : Fin 144) (q : Fin 3) (r : Fin 256) :
    Got (p.val / 8 = k.val) (arg11.view.read (Elt Ideal) (arg11.view.writes (Elt Ideal) f11 (tripL_k0_t1 Variants.none c none i arg1 harg1 arg2 harg2 arg3 harg3 arg4 harg4 arg5 harg5 arg6 harg6 arg7 harg7 arg8 harg8 arg9 harg9 arg10 harg10 arg11 harg11 arg12 harg12 h1 f5 f6 f7 k f8 f11 f12).2.1) (ix3 p q r))
      (keptAt (arg6.view.read (Elt Ideal) f6) (arg7.view.read (Elt Ideal) f7) (arg8.view.read (Elt Ideal) f8) p q r) (arg11.view.read (Elt Ideal) f11 (ix3 p q r)) := by
  unfold tripL_k0_t1 trip_k0_t1
  dsimp only
  have S := fun j => store11 i arg6 arg7 arg8 arg12 h1 f6 f7 k f8 j p q r
  refine Got.of_iff
    (slab_cons arg11.view f11 (fun y => keptAt (arg6.view.read (Elt Ideal) f6) (arg7.view.read (Elt Ideal) f7) (arg8.view.read (Elt Ideal) f8) (y 0) (y 1) (y 2)) _ (8 * k.val + 7) 0 0 _ _ _ (off10 k 7) p q r _ (S 7)
    (slab_cons arg11.view f11 (fun y => keptAt (arg6.view.read (Elt Ideal) f6) (arg7.view.read (Elt Ideal) f7) (arg8.view.read (Elt Ideal) f8) (y 0) (y 1) (y 2)) _ (8 * k.val + 6) 0 0 _ _ _ (off10 k 6) p q r _ (S 6)
    (slab_cons arg11.view f11 (fun y => keptAt (arg6.view.read (Elt Ideal) f6) (arg7.view.read (Elt Ideal) f7) (arg8.view.read (Elt Ideal) f8) (y 0) (y 1) (y 2)) _ (8 * k.val + 5) 0 0 _ _ _ (off10 k 5) p q r _ (S 5)
    (slab_cons arg11.view f11 (fun y => keptAt (arg6.view.read (Elt Ideal) f6) (arg7.view.read (Elt Ideal) f7) (arg8.view.read (Elt Ideal) f8) (y 0) (y 1) (y 2)) _ (8 * k.val + 4) 0 0 _ _ _ (off10 k 4) p q r _ (S 4)
    (slab_cons arg11.view f11 (fun y => keptAt (arg6.view.read (Elt Ideal) f6) (arg7.view.read (Elt Ideal) f7) (arg8.view.read (Elt Ideal) f8) (y 0) (y 1) (y 2)) _ (8 * k.val + 3) 0 0 _ _ _ (off10 k 3) p q r _ (S 3)
    (slab_cons arg11.view f11 (fun y => keptAt (arg6.view.read (Elt Ideal) f6) (arg7.view.read (Elt Ideal) f7) (arg8.view.read (Elt Ideal) f8) (y 0) (y 1) (y 2)) _ (8 * k.val + 2) 0 0 _ _ _ (off10 k 2) p q r _ (S 2)
    (slab_cons arg11.view f11 (fun y => keptAt (arg6.view.read (Elt Ideal) f6) (arg7.view.read (Elt Ideal) f7) (arg8.view.read (Elt Ideal) f8) (y 0) (y 1) (y 2)) _ (8 * k.val + 1) 0 0 _ _ _ (off10 k 1) p q r _ (S 1)
    (slab_cons arg11.view f11 (fun y => keptAt (arg6.view.read (Elt Ideal) f6) (arg7.view.read (Elt Ideal) f7) (arg8.view.read (Elt Ideal) f8) (y 0) (y 1) (y 2)) _ (8 * k.val + 0) 0 0 _ _ _ (off10 k 0) p q r _ (S 0)
(slab_nil arg11.view f11 (fun y => keptAt (arg6.view.read (Elt Ideal) f6) (arg7.view.read (Elt Ideal) f7) (arg8.view.read (Elt Ideal) f8) (y 0) (y 1) (y 2)) (ix3 p q r)))))))))) ?_
  have := p.isLt; have := q.isLt; have := r.isLt
  simp <;> omega

end Cert.InProjIdeal.Loop

end
-- ==== Proof.InLoop.lean ====
/-
  The loop over the eighteen groups of eight runs, over the extended reals: what the block of q, k and v and the block of the new cache
  hold after it, one element at a time. Each trip reads only the rows of its own group, which no earlier trip has written.
-/
module

public import proofs.«01_k».proof.Proof.InTrip
public import proofs.«01_k».proof.Proof.InScratch

@[expose] public section

set_option maxRecDepth 16384

noncomputable section

namespace Cert.InProjIdeal.Loop

open Idealize.ShloMosaic hiding ix1 ix2 ix3 ix4 eq_ix1 eq_ix2 eq_ix3 eq_ix4
open Idealize.ShloMosaic.TcCoe Idealize.SL.Sem Idealize.ShloMosaic.ValueIdx
open Cert.InProjIdeal Cert.InProjIdeal.Gen

/-- The extended sequence reads the block only at its own group's rows. -/
theorem ext_congr (CP : S18x2x24x128.Idx → EReal) (G G' : S2x720x128.Idx → EReal) (l : Fin 2) (g : Fin 18) (d i : Fin 8) (n : Fin 128)
    (h : ∀ r : Fin 720, r.val / 40 = g.val → G (ix3 l r n) = G' (ix3 l r n)) : ext CP G l g d i n = ext CP G' l g d i n := by
  unfold ext
  by_cases hd : d.val < 3
  · rw [dif_pos hd, dif_pos hd]
  · rw [dif_neg hd, dif_neg hd]; exact h _ (by show (40 * g.val + 8 * (d.val - 3) + i.val) / 40 = g.val; omega)

theorem act_congr (W : S4x256.Idx → EReal) (CP : S18x2x24x128.Idx → EReal) (G G' : S2x720x128.Idx → EReal) (l : Fin 2) (r : Fin 720) (n : Fin 128)
    (h : ∀ r' : Fin 720, r'.val / 40 = r.val / 40 → G (ix3 l r' n) = G' (ix3 l r' n)) : actAt W CP G l r n = actAt W CP G' l r n := by
  unfold actAt act
  rw [ext_congr CP G G' l _ _ _ n h, ext_congr CP G G' l _ _ _ n h, ext_congr CP G G' l _ _ _ n h, ext_congr CP G G' l _ _ _ n h]

theorem kept_congr (CP : S18x2x24x128.Idx → EReal) (A : S144x128.Idx → BitVec 32) (G G' : S2x720x128.Idx → EReal) (b : Fin 144) (d : Fin 3) (e : Fin 256)
    (h : ∀ (l : Fin 2) (r : Fin 720) (n : Fin 128), r.val / 40 = b.val / 8 → G (ix3 l r n) = G' (ix3 l r n)) : keptAt CP A G b d e = keptAt CP A G' b d e := by
  unfold keptAt kept
  rw [ext_congr CP G G' _ _ _ _ _ fun r hr => h _ r _ hr, ext_congr CP G G' _ _ _ _ _ fun r hr => h _ r _ hr,
    ext_congr CP G G' _ _ _ _ _ fun r hr => h _ r _ hr, ext_congr CP G G' _ _ _ _ _ fun r hr => h _ r _ hr,
    ext_congr CP G G' _ _ _ _ _ fun r hr => h _ r _ hr]

variable (c : Dev nD) (i : grid0.Coords) (arg1 : Memref sig .tc .vmem S720x2048 .bf16) (harg1 : arg1.IsWhole) (arg2 : Memref sig .tc .vmem S720x128 .f32) (harg2 : arg2.IsWhole) (arg3 : Memref sig .tc .vmem S2048x256 .i8) (harg3 : arg3.IsWhole) (arg4 : Memref sig .tc .vmem S1x256 .f32) (harg4 : arg4.IsWhole) (arg5 : Memref sig .tc .vmem S4x256 .f32) (harg5 : arg5.IsWhole) (arg6 : Memref sig .tc .vmem S18x2x24x128 .f32) (harg6 : arg6.IsWhole) (arg7 : Memref sig .tc .vmem S144x128 .i32) (harg7 : arg7.IsWhole) (arg8 : Memref sig .tc .vmem S2x720x128 .f32) (harg8 : arg8.IsWhole) (arg9 : Memref sig .tc .vmem S2x720x128 .f32) (harg9 : arg9.IsWhole) (arg10 : Memref sig .tc .vmem S720x128 .f32) (harg10 : arg10.IsWhole) (arg11 : Memref sig .tc .vmem S144x3x256 .bf16) (harg11 : arg11.IsWhole) (arg12 : Memref sig .tc .vmem S2x24x128 .f32) (harg12 : arg12.IsWhole)
variable (h1 : k0_cond1 i = 1#1) (f5 : BufTy.Contents (Elt Ideal) arg5.view.ty) (f6 : BufTy.Contents (Elt Ideal) arg6.view.ty) (f7 : BufTy.Contents (Elt Ideal) arg7.view.ty)
variable (f8 : BufTy.Contents (Elt Ideal) arg8.view.ty) (f11 : BufTy.Contents (Elt Ideal) arg11.view.ty) (f12 : BufTy.Contents (Elt Ideal) arg12.view.ty)

/-- The stores of the first `n` trips. -/
abbrev pieces (n : ℕ) := pb_k0_t1 (F := Ideal) Variants.none c none i arg1 harg1 arg2 harg2 arg3 harg3 arg4 harg4 arg5 harg5 arg6 harg6 arg7 harg7 arg8 harg8 arg9 harg9 arg10 harg10 arg11 harg11 arg12 harg12 h1 f5 f6 f7 f8 f11 f12 n

/-- After `n` trips the first `n` groups of the block of q, k and v are convolved, the others kept. -/
theorem loop8 (n : ℕ) (hn : n ≤ k0_t1_loop.trips) (p : Fin 2) (q : Fin 720) (r : Fin 128) :
    Got (q.val / 40 < n) (arg8.view.read (Elt Ideal) (arg8.view.writes (Elt Ideal) f8 (pieces c i arg1 harg1 arg2 harg2 arg3 harg3 arg4 harg4 arg5 harg5 arg6 harg6 arg7 harg7 arg8 harg8 arg9 harg9 arg10 harg10 arg11 harg11 arg12 harg12 h1 f5 f6 f7 f8 f11 f12 n).1) (ix3 p q r))
      (actAt (arg5.view.read (Elt Ideal) f5) (arg6.view.read (Elt Ideal) f6) (arg8.view.read (Elt Ideal) f8) p q r) (arg8.view.read (Elt Ideal) f8 (ix3 p q r)) := by
  induction n generalizing p q r with
  | zero => exact ⟨fun h => absurd h (Nat.not_lt_zero _), fun _ => rfl⟩
  | succ n ih =>
    have ih' := ih (by omega)
    have E := pb_k0_t1_succ (F := Ideal) Variants.none c none i arg1 harg1 arg2 harg2 arg3 harg3 arg4 harg4 arg5 harg5 arg6 harg6 arg7 harg7 arg8 harg8 arg9 harg9 arg10 harg10 arg11 harg11 arg12 harg12 h1 f5 f6 f7 f8 f11 f12 ⟨n, by omega⟩
    rw [show pieces c i arg1 harg1 arg2 harg2 arg3 harg3 arg4 harg4 arg5 harg5 arg6 harg6 arg7 harg7 arg8 harg8 arg9 harg9 arg10 harg10 arg11 harg11 arg12 harg12 h1 f5 f6 f7 f8 f11 f12 (n + 1) = _ from E, View.writes_append]
    have T := trip8 c i arg1 harg1 arg2 harg2 arg3 harg3 arg4 harg4 arg5 harg5 arg6 harg6 arg7 harg7 arg8 harg8 arg9 harg9 arg10 harg10 arg11 harg11 arg12 harg12 h1 f5 f6 f7 ⟨n, by omega⟩ (arg8.view.writes (Elt Ideal) f8 (pieces c i arg1 harg1 arg2 harg2 arg3 harg3 arg4 harg4 arg5 harg5 arg6 harg6 arg7 harg7 arg8 harg8 arg9 harg9 arg10 harg10 arg11 harg11 arg12 harg12 h1 f5 f6 f7 f8 f11 f12 n).1)
      (arg11.view.writes (Elt Ideal) f11 (pieces c i arg1 harg1 arg2 harg2 arg3 harg3 arg4 harg4 arg5 harg5 arg6 harg6 arg7 harg7 arg8 harg8 arg9 harg9 arg10 harg10 arg11 harg11 arg12 harg12 h1 f5 f6 f7 f8 f11 f12 n).2.1) (arg12.view.writes (Elt Ideal) f12 (pieces c i arg1 harg1 arg2 harg2 arg3 harg3 arg4 harg4 arg5 harg5 arg6 harg6 arg7 harg7 arg8 harg8 arg9 harg9 arg10 harg10 arg11 harg11 arg12 harg12 h1 f5 f6 f7 f8 f11 f12 n).2.2) p q r
    refine ⟨fun h => ?_, fun h => (T.no (by show ¬ q.val / 40 = n; omega)).trans ((ih' p q r).no (by omega))⟩
    by_cases hq : q.val / 40 = n
    · exact (T.yes hq).trans (act_congr _ _ _ _ p q r fun r' hr' => (ih' p r' r).no (by omega))
    · exact (T.no hq).trans ((ih' p q r).yes (by omega))

/-- After `n` trips the first `n` groups of the block of the new cache are copied, the others kept. -/
theorem loop11 (n : ℕ) (hn : n ≤ k0_t1_loop.trips) (p : Fin 144) (q : Fin 3) (r : Fin 256) :
    Got (p.val / 8 < n) (arg11.view.read (Elt Ideal) (arg11.view.writes (Elt Ideal) f11 (pieces c i arg1 harg1 arg2 harg2 arg3 harg3 arg4 harg4 arg5 harg5 arg6 harg6 arg7 harg7 arg8 harg8 arg9 harg9 arg10 harg10 arg11 harg11 arg12 harg12 h1 f5 f6 f7 f8 f11 f12 n).2.1) (ix3 p q r))
      (keptAt (arg6.view.read (Elt Ideal) f6) (arg7.view.read (Elt Ideal) f7) (arg8.view.read (Elt Ideal) f8) p q r) (arg11.view.read (Elt Ideal) f11 (ix3 p q r)) := by
  induction n generalizing p q r with
  | zero => exact ⟨fun h => absurd h (Nat.not_lt_zero _), fun _ => rfl⟩
  | succ n ih =>
    have ih' := ih (by omega)
    have E := pb_k0_t1_succ (F := Ideal) Variants.none c none i arg1 harg1 arg2 harg2 arg3 harg3 arg4 harg4 arg5 harg5 arg6 harg6 arg7 harg7 arg8 harg8 arg9 harg9 arg10 harg10 arg11 harg11 arg12 harg12 h1 f5 f6 f7 f8 f11 f12 ⟨n, by omega⟩
    rw [show pieces c i arg1 harg1 arg2 harg2 arg3 harg3 arg4 harg4 arg5 harg5 arg6 harg6 arg7 harg7 arg8 harg8 arg9 harg9 arg10 harg10 arg11 harg11 arg12 harg12 h1 f5 f6 f7 f8 f11 f12 (n + 1) = _ from E, View.writes_append]
    have T := trip11 c i arg1 harg1 arg2 harg2 arg3 harg3 arg4 harg4 arg5 harg5 arg6 harg6 arg7 harg7 arg8 harg8 arg9 harg9 arg10 harg10 arg11 harg11 arg12 harg12 h1 f5 f6 f7 ⟨n, by omega⟩ (arg8.view.writes (Elt Ideal) f8 (pieces c i arg1 harg1 arg2 harg2 arg3 harg3 arg4 harg4 arg5 harg5 arg6 harg6 arg7 harg7 arg8 harg8 arg9 harg9 arg10 harg10 arg11 harg11 arg12 harg12 h1 f5 f6 f7 f8 f11 f12 n).1)
      (arg11.view.writes (Elt Ideal) f11 (pieces c i arg1 harg1 arg2 harg2 arg3 harg3 arg4 harg4 arg5 harg5 arg6 harg6 arg7 harg7 arg8 harg8 arg9 harg9 arg10 harg10 arg11 harg11 arg12 harg12 h1 f5 f6 f7 f8 f11 f12 n).2.1) (arg12.view.writes (Elt Ideal) f12 (pieces c i arg1 harg1 arg2 harg2 arg3 harg3 arg4 harg4 arg5 harg5 arg6 harg6 arg7 harg7 arg8 harg8 arg9 harg9 arg10 harg10 arg11 harg11 arg12 harg12 h1 f5 f6 f7 f8 f11 f12 n).2.2) p q r
    refine ⟨fun h => ?_, fun h => (T.no (by show ¬ p.val / 8 = n; omega)).trans ((ih' p q r).no (by omega))⟩
    by_cases hq : p.val / 8 = n
    · exact (T.yes hq).trans (kept_congr _ _ _ _ p q r fun l r' m hr' =>
        (loop8 c i arg1 harg1 arg2 harg2 arg3 harg3 arg4 harg4 arg5 harg5 arg6 harg6 arg7 harg7 arg8 harg8 arg9 harg9 arg10 harg10 arg11 harg11 arg12 harg12 h1 f5 f6 f7 f8 f11 f12 n (by omega) l r' m).no (by omega))
    · exact (T.no hq).trans ((ih' p q r).yes (by omega))

end Cert.InProjIdeal.Loop

end
-- ==== Proof.InSpec.lean ====
/-
  What the input projection computes, as closed forms over the extended reals, in the argument arrays alone: the scaled product, the
  sequence that the convolution runs over, the convolution, the normalised q and k, and the new cache. Rows of `[720, _]` arrays are
  in the order (group of eight runs, token, run of the group); group `g`, run `i` is run `8 * g + i`.
-/
module

public import proofs.«01_k».proof.Proof.InLoopLoad

@[expose] public section

set_option maxRecDepth 16384

noncomputable section

namespace Cert.InProjIdeal.Spec

open Idealize.ShloMosaic hiding ix1 ix2 ix3 ix4 eq_ix1 eq_ix2 eq_ix3 eq_ix4
open Idealize.ShloMosaic.TcCoe Idealize.ShloMosaic.ValueIdx
open Cert.InProjIdeal Cert.InProjIdeal.Loop

variable (x0 : S720x2048.Idx → EReal) (x1 : S720x128.Idx → EReal) (x2 : S2048x7692.Idx → BitVec 8) (x3 : S7692.Idx → EReal)
  (x4 : S4608x4.Idx → EReal) (x5 : S18x36x24x128.Idx → EReal) (x6 : S144.Idx → BitVec 32)

/-- The row of token `s` of run `i` of group `g`. -/
def row (g : Fin 18) (s : Fin 5) (i : Fin 8) : Fin 720 := ⟨40 * g.val + 8 * s.val + i.val, by omega⟩

/-- Run `i` of group `g`. -/
def bat (g : Fin 18) (i : Fin 8) : Fin 144 := ⟨8 * g.val + i.val, by omega⟩

/-- The product of row `r` with column `n` of the weight's codes, scaled by the row's and the column's scale. -/
def prod (r : Fin 720) (n : Fin 7692) : EReal :=
  (∑ k : Fin 2048, x0 (ix2 r k) * (((x2 (ix2 k n)).toInt : ℝ) : EReal)) * (x1 (ix2 r (0 : Fin 128)) * x3 (ix1 n))

/-- Element `d` of feature `e`'s sequence: three of the cache, then five products. -/
def seq (g : Fin 18) (i : Fin 8) (d : Fin 8) (e : Fin 4608) : EReal :=
  if h : d.val < 3 then x5 (ix4 g (⟨e.val / 128, by omega⟩ : Fin 36) (⟨8 * d.val + i.val, by omega⟩ : Fin 24) (⟨e.val % 128, by omega⟩ : Fin 128))
  else prod x0 x1 x2 x3 (row g ⟨d.val - 3, by omega⟩ i) ⟨e.val, by omega⟩

/-- The convolution of token `s`, through `silu`. -/
def conv (g : Fin 18) (i : Fin 8) (s : Fin 5) (e : Fin 4608) : EReal :=
  silu (taps (seq x0 x1 x2 x3 x5 g i ⟨s.val, by omega⟩ e) (seq x0 x1 x2 x3 x5 g i ⟨s.val + 1, by omega⟩ e)
    (seq x0 x1 x2 x3 x5 g i ⟨s.val + 2, by omega⟩ e) (seq x0 x1 x2 x3 x5 g i ⟨s.val + 3, by omega⟩ e)
    (x4 (ix2 e (0 : Fin 4))) (x4 (ix2 e (1 : Fin 4))) (x4 (ix2 e (2 : Fin 4))) (x4 (ix2 e (3 : Fin 4))))

/-- What the sum of squares is kept away from zero by. -/
def eps : EReal := Ideal.ofBits .f32 0x358637BD#32

/-- One over the square root of the head's size. -/
def sixteenth : EReal := Ideal.ofBits .f32 0x3D800000#32

/-- The convolution over the norm of its head of 256 features. -/
def normed (g : Fin 18) (i : Fin 8) (s : Fin 5) (e : Fin 4608) : EReal :=
  conv x0 x1 x2 x3 x4 x5 g i s e
    * Ideal.rsqrt ((∑ f : Fin 256, conv x0 x1 x2 x3 x4 x5 g i s ⟨256 * (e.val / 256) + f.val, by omega⟩
        * conv x0 x1 x2 x3 x4 x5 g i s ⟨256 * (e.val / 256) + f.val, by omega⟩) + eps)

/-- q, k and v: q normalised and scaled, k normalised, v as convolved. -/
def core (g : Fin 18) (i : Fin 8) (s : Fin 5) (e : Fin 4608) : EReal :=
  if e.val < 768 then normed x0 x1 x2 x3 x4 x5 g i s e * sixteenth
  else if e.val < 1536 then normed x0 x1 x2 x3 x4 x5 g i s e else conv x0 x1 x2 x3 x4 x5 g i s e

/-- Row `d` of the new cache: the row of the sequence that lies `d` after the accepted length. -/
def cache (g : Fin 18) (i : Fin 8) (d : Fin 3) (e : Fin 4608) : EReal :=
  pick (x6 (ix1 (bat g i))) (seq x0 x1 x2 x3 x5 g i ⟨d.val + 1, by omega⟩ e) (seq x0 x1 x2 x3 x5 g i ⟨d.val + 2, by omega⟩ e)
    (seq x0 x1 x2 x3 x5 g i ⟨d.val + 3, by omega⟩ e) (seq x0 x1 x2 x3 x5 g i ⟨d.val + 4, by omega⟩ e)
    (seq x0 x1 x2 x3 x5 g i ⟨d.val + 5, by omega⟩ e)

/-- The group, the token and the run of a row. -/
def rg (r : Fin 720) : Fin 18 := ⟨r.val / 40, by omega⟩
def rs (r : Fin 720) : Fin 5 := ⟨r.val % 40 / 8, by omega⟩
def ri (r : Fin 720) : Fin 8 := ⟨r.val % 8, by omega⟩

theorem row_eq (r : Fin 720) : row (rg r) (rs r) (ri r) = r := Fin.ext (by show 40 * (r.val / 40) + 8 * (r.val % 40 / 8) + r.val % 8 = r.val; omega)

/-- The first result. -/
def out7 : S36x720x128.Idx → EReal := fun j =>
  core x0 x1 x2 x3 x4 x5 (rg (j 1)) (ri (j 1)) (rs (j 1)) ⟨128 * (j 0).val + (j 2).val, by
    have h0 : (j 0).val < 36 := (j 0).isLt; have h2 : (j 2).val < 128 := (j 2).isLt; omega⟩

/-- The second result: the gate's columns of the product. -/
def out8 : S24x720x128.Idx → EReal := fun j =>
  prod x0 x1 x2 x3 (j 1) ⟨4608 + 128 * (j 0).val + (j 2).val, by
    have h0 : (j 0).val < 24 := (j 0).isLt; have h2 : (j 2).val < 128 := (j 2).isLt; omega⟩

/-- The third result at the lanes below 12: the last twelve columns of the product. -/
def out9 (r : Fin 720) (n : Fin 12) : EReal := prod x0 x1 x2 x3 r ⟨7680 + n.val, by omega⟩

/-- The fourth result, for the runs whose accepted length lies between 1 and 5. -/
def out10 : S144x3x4608.Idx → EReal := fun j =>
  cache x0 x1 x2 x3 x5 x6 ⟨(j 0).val / 8, by have h0 : (j 0).val < 144 := (j 0).isLt; omega⟩ ⟨(j 0).val % 8, by omega⟩ (j 1) (j 2)

end Cert.InProjIdeal.Spec

end
-- ==== Proof.InPoint.lean ====
/-
  What one grid point computes, over the extended reals, from the contents of the buffers that it is given: the scaled product of the
  codes with one block of weight columns, and for q, k and v the convolution, the normalisation and the rows of the new cache.
-/
module

public import proofs.«01_k».proof.Proof.InLoop
public import proofs.«01_k».proof.Proof.InSpec
public import proofs.«01_k».proof.Proof.InBodyIdeal
public import Idealize.ShloMosaic.Lib.IdealHost

@[expose] public section

set_option maxRecDepth 16384

noncomputable section

namespace Cert.InProjIdeal.Point

open Idealize.ShloMosaic hiding ix1 ix2 ix3 ix4 ix5 eq_ix1 eq_ix2 eq_ix3 eq_ix4
open Idealize.ShloMosaic.TcCoe Idealize.SL.Sem Idealize.ShloMosaic.ValueIdx
open Cert.InProjIdeal Cert.InProjIdeal.Gen Cert.InProjIdeal.Body Cert.InProjIdeal.Loop Cert.InProjIdeal.Spec

/-! ## The product -/

/-- The product of the codes `A` with a block `W` of weight columns, scaled by the rows' scales `S` and the columns' scales `T`. -/
def mm (A : S720x2048.Idx → EReal) (S : S720x128.Idx → EReal) (W : S2048x256.Idx → BitVec 8) (T : S1x256.Idx → EReal) (r : Fin 720) (n : Fin 256) : EReal :=
  (∑ k : Fin 2048, A (ix2 r k) * (((W (ix2 k n)).toInt : ℝ) : EReal)) * (S (ix2 r (0 : Fin 128)) * T (ix2 (0 : Fin 1) n))

/-- The product as two blocks of 128 columns. -/
def halves (A : S720x2048.Idx → EReal) (S : S720x128.Idx → EReal) (W : S2048x256.Idx → BitVec 8) (T : S1x256.Idx → EReal) : S2x720x128.Idx → EReal :=
  fun j => mm A S W T (j 1) (col (j 0) (j 2))

/-- The dimension numbers of the body's product. -/
abbrev dims := dot_S720x2048_S2048x256_S720x256_1_0_0_1_n_n

theorem lhs_row (i : S720x256.Idx) (q : dims.contr.Idx) : (dims.lhsIdx i q 0).val = (i 0).val := by
  unfold DotDims.lhsIdx
  rw [dif_neg (show ¬(0 : Fin S720x2048.rank) ∈ dims.lhsBatch by decide),
    dif_pos (show (0 : Fin S720x2048.rank) ∈ dims.lhsNonContracting by decide)]
  rfl

theorem rhs_col (i : S720x256.Idx) (q : dims.contr.Idx) : (dims.rhsIdx i q 1).val = (i 1).val := by
  unfold DotDims.rhsIdx
  rw [dif_neg (show ¬(1 : Fin S2048x256.rank) ∈ dims.rhsBatch by decide),
    dif_pos (show (1 : Fin S2048x256.rank) ∈ dims.rhsNonContracting by decide)]
  rfl

theorem scale_col (v : S720x1.Idx → EReal) (h : S720x1.Broadcasts S720x256) (r : Fin 720) (n : Fin 256) :
    broadcastTo S720x256 v h (ix2 r n) = v (ix2 r (0 : Fin 1)) :=
  broadcastTo_apply v h _ _ (fun a => by
    match a with
    | ⟨0, _⟩ => exact (if_neg (show ¬ (720 : Nat) = 1 by decide)).symm
    | ⟨1, _⟩ => exact (if_pos rfl).symm)

theorem pay1_apply (A : Vec Ideal S720x2048 .bf16) (W : Vec Ideal S2048x256 .i8) (s : Vec Ideal S720x1 .f32) (T : Vec Ideal S1x256 .f32) (r : Fin 720) (n : Fin 256) :
    k0_pay1 A W s T (ix2 r n) = (∑ k : Fin 2048, A (ix2 r k) * (((W (ix2 k n)).toInt : ℝ) : EReal)) * (s (ix2 r (0 : Fin 1)) * T (ix2 (0 : Fin 1) n)) := by
  unfold k0_pay1
  simp only [matmul, mulf_apply, extf_apply, truncf_apply, Ideal.extf_def, Ideal.truncf_def, Ideal.mulf_def]
  rw [Ideal.matmul_constant_zero_apply, ← Equiv.sum_comp (contrEquiv1 dims 2048 rfl rfl).symm, scale_col, broadcastTo_1b_ab_apply, shapeCast_self]
  refine congrArg (· * _) (Finset.sum_congr rfl fun k _ => ?_)
  have hk := contrEquiv1_symm_val dims 2048 rfl rfl k
  have el : dims.lhsIdx (ix2 r n) ((contrEquiv1 dims 2048 rfl rfl).symm k) = ix2 r k := funext fun a => Fin.ext (by
    match a with
    | ⟨0, _⟩ => exact lhs_row _ _
    | ⟨1, _⟩ => exact (dims.lhsIdx_val_of_single rfl _ _).trans hk)
  have er : dims.rhsIdx (ix2 r n) ((contrEquiv1 dims 2048 rfl rfl).symm k) = ix2 k n := funext fun a => Fin.ext (by
    match a with
    | ⟨0, _⟩ => exact (dims.rhsIdx_val_of_single rfl _ _).trans hk
    | ⟨1, _⟩ => exact rhs_col _ _)
  rw [el, er]
  rfl

/-- One half of a `[720, 256]` vector, as a slab. -/
theorem lower (x : S720x256.Idx → EReal) (h) (h') (u : Fin 1) (r : Fin 720) (n : Fin 128) :
    shapeCast S1x720x128 (extractStridedSlice S720x128 ![0, 0] x h) h' (ix3 u r n) = x (ix2 r (col 0 n)) :=
  (shapeCast_ab_1ab_apply _ h' u r n).trans (slice2_axis1_apply 0 x h r n (col 0 n) rfl)

theorem upper (x : S720x256.Idx → EReal) (h) (h') (u : Fin 1) (r : Fin 720) (n : Fin 128) :
    shapeCast S1x720x128 (extractStridedSlice S720x128 ![0, 128] x h) h' (ix3 u r n) = x (ix2 r (col 1 n)) :=
  (shapeCast_ab_1ab_apply _ h' u r n).trans (slice2_axis1_apply 128 x h r n (col 1 n) rfl)

variable (c : Dev nD) (i : grid0.Coords) (arg1 : Memref sig .tc .vmem S720x2048 .bf16) (harg1 : arg1.IsWhole) (arg2 : Memref sig .tc .vmem S720x128 .f32) (harg2 : arg2.IsWhole) (arg3 : Memref sig .tc .vmem S2048x256 .i8) (harg3 : arg3.IsWhole) (arg4 : Memref sig .tc .vmem S1x256 .f32) (harg4 : arg4.IsWhole) (arg5 : Memref sig .tc .vmem S4x256 .f32) (harg5 : arg5.IsWhole) (arg6 : Memref sig .tc .vmem S18x2x24x128 .f32) (harg6 : arg6.IsWhole) (arg7 : Memref sig .tc .vmem S144x128 .i32) (harg7 : arg7.IsWhole) (arg8 : Memref sig .tc .vmem S2x720x128 .f32) (harg8 : arg8.IsWhole) (arg9 : Memref sig .tc .vmem S2x720x128 .f32) (harg9 : arg9.IsWhole) (arg10 : Memref sig .tc .vmem S720x128 .f32) (harg10 : arg10.IsWhole) (arg11 : Memref sig .tc .vmem S144x3x256 .bf16) (harg11 : arg11.IsWhole) (arg12 : Memref sig .tc .vmem S2x24x128 .f32) (harg12 : arg12.IsWhole)
variable (h1 : k0_cond1 i = 1#1) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty)
variable (f9 : BufTy.Contents (Elt Ideal) arg9.view.ty) (f10 : BufTy.Contents (Elt Ideal) arg10.view.ty) (f11 : BufTy.Contents (Elt Ideal) arg11.view.ty) (f12 : BufTy.Contents (Elt Ideal) arg12.view.ty)

/-- The product of the loaded blocks. -/
theorem loaded (r : Fin 720) (n : Fin 256) :
    k0_pay1 (View.readAt (Elt Ideal) arg1.view (Rect.unit (s := S720x2048) ![0, 0] S720x2048.size inb_S720x2048_S720x2048_0_0).toLoadRect f1) (View.readAt (Elt Ideal) arg3.view (Rect.unit (s := S2048x256) ![0, 0] S2048x256.size inb_S2048x256_S2048x256_0_0).toLoadRect f3) (View.readAt (Elt Ideal) arg2.view (Rect.unit (s := S720x128) ![0, 0] S720x1.size inb_S720x128_S720x1_0_0).toLoadRect f2) (View.readAt (Elt Ideal) arg4.view (Rect.unit (s := S1x256) ![0, 0] S1x256.size inb_S1x256_S1x256_0_0).toLoadRect f4) (ix2 r n) = mm (arg1.view.read (Elt Ideal) f1) (arg2.view.read (Elt Ideal) f2) (arg3.view.read (Elt Ideal) f3) (arg4.view.read (Elt Ideal) f4) r n := by
  rw [pay1_apply]
  unfold mm
  refine congrArg₂ (· * ·) (Finset.sum_congr rfl fun k _ => congrArg₂ (· * ·) ?_ ?_) (congrArg₂ (· * ·) ?_ ?_)
  · exact View.ld_unit_apply_of _ _ _ _ _ (ix2 r k) (fun a => by
      match a with
      | ⟨0, _⟩ => exact (Nat.zero_add _).symm
      | ⟨1, _⟩ => exact (Nat.zero_add _).symm)
  · exact congrArg (fun z : BitVec 8 => ((z.toInt : ℝ) : EReal)) (View.ld_unit_apply_of _ _ _ _ _ (ix2 k n) (fun a => by
      match a with
      | ⟨0, _⟩ => exact (Nat.zero_add _).symm
      | ⟨1, _⟩ => exact (Nat.zero_add _).symm))
  · exact View.ld_unit_apply_of _ _ _ _ _ (ix2 r (0 : Fin 128)) (fun a => by
      match a with
      | ⟨0, _⟩ => exact (Nat.zero_add _).symm
      | ⟨1, _⟩ => rfl)
  · exact View.ld_unit_apply_of _ _ _ _ _ (ix2 (0 : Fin 1) n) (fun a => by
      match a with
      | ⟨0, _⟩ => rfl
      | ⟨1, _⟩ => exact (Nat.zero_add _).symm)

/-- The product of the blocks that the buffers hold. -/
abbrev given : S2x720x128.Idx → EReal :=
  halves (arg1.view.read (Elt Ideal) f1) (arg2.view.read (Elt Ideal) f2) (arg3.view.read (Elt Ideal) f3) (arg4.view.read (Elt Ideal) f4)

/-- The first stores of a point of q, k or v. -/
theorem entry8_read (p : Fin 2) (q : Fin 720) (r : Fin 128) :
    arg8.view.read (Elt Ideal) (arg8.view.writes (Elt Ideal) arg8.view.junk (entry8 arg1 arg2 arg3 arg4 f1 f2 f3 f4)) (ix3 p q r)
      = given arg1 arg2 arg3 arg4 f1 f2 f3 f4 (ix3 p q r) := by
  unfold entry8
  refine (slab_cons arg8.view (arg8.view.junk (Val := Elt Ideal)) (given arg1 arg2 arg3 arg4 f1 f2 f3 f4) _ 1 0 0 _ _ _ rfl p q r _ (fun p' q' r' hp hq hr => ?_)
    (slab_cons arg8.view (arg8.view.junk (Val := Elt Ideal)) (given arg1 arg2 arg3 arg4 f1 f2 f3 f4) _ 0 0 0 _ _ _ rfl p q r _ (fun p' q' r' hp hq hr => ?_)
      (slab_nil arg8.view (arg8.view.junk (Val := Elt Ideal)) (given arg1 arg2 arg3 arg4 f1 f2 f3 f4) (ix3 p q r)))).yes ?_
  · unfold k0_pay3
    refine (upper _ _ _ p' q' r').trans ((loaded arg1 arg2 arg3 arg4 f1 f2 f3 f4 q' (col 1 r')).trans ?_)
    obtain rfl : q = q' := Fin.ext (by omega)
    obtain rfl : r = r' := Fin.ext (by omega)
    obtain rfl : p = 1 := Fin.ext (by show p.val = 1; omega)
    rfl
  · unfold k0_pay2
    refine (lower _ _ _ p' q' r').trans ((loaded arg1 arg2 arg3 arg4 f1 f2 f3 f4 q' (col 0 r')).trans ?_)
    obtain rfl : q = q' := Fin.ext (by omega)
    obtain rfl : r = r' := Fin.ext (by omega)
    obtain rfl : p = 0 := Fin.ext (by show p.val = 0; omega)
    rfl
  · have hp : p.val = 0 ∨ p.val = 1 := by omega
    rcases hp with hp | hp <;> simp [hp] <;> omega

/-- The stores of a point of z. -/
theorem entry9_read (p : Fin 2) (q : Fin 720) (r : Fin 128) :
    arg9.view.read (Elt Ideal) (arg9.view.writes (Elt Ideal) f9 (entry9 arg1 arg2 arg3 arg4 f1 f2 f3 f4)) (ix3 p q r)
      = given arg1 arg2 arg3 arg4 f1 f2 f3 f4 (ix3 p q r) := by
  unfold entry9
  refine (slab_cons arg9.view f9 (given arg1 arg2 arg3 arg4 f1 f2 f3 f4) _ 1 0 0 _ _ _ rfl p q r _ (fun p' q' r' hp hq hr => ?_)
    (slab_cons arg9.view f9 (given arg1 arg2 arg3 arg4 f1 f2 f3 f4) _ 0 0 0 _ _ _ rfl p q r _ (fun p' q' r' hp hq hr => ?_)
      (slab_nil arg9.view f9 (given arg1 arg2 arg3 arg4 f1 f2 f3 f4) (ix3 p q r)))).yes ?_
  · unfold k0_pay10
    refine (upper _ _ _ p' q' r').trans ((loaded arg1 arg2 arg3 arg4 f1 f2 f3 f4 q' (col 1 r')).trans ?_)
    obtain rfl : q = q' := Fin.ext (by omega)
    obtain rfl : r = r' := Fin.ext (by omega)
    obtain rfl : p = 1 := Fin.ext (by show p.val = 1; omega)
    rfl
  · unfold k0_pay9
    refine (lower _ _ _ p' q' r').trans ((loaded arg1 arg2 arg3 arg4 f1 f2 f3 f4 q' (col 0 r')).trans ?_)
    obtain rfl : q = q' := Fin.ext (by omega)
    obtain rfl : r = r' := Fin.ext (by omega)
    obtain rfl : p = 0 := Fin.ext (by show p.val = 0; omega)
    rfl
  · have hp : p.val = 0 ∨ p.val = 1 := by omega
    rcases hp with hp | hp <;> simp [hp] <;> omega

/-- The store of the last point. -/
theorem entry10_read (q : Fin 720) (r : Fin 128) :
    arg10.view.read (Elt Ideal) (arg10.view.writes (Elt Ideal) f10 (entry10 arg1 arg2 arg3 arg4 f1 f2 f3 f4)) (ix2 q r)
      = mm (arg1.view.read (Elt Ideal) f1) (arg2.view.read (Elt Ideal) f2) (arg3.view.read (Elt Ideal) f3) (arg4.view.read (Elt Ideal) f4) q (col 0 r) := by
  unfold entry10
  refine (View.read_writes_cons_unit_of_mem arg10.view f10 _ _ [] (ix2 q r) (ix2 q r) rfl fun a => by
    match a with
    | ⟨0, _⟩ => exact (Nat.zero_add _).symm
    | ⟨1, _⟩ => exact (Nat.zero_add _).symm).trans ?_
  unfold k0_pay11
  exact (slice2_axis1_apply 0 _ _ q r (col 0 r) rfl).trans (loaded arg1 arg2 arg3 arg4 f1 f2 f3 f4 q (col 0 r))

/-! ## The convolution and the new cache -/

/-- The block of q, k and v after the convolution. -/
theorem conv8_read (p : Fin 2) (q : Fin 720) (r : Fin 128) :
    arg8.view.read (Elt Ideal) (conv8 c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1) (ix3 p q r)
      = actAt (arg5.view.read (Elt Ideal) f5) (arg6.view.read (Elt Ideal) f6) (given arg1 arg2 arg3 arg4 f1 f2 f3 f4) p q r := by
  unfold conv8
  rw [View.writes_append]
  refine ((loop8 c i arg1 harg1 arg2 harg2 arg3 harg3 arg4 harg4 arg5 harg5 arg6 harg6 arg7 harg7 arg8 harg8 arg9 harg9 arg10 harg10 arg11 harg11 arg12 harg12 h1 f5 f6 f7 (arg8.view.writes (Elt Ideal) arg8.view.junk (entry8 arg1 arg2 arg3 arg4 f1 f2 f3 f4)) f11 f12
    k0_t1_loop.trips le_rfl p q r).yes (by rw [trips_eq]; omega)).trans ?_
  exact act_congr _ _ _ _ p q r fun r' _ => entry8_read arg1 arg2 arg3 arg4 arg8 f1 f2 f3 f4 p r' r

/-- The block of the new cache after the convolution. -/
theorem conv11_read (p : Fin 144) (q : Fin 3) (r : Fin 256) :
    arg11.view.read (Elt Ideal) (conv11 c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1) (ix3 p q r)
      = keptAt (arg6.view.read (Elt Ideal) f6) (arg7.view.read (Elt Ideal) f7) (given arg1 arg2 arg3 arg4 f1 f2 f3 f4) p q r := by
  unfold conv11
  refine ((loop11 c i arg1 harg1 arg2 harg2 arg3 harg3 arg4 harg4 arg5 harg5 arg6 harg6 arg7 harg7 arg8 harg8 arg9 harg9 arg10 harg10 arg11 harg11 arg12 harg12 h1 f5 f6 f7 (arg8.view.writes (Elt Ideal) arg8.view.junk (entry8 arg1 arg2 arg3 arg4 f1 f2 f3 f4)) f11 f12
    k0_t1_loop.trips le_rfl p q r).yes (by rw [trips_eq]; omega)).trans ?_
  exact kept_congr _ _ _ _ p q r fun l r' n _ => entry8_read arg1 arg2 arg3 arg4 arg8 f1 f2 f3 f4 l r' n

/-! ## The normalisation -/

/-- A block divided by the norm of each of its rows of 256, at points of q times one over the square root of 256. -/
def norm (i0 : Nat) (C : S2x720x128.Idx → EReal) (q : Fin 720) (e : Fin 256) : EReal :=
  C (ix3 (⟨e.val / 128, by omega⟩ : Fin 2) q (⟨e.val % 128, by omega⟩ : Fin 128))
    * Ideal.rsqrt ((∑ f : Fin 256, C (ix3 (⟨f.val / 128, by omega⟩ : Fin 2) q (⟨f.val % 128, by omega⟩ : Fin 128))
        * C (ix3 (⟨f.val / 128, by omega⟩ : Fin 2) q (⟨f.val % 128, by omega⟩ : Fin 128))) + eps)
    * (if i0 < 3 then sixteenth else 1)

/-- The two loaded halves side by side. -/
theorem joined (C : S2x720x128.Idx → EReal) (lo hi : Vec Ideal S1x720x128 .f32) (hlo : ∀ q r, lo (ix3 (0 : Fin 1) q r) = C (ix3 (0 : Fin 2) q r))
    (hhi : ∀ q r, hi (ix3 (0 : Fin 1) q r) = C (ix3 (1 : Fin 2) q r)) (h h' h'') (q : Fin 720) (e : Fin 256) :
    concatenate S720x256 1 [⟨S720x128, shapeCast S720x128 lo h⟩, ⟨S720x128, shapeCast S720x128 hi h'⟩] h'' (ix2 q e)
      = C (ix3 (⟨e.val / 128, by omega⟩ : Fin 2) q (⟨e.val % 128, by omega⟩ : Fin 128)) := by
  by_cases he : e.val < 128
  · refine Eq.trans (concatenate_apply_piece (t := S720x256) _ _ _ _ 0 (by simp) S720x128 (shapeCast S720x128 lo h) rfl rfl 0 rfl (ix2 q (⟨e.val, he⟩ : Fin 128))
      (fun b hb => by match b with | ⟨0, _⟩ => rfl | ⟨1, _⟩ => exact absurd rfl hb) (by show 0 + e.val = e.val; omega)) ?_
    rw [shapeCast_1ab_ab_apply, hlo]
    refine congrArg C ?_
    rw [show (⟨e.val / 128, by omega⟩ : Fin 2) = 0 from Fin.ext (by show e.val / 128 = 0; omega),
      show (⟨e.val % 128, by omega⟩ : Fin 128) = ⟨e.val, he⟩ from Fin.ext (by show e.val % 128 = e.val; omega)]
  · refine Eq.trans (concatenate_apply_piece (t := S720x256) _ _ _ _ 1 (by simp) S720x128 (shapeCast S720x128 hi h') rfl rfl 128 rfl (ix2 q (⟨e.val - 128, by omega⟩ : Fin 128))
      (fun b hb => by match b with | ⟨0, _⟩ => rfl | ⟨1, _⟩ => exact absurd rfl hb) (by show 128 + (e.val - 128) = e.val; omega)) ?_
    rw [shapeCast_1ab_ab_apply, hhi]
    refine congrArg C ?_
    rw [show (⟨e.val / 128, by omega⟩ : Fin 2) = 1 from Fin.ext (by show e.val / 128 = 1; omega),
      show (⟨e.val % 128, by omega⟩ : Fin 128) = ⟨e.val - 128, by omega⟩ from Fin.ext (by show e.val % 128 = e.val - 128; omega)]

theorem factor (i : grid0.Coords) : (Scalar.select (Scalar.cmpi .slt (BitVec.ofNat 32 (i 0).val) 3#32) (Scalar.ofBits (F := Ideal) .f32 0x3D800000#32) (Scalar.ofBits (F := Ideal) .f32 0x3F800000#32) : EReal)
    = if (i 0).val < 3 then sixteenth else 1 := by
  have h : ∀ n : Fin 31, Scalar.cmpi .slt (BitVec.ofNat 32 n.val) 3#32 = if n.val < 3 then 1#1 else 0#1 := by decide +kernel
  rw [h (i 0)]
  by_cases hi : (i 0).val < 3
  · rw [if_pos hi, if_pos hi]; rfl
  · rw [if_neg hi, if_neg hi]; exact Ideal.ofBits_one_f32

theorem pay6_apply (C : S2x720x128.Idx → EReal) (lo hi : Vec Ideal S1x720x128 .f32) (hlo : ∀ q r, lo (ix3 (0 : Fin 1) q r) = C (ix3 (0 : Fin 2) q r))
    (hhi : ∀ q r, hi (ix3 (0 : Fin 1) q r) = C (ix3 (1 : Fin 2) q r)) (q : Fin 720) (e : Fin 256) :
    k0_pay6 i lo hi (ix2 q e) = norm (i 0).val C q e := by
  unfold k0_pay6 norm
  simp only [mulf_apply, Ideal.mulf_def]
  refine congrArg₂ (· * ·) (congrArg₂ (· * ·) (joined C lo hi hlo hhi _ _ _ q e) ?_) (factor i)
  rw [scale_col]
  simp only [rsqrt_apply, addf_apply, Ideal.addf_def, Ideal.rsqrt_def]
  refine congrArg Ideal.rsqrt (congrArg₂ (· + ·) ?_ rfl)
  refine (shapeCast_apply _ _ _ (ix1 q) (by
    rewrite [Shape.rowMajor_val_one, Shape.rowMajor_val_two]
    show q.val = q.val * 1 + 0; omega)).trans ?_
  refine (Ideal.multiReduction_add_single _ _ _ _ _ _).trans ?_
  refine Finset.sum_congr rfl fun f _ => ?_
  have hl : reduces_S720x256_S720.lift (ix1 q) f = ix2 q f := funext fun a => Fin.ext (by
    match a with
    | ⟨0, _⟩ => rfl
    | ⟨1, _⟩ => rfl)
  refine (congrArg (fun j => (concatenate S720x256 1 [⟨S720x128, shapeCast S720x128 lo shapeCasts_S1x720x128_S720x128⟩, ⟨S720x128, shapeCast S720x128 hi shapeCasts_S1x720x128_S720x128⟩] concatenates_S720x128_S720x128_S720x256_d1 j : EReal)
    * concatenate S720x256 1 [⟨S720x128, shapeCast S720x128 lo shapeCasts_S1x720x128_S720x128⟩, ⟨S720x128, shapeCast S720x128 hi shapeCasts_S1x720x128_S720x128⟩] concatenates_S720x128_S720x128_S720x256_d1 j) hl).trans ?_
  exact congrArg₂ (· * ·) (joined C lo hi hlo hhi _ _ _ q f) (joined C lo hi hlo hhi _ _ _ q f)

/-- The block of q or k after the normalisation. -/
theorem norm8_read (p : Fin 2) (q : Fin 720) (r : Fin 128) :
    arg8.view.read (Elt Ideal) (norm8 c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1) (ix3 p q r)
      = norm (i 0).val (fun j => actAt (arg5.view.read (Elt Ideal) f5) (arg6.view.read (Elt Ideal) f6) (given arg1 arg2 arg3 arg4 f1 f2 f3 f4) (j 0) (j 1) (j 2)) q (col p r) := by
  have H := pay6_apply i (fun j => actAt (arg5.view.read (Elt Ideal) f5) (arg6.view.read (Elt Ideal) f6) (given arg1 arg2 arg3 arg4 f1 f2 f3 f4) (j 0) (j 1) (j 2))
    (View.readAt (Elt Ideal) arg8.view (Rect.unit (s := S2x720x128) ![0, 0, 0] S1x720x128.size inb_S2x720x128_S1x720x128_0_0_0).toLoadRect (conv8 c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1))
    (View.readAt (Elt Ideal) arg8.view (Rect.unit (s := S2x720x128) ![1, 0, 0] S1x720x128.size inb_S2x720x128_S1x720x128_1_0_0).toLoadRect (conv8 c i arg1 harg1 arg2 harg2 arg3 harg3 arg4 harg4 arg5 harg5 arg6 harg6 arg7 harg7 arg8 harg8 arg9 harg9 arg10 harg10 arg11 harg11 arg12 harg12 f1 f2 f3 f4 f5 f6 f7 f11 f12 h1))
    (fun q r => (View.ld_unit_apply_of _ _ _ _ _ (ix3 (0 : Fin 2) q r) (fun a => by
      match a with
      | ⟨0, _⟩ => rfl
      | ⟨1, _⟩ => exact (Nat.zero_add _).symm
      | ⟨2, _⟩ => exact (Nat.zero_add _).symm)).trans (conv8_read c i arg1 harg1 arg2 harg2 arg3 harg3 arg4 harg4 arg5 harg5 arg6 harg6 arg7 harg7 arg8 harg8 arg9 harg9 arg10 harg10 arg11 harg11 arg12 harg12 h1 f1 f2 f3 f4 f5 f6 f7 f11 f12 0 q r))
    (fun q r => (View.ld_unit_apply_of _ _ _ _ _ (ix3 (1 : Fin 2) q r) (fun a => by
      match a with
      | ⟨0, _⟩ => rfl
      | ⟨1, _⟩ => exact (Nat.zero_add _).symm
      | ⟨2, _⟩ => exact (Nat.zero_add _).symm)).trans (conv8_read c i arg1 harg1 arg2 harg2 arg3 harg3 arg4 harg4 arg5 harg5 arg6 harg6 arg7 harg7 arg8 harg8 arg9 harg9 arg10 harg10 arg11 harg11 arg12 harg12 h1 f1 f2 f3 f4 f5 f6 f7 f11 f12 1 q r))
  have hp : p.val = 0 ∨ p.val = 1 := by omega
  unfold norm8
  rcases hp with hp | hp
  · obtain rfl : p = 0 := Fin.ext hp
    refine (View.read_writes_cons_unit_of_not_mem arg8.view _ _ _ _ (ix3 (0 : Fin 2) q r) rfl (0 : Fin 3) (Or.inl (by show (0 : Nat) < 1; omega))).trans ?_
    refine (slab_hit arg8.view _ 0 0 0 _ _ _ rfl (0 : Fin 2) q r (0 : Fin 1) q r rfl (Nat.zero_add _).symm (Nat.zero_add _).symm).trans ?_
    unfold k0_pay7
    exact (lower _ _ _ 0 q r).trans (H q (col 0 r))
  · obtain rfl : p = 1 := Fin.ext hp
    refine (slab_hit arg8.view _ 1 0 0 _ _ _ rfl (1 : Fin 2) q r (0 : Fin 1) q r rfl (Nat.zero_add _).symm (Nat.zero_add _).symm).trans ?_
    unfold k0_pay8
    exact (upper _ _ _ 0 q r).trans (H q (col 1 r))

end Cert.InProjIdeal.Point

end
-- ==== Proof.InTile.lean ====
/-
  One grid point of the input projection, from the blocks that it is given to the closed forms: if the blocks are those of tile `t` of the
  argument arrays, what the point computes is tile `t` of the results. No program is mentioned here.
-/
module

public import proofs.«01_k».proof.Proof.InPoint

@[expose] public section

set_option maxRecDepth 16384

noncomputable section

namespace Cert.InProjIdeal.Tile

open Idealize.ShloMosaic hiding ix1 ix2 ix3 ix4 ix5 eq_ix1 eq_ix2 eq_ix3 eq_ix4
open Idealize.ShloMosaic.TcCoe Idealize.ShloMosaic.ValueIdx
open Cert.InProjIdeal Cert.InProjIdeal.Loop Cert.InProjIdeal.Spec Cert.InProjIdeal.Point

variable (x0 : S720x2048.Idx → EReal) (x1 : S720x128.Idx → EReal) (x2 : S2048x7692.Idx → BitVec 8) (x3 : S7692.Idx → EReal)
  (x4 : S4608x4.Idx → EReal) (x5 : S18x36x24x128.Idx → EReal) (x6 : S144.Idx → BitVec 32)
variable (X0 : S720x2048.Idx → EReal) (X1 : S720x128.Idx → EReal) (X2 : S2048x256.Idx → BitVec 8) (X3 : S1x256.Idx → EReal)
  (X4 : S4x256.Idx → EReal) (X5 : S18x2x24x128.Idx → EReal) (X6 : S144x128.Idx → BitVec 32) (t : ℕ)

/-- The blocks of the product are those of tile `t`, as far as the weight has columns. -/
structure Product : Prop where
  codes : ∀ r k, X0 (ix2 r k) = x0 (ix2 r k)
  scales : ∀ r n, X1 (ix2 r n) = x1 (ix2 r n)
  weight : ∀ k (n : Fin 256) (h : 256 * t + n.val < 7692), X2 (ix2 k n) = x2 (ix2 k (⟨256 * t + n.val, h⟩ : Fin 7692))
  wscale : ∀ (n : Fin 256) (h : 256 * t + n.val < 7692), X3 (ix2 (0 : Fin 1) n) = x3 (ix1 (⟨256 * t + n.val, h⟩ : Fin 7692))

/-- The blocks of the convolution are those of tile `t`. -/
structure Taps (ht : t < 18) : Prop where
  taps : ∀ (a : Fin 4) (n : Fin 256), X4 (ix2 a n) = x4 (ix2 (⟨256 * t + n.val, by omega⟩ : Fin 4608) a)
  cached : ∀ (g : Fin 18) (l : Fin 2) (d : Fin 24) (n : Fin 128), X5 (ix4 g l d n) = x5 (ix4 g (⟨2 * t + l.val, by omega⟩ : Fin 36) d n)
  accepted : ∀ (b : Fin 144) (n : Fin 128), X6 (ix2 b n) = x6 (ix1 b)

variable {x0 x1 x2 x3 x4 x5 x6 X0 X1 X2 X3 X4 X5 X6 t}

theorem mm_eq (H : Product x0 x1 x2 x3 X0 X1 X2 X3 t) (r : Fin 720) (n : Fin 256) (h : 256 * t + n.val < 7692) :
    mm X0 X1 X2 X3 r n = prod x0 x1 x2 x3 r ⟨256 * t + n.val, h⟩ := by
  unfold mm prod
  rw [H.scales, H.wscale n h]
  exact congrArg (· * _) (Finset.sum_congr rfl fun k _ => by rw [H.codes, H.weight k n h])

/-- The column of the product at lane `n` of half `l`. -/
def feature (ht : t < 18) (l : Fin 2) (n : Fin 128) : Fin 4608 := ⟨256 * t + (128 * l.val + n.val), by omega⟩

theorem ext_eq (H : Product x0 x1 x2 x3 X0 X1 X2 X3 t) (ht : t < 18) (K : Taps x4 x5 x6 X4 X5 X6 t ht) (l : Fin 2) (g : Fin 18) (d i : Fin 8) (n : Fin 128) :
    ext X5 (halves X0 X1 X2 X3) l g d i n = seq x0 x1 x2 x3 x5 g i d (feature ht l n) := by
  unfold ext seq
  by_cases hd : d.val < 3
  · rw [dif_pos hd, dif_pos hd, K.cached]
    refine congrArg x5 ?_
    rw [show (⟨2 * t + l.val, by omega⟩ : Fin 36) = ⟨(feature ht l n).val / 128, by omega⟩ from
        Fin.ext (by show 2 * t + l.val = (256 * t + (128 * l.val + n.val)) / 128; omega),
      show n = (⟨(feature ht l n).val % 128, by omega⟩ : Fin 128) from Fin.ext (by show n.val = (256 * t + (128 * l.val + n.val)) % 128; omega)]
    simp only [show ∀ (n : Fin 128), (⟨(feature ht l n).val % 128, by omega⟩ : Fin 128) = n from
      fun n => Fin.ext (by show (256 * t + (128 * l.val + n.val)) % 128 = n.val; omega)]
  · rw [dif_neg hd, dif_neg hd]
    exact mm_eq H _ (col l n) (by show 256 * t + (128 * l.val + n.val) < 7692; omega)

theorem act_eq (H : Product x0 x1 x2 x3 X0 X1 X2 X3 t) (ht : t < 18) (K : Taps x4 x5 x6 X4 X5 X6 t ht) (l : Fin 2) (r : Fin 720) (n : Fin 128) :
    actAt X4 X5 (halves X0 X1 X2 X3) l r n = conv x0 x1 x2 x3 x4 x5 (rg r) (ri r) (rs r) (feature ht l n) := by
  unfold actAt act conv
  rw [ext_eq H ht K, ext_eq H ht K, ext_eq H ht K, ext_eq H ht K, K.taps, K.taps, K.taps, K.taps]
  rfl

theorem kept_eq (H : Product x0 x1 x2 x3 X0 X1 X2 X3 t) (ht : t < 18) (K : Taps x4 x5 x6 X4 X5 X6 t ht) (b : Fin 144) (d : Fin 3) (e : Fin 256) :
    keptAt X5 X6 (halves X0 X1 X2 X3) b d e = out10 x0 x1 x2 x3 x5 x6 (ix3 b d (⟨256 * t + e.val, by omega⟩ : Fin 4608)) := by
  have he : feature ht (⟨e.val / 128, by omega⟩ : Fin 2) (⟨e.val % 128, by omega⟩ : Fin 128) = ⟨256 * t + e.val, by omega⟩ :=
    Fin.ext (by show 256 * t + (128 * (e.val / 128) + e.val % 128) = 256 * t + e.val; omega)
  unfold keptAt kept out10 cache
  rw [ext_eq H ht K, ext_eq H ht K, ext_eq H ht K, ext_eq H ht K, ext_eq H ht K, K.accepted, he]
  rfl

/-- The features of a tile of q, k or v, in the order of the result. -/
theorem out7_at (ht : t < 18) (p : Fin 2) (q : Fin 720) (r : Fin 128) :
    out7 x0 x1 x2 x3 x4 x5 (ix3 (⟨2 * t + p.val, by omega⟩ : Fin 36) q r) = core x0 x1 x2 x3 x4 x5 (rg q) (ri q) (rs q) (feature ht p r) := by
  unfold out7
  exact congrArg (core x0 x1 x2 x3 x4 x5 (rg q) (ri q) (rs q)) (Fin.ext (by
    show 128 * (2 * t + p.val) + r.val = 256 * t + (128 * p.val + r.val); omega))

theorem conv_core (H : Product x0 x1 x2 x3 X0 X1 X2 X3 t) (ht : t < 18) (K : Taps x4 x5 x6 X4 X5 X6 t ht) (h6 : ¬ t < 6) (p : Fin 2) (q : Fin 720) (r : Fin 128) :
    actAt X4 X5 (halves X0 X1 X2 X3) p q r = out7 x0 x1 x2 x3 x4 x5 (ix3 (⟨2 * t + p.val, by omega⟩ : Fin 36) q r) := by
  rw [out7_at ht, act_eq H ht K]
  unfold core
  have hf : (feature ht p r).val = 256 * t + (128 * p.val + r.val) := rfl
  rw [if_neg (by omega), if_neg (by omega)]

theorem norm_core (H : Product x0 x1 x2 x3 X0 X1 X2 X3 t) (ht : t < 18) (K : Taps x4 x5 x6 X4 X5 X6 t ht) (h6 : t < 6) (p : Fin 2) (q : Fin 720) (r : Fin 128) :
    Point.norm t (fun j => actAt X4 X5 (halves X0 X1 X2 X3) (j 0) (j 1) (j 2)) q (col p r)
      = out7 x0 x1 x2 x3 x4 x5 (ix3 (⟨2 * t + p.val, by omega⟩ : Fin 36) q r) := by
  rw [out7_at ht]
  have hf : (feature ht p r).val = 256 * t + (128 * p.val + r.val) := rfl
  have key : ∀ e : Fin 256, actAt X4 X5 (halves X0 X1 X2 X3) (⟨e.val / 128, by omega⟩ : Fin 2) q (⟨e.val % 128, by omega⟩ : Fin 128)
      = conv x0 x1 x2 x3 x4 x5 (rg q) (ri q) (rs q) ⟨256 * t + e.val, by omega⟩ := fun e => by
    rw [act_eq H ht K]
    exact congrArg _ (Fin.ext (by show 256 * t + (128 * (e.val / 128) + e.val % 128) = 256 * t + e.val; omega))
  have N : Point.norm t (fun j => actAt X4 X5 (halves X0 X1 X2 X3) (j 0) (j 1) (j 2)) q (col p r)
      = normed x0 x1 x2 x3 x4 x5 (rg q) (ri q) (rs q) (feature ht p r) * (if t < 3 then sixteenth else 1) := by
    unfold Point.norm normed
    refine congrArg (· * _) (congrArg₂ (· * ·) (key (col p r)) (congrArg Ideal.rsqrt (congrArg (· + eps) (Finset.sum_congr rfl fun f _ => ?_))))
    have kf := (key f).trans (congrArg (conv x0 x1 x2 x3 x4 x5 (rg q) (ri q) (rs q)) (show (⟨256 * t + f.val, by omega⟩ : Fin 4608)
      = ⟨256 * ((feature ht p r).val / 256) + f.val, by omega⟩ from Fin.ext (by show 256 * t + f.val = 256 * ((feature ht p r).val / 256) + f.val; omega)))
    exact congrArg₂ (· * ·) kf kf
  rw [N]
  unfold core
  by_cases h3 : t < 3
  · rw [if_pos h3, if_pos (by omega)]
  · rw [if_neg h3, if_neg (by omega), if_pos (by omega), mul_one]

end Cert.InProjIdeal.Tile

end
-- ==== Proof.InRunIdeal.lean ====
/-
  The run of the call `in_proj`, for any float values and for any relation `R` between what a staging buffer holds before the body and
  after it. `Keeps` lists what the body's stores have to satisfy; `run` is the whole call.
-/
module

public import proofs.«01_k».proof.Proof.InBodyIdeal
public import Idealize.ShloMosaic.Lib.Pipeline.ArrRel

@[expose] public section

set_option maxRecDepth 16384

noncomputable section

namespace Cert.InProjIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.InProjIdeal Cert.InProjIdeal.Gen Cert.InProjIdeal.Body

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- A relation, for each window and grid point, between what the body finds in the window's staging buffer and what it leaves there. -/
abbrev Rel (F : FTy → Type) [FloatOps F] := (w : Fin cfg0.W) → Fin cfg0.N → (Y X : (cfg0.win w).block.Idx → Elt F (cfg0.win w).elt) → Prop

variable (R : Dev nD → Rel F)

/-- The arrays as the call finds them; the relation `R` for what the body leaves. -/
def rdats (c : Dev nD) : RDat τ (Elt F) Unit ℕ (UR sig nD τ) ℕ cfg0 c where
  A w := V m c (Pipeline.arrRef spec0 w)
  after := R c
  Φ _ := Pipeline.ΦA spec0 c
  q _ := fullShare
  owed _ := 0

/-- Which of the body's four branches each point takes. -/
theorem conds : ∀ t : Fin grid0.N, (k0_cond1 (grid0.coords t) = 1#1 ↔ t.val < 18) ∧ (k0_cond2 (grid0.coords t) = 1#1 ↔ t.val < 6)
    ∧ (k0_cond3 (grid0.coords t) = 1#1 ↔ 18 ≤ t.val ∧ t.val < 30) ∧ (k0_cond4 (grid0.coords t) = 1#1 ↔ t.val = 30) := by decide +kernel

theorem lt31 (t : Fin cfg0.N) : t.val < 31 := t.isLt

/-- The scratch buffer as the body is handed it. -/
abbrev sc : Memref sig .tc .vmem S2x24x128 .f32 := Memref.whole cc0_scratch0
theorem hsc : (sc).IsWhole := Memref.isWhole_whole _

/-- What the body's stores have to satisfy for `R`, given what the staging buffers may hold when the body runs. -/
structure Keeps (c : Dev nD) : Prop where
  /-- A buffer that the body does not write is in the relation to itself. -/
  same : ∀ w t Y, (w.val < 7 ∨ (w.val = 7 ∨ w.val = 10) ∧ 18 ≤ t.val ∨ w.val = 8 ∧ (t.val < 18 ∨ t.val = 30) ∨ w.val = 9 ∧ t.val < 30) → R c w t Y Y
  /-- The block of q, k and v and the block of the new cache, at a point of v. -/
  conv : ∀ (t : Fin cfg0.N) (h1 : k0_cond1 (grid0.coords t) = 1#1), ¬ t.val < 6 → ∀ (Y : (w : Fin cfg0.W) → (cfg0.win w).block.Idx → Elt F (cfg0.win w).elt), (∀ w, (rdats m R c).Finds w t (Y w)) → ∀ (f1 : BufTy.Contents (Elt F) (st0_0 t).view.ty) (f2 : BufTy.Contents (Elt F) (st0_1 t).view.ty) (f3 : BufTy.Contents (Elt F) (st0_2 t).view.ty) (f4 : BufTy.Contents (Elt F) (st0_3 t).view.ty) (f5 : BufTy.Contents (Elt F) (st0_4 t).view.ty) (f6 : BufTy.Contents (Elt F) (st0_5 t).view.ty) (f7 : BufTy.Contents (Elt F) (st0_6 t).view.ty) (f11 : BufTy.Contents (Elt F) (st0_10 t).view.ty) (f12 : BufTy.Contents (Elt F) sc.view.ty),
    (st0_0 t).view.read (Elt F) f1 = Y 0 → (st0_1 t).view.read (Elt F) f2 = Y 1 → (st0_2 t).view.read (Elt F) f3 = Y 2 → (st0_3 t).view.read (Elt F) f4 = Y 3 → (st0_4 t).view.read (Elt F) f5 = Y 4 → (st0_5 t).view.read (Elt F) f6 = Y 5 → (st0_6 t).view.read (Elt F) f7 = Y 6 →
    R c 7 t (Y 7) ((st0_7 t).view.read (Elt F) (conv8 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) sc hsc f1 f2 f3 f4 f5 f6 f7 f11 f12 h1))
      ∧ R c 10 t (Y 10) ((st0_10 t).view.read (Elt F) (conv11 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) sc hsc f1 f2 f3 f4 f5 f6 f7 f11 f12 h1))
  /-- The same at a point of q or k. -/
  qk : ∀ (t : Fin cfg0.N) (h1 : k0_cond1 (grid0.coords t) = 1#1), t.val < 6 → ∀ (Y : (w : Fin cfg0.W) → (cfg0.win w).block.Idx → Elt F (cfg0.win w).elt), (∀ w, (rdats m R c).Finds w t (Y w)) → ∀ (f1 : BufTy.Contents (Elt F) (st0_0 t).view.ty) (f2 : BufTy.Contents (Elt F) (st0_1 t).view.ty) (f3 : BufTy.Contents (Elt F) (st0_2 t).view.ty) (f4 : BufTy.Contents (Elt F) (st0_3 t).view.ty) (f5 : BufTy.Contents (Elt F) (st0_4 t).view.ty) (f6 : BufTy.Contents (Elt F) (st0_5 t).view.ty) (f7 : BufTy.Contents (Elt F) (st0_6 t).view.ty) (f11 : BufTy.Contents (Elt F) (st0_10 t).view.ty) (f12 : BufTy.Contents (Elt F) sc.view.ty),
    (st0_0 t).view.read (Elt F) f1 = Y 0 → (st0_1 t).view.read (Elt F) f2 = Y 1 → (st0_2 t).view.read (Elt F) f3 = Y 2 → (st0_3 t).view.read (Elt F) f4 = Y 3 → (st0_4 t).view.read (Elt F) f5 = Y 4 → (st0_5 t).view.read (Elt F) f6 = Y 5 → (st0_6 t).view.read (Elt F) f7 = Y 6 →
    R c 7 t (Y 7) ((st0_7 t).view.read (Elt F) (norm8 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) sc hsc f1 f2 f3 f4 f5 f6 f7 f11 f12 h1))
      ∧ R c 10 t (Y 10) ((st0_10 t).view.read (Elt F) (conv11 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) sc hsc f1 f2 f3 f4 f5 f6 f7 f11 f12 h1))
  /-- The block of z. -/
  gate : ∀ (t : Fin cfg0.N), 18 ≤ t.val → t.val < 30 → ∀ (Y : (w : Fin cfg0.W) → (cfg0.win w).block.Idx → Elt F (cfg0.win w).elt), (∀ w, (rdats m R c).Finds w t (Y w)) → ∀ (f1 : BufTy.Contents (Elt F) (st0_0 t).view.ty) (f2 : BufTy.Contents (Elt F) (st0_1 t).view.ty) (f3 : BufTy.Contents (Elt F) (st0_2 t).view.ty) (f4 : BufTy.Contents (Elt F) (st0_3 t).view.ty) (f9 : BufTy.Contents (Elt F) (st0_8 t).view.ty),
    (st0_0 t).view.read (Elt F) f1 = Y 0 → (st0_1 t).view.read (Elt F) f2 = Y 1 → (st0_2 t).view.read (Elt F) f3 = Y 2 → (st0_3 t).view.read (Elt F) f4 = Y 3 →
    R c 8 t (Y 8) ((st0_8 t).view.read (Elt F) ((st0_8 t).view.writes (Elt F) f9 (entry9 (st0_0 t) (st0_1 t) (st0_2 t) (st0_3 t) f1 f2 f3 f4)))
  /-- The block of a and b. -/
  ab : ∀ (t : Fin cfg0.N), t.val = 30 → ∀ (Y : (w : Fin cfg0.W) → (cfg0.win w).block.Idx → Elt F (cfg0.win w).elt), (∀ w, (rdats m R c).Finds w t (Y w)) → ∀ (f1 : BufTy.Contents (Elt F) (st0_0 t).view.ty) (f2 : BufTy.Contents (Elt F) (st0_1 t).view.ty) (f3 : BufTy.Contents (Elt F) (st0_2 t).view.ty) (f4 : BufTy.Contents (Elt F) (st0_3 t).view.ty) (f10 : BufTy.Contents (Elt F) (st0_9 t).view.ty),
    (st0_0 t).view.read (Elt F) f1 = Y 0 → (st0_1 t).view.read (Elt F) f2 = Y 1 → (st0_2 t).view.read (Elt F) f3 = Y 2 → (st0_3 t).view.read (Elt F) f4 = Y 3 →
    R c 9 t (Y 9) ((st0_9 t).view.read (Elt F) ((st0_9 t).view.writes (Elt F) f10 (entry10 (st0_0 t) (st0_1 t) (st0_2 t) (st0_3 t) f1 f2 f3 f4)))

/-- The invariant of the region: the scratch buffer, at any contents, and the generator's register. -/
theorem phi_eq (c : Dev nD) : (Pipeline.ΦA spec0 c : sProp 𝕄) = iprop((∃ X, owns (c : Thread nD τ) sc fullShare X) ∗ ∃ r, prngReg c r) := by
  unfold Pipeline.ΦA
  rw [scopedRest0_eq]
  simp only [owns_whole]
  try rfl

/-- The body table's row at a point is the body on the point's buffers. -/
theorem defs₀_row (t : Fin cfg0.N) :
    defs₀ (F := F) .tc cfg0.body (cfg0.bodyArgs t (cfg0.slots t)) = bodyAt0 t := by
  unfold defs₀; rw [Defs.onTc_tc]

/-- What the body is handed, and what it gives back. -/
def bodyPre (c : Dev nD) (t : Fin cfg0.N) (Y : (w : Fin cfg0.W) → (cfg0.win w).block.Idx → Elt F (cfg0.win w).elt) : sProp 𝕄 :=
  iprop((rdats m R c).Φ t.castSucc ∗ (rdats m R c).owesAt () t.castSucc
    ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10))
def bodyPost (c : Dev nD) (t : Fin cfg0.N) (Y : (w : Fin cfg0.W) → (cfg0.win w).block.Idx → Elt F (cfg0.win w).elt) : sProp 𝕄 :=
  iprop((rdats m R c).Φ t.succ ∗ (rdats m R c).owesAt () t.succ
    ∗ (∃ X, ⌜R c 0 t (Y 0) X⌝ ∗ owns (c : Thread nD τ) (st0_0 t) fullShare X) ∗ (∃ X, ⌜R c 1 t (Y 1) X⌝ ∗ owns (c : Thread nD τ) (st0_1 t) fullShare X) ∗ (∃ X, ⌜R c 2 t (Y 2) X⌝ ∗ owns (c : Thread nD τ) (st0_2 t) fullShare X) ∗ (∃ X, ⌜R c 3 t (Y 3) X⌝ ∗ owns (c : Thread nD τ) (st0_3 t) fullShare X) ∗ (∃ X, ⌜R c 4 t (Y 4) X⌝ ∗ owns (c : Thread nD τ) (st0_4 t) fullShare X) ∗ (∃ X, ⌜R c 5 t (Y 5) X⌝ ∗ owns (c : Thread nD τ) (st0_5 t) fullShare X) ∗ (∃ X, ⌜R c 6 t (Y 6) X⌝ ∗ owns (c : Thread nD τ) (st0_6 t) fullShare X) ∗ (∃ X, ⌜R c 7 t (Y 7) X⌝ ∗ owns (c : Thread nD τ) (st0_7 t) fullShare X) ∗ (∃ X, ⌜R c 8 t (Y 8) X⌝ ∗ owns (c : Thread nD τ) (st0_8 t) fullShare X) ∗ (∃ X, ⌜R c 9 t (Y 9) X⌝ ∗ owns (c : Thread nD τ) (st0_9 t) fullShare X) ∗ (∃ X, ⌜R c 10 t (Y 10) X⌝ ∗ owns (c : Thread nD τ) (st0_10 t) fullShare X))

set_option maxHeartbeats 800000 in
/-- The body at any point, by the branch it takes. -/
theorem sound_body (c : Dev nD) (hR : Keeps m R c) (t : Fin cfg0.N) (Y : (w : Fin cfg0.W) → (cfg0.win w).block.Idx → Elt F (cfg0.win w).elt)
    (hY : ∀ w, (rdats m R c).Finds w t (Y w)) :
    bodyPre m R c t Y ⊢ wp frame (wpE (defs₀ (F := F)) Variants.none c none) Set.univ (bodyAt0 t) (fun _ => bodyPost m R c t Y) := by
  unfold bodyPre bodyPost bodyAt0
  rw [show (rdats m R c).Φ t.succ = (rdats m R c).Φ t.castSucc from rfl,
    show (rdats m R c).owesAt () t.succ = (rdats m R c).owesAt () t.castSucc from rfl,
    show (rdats m R c).Φ t.castSucc = Pipeline.ΦA spec0 c from rfl]
  rw [phi_eq]
  unfold owns
  obtain ⟨e1, e2, e3, e4⟩ := conds t
  have ht := lt31 t
  by_cases h1 : t.val < 18
  · by_cases h2 : t.val < 6
    · iintro ⟨⟨⟨%Xs, %fs, %hfs, HS⟩, HP⟩, Ho, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩
      iapply (Body.sound_qk c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) sc hsc f1 f2 f3 f4 f5 f6 f7 f8 f9 f10 f11 fs (e1.mpr h1) (e2.mpr h2) (fun h => by have := e3.mp h; omega) (fun h => by have := e4.mp h; omega) _)
      isplitl [H1 H2 H3 H4 H5 H6 H7 H8 H9 H10 H11 HS]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact HS
      iintro %g12 ⟨H1, H2, H3, H4, H5, H6, H7, H8, H9, H10, H11, HS⟩
      isplitl [HS HP]
      · isplitl [HS]
        · iexists _; iexists g12; isplitr
          swap; · iexact HS
          ipureintro; rfl
        iexact HP
      isplitl [Ho]; · iexact Ho
      isplitl [H1]
      · iexists _; isplitr
        swap
        · iexists _; isplitr
          swap; · iexact H1
          ipureintro; rfl
        · ipureintro; exact hf1 ▸ hR.same 0 t _ (by simp; try omega)
      isplitl [H2]
      · iexists _; isplitr
        swap
        · iexists _; isplitr
          swap; · iexact H2
          ipureintro; rfl
        · ipureintro; exact hf2 ▸ hR.same 1 t _ (by simp; try omega)
      isplitl [H3]
      · iexists _; isplitr
        swap
        · iexists _; isplitr
          swap; · iexact H3
          ipureintro; rfl
        · ipureintro; exact hf3 ▸ hR.same 2 t _ (by simp; try omega)
      isplitl [H4]
      · iexists _; isplitr
        swap
        · iexists _; isplitr
          swap; · iexact H4
          ipureintro; rfl
        · ipureintro; exact hf4 ▸ hR.same 3 t _ (by simp; try omega)
      isplitl [H5]
      · iexists _; isplitr
        swap
        · iexists _; isplitr
          swap; · iexact H5
          ipureintro; rfl
        · ipureintro; exact hf5 ▸ hR.same 4 t _ (by simp; try omega)
      isplitl [H6]
      · iexists _; isplitr
        swap
        · iexists _; isplitr
          swap; · iexact H6
          ipureintro; rfl
        · ipureintro; exact hf6 ▸ hR.same 5 t _ (by simp; try omega)
      isplitl [H7]
      · iexists _; isplitr
        swap
        · iexists _; isplitr
          swap; · iexact H7
          ipureintro; rfl
        · ipureintro; exact hf7 ▸ hR.same 6 t _ (by simp; try omega)
      isplitl [H8]
      · iexists _; isplitr
        swap
        · iexists _; isplitr
          swap; · iexact H8
          ipureintro; rfl
        · ipureintro; exact (hR.qk t (e1.mpr h1) h2 Y hY f1 f2 f3 f4 f5 f6 f7 f11 fs hf1 hf2 hf3 hf4 hf5 hf6 hf7).1
      isplitl [H9]
      · iexists _; isplitr
        swap
        · iexists _; isplitr
          swap; · iexact H9
          ipureintro; rfl
        · ipureintro; exact hf9 ▸ hR.same 8 t _ (by simp; try omega)
      isplitl [H10]
      · iexists _; isplitr
        swap
        · iexists _; isplitr
          swap; · iexact H10
          ipureintro; rfl
        · ipureintro; exact hf10 ▸ hR.same 9 t _ (by simp; try omega)
      iexists _; isplitr
      swap
      · iexists _; isplitr
        swap; · iexact H11
        ipureintro; rfl
      · ipureintro; exact (hR.qk t (e1.mpr h1) h2 Y hY f1 f2 f3 f4 f5 f6 f7 f11 fs hf1 hf2 hf3 hf4 hf5 hf6 hf7).2
    · iintro ⟨⟨⟨%Xs, %fs, %hfs, HS⟩, HP⟩, Ho, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩
      iapply (Body.sound_conv c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) sc hsc f1 f2 f3 f4 f5 f6 f7 f8 f9 f10 f11 fs (e1.mpr h1) (fun h => h2 (e2.mp h)) (fun h => by have := e3.mp h; omega) (fun h => by have := e4.mp h; omega) _)
      isplitl [H1 H2 H3 H4 H5 H6 H7 H8 H9 H10 H11 HS]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact HS
      iintro %g12 ⟨H1, H2, H3, H4, H5, H6, H7, H8, H9, H10, H11, HS⟩
      isplitl [HS HP]
      · isplitl [HS]
        · iexists _; iexists g12; isplitr
          swap; · iexact HS
          ipureintro; rfl
        iexact HP
      isplitl [Ho]; · iexact Ho
      isplitl [H1]
      · iexists _; isplitr
        swap
        · iexists _; isplitr
          swap; · iexact H1
          ipureintro; rfl
        · ipureintro; exact hf1 ▸ hR.same 0 t _ (by simp; try omega)
      isplitl [H2]
      · iexists _; isplitr
        swap
        · iexists _; isplitr
          swap; · iexact H2
          ipureintro; rfl
        · ipureintro; exact hf2 ▸ hR.same 1 t _ (by simp; try omega)
      isplitl [H3]
      · iexists _; isplitr
        swap
        · iexists _; isplitr
          swap; · iexact H3
          ipureintro; rfl
        · ipureintro; exact hf3 ▸ hR.same 2 t _ (by simp; try omega)
      isplitl [H4]
      · iexists _; isplitr
        swap
        · iexists _; isplitr
          swap; · iexact H4
          ipureintro; rfl
        · ipureintro; exact hf4 ▸ hR.same 3 t _ (by simp; try omega)
      isplitl [H5]
      · iexists _; isplitr
        swap
        · iexists _; isplitr
          swap; · iexact H5
          ipureintro; rfl
        · ipureintro; exact hf5 ▸ hR.same 4 t _ (by simp; try omega)
      isplitl [H6]
      · iexists _; isplitr
        swap
        · iexists _; isplitr
          swap; · iexact H6
          ipureintro; rfl
        · ipureintro; exact hf6 ▸ hR.same 5 t _ (by simp; try omega)
      isplitl [H7]
      · iexists _; isplitr
        swap
        · iexists _; isplitr
          swap; · iexact H7
          ipureintro; rfl
        · ipureintro; exact hf7 ▸ hR.same 6 t _ (by simp; try omega)
      isplitl [H8]
      · iexists _; isplitr
        swap
        · iexists _; isplitr
          swap; · iexact H8
          ipureintro; rfl
        · ipureintro; exact (hR.conv t (e1.mpr h1) h2 Y hY f1 f2 f3 f4 f5 f6 f7 f11 fs hf1 hf2 hf3 hf4 hf5 hf6 hf7).1
      isplitl [H9]
      · iexists _; isplitr
        swap
        · iexists _; isplitr
          swap; · iexact H9
          ipureintro; rfl
        · ipureintro; exact hf9 ▸ hR.same 8 t _ (by simp; try omega)
      isplitl [H10]
      · iexists _; isplitr
        swap
        · iexists _; isplitr
          swap; · iexact H10
          ipureintro; rfl
        · ipureintro; exact hf10 ▸ hR.same 9 t _ (by simp; try omega)
      iexists _; isplitr
      swap
      · iexists _; isplitr
        swap; · iexact H11
        ipureintro; rfl
      · ipureintro; exact (hR.conv t (e1.mpr h1) h2 Y hY f1 f2 f3 f4 f5 f6 f7 f11 fs hf1 hf2 hf3 hf4 hf5 hf6 hf7).2
  · by_cases h3 : t.val < 30
    · iintro ⟨⟨⟨%Xs, %fs, %hfs, HS⟩, HP⟩, Ho, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩
      iapply (Body.sound_gate c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) sc hsc f1 f2 f3 f4 f5 f6 f7 f8 f9 f10 f11 fs (fun h => h1 (e1.mp h)) (e3.mpr ⟨by omega, h3⟩) (fun h => by have := e4.mp h; omega) _)
      isplitl [H1 H2 H3 H4 H5 H6 H7 H8 H9 H10 H11 HS]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact HS
      iintro %g12 ⟨H1, H2, H3, H4, H5, H6, H7, H8, H9, H10, H11, HS⟩
      isplitl [HS HP]
      · isplitl [HS]
        · iexists _; iexists g12; isplitr
          swap; · iexact HS
          ipureintro; rfl
        iexact HP
      isplitl [Ho]; · iexact Ho
      isplitl [H1]
      · iexists _; isplitr
        swap
        · iexists _; isplitr
          swap; · iexact H1
          ipureintro; rfl
        · ipureintro; exact hf1 ▸ hR.same 0 t _ (by simp; try omega)
      isplitl [H2]
      · iexists _; isplitr
        swap
        · iexists _; isplitr
          swap; · iexact H2
          ipureintro; rfl
        · ipureintro; exact hf2 ▸ hR.same 1 t _ (by simp; try omega)
      isplitl [H3]
      · iexists _; isplitr
        swap
        · iexists _; isplitr
          swap; · iexact H3
          ipureintro; rfl
        · ipureintro; exact hf3 ▸ hR.same 2 t _ (by simp; try omega)
      isplitl [H4]
      · iexists _; isplitr
        swap
        · iexists _; isplitr
          swap; · iexact H4
          ipureintro; rfl
        · ipureintro; exact hf4 ▸ hR.same 3 t _ (by simp; try omega)
      isplitl [H5]
      · iexists _; isplitr
        swap
        · iexists _; isplitr
          swap; · iexact H5
          ipureintro; rfl
        · ipureintro; exact hf5 ▸ hR.same 4 t _ (by simp; try omega)
      isplitl [H6]
      · iexists _; isplitr
        swap
        · iexists _; isplitr
          swap; · iexact H6
          ipureintro; rfl
        · ipureintro; exact hf6 ▸ hR.same 5 t _ (by simp; try omega)
      isplitl [H7]
      · iexists _; isplitr
        swap
        · iexists _; isplitr
          swap; · iexact H7
          ipureintro; rfl
        · ipureintro; exact hf7 ▸ hR.same 6 t _ (by simp; try omega)
      isplitl [H8]
      · iexists _; isplitr
        swap
        · iexists _; isplitr
          swap; · iexact H8
          ipureintro; rfl
        · ipureintro; exact hf8 ▸ hR.same 7 t _ (by simp; try omega)
      isplitl [H9]
      · iexists _; isplitr
        swap
        · iexists _; isplitr
          swap; · iexact H9
          ipureintro; rfl
        · ipureintro; exact hR.gate t (by omega) h3 Y hY f1 f2 f3 f4 f9 hf1 hf2 hf3 hf4
      isplitl [H10]
      · iexists _; isplitr
        swap
        · iexists _; isplitr
          swap; · iexact H10
          ipureintro; rfl
        · ipureintro; exact hf10 ▸ hR.same 9 t _ (by simp; try omega)
      iexists _; isplitr
      swap
      · iexists _; isplitr
        swap; · iexact H11
        ipureintro; rfl
      · ipureintro; exact hf11 ▸ hR.same 10 t _ (by simp; try omega)
    · iintro ⟨⟨⟨%Xs, %fs, %hfs, HS⟩, HP⟩, Ho, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩
      iapply (Body.sound_ab c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) sc hsc f1 f2 f3 f4 f5 f6 f7 f8 f9 f10 f11 fs (fun h => h1 (e1.mp h)) (fun h => by have := e3.mp h; omega) (e4.mpr (by omega)) _)
      isplitl [H1 H2 H3 H4 H5 H6 H7 H8 H9 H10 H11 HS]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact HS
      iintro %g12 ⟨H1, H2, H3, H4, H5, H6, H7, H8, H9, H10, H11, HS⟩
      isplitl [HS HP]
      · isplitl [HS]
        · iexists _; iexists g12; isplitr
          swap; · iexact HS
          ipureintro; rfl
        iexact HP
      isplitl [Ho]; · iexact Ho
      isplitl [H1]
      · iexists _; isplitr
        swap
        · iexists _; isplitr
          swap; · iexact H1
          ipureintro; rfl
        · ipureintro; exact hf1 ▸ hR.same 0 t _ (by simp; try omega)
      isplitl [H2]
      · iexists _; isplitr
        swap
        · iexists _; isplitr
          swap; · iexact H2
          ipureintro; rfl
        · ipureintro; exact hf2 ▸ hR.same 1 t _ (by simp; try omega)
      isplitl [H3]
      · iexists _; isplitr
        swap
        · iexists _; isplitr
          swap; · iexact H3
          ipureintro; rfl
        · ipureintro; exact hf3 ▸ hR.same 2 t _ (by simp; try omega)
      isplitl [H4]
      · iexists _; isplitr
        swap
        · iexists _; isplitr
          swap; · iexact H4
          ipureintro; rfl
        · ipureintro; exact hf4 ▸ hR.same 3 t _ (by simp; try omega)
      isplitl [H5]
      · iexists _; isplitr
        swap
        · iexists _; isplitr
          swap; · iexact H5
          ipureintro; rfl
        · ipureintro; exact hf5 ▸ hR.same 4 t _ (by simp; try omega)
      isplitl [H6]
      · iexists _; isplitr
        swap
        · iexists _; isplitr
          swap; · iexact H6
          ipureintro; rfl
        · ipureintro; exact hf6 ▸ hR.same 5 t _ (by simp; try omega)
      isplitl [H7]
      · iexists _; isplitr
        swap
        · iexists _; isplitr
          swap; · iexact H7
          ipureintro; rfl
        · ipureintro; exact hf7 ▸ hR.same 6 t _ (by simp; try omega)
      isplitl [H8]
      · iexists _; isplitr
        swap
        · iexists _; isplitr
          swap; · iexact H8
          ipureintro; rfl
        · ipureintro; exact hf8 ▸ hR.same 7 t _ (by simp; try omega)
      isplitl [H9]
      · iexists _; isplitr
        swap
        · iexists _; isplitr
          swap; · iexact H9
          ipureintro; rfl
        · ipureintro; exact hf9 ▸ hR.same 8 t _ (by simp; try omega)
      isplitl [H10]
      · iexists _; isplitr
        swap
        · iexists _; isplitr
          swap; · iexact H10
          ipureintro; rfl
        · ipureintro; exact hR.ab t (by omega) Y hY f1 f2 f3 f4 f10 hf1 hf2 hf3 hf4
      iexists _; isplitr
      swap
      · iexists _; isplitr
        swap; · iexact H11
        ipureintro; rfl
      · ipureintro; exact hf11 ▸ hR.same 10 t _ (by simp; try omega)

/-- The library's body obligation, from `sound_body`. -/
theorem body_obligation (c : Dev nD) (hR : Keeps m R c) : (rdats m R c).BodyObligation (defs₀ (F := F)) Variants.none () Set.univ := fun t Y hY => by
  rw [bigSep_W0, bigSep_W0, defs₀_row]
  exact triple_restated (sound_body m R c hR t Y hY) rfl .rfl fun _ => .rfl

set_option backward.isDefEq.respectTransparency.types false in
set_option maxHeartbeats 800000 in
/-- The call, from any memory with zero counters: every weakly fair execution terminates, each array ends in the relation, every other
    array of the caller's ends as it began, and every counter ends at zero. -/
theorem run (hR : ∀ c, Keeps m R c) : θ_run defs (onTc (τ := τ) (main (F := F))) (s₀ m ρ)
    (fun r => RDat.FramePost cfg0 (rdats m R) (V m) r ∧ r.2.sem = fun _ => 0) :=
  Pipeline.RDat.θ_run_frame (Q' := _) cfgs (0 : Fin 1) launch0 defs₀ Variants.none (rdats m R) m ρ main
    (hbody := fun c => body_obligation m R c (hR c)) (hshare := fun c w => by unfold RDat.share; split <;> rfl)
    (howed := fun _ _ => rfl) (V := V m) (hmain := hmain m Variants.none) (hA := fun _ _ => rfl) (hΦ := fun _ _ => rfl)

/-- The arguments end as they began, off the run's post. -/
theorem kept (r : PUnit × MemSt nD τ sig (Elt F)) (h : RDat.FramePost cfg0 (rdats m R) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h.arr_in c 0 rfl).trans (V_main_arg0 m c), (h.arr_in c 1 rfl).trans (V_main_arg1 m c), (h.arr_in c 2 rfl).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   (h.arr_in c 5 rfl).trans (V_main_arg5 m c),
   ((h c).2 main_arg6 (Pipeline.mem_restRefs_of main_arg6 (by decide) (by decide))).trans (V_main_arg6 m c)⟩

/-- THE FRAME of the call: it terminates without fault, its arguments end as they began, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => kept m (fun _ _ _ _ _ => True) r h.1 c, h.2⟩)
    (run m ρ (fun _ _ _ _ _ => True) fun c => ⟨fun _ _ _ _ => trivial, by intros; exact ⟨trivial, trivial⟩, by intros; exact ⟨trivial, trivial⟩,
      by intros; trivial, by intros; trivial⟩)

end Cert.InProjIdeal.Run

end
-- ==== Proof.InValue.lean ====
/-
  The values of the call `in_proj`, over the extended reals: `rel` says what each grid point leaves in the staging buffers, `keeps` that the
  body's stores satisfy it, and `run` what the whole call leaves in its four result arrays.
-/
module

public import proofs.«01_k».proof.Proof.InTile
public import proofs.«01_k».proof.Proof.InRunIdeal
public import Idealize.ShloMosaic.Lib.Pipeline.ValueKit

@[expose] public section

set_option maxRecDepth 16384

noncomputable section

namespace Cert.InProjIdeal.InValue

open Idealize.ShloMosaic hiding ix1 ix2 ix3 ix4 ix5 eq_ix1 eq_ix2 eq_ix3 eq_ix4
open Idealize.ShloMosaic.TcCoe Idealize.SL.Sem Idealize.ShloMosaic.ValueIdx Idealize.ShloMosaic.Tactic
open Idealize.ShloMosaic.Pipeline (RDat Cfg Window Dat)
open Cert.InProjIdeal Cert.InProjIdeal.Gen Cert.InProjIdeal.Body Cert.InProjIdeal.Loop Cert.InProjIdeal.Spec Cert.InProjIdeal.Point
open Cert.InProjIdeal.Run (Rel rdats Keeps conds lt31 sc hsc)

variable (m : (ℓ : Loc nD τ sig) → Buf (Elt Ideal) ℓ) (ρ : Dev nD → PrngReg) (c : Dev nD)

/-! ## The argument arrays -/

abbrev a0 : S720x2048.Idx → EReal := m ((c : Thread nD τ).loc main_arg0)
abbrev a1 : S720x128.Idx → EReal := m ((c : Thread nD τ).loc main_arg1)
abbrev a2 : S2048x7692.Idx → BitVec 8 := m ((c : Thread nD τ).loc main_arg2)
abbrev a3 : S7692.Idx → EReal := m ((c : Thread nD τ).loc main_arg3)
abbrev a4 : S4608x4.Idx → EReal := m ((c : Thread nD τ).loc main_arg4)
abbrev a5 : S18x36x24x128.Idx → EReal := m ((c : Thread nD τ).loc main_arg5)
abbrev a6 : S144.Idx → BitVec 32 := m ((c : Thread nD τ).loc main_arg6)

/-- The column scales as the region finds them: one row. -/
theorem scales_row (n : Fin 7692) : (V m c main_v2 : S1x7692.Idx → EReal) (ix2 (0 : Fin 1) n) = a3 m c (ix1 n) := by
  have h : (V m c main_v2 : S1x7692.Idx → EReal) = shapeCast S1x7692 (a3 m c) shapeCasts_S7692_S1x7692 := by
    unfold V; after_results <;> rfl
  rw [h]
  exact shapeCast_a_1a_apply _ _ _ _

/-- The taps as the region finds them: transposed. -/
theorem taps_rows (a : Fin 4) (e : Fin 4608) : (V m c main_v3 : S4x4608.Idx → EReal) (ix2 a e) = a4 m c (ix2 e a) := by
  have h : (V m c main_v3 : S4x4608.Idx → EReal) = transpose S4x4608 [1, 0] (a4 m c) transposes_S4608x4_S4x4608_1_0 := by
    unfold V; after_results <;> rfl
  rw [h]
  exact transpose_ix2_apply _ _ a e

/-- The accepted lengths as the region finds them: one in each lane of a run's row. -/
theorem accepted_cols (b : Fin 144) (n : Fin 128) : (V m c main_v1 : S144x128.Idx → BitVec 32) (ix2 b n) = a6 m c (ix1 b) := by
  have h : (V m c main_v1 : S144x128.Idx → BitVec 32)
      = broadcastInDim S144x128 ![0, 1] bcast_S144x1_S144x128_0_1 (broadcastInDim S144x1 ![0] bcast_S144_S144x1_0 (a6 m c)) := by
    unfold V; after_results <;> rfl
  rw [h]
  refine (broadcastInDim_apply ![0, 1] bcast_S144x1_S144x128_0_1 _ (ix2 b n) (ix2 b (0 : Fin 1)) (fun a => by
    match a with
    | ⟨0, _⟩ => exact (if_neg (show ¬ (144 : Nat) = 1 by decide)).symm
    | ⟨1, _⟩ => exact (if_pos rfl).symm)).trans ?_
  exact broadcastInDim_apply ![0] bcast_S144_S144x1_0 _ (ix2 b (0 : Fin 1)) (ix1 b) (fun a => by
    match a with
    | ⟨0, _⟩ => exact (if_neg (show ¬ (144 : Nat) = 1 by decide)).symm)

/-! ## The schedule -/

theorem inputs : ∀ w : Fin 11, w.val < 7 → ∀ t : Fin grid0.N, (t.val = 0 → (win0 w).fetch t = true) ∧ (win0 w).flush t = false := by decide +kernel

theorem early : ∀ t : Fin grid0.N, t.val < 18 → win0_4.fetch t = true ∧ win0_5.fetch t = true := by decide +kernel

theorem outputs : ∀ t : Fin grid0.N, (win0_7.fetch t = false ∧ win0_8.fetch t = false ∧ win0_10.fetch t = false)
    ∧ (17 ≤ t.val → t.val < 30 → win0_7.flush t = false ∧ win0_10.flush t = false) ∧ (t.val = 29 → win0_8.flush t = false)
    ∧ (win0_8.flush t = true → 18 ≤ t.val) ∧ (win0_9.flush t = true → t.val = 30) := by decide +kernel

theorem index_in : ∀ t : Fin cfg0.N, win0_0.index t 0 = 0 ∧ win0_0.index t 1 = 0 ∧ win0_1.index t 0 = 0 ∧ win0_1.index t 1 = 0
    ∧ win0_2.index t 0 = 0 ∧ win0_2.index t 1 = t.val ∧ win0_3.index t 0 = 0 ∧ win0_3.index t 1 = t.val
    ∧ win0_6.index t 0 = 0 ∧ win0_6.index t 1 = 0 :=
  (by decide +kernel : ∀ t : Fin grid0.N, win0_0.index t 0 = 0 ∧ win0_0.index t 1 = 0 ∧ win0_1.index t 0 = 0 ∧ win0_1.index t 1 = 0
    ∧ win0_2.index t 0 = 0 ∧ win0_2.index t 1 = t.val ∧ win0_3.index t 0 = 0 ∧ win0_3.index t 1 = t.val
    ∧ win0_6.index t 0 = 0 ∧ win0_6.index t 1 = 0)

theorem index_conv : ∀ t : Fin cfg0.N, t.val < 18 → win0_4.index t 0 = 0 ∧ win0_4.index t 1 = t.val
    ∧ win0_5.index t 0 = 0 ∧ win0_5.index t 1 = t.val ∧ win0_5.index t 2 = 0 ∧ win0_5.index t 3 = 0 :=
  (by decide +kernel : ∀ t : Fin grid0.N, t.val < 18 → win0_4.index t 0 = 0 ∧ win0_4.index t 1 = t.val
    ∧ win0_5.index t 0 = 0 ∧ win0_5.index t 1 = t.val ∧ win0_5.index t 2 = 0 ∧ win0_5.index t 3 = 0)

theorem index_out : ∀ t : Fin cfg0.N, win0_7.index t 0 = min t.val 17 ∧ win0_7.index t 1 = 0 ∧ win0_7.index t 2 = 0
    ∧ win0_8.index t 0 = min (t.val - 18) 11 ∧ win0_8.index t 1 = 0 ∧ win0_8.index t 2 = 0 ∧ win0_9.index t 0 = 0 ∧ win0_9.index t 1 = 0
    ∧ win0_10.index t 0 = 0 ∧ win0_10.index t 1 = 0 ∧ win0_10.index t 2 = min t.val 17 :=
  (by decide +kernel : ∀ t : Fin grid0.N, win0_7.index t 0 = min t.val 17 ∧ win0_7.index t 1 = 0 ∧ win0_7.index t 2 = 0
    ∧ win0_8.index t 0 = min (t.val - 18) 11 ∧ win0_8.index t 1 = 0 ∧ win0_8.index t 2 = 0 ∧ win0_9.index t 0 = 0 ∧ win0_9.index t 1 = 0
    ∧ win0_10.index t 0 = 0 ∧ win0_10.index t 1 = 0 ∧ win0_10.index t 2 = min t.val 17)

/-- How much of a block of weight columns lies in the array. -/
theorem cut_cols : ∀ t : Fin cfg0.N, win0_2.xsize (grid0.coords t) 0 = 2048 ∧ win0_2.xsize (grid0.coords t) 1 = min 256 (7692 - 256 * t.val)
    ∧ win0_3.xsize (grid0.coords t) 0 = 1 ∧ win0_3.xsize (grid0.coords t) 1 = min 256 (7692 - 256 * t.val) :=
  (by decide +kernel : ∀ t : Fin grid0.N, win0_2.xsize (grid0.coords t) 0 = 2048 ∧ win0_2.xsize (grid0.coords t) 1 = min 256 (7692 - 256 * t.val)
    ∧ win0_3.xsize (grid0.coords t) 0 = 1 ∧ win0_3.xsize (grid0.coords t) 1 = min 256 (7692 - 256 * t.val))

theorem coord : ∀ t : Fin cfg0.N, (grid0.coords t 0).val = t.val := (by decide +kernel : ∀ t : Fin grid0.N, (grid0.coords t 0).val = t.val)

/-! ## What a grid point leaves -/

/-- The block of the first result that is current at point `t`. -/
def is7 (t : ℕ) (X : S2x720x128.Idx → EReal) : Prop :=
  ∀ (p : Fin 2) (q : Fin 720) (r : Fin 128), X (ix3 p q r) = out7 (a0 m c) (a1 m c) (a2 m c) (a3 m c) (a4 m c) (a5 m c) (ix3 (⟨2 * min t 17 + p.val, by omega⟩ : Fin 36) q r)

/-- The block of the second result that is current at point `t`. -/
def is8 (t : ℕ) (X : S2x720x128.Idx → EReal) : Prop :=
  ∀ (p : Fin 2) (q : Fin 720) (r : Fin 128), X (ix3 p q r) = out8 (a0 m c) (a1 m c) (a2 m c) (a3 m c) (ix3 (⟨2 * min (t - 18) 11 + p.val, by omega⟩ : Fin 24) q r)

/-- The lanes of the third result that hold a and b. -/
def is9 (X : S720x128.Idx → EReal) : Prop :=
  ∀ (q : Fin 720) (n : Fin 12), X (ix2 q (⟨n.val, by omega⟩ : Fin 128)) = out9 (a0 m c) (a1 m c) (a2 m c) (a3 m c) q n

/-- The block of the fourth result that is current at point `t`. -/
def is10 (t : ℕ) (X : S144x3x256.Idx → EReal) : Prop :=
  ∀ (b : Fin 144) (d : Fin 3) (e : Fin 256),
    X (ix3 b d e) = out10 (a0 m c) (a1 m c) (a2 m c) (a3 m c) (a5 m c) (a6 m c) (ix3 b d (⟨256 * min t 17 + e.val, by omega⟩ : Fin 4608))

/-- What the body leaves in each window's staging buffer, given what it finds there. -/
def rel (c : Dev nD) : Rel Ideal := fun w t => match w with
  | ⟨7, _⟩ => fun Y X => (t.val < 18 → is7 m c t.val X) ∧ (18 ≤ t.val → X = Y)
  | ⟨8, _⟩ => fun Y X => (18 ≤ t.val → t.val < 30 → is8 m c t.val X) ∧ (t.val = 30 → X = Y)
  | ⟨9, _⟩ => fun _ X => t.val = 30 → is9 m c X
  | ⟨10, _⟩ => fun Y X => (t.val < 18 → is10 m c t.val X) ∧ (18 ≤ t.val → X = Y)
  | ⟨0, _⟩ => fun Y X => X = Y
  | ⟨1, _⟩ => fun Y X => X = Y
  | ⟨2, _⟩ => fun Y X => X = Y
  | ⟨3, _⟩ => fun Y X => X = Y
  | ⟨4, _⟩ => fun Y X => X = Y
  | ⟨5, _⟩ => fun Y X => X = Y
  | ⟨6, _⟩ => fun Y X => X = Y
  | ⟨_ + 11, h⟩ => absurd h (Nat.not_lt.2 (Nat.le_add_left _ _))

abbrev rd : RDat τ (Elt Ideal) Unit ℕ (UR sig nD τ) ℕ cfg0 c := rdats m (rel m) c

theorem rel_in (w : Fin cfg0.W) (hw : w.val < 7) (t : Fin cfg0.N) (Y X) (h : rel m c w t Y X) : X = Y := by
  match w, hw, Y, X, h with
  | ⟨0, _⟩, _, _, _, h => exact h
  | ⟨1, _⟩, _, _, _, h => exact h
  | ⟨2, _⟩, _, _, _, h => exact h
  | ⟨3, _⟩, _, _, _, h => exact h
  | ⟨4, _⟩, _, _, _, h => exact h
  | ⟨5, _⟩, _, _, _, h => exact h
  | ⟨6, _⟩, _, _, _, h => exact h

theorem rel_same (w : Fin cfg0.W) (t : Fin cfg0.N) (Y)
    (h : w.val < 7 ∨ (w.val = 7 ∨ w.val = 10) ∧ 18 ≤ t.val ∨ w.val = 8 ∧ (t.val < 18 ∨ t.val = 30) ∨ w.val = 9 ∧ t.val < 30) : rel m c w t Y Y := by
  match w, Y, h with
  | ⟨0, _⟩, _, _ => exact rfl
  | ⟨1, _⟩, _, _ => exact rfl
  | ⟨2, _⟩, _, _ => exact rfl
  | ⟨3, _⟩, _, _ => exact rfl
  | ⟨4, _⟩, _, _ => exact rfl
  | ⟨5, _⟩, _, _ => exact rfl
  | ⟨6, _⟩, _, _ => exact rfl
  | ⟨7, _⟩, _, h => exact ⟨fun h' => absurd h (by simp; omega), fun _ => rfl⟩
  | ⟨8, _⟩, _, h => exact ⟨fun h' h'' => absurd h (by simp; omega), fun _ => rfl⟩
  | ⟨9, _⟩, _, h => exact fun h' => absurd h (by simp; omega)
  | ⟨10, _⟩, _, h => exact ⟨fun h' => absurd h (by simp; omega), fun _ => rfl⟩

/-! ## What a grid point finds -/

/-- An input's buffer holds the block of some point. -/
theorem finds_input (w : Fin cfg0.W) (hw : w.val < 7) : ∀ (n : ℕ) (t : Fin cfg0.N), t.val = n → ∀ X, (rd m c).Finds w t X → ∃ t' d, X = (rd m c).fetched w t' d
  | n, t, ht, X, h => by
    cases hf : (cfg0.win w).fetch t with
    | true => exact ⟨t, ((rd m c).finds_of_fetch hf X).mp h⟩
    | false =>
      have h0 : t.val ≠ 0 := fun h0 => by
        have := (inputs w hw t).1 h0
        rw [show (win0 w).fetch t = false from hf] at this
        exact Bool.false_ne_true this
      rcases ((rd m c).finds_of_pos hf h0 X).mp h with h | ⟨Y, hY, hX⟩
      · exact absurd ((inputs w hw _).2.symm.trans h) Bool.false_ne_true
      · obtain rfl := rel_in m c w hw _ Y X hX
        exact finds_input w hw (n - 1) _ (by show t.val - 1 = n - 1; omega) _ hY
  termination_by n => n
  decreasing_by omega

theorem found0 (t : Fin cfg0.N) (X) (h : (rd m c).Finds 0 t X) (r : Fin 720) (k : Fin 2048) : (X : S720x2048.Idx → EReal) (ix2 r k) = a0 m c (ix2 r k) := by
  obtain ⟨t', d, rfl⟩ := finds_input m c 0 (by decide) t.val t rfl X h
  obtain ⟨h0, h1, -⟩ := index_in t'
  show iblk m c 0 t' (ix2 r k : S720x2048.Idx) = _
  unfold iblk
  rw [View.read_apply]
  show V m c main_arg0 _ = _
  rw [V_main_arg0]
  congr 1
  funext a; apply Fin.ext
  match a with
  | ⟨0, _⟩ => show win0_0.index t' 0 * 720 + 1 * r.val = r.val; rw [h0]; omega
  | ⟨1, _⟩ => show win0_0.index t' 1 * 2048 + 1 * k.val = k.val; rw [h1]; omega

theorem found1 (t : Fin cfg0.N) (X) (h : (rd m c).Finds 1 t X) (r : Fin 720) (k : Fin 128) : (X : S720x128.Idx → EReal) (ix2 r k) = a1 m c (ix2 r k) := by
  obtain ⟨t', d, rfl⟩ := finds_input m c 1 (by decide) t.val t rfl X h
  obtain ⟨-, -, h0, h1, -⟩ := index_in t'
  show iblk m c 1 t' (ix2 r k : S720x128.Idx) = _
  unfold iblk
  rw [View.read_apply]
  show V m c main_arg1 _ = _
  rw [V_main_arg1]
  congr 1
  funext a; apply Fin.ext
  match a with
  | ⟨0, _⟩ => show win0_1.index t' 0 * 720 + 1 * r.val = r.val; rw [h0]; omega
  | ⟨1, _⟩ => show win0_1.index t' 1 * 128 + 1 * k.val = k.val; rw [h1]; omega

theorem found2 (t : Fin cfg0.N) (X) (h : (rd m c).Finds 2 t X) (k : Fin 2048) (n : Fin 256) (hn : 256 * t.val + n.val < 7692) :
    (X : S2048x256.Idx → BitVec 8) (ix2 k n) = a2 m c (ix2 k (⟨256 * t.val + n.val, hn⟩ : Fin 7692)) := by
  obtain ⟨d, rfl⟩ := ((rd m c).finds_of_fetch (fetch0_2 t) X).mp h
  obtain ⟨-, -, -, -, h0, h1, -⟩ := index_in t
  obtain ⟨c0, c1, -⟩ := cut_cols t
  have hm : win0_2.moved (grid0.coords t) (ix2 k n : S2048x256.Idx) = true := (win0_2.moved_iff _ _).mpr fun a => by
    match a with
    | ⟨0, _⟩ => show k.val < win0_2.xsize (grid0.coords t) 0; rw [c0]; omega
    | ⟨1, _⟩ => show n.val < win0_2.xsize (grid0.coords t) 1; rw [c1]; omega
  show win0_2.fill (grid0.coords t) d (iblk m c 2 t) (ix2 k n : S2048x256.Idx) = _
  unfold Window.fill
  rw [dif_pos hm]
  unfold iblk
  rw [View.read_apply]
  show V m c main_arg2 _ = _
  rw [V_main_arg2]
  congr 1
  funext a; apply Fin.ext
  match a with
  | ⟨0, _⟩ => show win0_2.index t 0 * 2048 + 1 * k.val = k.val; rw [h0]; omega
  | ⟨1, _⟩ => show win0_2.index t 1 * 256 + 1 * n.val = 256 * t.val + n.val; rw [h1]; omega

theorem found3 (t : Fin cfg0.N) (X) (h : (rd m c).Finds 3 t X) (n : Fin 256) (hn : 256 * t.val + n.val < 7692) :
    (X : S1x256.Idx → EReal) (ix2 (0 : Fin 1) n) = a3 m c (ix1 (⟨256 * t.val + n.val, hn⟩ : Fin 7692)) := by
  obtain ⟨d, rfl⟩ := ((rd m c).finds_of_fetch (fetch0_3 t) X).mp h
  obtain ⟨-, -, -, -, -, -, h0, h1, -⟩ := index_in t
  obtain ⟨-, -, c0, c1⟩ := cut_cols t
  have hm : win0_3.moved (grid0.coords t) (ix2 (0 : Fin 1) n : S1x256.Idx) = true := (win0_3.moved_iff _ _).mpr fun a => by
    match a with
    | ⟨0, _⟩ => show 0 < win0_3.xsize (grid0.coords t) 0; rw [c0]; omega
    | ⟨1, _⟩ => show n.val < win0_3.xsize (grid0.coords t) 1; rw [c1]; omega
  rw [← scales_row m c]
  show win0_3.fill (grid0.coords t) d (iblk m c 3 t) (ix2 (0 : Fin 1) n : S1x256.Idx) = _
  unfold Window.fill
  rw [dif_pos hm]
  unfold iblk
  rw [View.read_apply]
  show V m c main_v2 _ = V m c main_v2 _
  congr 1
  funext a; apply Fin.ext
  match a with
  | ⟨0, _⟩ => show win0_3.index t 0 * 1 + 1 * 0 = 0; rw [h0]
  | ⟨1, _⟩ => show win0_3.index t 1 * 256 + 1 * n.val = 256 * t.val + n.val; rw [h1]; omega

theorem found4 (t : Fin cfg0.N) (ht : t.val < 18) (X) (h : (rd m c).Finds 4 t X) (a : Fin 4) (n : Fin 256) :
    (X : S4x256.Idx → EReal) (ix2 a n) = a4 m c (ix2 (⟨256 * t.val + n.val, by omega⟩ : Fin 4608) a) := by
  obtain ⟨d, rfl⟩ := ((rd m c).finds_of_fetch (w := 4) (t := t) (early t ht).1 X).mp h
  obtain ⟨h0, h1, -⟩ := index_conv t ht
  rw [← taps_rows m c]
  show iblk m c 4 t (ix2 a n : S4x256.Idx) = _
  unfold iblk
  rw [View.read_apply]
  show V m c main_v3 _ = V m c main_v3 _
  congr 1
  funext e; apply Fin.ext
  match e with
  | ⟨0, _⟩ => show win0_4.index t 0 * 4 + 1 * a.val = a.val; rw [h0]; omega
  | ⟨1, _⟩ => show win0_4.index t 1 * 256 + 1 * n.val = 256 * t.val + n.val; rw [h1]; omega

theorem found5 (t : Fin cfg0.N) (ht : t.val < 18) (X) (h : (rd m c).Finds 5 t X) (g : Fin 18) (l : Fin 2) (d : Fin 24) (n : Fin 128) :
    (X : S18x2x24x128.Idx → EReal) (ix4 g l d n) = a5 m c (ix4 g (⟨2 * t.val + l.val, by omega⟩ : Fin 36) d n) := by
  obtain ⟨d', rfl⟩ := ((rd m c).finds_of_fetch (w := 5) (t := t) (early t ht).2 X).mp h
  obtain ⟨-, -, h0, h1, h2, h3⟩ := index_conv t ht
  show iblk m c 5 t (ix4 g l d n : S18x2x24x128.Idx) = _
  unfold iblk
  rw [View.read_apply]
  show V m c main_arg5 _ = _
  rw [V_main_arg5]
  congr 1
  funext e; apply Fin.ext
  match e with
  | ⟨0, _⟩ => show win0_5.index t 0 * 18 + 1 * g.val = g.val; rw [h0]; omega
  | ⟨1, _⟩ => show win0_5.index t 1 * 2 + 1 * l.val = 2 * t.val + l.val; rw [h1]; omega
  | ⟨2, _⟩ => show win0_5.index t 2 * 24 + 1 * d.val = d.val; rw [h2]; omega
  | ⟨3, _⟩ => show win0_5.index t 3 * 128 + 1 * n.val = n.val; rw [h3]; omega

theorem found6 (t : Fin cfg0.N) (X) (h : (rd m c).Finds 6 t X) (b : Fin 144) (n : Fin 128) : (X : S144x128.Idx → BitVec 32) (ix2 b n) = a6 m c (ix1 b) := by
  obtain ⟨t', d, rfl⟩ := finds_input m c 6 (by decide) t.val t rfl X h
  obtain ⟨-, -, -, -, -, -, -, -, h0, h1⟩ := index_in t'
  rw [← accepted_cols m c b n]
  show iblk m c 6 t' (ix2 b n : S144x128.Idx) = _
  unfold iblk
  rw [View.read_apply]
  show V m c main_v1 _ = V m c main_v1 _
  congr 1
  funext a; apply Fin.ext
  match a with
  | ⟨0, _⟩ => show win0_6.index t' 0 * 144 + 1 * b.val = b.val; rw [h0]; omega
  | ⟨1, _⟩ => show win0_6.index t' 1 * 128 + 1 * n.val = n.val; rw [h1]; omega

variable (t : Fin cfg0.N) (Y : (w : Fin cfg0.W) → (cfg0.win w).block.Idx → Elt Ideal (cfg0.win w).elt) (hY : ∀ w, (rd m c).Finds w t (Y w))

include hY in
theorem product_given : Tile.Product (a0 m c) (a1 m c) (a2 m c) (a3 m c) (Y 0) (Y 1) (Y 2) (Y 3) t.val :=
  ⟨fun r k => found0 m c t _ (hY 0) r k, fun r k => found1 m c t _ (hY 1) r k, fun k n hn => found2 m c t _ (hY 2) k n hn,
    fun n hn => found3 m c t _ (hY 3) n hn⟩

include hY in
theorem taps_given (ht : t.val < 18) : Tile.Taps (a4 m c) (a5 m c) (a6 m c) (Y 4) (Y 5) (Y 6) t.val ht :=
  ⟨fun a n => found4 m c t ht _ (hY 4) a n, fun g l d n => found5 m c t ht _ (hY 5) g l d n, fun b n => found6 m c t _ (hY 6) b n⟩

/-! ## The body keeps the relation -/

theorem keeps : Keeps m (rel m) c where
  same w t Y h := rel_same m c w t Y h
  conv t h1 h6 Y hY f1 f2 f3 f4 f5 f6 f7 f11 f12 e1 e2 e3 e4 e5 e6 e7 := by
    have ht : t.val < 18 := (conds t).1.mp h1
    have P := product_given m c t Y hY
    have K := taps_given m c t Y hY ht
    rw [← e1, ← e2, ← e3, ← e4] at P
    rw [← e5, ← e6, ← e7] at K
    refine ⟨⟨fun _ p q r => ?_, fun h => absurd h (by omega)⟩, fun _ b d e => ?_, fun h => absurd h (by omega)⟩
    · refine (conv8_read c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) sc hsc h1 f1 f2 f3 f4 f5 f6 f7 f11 f12 p q r).trans ((Tile.conv_core P ht K h6 p q r).trans ?_)
      exact congrArg (fun k => out7 (a0 m c) (a1 m c) (a2 m c) (a3 m c) (a4 m c) (a5 m c) (ix3 k q r)) (Fin.ext (by show 2 * t.val + p.val = 2 * min t.val 17 + p.val; omega))
    · refine (conv11_read c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) sc hsc h1 f1 f2 f3 f4 f5 f6 f7 f11 f12 b d e).trans ((Tile.kept_eq P ht K b d e).trans ?_)
      exact congrArg (fun k => out10 (a0 m c) (a1 m c) (a2 m c) (a3 m c) (a5 m c) (a6 m c) (ix3 b d k)) (Fin.ext (by show 256 * t.val + e.val = 256 * min t.val 17 + e.val; omega))
  qk t h1 h6 Y hY f1 f2 f3 f4 f5 f6 f7 f11 f12 e1 e2 e3 e4 e5 e6 e7 := by
    have ht : t.val < 18 := (conds t).1.mp h1
    have P := product_given m c t Y hY
    have K := taps_given m c t Y hY ht
    rw [← e1, ← e2, ← e3, ← e4] at P
    rw [← e5, ← e6, ← e7] at K
    refine ⟨⟨fun _ p q r => ?_, fun h => absurd h (by omega)⟩, fun _ b d e => ?_, fun h => absurd h (by omega)⟩
    · refine (norm8_read c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) sc hsc h1 f1 f2 f3 f4 f5 f6 f7 f11 f12 p q r).trans ?_
      rw [coord t]
      refine (Tile.norm_core P ht K h6 p q r).trans ?_
      exact congrArg (fun k => out7 (a0 m c) (a1 m c) (a2 m c) (a3 m c) (a4 m c) (a5 m c) (ix3 k q r)) (Fin.ext (by show 2 * t.val + p.val = 2 * min t.val 17 + p.val; omega))
    · refine (conv11_read c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) sc hsc h1 f1 f2 f3 f4 f5 f6 f7 f11 f12 b d e).trans ((Tile.kept_eq P ht K b d e).trans ?_)
      exact congrArg (fun k => out10 (a0 m c) (a1 m c) (a2 m c) (a3 m c) (a5 m c) (a6 m c) (ix3 b d k)) (Fin.ext (by show 256 * t.val + e.val = 256 * min t.val 17 + e.val; omega))
  gate t h18 h30 Y hY f1 f2 f3 f4 f9 e1 e2 e3 e4 := by
    have P := product_given m c t Y hY
    rw [← e1, ← e2, ← e3, ← e4] at P
    refine ⟨fun _ _ p q r => ?_, fun h => absurd h (by omega)⟩
    refine (entry9_read (st0_0 t) (st0_1 t) (st0_2 t) (st0_3 t) (st0_8 t) f1 f2 f3 f4 f9 p q r).trans ?_
    refine (Tile.mm_eq P q (col p r) (by show 256 * t.val + (128 * p.val + r.val) < 7692; omega)).trans ?_
    exact congrArg (prod (a0 m c) (a1 m c) (a2 m c) (a3 m c) q) (Fin.ext (by
      show 256 * t.val + (128 * p.val + r.val) = 4608 + 128 * (2 * min (t.val - 18) 11 + p.val) + r.val; omega))
  ab t h30 Y hY f1 f2 f3 f4 f10 e1 e2 e3 e4 := by
    have P := product_given m c t Y hY
    rw [← e1, ← e2, ← e3, ← e4] at P
    intro _ q n
    refine (entry10_read (st0_0 t) (st0_1 t) (st0_2 t) (st0_3 t) (st0_9 t) f1 f2 f3 f4 f10 q _).trans ?_
    refine (Tile.mm_eq P q (col 0 _) (by show 256 * t.val + (128 * 0 + n.val) < 7692; omega)).trans ?_
    exact congrArg (prod (a0 m c) (a1 m c) (a2 m c) (a3 m c) q) (Fin.ext (by show 256 * t.val + (128 * 0 + n.val) = 7680 + n.val; omega))

/-! ## What the buffers hold when they are written back -/

theorem leaves7 : ∀ (n : ℕ) (t : Fin cfg0.N), t.val = n → ∀ X, (rd m c).Leaves 7 t X → is7 m c t.val X := by
    intro n
    induction n with
    | zero =>
      intro t ht X ⟨Y, hY, hX⟩
      exact hX.1 (by omega)
    | succ n ih =>
    intro t ht X ⟨Y, hY, hX⟩
    by_cases h : t.val < 18
    · exact hX.1 h
    · have h31 := lt31 t
      obtain rfl : X = Y := hX.2 (by omega)
      rcases ((rd m c).finds_of_pos (w := 7) (t := t) (outputs t).1.1 (by omega) X).mp hY with hf | hl
      · exact absurd (((outputs ⟨t.val - 1, Nat.lt_of_le_of_lt (Nat.sub_le _ _) t.isLt⟩).2.1 (by show 17 ≤ t.val - 1; omega) (by show t.val - 1 < 30; omega)).1.symm.trans hf) Bool.false_ne_true
      · intro p q r
        refine (ih _ (by show t.val - 1 = n; omega) X hl p q r).trans ?_
        exact congrArg (fun k => out7 (a0 m c) (a1 m c) (a2 m c) (a3 m c) (a4 m c) (a5 m c) (ix3 k q r)) (Fin.ext (by show 2 * min (t.val - 1) 17 + p.val = 2 * min t.val 17 + p.val; omega))

theorem leaves10 : ∀ (n : ℕ) (t : Fin cfg0.N), t.val = n → ∀ X, (rd m c).Leaves 10 t X → is10 m c t.val X := by
    intro n
    induction n with
    | zero =>
      intro t ht X ⟨Y, hY, hX⟩
      exact hX.1 (by omega)
    | succ n ih =>
    intro t ht X ⟨Y, hY, hX⟩
    by_cases h : t.val < 18
    · exact hX.1 h
    · have h31 := lt31 t
      obtain rfl : X = Y := hX.2 (by omega)
      rcases ((rd m c).finds_of_pos (w := 10) (t := t) (outputs t).1.2.2 (by omega) X).mp hY with hf | hl
      · exact absurd (((outputs ⟨t.val - 1, Nat.lt_of_le_of_lt (Nat.sub_le _ _) t.isLt⟩).2.1 (by show 17 ≤ t.val - 1; omega) (by show t.val - 1 < 30; omega)).2.symm.trans hf) Bool.false_ne_true
      · intro b d e
        refine (ih _ (by show t.val - 1 = n; omega) X hl b d e).trans ?_
        exact congrArg (fun k => out10 (a0 m c) (a1 m c) (a2 m c) (a3 m c) (a5 m c) (a6 m c) (ix3 b d k)) (Fin.ext (by
          show 256 * min (t.val - 1) 17 + e.val = 256 * min t.val 17 + e.val; omega))

theorem leaves8 (t : Fin cfg0.N) (h18 : 18 ≤ t.val) (X) (h : (rd m c).Leaves 8 t X) : is8 m c t.val X := by
  have h31 := lt31 t
  obtain ⟨Y, hY, hX⟩ := h
  by_cases h : t.val < 30
  · exact hX.1 h18 h
  · obtain rfl : X = Y := hX.2 (by omega)
    rcases ((rd m c).finds_of_pos (w := 8) (t := t) (outputs t).1.2.1 (by omega) X).mp hY with hf | ⟨Z, hZ, hl⟩
    · exact absurd (((outputs ⟨t.val - 1, Nat.lt_of_le_of_lt (Nat.sub_le _ _) t.isLt⟩).2.2.1 (by show t.val - 1 = 29; omega)).symm.trans hf) Bool.false_ne_true
    · intro p q r
      refine (hl.1 (by show 18 ≤ t.val - 1; omega) (by show t.val - 1 < 30; omega) p q r).trans ?_
      exact congrArg (fun k => out8 (a0 m c) (a1 m c) (a2 m c) (a3 m c) (ix3 k q r)) (Fin.ext (by
        show 2 * min (t.val - 1 - 18) 11 + p.val = 2 * min (t.val - 18) 11 + p.val; omega))

/-! ## The result arrays -/

variable (after : (w : Fin cfg0.W) → Fin cfg0.N → (cfg0.win w).block.Idx → Elt Ideal (cfg0.win w).elt)
  (ha : ∀ w u, (cfg0.win w).flush u = true → (rd m c).Leaves w u (after w u))

include ha in
theorem final7 : ((rd m c).withAfter after).arrAt 7 cfg0.N = (out7 (a0 m c) (a1 m c) (a2 m c) (a3 m c) (a4 m c) (a5 m c) : S36x720x128.Idx → EReal) :=
  Dat.arrAt_eq_of_covers _ 7 _ (by decide +kernel) fun t hf y => by
    have L := leaves7 m c _ t rfl _ (ha 7 t hf)
    obtain ⟨h0, h1, h2, -⟩ := index_out t
    obtain ⟨p, q, r, rfl⟩ : ∃ (p : Fin 2) (q : Fin 720) (r : Fin 128), y = (ix3 p q r : S2x720x128.Idx) := ⟨y 0, y 1, y 2, eq_ix3 (n0 := 2) (n1 := 720) (n2 := 128) y⟩
    refine Eq.trans (b := (after 7 t : S2x720x128.Idx → EReal) (ix3 p q r)) rfl ((L p q r).trans ?_)
    refine congrArg (out7 (a0 m c) (a1 m c) (a2 m c) (a3 m c) (a4 m c) (a5 m c)) (funext fun a => Fin.ext ?_)
    match a with
    | ⟨0, _⟩ => show 2 * min t.val 17 + p.val = win0_7.index t 0 * 2 + 1 * p.val; rw [h0]; omega
    | ⟨1, _⟩ => show q.val = win0_7.index t 1 * 720 + 1 * q.val; rw [h1]; omega
    | ⟨2, _⟩ => show r.val = win0_7.index t 2 * 128 + 1 * r.val; rw [h2]; omega

include ha in
theorem final8 : ((rd m c).withAfter after).arrAt 8 cfg0.N = (out8 (a0 m c) (a1 m c) (a2 m c) (a3 m c) : S24x720x128.Idx → EReal) :=
  Dat.arrAt_eq_of_covers _ 8 _ (by decide +kernel) fun t hf y => by
    have L := leaves8 m c t ((outputs t).2.2.2.1 hf) _ (ha 8 t hf)
    obtain ⟨-, -, -, h0, h1, h2, -⟩ := index_out t
    obtain ⟨p, q, r, rfl⟩ : ∃ (p : Fin 2) (q : Fin 720) (r : Fin 128), y = (ix3 p q r : S2x720x128.Idx) := ⟨y 0, y 1, y 2, eq_ix3 (n0 := 2) (n1 := 720) (n2 := 128) y⟩
    refine Eq.trans (b := (after 8 t : S2x720x128.Idx → EReal) (ix3 p q r)) rfl ((L p q r).trans ?_)
    refine congrArg (out8 (a0 m c) (a1 m c) (a2 m c) (a3 m c)) (funext fun a => Fin.ext ?_)
    match a with
    | ⟨0, _⟩ => show 2 * min (t.val - 18) 11 + p.val = win0_8.index t 0 * 2 + 1 * p.val; rw [h0]; omega
    | ⟨1, _⟩ => show q.val = win0_8.index t 1 * 720 + 1 * q.val; rw [h1]; omega
    | ⟨2, _⟩ => show r.val = win0_8.index t 2 * 128 + 1 * r.val; rw [h2]; omega

include ha in
theorem final10 : ((rd m c).withAfter after).arrAt 10 cfg0.N = (out10 (a0 m c) (a1 m c) (a2 m c) (a3 m c) (a5 m c) (a6 m c) : S144x3x4608.Idx → EReal) :=
  Dat.arrAt_eq_of_covers _ 10 _ (by decide +kernel) fun t hf y => by
    have L := leaves10 m c _ t rfl _ (ha 10 t hf)
    obtain ⟨-, -, -, -, -, -, -, -, h0, h1, h2⟩ := index_out t
    obtain ⟨p, q, r, rfl⟩ : ∃ (p : Fin 144) (q : Fin 3) (r : Fin 256), y = (ix3 p q r : S144x3x256.Idx) := ⟨y 0, y 1, y 2, eq_ix3 (n0 := 144) (n1 := 3) (n2 := 256) y⟩
    refine Eq.trans (b := (after 10 t : S144x3x256.Idx → EReal) (ix3 p q r)) rfl ((L p q r).trans ?_)
    refine congrArg (out10 (a0 m c) (a1 m c) (a2 m c) (a3 m c) (a5 m c) (a6 m c)) (funext fun a => Fin.ext ?_)
    match a with
    | ⟨0, _⟩ => show p.val = win0_10.index t 0 * 144 + 1 * p.val; rw [h0]; omega
    | ⟨1, _⟩ => show q.val = win0_10.index t 1 * 3 + 1 * q.val; rw [h1]; omega
    | ⟨2, _⟩ => show 256 * min t.val 17 + r.val = win0_10.index t 2 * 256 + 1 * r.val; rw [h2]; omega

include ha in
theorem final9 (q : Fin 720) (n : Fin 12) : (((rd m c).withAfter after).arrAt 9 cfg0.N : S720x128.Idx → EReal) (ix2 q (⟨n.val, by omega⟩ : Fin 128))
    = out9 (a0 m c) (a1 m c) (a2 m c) (a3 m c) q n := by
  refine Dat.arrAt_forall_of_covers ((rd m c).withAfter after) 9 (fun (i : S720x128.Idx) (v : EReal) => ∀ h : (i 1).val < 12, v = out9 (a0 m c) (a1 m c) (a2 m c) (a3 m c) (i 0) ⟨(i 1).val, h⟩)
    (by decide +kernel) (fun t hf y => ?_) (ix2 q (⟨n.val, by omega⟩ : Fin 128)) (Memref.isWhole_whole _) n.isLt
  obtain ⟨Y, hY, hX⟩ := ha 9 t hf
  have L := hX ((outputs t).2.2.2.2 hf)
  obtain ⟨-, -, -, -, -, -, h0, h1, -⟩ := index_out t
  obtain ⟨p, r, rfl⟩ : ∃ (p : Fin 720) (r : Fin 128), y = (ix2 p r : S720x128.Idx) := ⟨y 0, y 1, eq_ix2 (n0 := 720) (n1 := 128) y⟩
  have E : ((cfg0.win 9).blk t).view.emb (ix2 p r : S720x128.Idx) = (ix2 p r : S720x128.Idx) := funext fun a => Fin.ext (by
    match a with
    | ⟨0, _⟩ => show win0_9.index t 0 * 720 + 1 * p.val = p.val; rw [h0]; omega
    | ⟨1, _⟩ => show win0_9.index t 1 * 128 + 1 * r.val = r.val; rw [h1]; omega)
  rw [E]
  intro h
  exact Eq.trans (b := (after 9 t : S720x128.Idx → EReal) (ix2 p r)) rfl (L p ⟨r.val, h⟩)

/-- The call, over the extended reals: its result arrays hold the closed forms, the third in its first twelve lanes, and its arguments
    end as they began. -/
theorem run : θ_run defs (onTc (τ := τ) (main (F := Ideal))) ⟨m, fun _ => 0, ρ⟩ (fun r => ∀ c : Dev nD,
      ((r.2.mem ((c : Thread nD τ).loc main_v4_0) : S36x720x128.Idx → EReal) = out7 (a0 m c) (a1 m c) (a2 m c) (a3 m c) (a4 m c) (a5 m c)
      ∧ (r.2.mem ((c : Thread nD τ).loc main_v4_1) : S24x720x128.Idx → EReal) = out8 (a0 m c) (a1 m c) (a2 m c) (a3 m c)
      ∧ (∀ (q : Fin 720) (n : Fin 12), (r.2.mem ((c : Thread nD τ).loc main_v4_2) : S720x128.Idx → EReal) (ix2 q (⟨n.val, by omega⟩ : Fin 128)) = out9 (a0 m c) (a1 m c) (a2 m c) (a3 m c) q n)
      ∧ (r.2.mem ((c : Thread nD τ).loc main_v4_3) : S144x3x4608.Idx → EReal) = out10 (a0 m c) (a1 m c) (a2 m c) (a3 m c) (a5 m c) (a6 m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))) :=
  (θ_run defs _ _).mono (fun r h c => by
    obtain ⟨after, ha, hm⟩ := h.1.exists_exact c
    refine ⟨⟨(hm 7).trans (final7 m c after ha), (hm 8).trans (final8 m c after ha), fun q n => ?_, (hm 10).trans (final10 m c after ha)⟩, Run.kept m (rel m) r h.1 c⟩
    exact (congrFun (hm 9) _).trans (final9 m c after ha q n)) (Run.run m ρ (rel m) (keeps m))

end Cert.InProjIdeal.InValue

end
-- ==== Proof.InReference.lean ====
/-
  The reference of the input projection, over the extended reals: its four result arrays, element by element, are the closed forms
  of InSpec.lean, the third at the lanes below 12 and the fourth for the runs whose accepted length lies between 1 and 5.
-/
module

public import proofs.«01_k».proof.Proof.InSpec
public import proofs.«01_k».proof.Proof.Gen.InReferenceIdeal.Read
public import Idealize.ShloMosaic.Lib.IdealHost

@[expose] public section

set_option maxRecDepth 16384

noncomputable section

namespace Cert.InReferenceIdeal.Closed

open Idealize.ShloMosaic hiding ix1 ix2 ix3 ix4 ix5 eq_ix1 eq_ix2 eq_ix3 eq_ix4
open Idealize.ShloMosaic.TcCoe Idealize.ShloMosaic.ValueIdx
open Cert.InReferenceIdeal Cert.InReferenceIdeal.Read Cert.InProjIdeal.Loop Cert.InProjIdeal.Spec

variable (x0 : S720x2048.Idx → EReal) (x1 : S720x128.Idx → EReal) (x2 : S2048x7692.Idx → BitVec 8) (x3 : S7692.Idx → EReal)
  (x4 : S4608x4.Idx → EReal) (x5 : S18x36x24x128.Idx → EReal) (x6 : S144.Idx → BitVec 32)

/-! ## Indices from their coordinates -/

theorem to1 {n0 : ℕ} (x : (⟨1, ![n0]⟩ : Shape).Idx) (a : Fin n0) (h0 : (x 0).val = a.val) : x = ix1 a :=
  funext fun b => Fin.ext (by match b with | ⟨0, _⟩ => exact h0)
theorem to2 {n0 n1 : ℕ} (x : (⟨2, ![n0, n1]⟩ : Shape).Idx) (a : Fin n0) (b : Fin n1) (h0 : (x 0).val = a.val) (h1 : (x 1).val = b.val) : x = ix2 a b :=
  funext fun b => Fin.ext (by match b with | ⟨0, _⟩ => exact h0 | ⟨1, _⟩ => exact h1)
theorem to3 {n0 n1 n2 : ℕ} (x : (⟨3, ![n0, n1, n2]⟩ : Shape).Idx) (a : Fin n0) (b : Fin n1) (c : Fin n2) (h0 : (x 0).val = a.val)
    (h1 : (x 1).val = b.val) (h2 : (x 2).val = c.val) : x = ix3 a b c :=
  funext fun b => Fin.ext (by match b with | ⟨0, _⟩ => exact h0 | ⟨1, _⟩ => exact h1 | ⟨2, _⟩ => exact h2)
theorem to4 {n0 n1 n2 n3 : ℕ} (x : (⟨4, ![n0, n1, n2, n3]⟩ : Shape).Idx) (a : Fin n0) (b : Fin n1) (c : Fin n2) (d : Fin n3) (h0 : (x 0).val = a.val)
    (h1 : (x 1).val = b.val) (h2 : (x 2).val = c.val) (h3 : (x 3).val = d.val) : x = ix4 a b c d :=
  funext fun b => Fin.ext (by match b with | ⟨0, _⟩ => exact h0 | ⟨1, _⟩ => exact h1 | ⟨2, _⟩ => exact h2 | ⟨3, _⟩ => exact h3)

/-! ## The product -/

theorem codes (g : Fin 18) (i : Fin 8) (s : Fin 5) (k : Fin 2048) : val_main_v2 (F := Ideal) x0 (ix3 (bat g i) s k) = x0 (ix2 (row g s i) k) := by
  unfold val_main_v2
  refine (shapeCast_apply _ _ _ (ix4 g i s k) (by
    rewrite [Shape.rowMajor_val_four, Shape.rowMajor_val_three]
    show ((g.val * 8 + i.val) * 5 + s.val) * 2048 + k.val = ((8 * g.val + i.val) * 5 + s.val) * 2048 + k.val; omega)).trans ?_
  rw [val_main_v1_apply]
  unfold val_main_v0
  exact shapeCast_apply _ _ _ (ix2 (row g s i) k) (by
    rewrite [Shape.rowMajor_val_two, Shape.rowMajor_val_four]
    show (40 * g.val + 8 * s.val + i.val) * 2048 + k.val = ((g.val * 5 + s.val) * 8 + i.val) * 2048 + k.val; omega)

theorem scales (g : Fin 18) (i : Fin 8) (s : Fin 5) : val_main_v7 (F := Ideal) x1 (ix2 (bat g i) s) = x1 (ix2 (row g s i) (0 : Fin 128)) := by
  unfold val_main_v7
  refine (shapeCast_apply _ _ _ (ix3 (bat g i) s (0 : Fin 1)) (by
    rewrite [Shape.rowMajor_val_three, Shape.rowMajor_val_two]
    show ((8 * g.val + i.val) * 5 + s.val) * 1 + 0 = (8 * g.val + i.val) * 5 + s.val; omega)).trans ?_
  rw [val_main_v6_apply]
  unfold val_main_v5
  refine (shapeCast_apply _ _ _ (ix4 g i s (0 : Fin 128)) (by
    rewrite [Shape.rowMajor_val_four, Shape.rowMajor_val_three]
    show ((g.val * 8 + i.val) * 5 + s.val) * 128 + 0 = ((8 * g.val + i.val) * 5 + s.val) * 128 + 0; omega)).trans ?_
  rw [val_main_v4_apply]
  unfold val_main_v3
  exact shapeCast_apply _ _ _ (ix2 (row g s i) (0 : Fin 128)) (by
    rewrite [Shape.rowMajor_val_two, Shape.rowMajor_val_four]
    show (40 * g.val + 8 * s.val + i.val) * 128 + 0 = ((g.val * 5 + s.val) * 8 + i.val) * 128 + 0; omega)

/-- A sign-extended code has the code's value. -/
theorem widened (b : BitVec 8) : (((b.signExtend 32).toInt : ℝ) : EReal) = ((b.toInt : ℝ) : EReal) := by
  rw [BitVec.toInt_signExtend_of_le (by decide)]

theorem product (g : Fin 18) (i : Fin 8) (s : Fin 5) (n : Fin 7692) :
    val_main_v18 (F := Ideal) x0 x1 x2 x3 (ix3 (bat g i) s n) = prod x0 x1 x2 x3 (row g s i) n := by
  rw [val_main_v18_apply, val_main_v17_apply, val_main_v16_apply, val_main_v14_apply, val_main_v12_apply, val_main_v15_apply,
    val_main_v13_apply, val_main_v11_apply]
  simp only [Ideal.truncf_def, Ideal.mulf_def]
  unfold prod
  refine congrArg₂ (· * ·) (Finset.sum_congr rfl fun k _ => congrArg₂ (· * ·) ?_ ?_) (congrArg₂ (· * ·) ?_ ?_)
  · exact (congrArg (val_main_v2 (F := Ideal) x0) (to3 _ (bat g i) s k rfl rfl rfl)).trans (codes x0 g i s k)
  · rw [val_main_v10_apply, val_main_v9_apply, val_main_v8_apply]
    exact (widened _).trans (congrArg (fun z : BitVec 8 => ((z.toInt : ℝ) : EReal)) (congrArg x2 (to2 _ k n rfl rfl)))
  · exact (congrArg (val_main_v7 (F := Ideal) x1) (to2 _ (bat g i) s rfl rfl)).trans (scales x1 g i s)
  · exact congrArg x3 (to1 _ n rfl)

/-! ## The sequence and the convolution -/

theorem cached (g : Fin 18) (i : Fin 8) (d : Fin 3) (e : Fin 4608) :
    val_main_v25 (F := Ideal) x5 (ix3 (bat g i) d e)
      = x5 (ix4 g (⟨e.val / 128, by omega⟩ : Fin 36) (⟨8 * d.val + i.val, by omega⟩ : Fin 24) (⟨e.val % 128, by omega⟩ : Fin 128)) := by
  rw [val_main_v25_apply, Ideal.truncf_def]
  unfold val_main_v24
  refine (shapeCast_apply _ _ _ (ix5 g i d (⟨e.val / 128, by omega⟩ : Fin 36) (⟨e.val % 128, by omega⟩ : Fin 128)) (by
    rewrite [Shape.rowMajor_val_five, Shape.rowMajor_val_three]
    show (((g.val * 8 + i.val) * 3 + d.val) * 36 + e.val / 128) * 128 + e.val % 128 = ((8 * g.val + i.val) * 3 + d.val) * 4608 + e.val; omega)).trans ?_
  rw [val_main_v23_apply]
  unfold val_main_v22
  exact shapeCast_apply _ _ _ (ix4 g (⟨e.val / 128, by omega⟩ : Fin 36) (⟨8 * d.val + i.val, by omega⟩ : Fin 24) (⟨e.val % 128, by omega⟩ : Fin 128)) (by
    rewrite [Shape.rowMajor_val_four, Shape.rowMajor_val_five]
    show ((g.val * 36 + e.val / 128) * 24 + (8 * d.val + i.val)) * 128 + e.val % 128
      = (((g.val * 36 + e.val / 128) * 3 + d.val) * 8 + i.val) * 128 + e.val % 128; omega)

theorem sequence (g : Fin 18) (i : Fin 8) (d : Fin 8) (e : Fin 4608) :
    val_main_v26 (F := Ideal) x0 x1 x2 x3 x5 (ix3 (bat g i) d e) = seq x0 x1 x2 x3 x5 g i d e := by
  unfold val_main_v26 seq
  by_cases h : d.val < 3
  · rw [dif_pos h]
    exact Eq.trans (concatenate_apply_piece (t := S144x8x4608) _ _ _ _ 0 (by simp) S144x3x4608 (val_main_v25 (F := Ideal) x5) rfl rfl 0 rfl (ix3 (bat g i) (⟨d.val, h⟩ : Fin 3) e)
      (fun b hb => by match b with | ⟨0, _⟩ => rfl | ⟨1, _⟩ => exact absurd rfl hb | ⟨2, _⟩ => rfl) (by show 0 + d.val = d.val; omega))
      (cached x5 g i ⟨d.val, h⟩ e)
  · rw [dif_neg h]
    refine Eq.trans (concatenate_apply_piece (t := S144x8x4608) _ _ _ _ 1 (by simp) S144x5x4608 (val_main_v19 (F := Ideal) x0 x1 x2 x3) rfl rfl 3 rfl
      (ix3 (bat g i) (⟨d.val - 3, by omega⟩ : Fin 5) e)
      (fun b hb => by match b with | ⟨0, _⟩ => rfl | ⟨1, _⟩ => exact absurd rfl hb | ⟨2, _⟩ => rfl) (by show 3 + (d.val - 3) = d.val; omega)) ?_
    rw [val_main_v19_apply]
    exact (congrArg (val_main_v18 (F := Ideal) x0 x1 x2 x3) (to3 _ (bat g i) (⟨d.val - 3, by omega⟩ : Fin 5) (⟨e.val, by omega⟩ : Fin 7692) rfl rfl rfl)).trans
      (product x0 x1 x2 x3 g i _ _)

theorem slab (g : Fin 18) (i : Fin 8) (d : Fin 8) (e : Fin 4608) (j : S144x8x4608.Idx) (h0 : (j 0).val = 8 * g.val + i.val) (h1 : (j 1).val = d.val) (h2 : (j 2).val = e.val) :
    val_main_v27 (F := Ideal) x0 x1 x2 x3 x5 j = seq x0 x1 x2 x3 x5 g i d e := by
  rw [to3 j (bat g i) d e h0 h1 h2, val_main_v27_apply, Ideal.extf_def, sequence]

theorem tap0 (b : Fin 144) (s : Fin 5) (e : Fin 4608) : val_main_v32 (F := Ideal) x4 (ix3 b s e) = x4 (ix2 e (0 : Fin 4)) := by
  rw [val_main_v32_apply, val_main_v31_apply, val_main_v30_apply, val_main_v29_apply]
  exact congrArg x4 (to2 _ e (0 : Fin 4) (Nat.div_one _) rfl)
theorem tap1 (b : Fin 144) (s : Fin 5) (e : Fin 4608) : val_main_v38 (F := Ideal) x4 (ix3 b s e) = x4 (ix2 e (1 : Fin 4)) := by
  rw [val_main_v38_apply, val_main_v37_apply, val_main_v36_apply, val_main_v35_apply]
  exact congrArg x4 (to2 _ e (1 : Fin 4) (Nat.div_one _) rfl)
theorem tap2 (b : Fin 144) (s : Fin 5) (e : Fin 4608) : val_main_v45 (F := Ideal) x4 (ix3 b s e) = x4 (ix2 e (2 : Fin 4)) := by
  rw [val_main_v45_apply, val_main_v44_apply, val_main_v43_apply, val_main_v42_apply]
  exact congrArg x4 (to2 _ e (2 : Fin 4) (Nat.div_one _) rfl)
theorem tap3 (b : Fin 144) (s : Fin 5) (e : Fin 4608) : val_main_v52 (F := Ideal) x4 (ix3 b s e) = x4 (ix2 e (3 : Fin 4)) := by
  rw [val_main_v52_apply, val_main_v51_apply, val_main_v50_apply, val_main_v49_apply]
  exact congrArg x4 (to2 _ e (3 : Fin 4) (Nat.div_one _) rfl)

theorem convolved (g : Fin 18) (i : Fin 8) (s : Fin 5) (e : Fin 4608) :
    val_main_v55 (F := Ideal) x0 x1 x2 x3 x4 x5 (ix3 (bat g i) s e) = conv x0 x1 x2 x3 x4 x5 g i s e := by
  have T : val_main_v54 (F := Ideal) x0 x1 x2 x3 x4 x5 (ix3 (bat g i) s e)
      = taps (seq x0 x1 x2 x3 x5 g i ⟨s.val, by omega⟩ e) (seq x0 x1 x2 x3 x5 g i ⟨s.val + 1, by omega⟩ e)
        (seq x0 x1 x2 x3 x5 g i ⟨s.val + 2, by omega⟩ e) (seq x0 x1 x2 x3 x5 g i ⟨s.val + 3, by omega⟩ e)
        (x4 (ix2 e (0 : Fin 4))) (x4 (ix2 e (1 : Fin 4))) (x4 (ix2 e (2 : Fin 4))) (x4 (ix2 e (3 : Fin 4))) := by
    rw [val_main_v54_apply, val_main_v47_apply, val_main_v40_apply, val_main_v33_apply, val_main_v39_apply, val_main_v46_apply,
      val_main_v53_apply, tap0, tap1, tap2, tap3, val_main_v28_apply, val_main_v34_apply, val_main_v41_apply, val_main_v48_apply]
    rw [slab x0 x1 x2 x3 x5 g i ⟨s.val, by omega⟩ e _ rfl rfl rfl, slab x0 x1 x2 x3 x5 g i ⟨s.val + 1, by omega⟩ e _ rfl (Nat.add_comm _ _) rfl,
      slab x0 x1 x2 x3 x5 g i ⟨s.val + 2, by omega⟩ e _ rfl (Nat.add_comm _ _) rfl, slab x0 x1 x2 x3 x5 g i ⟨s.val + 3, by omega⟩ e _ rfl (Nat.add_comm _ _) rfl]
    rfl
  rw [val_main_v55_apply, val_main_call0_v5_apply, val_main_call0_v4_apply, val_main_call0_v3_apply, val_main_call0_v2_apply,
    val_main_call0_v1_apply, val_main_call0_v0_apply, val_main_call0_cst_apply, val_main_call0_cst_0_apply, T]
  simp only [Ideal.mulf_def, Ideal.hostDivf_def, Ideal.addf_def, Ideal.hostUnary_exp_def, Ideal.hostNegf_def, Ideal.negf_def, Ideal.ofBits_def, Ideal.ofBits_one_f32]
  unfold conv silu Ideal.logistic
  rfl

/-! ## q, k and v -/

theorem head (g : Fin 18) (i : Fin 8) (s : Fin 5) (h : Fin 6) (f : Fin 256) :
    val_main_v57 (F := Ideal) x0 x1 x2 x3 x4 x5 (ix4 (bat g i) s h f) = conv x0 x1 x2 x3 x4 x5 g i s ⟨256 * h.val + f.val, by omega⟩ := by
  unfold val_main_v57
  refine (shapeCast_apply _ _ _ (ix3 (bat g i) s (⟨256 * h.val + f.val, by omega⟩ : Fin 1536)) (by
    rewrite [Shape.rowMajor_val_three, Shape.rowMajor_val_four]
    show ((8 * g.val + i.val) * 5 + s.val) * 1536 + (256 * h.val + f.val) = (((8 * g.val + i.val) * 5 + s.val) * 6 + h.val) * 256 + f.val; omega)).trans ?_
  rw [val_main_v56_apply]
  exact (congrArg (val_main_v55 (F := Ideal) x0 x1 x2 x3 x4 x5) (to3 _ (bat g i) s (⟨256 * h.val + f.val, by omega⟩ : Fin 4608) rfl rfl rfl)).trans
    (convolved x0 x1 x2 x3 x4 x5 g i s _)

theorem headNormed (g : Fin 18) (i : Fin 8) (s : Fin 5) (h : Fin 6) (f : Fin 256) :
    val_main_v65 (F := Ideal) x0 x1 x2 x3 x4 x5 (ix4 (bat g i) s h f) = normed x0 x1 x2 x3 x4 x5 g i s ⟨256 * h.val + f.val, by omega⟩ := by
  rw [val_main_v65_apply, val_main_v64_apply, val_main_v63_apply, val_main_v62_apply, val_main_v61_apply, val_main_v60_apply, val_main_v59_apply,
    val_main_cst_0_apply, val_main_cst_apply, head]
  simp only [Ideal.mulf_def, Ideal.addf_def, Ideal.hostUnary_rsqrt_def, Ideal.ofBits_def, Ideal.ofBits_zero_f32, zero_add]
  unfold normed eps
  refine congrArg (conv x0 x1 x2 x3 x4 x5 g i s ⟨256 * h.val + f.val, by omega⟩ * ·) (congrArg Ideal.rsqrt (congrArg (· + Ideal.ofBits .f32 0x358637BD#32)
    (Finset.sum_congr rfl fun k _ => ?_)))
  rw [val_main_v58_apply, to4 (idx_main_v59 _ k) (bat g i) s h k rfl rfl rfl rfl, head]
  have E : (⟨256 * h.val + k.val, by omega⟩ : Fin 4608) = ⟨256 * ((⟨256 * h.val + f.val, by omega⟩ : Fin 4608).val / 256) + k.val, by omega⟩ :=
    Fin.ext (by show 256 * h.val + k.val = 256 * ((256 * h.val + f.val) / 256) + k.val; omega)
  rw [E]; rfl

theorem cored (g : Fin 18) (i : Fin 8) (s : Fin 5) (e : Fin 4608) :
    val_main_v73 (F := Ideal) x0 x1 x2 x3 x4 x5 (ix3 (bat g i) s e) = core x0 x1 x2 x3 x4 x5 g i s e := by
  unfold val_main_v73 core
  by_cases h : e.val < 768
  · rw [if_pos h]
    refine Eq.trans (concatenate_apply_piece (t := S144x5x4608) _ _ _ _ 0 (by simp) S144x5x768 (val_main_v71 (F := Ideal) x0 x1 x2 x3 x4 x5) rfl rfl 0 rfl (ix3 (bat g i) s (⟨e.val, h⟩ : Fin 768))
      (fun b hb => by match b with | ⟨0, _⟩ => rfl | ⟨1, _⟩ => rfl | ⟨2, _⟩ => exact absurd rfl hb) (by show 0 + e.val = e.val; omega)) ?_
    unfold val_main_v71
    refine (shapeCast_apply _ _ _ (ix4 (bat g i) s (⟨e.val / 256, by omega⟩ : Fin 3) (⟨e.val % 256, by omega⟩ : Fin 256)) (by
      rewrite [Shape.rowMajor_val_four, Shape.rowMajor_val_three]
      show (((8 * g.val + i.val) * 5 + s.val) * 3 + e.val / 256) * 256 + e.val % 256 = ((8 * g.val + i.val) * 5 + s.val) * 768 + e.val; omega)).trans ?_
    rw [val_main_v68_apply, val_main_v67_apply, val_main_v66_apply, val_main_cst_1_apply,
      to4 (idx_main_v66 _) (bat g i) s (⟨e.val / 256, by omega⟩ : Fin 6) (⟨e.val % 256, by omega⟩ : Fin 256) rfl rfl rfl rfl, headNormed]
    rw [show (⟨256 * (⟨e.val / 256, by omega⟩ : Fin 6).val + (⟨e.val % 256, by omega⟩ : Fin 256).val, by
      show 256 * (e.val / 256) + e.val % 256 < 4608; omega⟩ : Fin 4608) = e from Fin.ext (by show 256 * (e.val / 256) + e.val % 256 = e.val; omega)]
    rfl
  · rw [if_neg h]
    by_cases h' : e.val < 1536
    · rw [if_pos h']
      refine Eq.trans (concatenate_apply_piece (t := S144x5x4608) _ _ _ _ 1 (by simp) S144x5x768 (val_main_v72 (F := Ideal) x0 x1 x2 x3 x4 x5) rfl rfl 768 rfl
        (ix3 (bat g i) s (⟨e.val - 768, by omega⟩ : Fin 768))
        (fun b hb => by match b with | ⟨0, _⟩ => rfl | ⟨1, _⟩ => rfl | ⟨2, _⟩ => exact absurd rfl hb) (by show 768 + (e.val - 768) = e.val; omega)) ?_
      unfold val_main_v72
      refine (shapeCast_apply _ _ _ (ix4 (bat g i) s (⟨(e.val - 768) / 256, by omega⟩ : Fin 3) (⟨(e.val - 768) % 256, by omega⟩ : Fin 256)) (by
        rewrite [Shape.rowMajor_val_four, Shape.rowMajor_val_three]
        show (((8 * g.val + i.val) * 5 + s.val) * 3 + (e.val - 768) / 256) * 256 + (e.val - 768) % 256 = ((8 * g.val + i.val) * 5 + s.val) * 768 + (e.val - 768)
        omega)).trans ?_
      rw [val_main_v69_apply, to4 (idx_main_v69 _) (bat g i) s (⟨3 + (e.val - 768) / 256, by omega⟩ : Fin 6) (⟨(e.val - 768) % 256, by omega⟩ : Fin 256) rfl rfl rfl rfl,
        headNormed]
      exact congrArg (normed x0 x1 x2 x3 x4 x5 g i s) (Fin.ext (by show 256 * (3 + (e.val - 768) / 256) + (e.val - 768) % 256 = e.val; omega))
    · rw [if_neg h']
      refine Eq.trans (concatenate_apply_piece (t := S144x5x4608) _ _ _ _ 2 (by simp) S144x5x3072 (val_main_v70 (F := Ideal) x0 x1 x2 x3 x4 x5) rfl rfl 1536 rfl
        (ix3 (bat g i) s (⟨e.val - 1536, by omega⟩ : Fin 3072))
        (fun b hb => by match b with | ⟨0, _⟩ => rfl | ⟨1, _⟩ => rfl | ⟨2, _⟩ => exact absurd rfl hb) (by show 1536 + (e.val - 1536) = e.val; omega)) ?_
      rw [val_main_v70_apply]
      exact (congrArg (val_main_v55 (F := Ideal) x0 x1 x2 x3 x4 x5) (to3 _ (bat g i) s e rfl rfl (by show 1536 + (e.val - 1536) = e.val; omega))).trans
        (convolved x0 x1 x2 x3 x4 x5 g i s e)

/-! ## The results, tile by tile -/

/-- The first result. -/
theorem first (l : Fin 36) (r : Fin 720) (n : Fin 128) : val_main_v86 (F := Ideal) x0 x1 x2 x3 x4 x5 (ix3 l r n) = out7 x0 x1 x2 x3 x4 x5 (ix3 l r n) := by
  rw [val_main_v86_apply]
  unfold val_main_v85
  refine (shapeCast_apply _ _ _ (ix2 r (⟨128 * l.val + n.val, by omega⟩ : Fin 4608)) (by
    rewrite [Shape.rowMajor_val_two, Shape.rowMajor_val_three]
    show r.val * 4608 + (128 * l.val + n.val) = (r.val * 36 + l.val) * 128 + n.val; omega)).trans ?_
  unfold val_main_v84
  refine (shapeCast_apply _ _ _ (ix4 (rg r) (rs r) (ri r) (⟨128 * l.val + n.val, by omega⟩ : Fin 4608)) (by
    rewrite [Shape.rowMajor_val_four, Shape.rowMajor_val_two]
    show ((r.val / 40 * 5 + r.val % 40 / 8) * 8 + r.val % 8) * 4608 + (128 * l.val + n.val) = r.val * 4608 + (128 * l.val + n.val); omega)).trans ?_
  rw [val_main_v83_apply]
  unfold val_main_v82
  exact (shapeCast_apply _ _ _ (ix3 (bat (rg r) (ri r)) (rs r) (⟨128 * l.val + n.val, by omega⟩ : Fin 4608)) (by
    rewrite [Shape.rowMajor_val_three, Shape.rowMajor_val_four]
    show ((8 * (r.val / 40) + r.val % 8) * 5 + r.val % 40 / 8) * 4608 + (128 * l.val + n.val)
      = ((r.val / 40 * 8 + r.val % 8) * 5 + r.val % 40 / 8) * 4608 + (128 * l.val + n.val); omega)).trans (cored x0 x1 x2 x3 x4 x5 _ _ _ _)

/-- The second result. -/
theorem second (l : Fin 24) (r : Fin 720) (n : Fin 128) : val_main_v92 (F := Ideal) x0 x1 x2 x3 (ix3 l r n) = out8 x0 x1 x2 x3 (ix3 l r n) := by
  rw [val_main_v92_apply]
  unfold val_main_v91
  refine (shapeCast_apply _ _ _ (ix2 r (⟨128 * l.val + n.val, by omega⟩ : Fin 3072)) (by
    rewrite [Shape.rowMajor_val_two, Shape.rowMajor_val_three]
    show r.val * 3072 + (128 * l.val + n.val) = (r.val * 24 + l.val) * 128 + n.val; omega)).trans ?_
  unfold val_main_v90
  refine (shapeCast_apply _ _ _ (ix4 (rg r) (rs r) (ri r) (⟨128 * l.val + n.val, by omega⟩ : Fin 3072)) (by
    rewrite [Shape.rowMajor_val_four, Shape.rowMajor_val_two]
    show ((r.val / 40 * 5 + r.val % 40 / 8) * 8 + r.val % 8) * 3072 + (128 * l.val + n.val) = r.val * 3072 + (128 * l.val + n.val); omega)).trans ?_
  rw [val_main_v89_apply]
  unfold val_main_v88
  refine (shapeCast_apply _ _ _ (ix3 (bat (rg r) (ri r)) (rs r) (⟨128 * l.val + n.val, by omega⟩ : Fin 3072)) (by
    rewrite [Shape.rowMajor_val_three, Shape.rowMajor_val_four]
    show ((8 * (r.val / 40) + r.val % 8) * 5 + r.val % 40 / 8) * 3072 + (128 * l.val + n.val)
      = ((r.val / 40 * 8 + r.val % 8) * 5 + r.val % 40 / 8) * 3072 + (128 * l.val + n.val); omega)).trans ?_
  rw [val_main_v87_apply, Ideal.extf_def, val_main_v20_apply,
    to3 (idx_main_v20 _) (bat (rg r) (ri r)) (rs r) (⟨4608 + 128 * l.val + n.val, by omega⟩ : Fin 7692) rfl rfl (Nat.add_assoc _ _ _).symm, product, row_eq]
  rfl

/-- The third result at the lanes below 12. -/
theorem third (r : Fin 720) (n : Fin 12) : val_main_v97 (F := Ideal) x0 x1 x2 x3 (ix2 r (⟨n.val, by omega⟩ : Fin 128)) = out9 x0 x1 x2 x3 r n := by
  unfold val_main_v97
  refine (shapeCast_apply _ _ _ (ix4 (rg r) (rs r) (ri r) (⟨n.val, by omega⟩ : Fin 128)) (by
    rewrite [Shape.rowMajor_val_four, Shape.rowMajor_val_two]
    show ((r.val / 40 * 5 + r.val % 40 / 8) * 8 + r.val % 8) * 128 + n.val = r.val * 128 + n.val; omega)).trans ?_
  rw [val_main_v96_apply]
  unfold val_main_v95
  refine (shapeCast_apply _ _ _ (ix3 (bat (rg r) (ri r)) (rs r) (⟨n.val, by omega⟩ : Fin 128)) (by
    rewrite [Shape.rowMajor_val_three, Shape.rowMajor_val_four]
    show ((8 * (r.val / 40) + r.val % 8) * 5 + r.val % 40 / 8) * 128 + n.val
      = ((r.val / 40 * 8 + r.val % 8) * 5 + r.val % 40 / 8) * 128 + n.val; omega)).trans ?_
  unfold val_main_v94 pad
  rw [dif_pos (fun a => by
    match a with
    | ⟨0, _⟩ => exact ⟨Nat.zero_le _, Nat.mod_one _, by show (8 * (r.val / 40) + r.val % 8 - 0) / 1 < 144; omega⟩
    | ⟨1, _⟩ => exact ⟨Nat.zero_le _, Nat.mod_one _, by show (r.val % 40 / 8 - 0) / 1 < 5; omega⟩
    | ⟨2, _⟩ => exact ⟨Nat.zero_le _, Nat.mod_one _, by show (n.val - 0) / 1 < 12; omega⟩)]
  rw [val_main_v93_apply, Ideal.extf_def, val_main_v21_apply,
    to3 (idx_main_v21 _) (bat (rg r) (ri r)) (rs r) (⟨7680 + n.val, by omega⟩ : Fin 7692) (Nat.div_one _) (Nat.div_one _) (congrArg (7680 + ·) (Nat.div_one _)), product, row_eq]
  rfl

end Cert.InReferenceIdeal.Closed

end
-- ==== Proof.InGather.lean ====
/-
  The new cache in the reference: the gather along the sequence, read at a run whose accepted length lies between 1 and 5.
-/
module

public import proofs.«01_k».proof.Proof.InReference
public import Idealize.ShloMosaic.PureOps.Reduce

@[expose] public section

set_option maxRecDepth 16384

noncomputable section

namespace Cert.InReferenceIdeal.Closed

open Idealize.ShloMosaic hiding ix1 ix2 ix3 ix4 ix5 eq_ix1 eq_ix2 eq_ix3 eq_ix4
open Idealize.ShloMosaic.TcCoe Idealize.ShloMosaic.ValueIdx
open Cert.InReferenceIdeal Cert.InReferenceIdeal.Gen Cert.InReferenceIdeal.Read Cert.InProjIdeal.Loop Cert.InProjIdeal.Spec

variable (x0 : S720x2048.Idx → EReal) (x1 : S720x128.Idx → EReal) (x2 : S2048x7692.Idx → BitVec 8) (x3 : S7692.Idx → EReal)
  (x4 : S4608x4.Idx → EReal) (x5 : S18x36x24x128.Idx → EReal) (x6 : S144.Idx → BitVec 32)

/-- The gather's index: the accepted length plus the row. -/
theorem index_eq (b : Fin 144) (d : Fin 3) : val_main_v80 (F := Ideal) x6 (ix3 b d (0 : Fin 1)) = x6 (ix1 b) + BitVec.ofNat 32 d.val := by
  rw [val_main_v80_apply, val_main_v79_apply, val_main_v77_apply, val_main_v78_apply, val_main_v74_apply, val_main_v76_apply, val_main_v75_apply]
  exact congrArg (· + BitVec.ofNat 32 d.val) (congrArg x6 (to1 _ b rfl))

theorem word_facts : ∀ n : Fin 8, Scalar.select (IntOp.cmpi .slt (BitVec.ofNat 32 n.val) 0#32) (IntOp.addi (BitVec.ofNat 32 n.val) 8#32) (BitVec.ofNat 32 n.val) = BitVec.ofNat 32 n.val
    ∧ IntOp.andi (IntOp.cmpi .sge (BitVec.ofNat 32 n.val) 0#32) (IntOp.cmpi .sle (BitVec.ofNat 32 n.val) 7#32) = 1#1
    ∧ min (BitVec.ofNat 32 n.val).toInt.toNat 7 = n.val := by decide +kernel

/-- The index after the wrap of negative ones. -/
theorem wrapped (b : Fin 144) (d : Fin 3) (n : Fin 8) (h : x6 (ix1 b) + BitVec.ofNat 32 d.val = BitVec.ofNat 32 n.val) :
    val_main_call1_v4 (F := Ideal) x6 (ix3 b d (0 : Fin 1)) = BitVec.ofNat 32 n.val := by
  rw [val_main_call1_v4_apply, val_main_call1_v1_apply, val_main_call1_v3_apply, val_main_call1_v0_apply, val_main_call1_v2_apply,
    val_main_call1_c_apply, val_main_call1_c_0_apply, index_eq, h]
  exact (word_facts n).1

/-- The index lies in the sequence. -/
theorem inside (b : Fin 144) (d : Fin 3) (n : Fin 8) (h : x6 (ix1 b) + BitVec.ofNat 32 d.val = BitVec.ofNat 32 n.val) :
    val_main_call1_v11 (F := Ideal) x6 (ix2 b d) = 1#1 := by
  unfold val_main_call1_v11
  have hr : S144x3x1.Reduces [2] S144x3 := by decide
  rw [Host.reduce_eq_fold_single IntOp.andi _ _ reducesTo_S144x3x1_S144x3_d2 hr h_S_ (ix2 b d)]
  have e : ∀ k : Fin (S144x3x1.size 2), (val_main_call1_v10 (F := Ideal) x6 ∘ hr.lift (ix2 b d)) k = 1#1 := fun k => by
    have hk : k.val = 0 := by have : k.val < 1 := k.isLt; omega
    show val_main_call1_v10 (F := Ideal) x6 (hr.lift (ix2 b d) k) = 1#1
    rw [to3 (hr.lift (ix2 b d) k) b d (0 : Fin 1) rfl rfl hk, val_main_call1_v10_apply, val_main_call1_v6_apply, val_main_call1_v9_apply,
      wrapped x6 b d n h, val_main_call1_v5_apply, val_main_call1_v8_apply, val_main_call1_v7_apply]
    exact (word_facts n).2.1
  rw [show (val_main_call1_v10 (F := Ideal) x6 ∘ hr.lift (ix2 b d)) = fun _ => 1#1 from funext e]
  exact (congrArg (fun t : Finset (Fin 1) => t.fold IntOp.andi (1#1) fun _ => 1#1) (Finset.univ_unique (α := Fin 1))).trans (Finset.fold_singleton ..)

/-- The gather's dimension numbers. -/
abbrev gd := gather_S144x8x4608_S144x3x1_S144x3x4608_2_1_0_0_1_2_114608

/-- The gather, at an element: the sequence's row that the index names. -/
theorem gather_apply (x : S144x8x4608.Idx → EReal) (idx : IVec S144x3x1 32) (b : Fin 144) (d : Fin 3) (e : Fin 4608) (n : Fin 8)
    (h : min (idx (ix3 b d (0 : Fin 1))).toInt.toNat 7 = n.val) : Host.gather gd x idx (ix3 b d e) = x (ix3 b n e) := by
  unfold Host.gather
  refine congrArg x (to3 _ b n e ?_ ?_ ?_)
  · show gd.start (ix3 b d e) idx 0 + gd.batchCoord (ix3 b d e) 0 + gd.offCoord (ix3 b d e) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin S144x8x4608.rank) ∈ gd.operandBatchingDims from List.mem_singleton.mpr rfl)]
    rfl
  · show gd.start (ix3 b d e) idx 1 + gd.batchCoord (ix3 b d e) 1 + gd.offCoord (ix3 b d e) 1 = n.val
    rw [GatherDims.batchCoord_eq_zero _ _ _ (show (1 : Fin 3) ∉ [(0 : Fin 3)] by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gd.startIndexMap from List.mem_singleton.mpr rfl)]
    have hsi : gd.siIdx (ix3 b d e) ⟨List.idxOf (1 : Fin 3) gd.startIndexMap, List.idxOf_lt_length_iff.2 (List.mem_singleton.mpr rfl)⟩
        = ix3 b d (0 : Fin 1) := to3 _ b d (0 : Fin 1) rfl rfl rfl
    rw [hsi]
    exact h
  · show gd.start (ix3 b d e) idx 2 + gd.batchCoord (ix3 b d e) 2 + gd.offCoord (ix3 b d e) 2 = e.val
    rw [GatherDims.batchCoord_eq_zero _ _ _ (show (2 : Fin 3) ∉ [(0 : Fin 3)] by decide)]
    unfold GatherDims.start
    rw [dif_neg (show (2 : Fin S144x8x4608.rank) ∉ gd.startIndexMap by decide)]
    unfold GatherDims.offCoord
    rw [dif_pos ((GatherDims.mem_sKept _ _).mpr ⟨(show (2 : Fin 3) ∉ [(1 : Fin 3)] by decide), (show (2 : Fin 3) ∉ [(0 : Fin 3)] by decide)⟩)]
    show 0 + 0 + _ = e.val
    rw [Nat.zero_add]
    rfl

theorem gathered (g : Fin 18) (i : Fin 8) (d : Fin 3) (e : Fin 4608) (n : Fin 8)
    (h : x6 (ix1 (bat g i)) + BitVec.ofNat 32 d.val = BitVec.ofNat 32 n.val) :
    val_main_v81 (F := Ideal) x0 x1 x2 x3 x5 x6 (ix3 (bat g i) d e) = seq x0 x1 x2 x3 x5 g i n e := by
  rw [val_main_v81_apply, val_main_call1_v13_apply,
    show idx_main_call1_v13 (ix3 (bat g i) d e) = ix2 (bat g i) d from to2 _ _ _ rfl rfl, inside x6 (bat g i) d n h]
  unfold val_main_call1_v12
  rw [gather_apply _ _ (bat g i) d e n (by rw [wrapped x6 (bat g i) d n h]; exact (word_facts n).2.2), sequence]
  rfl

/-- The accepted lengths that the mask of the claim admits. -/
def admitted (a : BitVec 32) : Prop := a = 1#32 ∨ a = 2#32 ∨ a = 3#32 ∨ a = 4#32 ∨ a = 5#32

/-- The fourth result, at an admitted run. -/
theorem fourth (b : Fin 144) (d : Fin 3) (e : Fin 4608) (h : admitted (x6 (ix1 b))) :
    val_main_v81 (F := Ideal) x0 x1 x2 x3 x5 x6 (ix3 b d e) = out10 x0 x1 x2 x3 x5 x6 (ix3 b d e) := by
  obtain ⟨g, i, rfl⟩ : ∃ (g : Fin 18) (i : Fin 8), b = bat g i :=
    ⟨⟨b.val / 8, by omega⟩, ⟨b.val % 8, by omega⟩, Fin.ext (by show b.val = 8 * (b.val / 8) + b.val % 8; omega)⟩
  have G := gathered x0 x1 x2 x3 x5 x6 g i d e
  have R : out10 x0 x1 x2 x3 x5 x6 (ix3 (bat g i) d e) = cache x0 x1 x2 x3 x5 x6 g i d e := by
    unfold out10
    show cache x0 x1 x2 x3 x5 x6 ⟨(8 * g.val + i.val) / 8, _⟩ ⟨(8 * g.val + i.val) % 8, _⟩ d e = _
    rw [show (⟨(8 * g.val + i.val) / 8, by omega⟩ : Fin 18) = g from Fin.ext (by show (8 * g.val + i.val) / 8 = g.val; omega),
      show (⟨(8 * g.val + i.val) % 8, by omega⟩ : Fin 8) = i from Fin.ext (by show (8 * g.val + i.val) % 8 = i.val; omega)]
  rw [R]
  unfold cache pick
  have W : ∀ (a : Fin 6), BitVec.ofNat 32 a.val + BitVec.ofNat 32 d.val = BitVec.ofNat 32 (d.val + a.val) := fun a => by
    rw [← BitVec.ofNat_add, Nat.add_comm]
  rcases h with h | h | h | h | h
  · rw [h, if_neg (by decide), if_neg (by decide), if_neg (by decide), if_neg (by decide)]
    exact G ⟨d.val + 1, by omega⟩ (by rw [h]; exact W 1)
  · rw [h, if_neg (by decide), if_neg (by decide), if_neg (by decide), if_pos rfl]
    exact G ⟨d.val + 2, by omega⟩ (by rw [h]; exact W 2)
  · rw [h, if_neg (by decide), if_neg (by decide), if_pos rfl]
    exact G ⟨d.val + 3, by omega⟩ (by rw [h]; exact W 3)
  · rw [h, if_neg (by decide), if_pos rfl]
    exact G ⟨d.val + 4, by omega⟩ (by rw [h]; exact W 4)
  · rw [h, if_pos rfl]
    exact G ⟨d.val + 5, by omega⟩ (by rw [h]; exact W 5)

end Cert.InReferenceIdeal.Closed

end
-- ==== Proof.InMask.lean ====
/-
  The mask of the input projection's claim: what it says of an index that it selects.
-/
module

public import proofs.«01_k».proof.On_in_proj_defined
public import Idealize.ShloMosaic.Lib.ValueIdx
public import Idealize.ShloMosaic.Lib.Pipeline.Value

@[expose] public section

set_option maxRecDepth 16384

noncomputable section

namespace Cert.On_in_proj_defined

open Idealize.ShloMosaic
open Idealize.ShloMosaic.ValueIdx

variable {F : FTy → Type} [FloatOps F] [Facts]
variable (x0 : FVec F S720x2048 .bf16) (x1 : FVec F S720x128 .f32) (x2 : IVec S2048x7692 8) (x3 : FVec F S7692 .f32)
  (x4 : FVec F S4608x4 .f32) (x5 : FVec F S18x36x24x128 .f32) (x6 : IVec S144 32)

/-- Of the third result the mask selects lanes below 12. -/
theorem lane (i : S720x128.Idx) (h : (fn x0 x1 x2 x3 x4 x5 x6).2.2.1 i = 1#1) : (i 1 : Nat) < 12 := by
  have key : ∀ r < 128, IntOp.cmpi .slt (BitVec.ofNat 32 r) 12#32 = 1#1 → r < 12 := by decide +kernel
  exact key _ (i 1).isLt h

/-- Of the fourth result the mask selects runs whose accepted length lies between 1 and 5. -/
theorem length (b : Fin 144) (d : Fin 3) (e : Fin 4608) (h : (fn x0 x1 x2 x3 x4 x5 x6).2.2.2 (ix3 b d e) = 1#1) :
    x6 (ix1 b) = 1#32 ∨ x6 (ix1 b) = 2#32 ∨ x6 (ix1 b) = 3#32 ∨ x6 (ix1 b) = 4#32 ∨ x6 (ix1 b) = 5#32 := by
  have E : (fn x0 x1 x2 x3 x4 x5 x6).2.2.2 (ix3 b d e) = IntOp.andi (IntOp.cmpi .sge (x6 (ix1 b)) 1#32) (IntOp.cmpi .sle (x6 (ix1 b)) 5#32) := by
    unfold fn
    dsimp only
    refine (broadcastInDim_apply ![0, 1, 2] _ _ (ix3 b d e) (ix3 b (0 : Fin 1) (0 : Fin 1)) (fun a => by
      match a with
      | ⟨0, _⟩ => exact (if_neg (show ¬ (144 : Nat) = 1 by decide)).symm
      | ⟨1, _⟩ => exact (if_pos rfl).symm
      | ⟨2, _⟩ => exact (if_pos rfl).symm)).trans ?_
    refine (broadcastInDim_apply ![0] _ _ (ix3 b (0 : Fin 1) (0 : Fin 1)) (ix1 b) (fun a => by
      match a with
      | ⟨0, _⟩ => exact (if_neg (show ¬ (144 : Nat) = 1 by decide)).symm)).trans ?_
    rfl
  rw [E] at h
  generalize x6 (ix1 b) = a at h
  have h1 : ∀ p q : BitVec 1, IntOp.andi p q = 1#1 → p = 1#1 ∧ q = 1#1 := by decide
  obtain ⟨hl, hu⟩ := h1 _ _ h
  have hl' : (1#32).sle a = true := by
    by_contra hn
    rw [Bool.not_eq_true] at hn
    have : IntOp.cmpi .sge a 1#32 = 0#1 := by show BitVec.ofBool ((1#32).sle a) = 0#1; rw [hn]; rfl
    rw [this] at hl
    exact absurd hl (by decide)
  have hu' : a.sle 5#32 = true := by
    by_contra hn
    rw [Bool.not_eq_true] at hn
    have : IntOp.cmpi .sle a 5#32 = 0#1 := by show BitVec.ofBool (a.sle 5#32) = 0#1; rw [hn]; rfl
    rw [this] at hu
    exact absurd hu (by decide)
  rw [BitVec.sle_iff_toInt_le] at hl' hu'
  have l : (1 : Int) ≤ a.toInt := hl'
  have u : a.toInt ≤ (5 : Int) := hu'
  have ha : a = BitVec.ofInt 32 a.toInt := (BitVec.ofInt_toInt).symm
  have : a.toInt = 1 ∨ a.toInt = 2 ∨ a.toInt = 3 ∨ a.toInt = 4 ∨ a.toInt = 5 := by omega
  rcases this with h | h | h | h | h <;> rw [h] at ha
  · exact Or.inl ha
  · exact Or.inr (Or.inl ha)
  · exact Or.inr (Or.inr (Or.inl ha))
  · exact Or.inr (Or.inr (Or.inr (Or.inl ha)))
  · exact Or.inr (Or.inr (Or.inr (Or.inr ha)))

end Cert.On_in_proj_defined

end
-- ==== Proof.NormSlots.lean ====
/-
  The precondition of the quantisation of the inputs: every slot is a row of the cache. Read off the predicate word by word.
-/
module

public import proofs.«01_k».proof.Pre_slots_in_cache
public import Idealize.ShloMosaic.Lib.ReduceAll
public import Idealize.ShloMosaic.Lib.WordCmp
public import Idealize.ShloMosaic.Lib.Pipeline.Value

@[expose] public section

noncomputable section

namespace Cert.NormSlots

open Idealize.ShloMosaic Cert.Pre_slots_in_cache

/-- The side conditions of the predicate. -/
theorem facts : Facts := ⟨by decide, by decide, by decide⟩

/-- Under the precondition each slot, read as a natural number, is below 181. -/
theorem lt_of_pre [Facts] {F : FTy → Type} [FloatOps F] (a0 : FVec F S144x5x2048 .bf16) (a1 : FVec F S2048 .f32) (a2 : FVec F S181x3x4608 .bf16)
    (a3 : IVec S144 32) (h : fn a0 a1 a2 a3 = fun _ => 1#1) (i : S144.Idx) : (a3 i).toNat < 181 := by
  have : Subsingleton S_.Idx := ⟨fun x y => funext fun a => a.elim0⟩
  have e := Host.reduce_andi_all _ _ _ _ (fun a => a.elim0) (congrFun h fun a => a.elim0) i
  have e' : IntOp.andi (IntOp.cmpi .sge (a3 i) 0#32) (IntOp.cmpi .slt (a3 i) 181#32) = 1#1 := e
  have h1 : IntOp.cmpi .sge (a3 i) 0#32 = 1#1 := by
    revert e'; generalize IntOp.cmpi .sge (a3 i) 0#32 = u; generalize IntOp.cmpi .slt (a3 i) 181#32 = v; revert u v; decide
  have h2 : IntOp.cmpi .slt (a3 i) 181#32 = 1#1 := by
    revert e'; generalize IntOp.cmpi .sge (a3 i) 0#32 = u; generalize IntOp.cmpi .slt (a3 i) 181#32 = v; revert u v; decide
  have g1 := IntOp.cmpi_sge.1 h1
  have g2 := IntOp.cmpi_slt.1 h2
  rw [show (0#32 : BitVec 32).toInt = 0 from rfl] at g1
  rw [show (181#32 : BitVec 32).toInt = 181 from rfl] at g2
  rw [BitVec.toInt_eq_toNat_cond] at g1 g2
  have := (a3 i).isLt
  split at g1 <;> omega

end Cert.NormSlots

end
-- ==== Proof.NormPoints.lean ====
/-
  The schedule of `NormQuant`: at which grid points each window is fetched or written back, and the staging buffers that the body is
  called with there.
-/
module

public import proofs.«01_k».proof.Proof.Gen.NormQuant
public import Idealize.ShloMosaic.Lib.Pipeline.Kit

@[expose] public section

noncomputable section

namespace Cert.NormQuant.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%0)) is fetched at the first point only, at any contents of the tables (its index map reads none). -/
theorem fetch0_1 (a : (pcfg0 (F := F)).Adm) : ∀ t : Fin (cfg0 a).N, ((cfg0 a).win 1).fetch t = true ↔ t.val % 18 = 0 :=
  (fun t => Pipeline.Window.fetchOf_const cc0_transform_1 (fun _ _ => rfl) (n := 18) (by decide) t : ∀ t : Fin grid0.N, Pipeline.Window.fetchOf grid0 false cc0_transform_1 t = true ↔ t.val % 18 = 0)
-- window 2: no schedule fact — its index map reads a prefetched table, so where it is fetched or written back depends on the tables' contents
-- window 3: no schedule fact — its index map reads a prefetched table, so where it is fetched or written back depends on the tables' contents
-- window 4: no schedule fact — its index map reads a prefetched table, so where it is fetched or written back depends on the tables' contents
-- window 5: no schedule fact — its index map reads a prefetched table, so where it is fetched or written back depends on the tables' contents
-- window 6: no schedule fact — its index map reads a prefetched table, so where it is fetched or written back depends on the tables' contents
-- window 7: no schedule fact — its index map reads a prefetched table, so where it is fetched or written back depends on the tables' contents
-- window 8: no schedule fact — its index map reads a prefetched table, so where it is fetched or written back depends on the tables' contents
-- window 9: no schedule fact — its index map reads a prefetched table, so where it is fetched or written back depends on the tables' contents
/-- Window 10 (result 0 (%1#0)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 0 (by decide) (by decide) (Pipeline.Window.sep_of_coord cc0_transform_10 0 0 (fun _ => rfl) (by decide)) (P := 1) (m := 0) (by decide) rfl t).mpr (Nat.mod_one _) : ∀ t : Fin grid0.N, Pipeline.Window.flushOf grid0 true cc0_transform_10 t = true)
/-- Window 11 (result 1 (%1#1)) is written back at every point, at any contents of the tables (its index map reads none). -/
theorem flush0_11 (a : (pcfg0 (F := F)).Adm) : ∀ t : Fin (cfg0 a).N, ((cfg0 a).win 11).flush t = true :=
  (fun t => (Pipeline.Window.flushOf_reads cc0_transform_11 reads0_11 hreads0_11 0 (by decide) (by decide) (Pipeline.Window.sep_of_coord cc0_transform_11 0 0 (fun _ => rfl) (by decide)) (P := 1) (m := 0) (by decide) rfl t).mpr (Nat.mod_one _) : ∀ t : Fin grid0.N, Pipeline.Window.flushOf grid0 true cc0_transform_11 t = true)
/-- Window 12 (result 2 (%1#2)) is written back at every point, at any contents of the tables (its index map reads none). -/
theorem flush0_12 (a : (pcfg0 (F := F)).Adm) : ∀ t : Fin (cfg0 a).N, ((cfg0 a).win 12).flush t = true :=
  (fun t => (Pipeline.Window.flushOf_reads cc0_transform_12 reads0_12 hreads0_12 0 (by decide) (by decide) (Pipeline.Window.sep_of_coord cc0_transform_12 0 0 (fun _ => rfl) (by decide)) (P := 1) (m := 0) (by decide) rfl t).mpr (Nat.mod_one _) : ∀ t : Fin grid0.N, Pipeline.Window.flushOf grid0 true cc0_transform_12 t = true)
/-- Window 13 (result 3 (%1#3)) is written back at every point, at any contents of the tables (its index map reads none). -/
theorem flush0_13 (a : (pcfg0 (F := F)).Adm) : ∀ t : Fin (cfg0 a).N, ((cfg0 a).win 13).flush t = true :=
  (fun t => (Pipeline.Window.flushOf_reads cc0_transform_13 reads0_13 hreads0_13 0 (by decide) (by decide) (Pipeline.Window.sep_of_coord cc0_transform_13 0 0 (fun _ => rfl) (by decide)) (P := 1) (m := 0) (by decide) rfl t).mpr (Nat.mod_one _) : ∀ t : Fin grid0.N, Pipeline.Window.flushOf grid0 true cc0_transform_13 t = true)
/-- Window 14 (result 4 (%1#4)) is written back at every point, at any contents of the tables (its index map reads none). -/
theorem flush0_14 (a : (pcfg0 (F := F)).Adm) : ∀ t : Fin (cfg0 a).N, ((cfg0 a).win 14).flush t = true :=
  (fun t => (Pipeline.Window.flushOf_reads cc0_transform_14 reads0_14 hreads0_14 0 (by decide) (by decide) (Pipeline.Window.sep_of_coord cc0_transform_14 0 0 (fun _ => rfl) (by decide)) (P := 1) (m := 0) (by decide) rfl t).mpr (Nat.mod_one _) : ∀ t : Fin grid0.N, Pipeline.Window.flushOf grid0 true cc0_transform_14 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_norm_quant (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (Memref.whole cc0_scratch0) (Memref.isWhole_whole _)

end Cert.NormQuant.Gen

end
-- ==== Proof.NormRuns.lean ====
/-
  What the run of `NormQuant` is stated with: the arrays at the entry of the region, the tables, the blocks of the windows.
-/
module

public import proofs.«01_k».proof.Proof.Gen.NormQuant.Launch
public import proofs.«01_k».proof.Proof.Gen.NormQuant.Skeleton
public import proofs.«01_k».proof.Proof.NormPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.NormQuant.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S144 .i32 := Memref.whole main_arg3
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_NormQuant`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).1 9).trans (((dats 0 c).arrAt_in 9 rfl _).trans ((hA c 9).trans (V_main_arg2 m c))),
      ((h c).2 main_arg3 (by decide : main_arg3 ∈ Pipeline.restRefs sig spec0)).trans (V_main_arg3 m c)⟩) h

/-! ## The kernel body on any staging memrefs: a subtype the run finds -/

/-- One staging buffer of output window 10, through which its contents are stated (`View.read_writes_of_cover`: the
    choice does not matter). -/
abbrev VO0_10 : View sig .tc .vmem S8x5x2048 .i8 := (Memref.whole cc0_stg10_0 : Memref sig .tc .vmem S8x5x2048 .i8).view
/-- One staging buffer of output window 11, through which its contents are stated (`View.read_writes_of_cover`: the
    choice does not matter). -/
abbrev VO0_11 : View sig .tc .vmem S8x5 .f32 := (Memref.whole cc0_stg11_0 : Memref sig .tc .vmem S8x5 .f32).view
/-- One staging buffer of output window 12, through which its contents are stated (`View.read_writes_of_cover`: the
    choice does not matter). -/
abbrev VO0_12 : View sig .tc .vmem S40x2048 .bf16 := (Memref.whole cc0_stg12_0 : Memref sig .tc .vmem S40x2048 .bf16).view
/-- One staging buffer of output window 13, through which its contents are stated (`View.read_writes_of_cover`: the
    choice does not matter). -/
abbrev VO0_13 : View sig .tc .vmem S40x128 .f32 := (Memref.whole cc0_stg13_0 : Memref sig .tc .vmem S40x128 .f32).view
/-- One staging buffer of output window 14, through which its contents are stated (`View.read_writes_of_cover`: the
    choice does not matter). -/
abbrev VO0_14 : View sig .tc .vmem S1x36x24x128 .f32 := (Memref.whole cc0_stg14_0 : Memref sig .tc .vmem S1x36x24x128 .f32).view
/-- Each window's current staging memref at point `t`, spelled as the pipeline passes it (`bodyAt0`), and its wholeness. -/
abbrev ms0_0 (hO : Ok m) (t : Fin (cfgM m hO).N) : Memref sig .tc .vmem S8x5x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x3x4608 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x3x4608 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x3x4608 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x3x4608 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x3x4608 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x3x4608 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x3x4608 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x3x4608 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S8x5x2048 .i8 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S8x5 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S40x2048 .bf16 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S40x128 .f32 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x36x24x128 .f32 := spec0_14.stage ((cfgM m hO).slots t 14)
abbrev hs0_14 (hO : Ok m) (t : Fin (cfgM m hO).N) : (ms0_14 m hO t).IsWhole := hstage0_14 (((cfgM m hO).slots t 14).cast nbuf0_14)
/-- The scratch operands: whole scoped buffers of the kernel's own, passed beside the windows. -/
abbrev scM0_0 : Memref sig .tc .vmem S16x40x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.NormQuant.Gen

end
-- ==== Proof.NormOk.lean ====
/-
  The launch of `NormQuant` is admissible where the slots are rows of the cache: each of the eight cache blocks of a grid point lies
  inside the array.
-/
module

public import proofs.«01_k».proof.Proof.NormSlots
public import proofs.«01_k».proof.Proof.NormRuns
public import Idealize.ShloMosaic.Lib.Affine

@[expose] public section

noncomputable section

namespace Cert.NormQuant.Gen

open Idealize.ShloMosaic Idealize.ShloMosaic.TcCoe

variable {F : FTy → Type} [FloatOps F]

/-- A block of the cache at a row below 181 lies inside it. -/
theorem inside (n : ℕ) (h : n < 181) (a : Fin S181x3x4608.rank) : ((![n, 0, 0] : Fin 3 → ℕ) a + 1) * S1x3x4608.size a ≤ S181x3x4608.size a := by
  match a with
  | ⟨0, _⟩ => show (n + 1) * 1 ≤ 181; omega
  | ⟨1, _⟩ => show (0 + 1) * 3 ≤ 3; omega
  | ⟨2, _⟩ => show (0 + 1) * 4608 ≤ 4608; omega

/-- The tables are admissible when every slot is below 181. -/
theorem ok_of_lt (m : (ℓ : Loc nD τ sig) → Buf (Elt F) ℓ)
    (h : ∀ i : S144.Idx, (m (((0 : Dev nD).tc : Thread nD τ).loc main_arg3) i : BitVec 32).toNat < 181) : Ok m := by
  have e : ∀ i : S144.Idx, (tbl m 0 i : BitVec 32).toNat < 181 := fun i => by
    have q : tbl m 0 = m (((0 : Dev nD).tc : Thread nD τ).loc main_arg3) := V_main_arg3 m 0
    rw [q]; exact h i
  unfold Ok ok0
  refine ⟨fun i => ⟨inside _ (e _), .inr (Affine.block_words_rows (of_decide_eq_true rfl) (by decide))⟩, fun i => ⟨inside _ (e _), .inr (Affine.block_words_rows (of_decide_eq_true rfl) (by decide))⟩, fun i => ⟨inside _ (e _), .inr (Affine.block_words_rows (of_decide_eq_true rfl) (by decide))⟩, fun i => ⟨inside _ (e _), .inr (Affine.block_words_rows (of_decide_eq_true rfl) (by decide))⟩, fun i => ⟨inside _ (e _), .inr (Affine.block_words_rows (of_decide_eq_true rfl) (by decide))⟩, fun i => ⟨inside _ (e _), .inr (Affine.block_words_rows (of_decide_eq_true rfl) (by decide))⟩, fun i => ⟨inside _ (e _), .inr (Affine.block_words_rows (of_decide_eq_true rfl) (by decide))⟩, fun i => ⟨inside _ (e _), .inr (Affine.block_words_rows (of_decide_eq_true rfl) (by decide))⟩⟩

end Cert.NormQuant.Gen

end
-- ==== Proof.NormBody.lean ====
/-
  The body of `NormQuant` run once: the pieces that it stores into each result's staging buffer.
-/
module

public import proofs.«01_k».proof.Proof.NormRuns

@[expose] public section

-- membership in a rectangle of production extents (`View.cover_of_tiled`): the elaborator's structural look
-- recurses once per coordinate of the long axes
set_option maxRecDepth 16384

noncomputable section

namespace Cert.NormQuant.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 7928000 in set_option sl_exec.stridedRows true in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) :
    Σ' (L10 : List (View.Piece (Elt F) S8x5x2048 .i8)), Σ' (L11 : List (View.Piece (Elt F) S8x5 .f32)), Σ' (L12 : List (View.Piece (Elt F) S40x2048 .bf16)), Σ' (L13 : List (View.Piece (Elt F) S40x128 .f32)), { L14 : List (View.Piece (Elt F) S1x36x24x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ d, owns (c : Thread nD τ) arg17 fullShare d) ∗ tbPt0 c tbM0_0 xt0) -∗ K ⟨⟩))
          ⊢ wp frame (wpE (defs₀ (F := F)) Variants.none c none) E (cc0_norm_quant i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_norm_quant_eq_skeleton]; unfold cc0_norm_quant_skel
    simp only [k0_part98_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]
    · iexists _, _; isplitr; swap; · iexact HS0
      ipureintro; rfl
    iexact HT0

end Cert.NormQuant.Gen

end
-- ==== Proof.NormCover.lean ====
/-
  The 288 strided stores that lay out the gathered cache: for each of the 8 members of a group and each of the 36 tiles of
  128 columns, the three cache positions go to the rows `member`, `member + 8` and `member + 16` of the tile. Together they
  cover the block.
-/
module

public import Idealize.ShloMosaic.Lib.Pipeline.FrameBody
public import Idealize.ShloMosaic.Lib.Ring
public import Idealize.ShloMosaic.Lib.Tactic

@[expose] public section

namespace Cert.NormCover

open Idealize.ShloMosaic

/-- The block that the stores fill. -/
abbrev Blk : Shape := ⟨4, ![1, 36, 24, 128]⟩

/-- One store goes to tile `l` and to the rows `i`, `i + 8`, `i + 16`. -/
def at' (r : Rect Blk) (i l : ℕ) : Bool :=
  r.off 0 == 0 && r.off 1 == l && r.off 2 == i && r.off 3 == 0
    && r.size 0 == 1 && r.size 1 == 1 && r.size 2 == 3 && r.size 3 == 128
    && r.stride 0 == 1 && r.stride 1 == 1 && r.stride 2 == 8 && r.stride 3 == 1

/-- The list holds, from the last store to the first, the stores of the members 7 to 0, of each the tiles 35 to 0; `n` of them
    are passed. -/
def layout {Val : EltTy → Type} {e : EltTy} : List (View.Piece Val Blk e) → ℕ → Bool
  | [], n => n == 288
  | p :: L, n => at' p.1 (7 - n / 36) (35 - n % 36) && layout L (n + 1)

theorem layout_mem {Val : EltTy → Type} {e : EltTy} : ∀ (L : List (View.Piece Val Blk e)) (n : ℕ), layout L n = true →
    ∀ k, n ≤ k → k < 288 → ∃ p ∈ L, at' p.1 (7 - k / 36) (35 - k % 36) = true
  | [], n, h, k, h1, h2 => by simp only [layout, beq_iff_eq] at h; omega
  | p :: L, n, h, k, h1, h2 => by
    simp only [layout, Bool.and_eq_true] at h
    rcases Nat.eq_or_lt_of_le h1 with rfl | h3
    · exact ⟨p, List.mem_cons_self, h.1⟩
    · obtain ⟨q, hq, hk⟩ := layout_mem L (n + 1) h.2 k h3 h2
      exact ⟨q, List.mem_cons_of_mem _ hq, hk⟩

/-- The stores cover the block. -/
theorem covers {Val : EltTy → Type} {e : EltTy} (L : List (View.Piece Val Blk e)) (h : layout L 0 = true) (y : Blk.Idx) :
    ∃ p ∈ L, y ∈ p.1.set := by
  have h0 : (y 0).val < 1 := (y 0).isLt
  have h1 : (y 1).val < 36 := (y 1).isLt
  have h2 : (y 2).val < 24 := (y 2).isLt
  have h3 : (y 3).val < 128 := (y 3).isLt
  obtain ⟨p, hp, hk⟩ := layout_mem L 0 h ((7 - (y 2).val % 8) * 36 + (35 - (y 1).val)) (Nat.zero_le _) (by omega)
  refine ⟨p, hp, ?_⟩
  rw [show 7 - ((7 - (y 2).val % 8) * 36 + (35 - (y 1).val)) / 36 = (y 2).val % 8 from by omega,
    show 35 - ((7 - (y 2).val % 8) * 36 + (35 - (y 1).val)) % 36 = (y 1).val from by omega] at hk
  simp only [at', Bool.and_eq_true, beq_iff_eq] at hk
  obtain ⟨⟨⟨⟨⟨⟨⟨⟨⟨⟨⟨o0, o1⟩, o2⟩, o3⟩, s0⟩, s1⟩, s2⟩, s3⟩, t0⟩, t1⟩, t2⟩, t3⟩ := hk
  rw [LoadRect.mem_set]
  intro a
  match a with
  | ⟨0, _⟩ => exact ⟨0, by show 0 < p.1.size 0; omega, by show (y 0).val = p.1.off 0 + p.1.stride 0 * 0; omega⟩
  | ⟨1, _⟩ => exact ⟨0, by show 0 < p.1.size 1; omega, by show (y 1).val = p.1.off 1 + p.1.stride 1 * 0; omega⟩
  | ⟨2, _⟩ => exact ⟨(y 2).val / 8, by show (y 2).val / 8 < p.1.size 2; omega, by show (y 2).val = p.1.off 2 + p.1.stride 2 * ((y 2).val / 8); rw [o2, t2]; omega⟩
  | ⟨3, _⟩ => exact ⟨(y 3).val, by show (y 3).val < p.1.size 3; omega, by show (y 3).val = p.1.off 3 + p.1.stride 3 * (y 3).val; rw [o3, t3]; omega⟩

end Cert.NormCover

end
-- ==== Proof.NormRun.lean ====
/-
  What the results of `NormQuant` hold, grid point by grid point, the body obligation, the run of the launch and the frame.
-/
module

public import proofs.«01_k».proof.Proof.NormBody
public import proofs.«01_k».proof.Proof.NormCover
public import Idealize.ShloMosaic.Lib.Claim

@[expose] public section

-- membership in a rectangle of production extents (`View.cover_of_tiled`): the elaborator's structural look
-- recurses once per coordinate of the long axes
set_option maxRecDepth 16384

noncomputable section

namespace Cert.NormQuant.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 10 tile its block (8 stores of `S1x5x2048`, checked by the kernel's evaluation: Lib/Ring.lean `Piece.tiledL`, linear in the pieces, through a loop's `@[irreducible]` trip theorem too), so they cover it. -/
theorem cover0_A_10 (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) (y : S8x5x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).1 S1x5x2048.size (by sl_kernel_rfl) y

/-- What the run leaves in output 10's staging buffer: its pieces read back over junk. -/
def out0_A_10 (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) : Vec F S8x5x2048 .i8 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).1)

/-- The run's pieces for output 11 tile its block (1 store of `S8x5`, checked by the kernel's evaluation: Lib/Ring.lean `Piece.tiledL`, linear in the pieces, through a loop's `@[irreducible]` trip theorem too), so they cover it. -/
theorem cover0_A_11 (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) (y : S8x5.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.1 S8x5.size (by sl_kernel_rfl) y

/-- What the run leaves in output 11's staging buffer: its pieces read back over junk. -/
def out0_A_11 (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) : Vec F S8x5 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.1)

/-- The run's pieces for output 12 tile its block (1 store of `S40x2048`, checked by the kernel's evaluation: Lib/Ring.lean `Piece.tiledL`, linear in the pieces, through a loop's `@[irreducible]` trip theorem too), so they cover it. -/
theorem cover0_A_12 (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) (y : S40x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.2.1 S40x2048.size (by sl_kernel_rfl) y

/-- What the run leaves in output 12's staging buffer: its pieces read back over junk. -/
def out0_A_12 (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) : Vec F S40x2048 .bf16 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.2.1)

/-- The run's pieces for output 13 tile its block (5 stores of `S8x128`, checked by the kernel's evaluation: Lib/Ring.lean `Piece.tiledL`, linear in the pieces, through a loop's `@[irreducible]` trip theorem too), so they cover it. -/
theorem cover0_A_13 (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) (y : S40x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.2.2.1 S8x128.size (by sl_kernel_rfl) y

/-- What the run leaves in output 13's staging buffer: its pieces read back over junk. -/
def out0_A_13 (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) : Vec F S40x128 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.2.2.1)

/-- The run's pieces for output 14 are the 288 strided stores of `NormCover.lean`, so they cover its block. -/
theorem cover0_A_14 (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) (y : S1x36x24x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.2.2.2.1, y ∈ pc.1.set :=
  Cert.NormCover.covers (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.2.2.2.1 (by sl_kernel_rfl) y

/-- What the run leaves in output 14's staging buffer: its pieces read back over junk. -/
def out0_A_14 (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) : Vec F S1x36x24x128 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.2.2.2.1)

/-! ## What the outputs hold after each point -/

/-- What the outputs' staging buffers hold after the body at point `t` (as a tuple, in window order): the run's contents at
    the point's memrefs and input blocks. -/
def outsAt0 (hO : Ok m) (c : Dev nD) (t : Fin (cfgM m hO).N) : Vec F S8x5x2048 .i8 × Vec F S8x5 .f32 × Vec F S40x2048 .bf16 × Vec F S40x128 .f32 × Vec F S1x36x24x128 .f32 :=
  (out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0), out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0), out0_A_12 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0), out0_A_13 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0), out0_A_14 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => (outsAt0 m hO c t).1
    | ⟨11, _⟩ => (outsAt0 m hO c t).2.1
    | ⟨12, _⟩ => (outsAt0 m hO c t).2.2.1
    | ⟨13, _⟩ => (outsAt0 m hO c t).2.2.2.1
    | ⟨14, _⟩ => (outsAt0 m hO c t).2.2.2.2
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = (outsAt0 m hO c t).1 := by dsimp only [dats]; try rfl
theorem after0_11 (hO : Ok m) (c : Dev nD) (t : Fin (cfgM m hO).N) : (dats m hO 0 c).after 11 t = (outsAt0 m hO c t).2.1 := by dsimp only [dats]; try rfl
theorem after0_12 (hO : Ok m) (c : Dev nD) (t : Fin (cfgM m hO).N) : (dats m hO 0 c).after 12 t = (outsAt0 m hO c t).2.2.1 := by dsimp only [dats]; try rfl
theorem after0_13 (hO : Ok m) (c : Dev nD) (t : Fin (cfgM m hO).N) : (dats m hO 0 c).after 13 t = (outsAt0 m hO c t).2.2.2.1 := by dsimp only [dats]; try rfl
theorem after0_14 (hO : Ok m) (c : Dev nD) (t : Fin (cfgM m hO).N) : (dats m hO 0 c).after 14 t = (outsAt0 m hO c t).2.2.2.2 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14]
  rw [show (dats m hO 0 c).Φ t.castSucc = iprop(Pipeline.ΦA spec0 c ∗ Pipeline.ΦT pre0 (tbl m) c) from rfl, PhiT0_eq, PhiA0_eq]
  unfold outsAt0
  unfold out0_A_10 out0_A_11 out0_A_12 out0_A_13 out0_A_14; (try dsimp only)
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0_A c (grid0.coords t) _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [HS0]; · iexact HS0
  isplitl [HT0]; · iexact HT0
  iintro ⟨H0, H1, H2, H3, H4, H5, H6, H7, H8, H9, ⟨%e10, H10⟩, ⟨%e11, H11⟩, ⟨%e12, H12⟩, ⟨%e13, H13⟩, ⟨%e14, H14⟩, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _)
  unfold owns; iexists _; isplitr
  swap; · iexact H14
  ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

/-- The quantisation of the inputs terminates, leaves its arguments unchanged, and all its semaphores end at zero, if every slot is a row of the cache. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.NormQuant.Gen

end
-- ==== Proof.NormPointsIdeal.lean ====
/-
  The schedule of `NormQuantIdeal`: at which grid points each window is fetched or written back, and the staging buffers that the body is
  called with there.
-/
module

public import proofs.«01_k».proof.Proof.Gen.NormQuantIdeal
public import Idealize.ShloMosaic.Lib.Pipeline.Kit

@[expose] public section

noncomputable section

namespace Cert.NormQuantIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%0)) is fetched at the first point only, at any contents of the tables (its index map reads none). -/
theorem fetch0_1 (a : (pcfg0 (F := F)).Adm) : ∀ t : Fin (cfg0 a).N, ((cfg0 a).win 1).fetch t = true ↔ t.val % 18 = 0 :=
  (fun t => Pipeline.Window.fetchOf_const cc0_transform_1 (fun _ _ => rfl) (n := 18) (by decide) t : ∀ t : Fin grid0.N, Pipeline.Window.fetchOf grid0 false cc0_transform_1 t = true ↔ t.val % 18 = 0)
-- window 2: no schedule fact — its index map reads a prefetched table, so where it is fetched or written back depends on the tables' contents
-- window 3: no schedule fact — its index map reads a prefetched table, so where it is fetched or written back depends on the tables' contents
-- window 4: no schedule fact — its index map reads a prefetched table, so where it is fetched or written back depends on the tables' contents
-- window 5: no schedule fact — its index map reads a prefetched table, so where it is fetched or written back depends on the tables' contents
-- window 6: no schedule fact — its index map reads a prefetched table, so where it is fetched or written back depends on the tables' contents
-- window 7: no schedule fact — its index map reads a prefetched table, so where it is fetched or written back depends on the tables' contents
-- window 8: no schedule fact — its index map reads a prefetched table, so where it is fetched or written back depends on the tables' contents
-- window 9: no schedule fact — its index map reads a prefetched table, so where it is fetched or written back depends on the tables' contents
/-- Window 10 (result 0 (%1#0)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 0 (by decide) (by decide) (Pipeline.Window.sep_of_coord cc0_transform_10 0 0 (fun _ => rfl) (by decide)) (P := 1) (m := 0) (by decide) rfl t).mpr (Nat.mod_one _) : ∀ t : Fin grid0.N, Pipeline.Window.flushOf grid0 true cc0_transform_10 t = true)
/-- Window 11 (result 1 (%1#1)) is written back at every point, at any contents of the tables (its index map reads none). -/
theorem flush0_11 (a : (pcfg0 (F := F)).Adm) : ∀ t : Fin (cfg0 a).N, ((cfg0 a).win 11).flush t = true :=
  (fun t => (Pipeline.Window.flushOf_reads cc0_transform_11 reads0_11 hreads0_11 0 (by decide) (by decide) (Pipeline.Window.sep_of_coord cc0_transform_11 0 0 (fun _ => rfl) (by decide)) (P := 1) (m := 0) (by decide) rfl t).mpr (Nat.mod_one _) : ∀ t : Fin grid0.N, Pipeline.Window.flushOf grid0 true cc0_transform_11 t = true)
/-- Window 12 (result 2 (%1#2)) is written back at every point, at any contents of the tables (its index map reads none). -/
theorem flush0_12 (a : (pcfg0 (F := F)).Adm) : ∀ t : Fin (cfg0 a).N, ((cfg0 a).win 12).flush t = true :=
  (fun t => (Pipeline.Window.flushOf_reads cc0_transform_12 reads0_12 hreads0_12 0 (by decide) (by decide) (Pipeline.Window.sep_of_coord cc0_transform_12 0 0 (fun _ => rfl) (by decide)) (P := 1) (m := 0) (by decide) rfl t).mpr (Nat.mod_one _) : ∀ t : Fin grid0.N, Pipeline.Window.flushOf grid0 true cc0_transform_12 t = true)
/-- Window 13 (result 3 (%1#3)) is written back at every point, at any contents of the tables (its index map reads none). -/
theorem flush0_13 (a : (pcfg0 (F := F)).Adm) : ∀ t : Fin (cfg0 a).N, ((cfg0 a).win 13).flush t = true :=
  (fun t => (Pipeline.Window.flushOf_reads cc0_transform_13 reads0_13 hreads0_13 0 (by decide) (by decide) (Pipeline.Window.sep_of_coord cc0_transform_13 0 0 (fun _ => rfl) (by decide)) (P := 1) (m := 0) (by decide) rfl t).mpr (Nat.mod_one _) : ∀ t : Fin grid0.N, Pipeline.Window.flushOf grid0 true cc0_transform_13 t = true)
/-- Window 14 (result 4 (%1#4)) is written back at every point, at any contents of the tables (its index map reads none). -/
theorem flush0_14 (a : (pcfg0 (F := F)).Adm) : ∀ t : Fin (cfg0 a).N, ((cfg0 a).win 14).flush t = true :=
  (fun t => (Pipeline.Window.flushOf_reads cc0_transform_14 reads0_14 hreads0_14 0 (by decide) (by decide) (Pipeline.Window.sep_of_coord cc0_transform_14 0 0 (fun _ => rfl) (by decide)) (P := 1) (m := 0) (by decide) rfl t).mpr (Nat.mod_one _) : ∀ t : Fin grid0.N, Pipeline.Window.flushOf grid0 true cc0_transform_14 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_norm_quant (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (Memref.whole cc0_scratch0) (Memref.isWhole_whole _)

end Cert.NormQuantIdeal.Gen

end
-- ==== Proof.NormRunsIdeal.lean ====
/-
  What the run of `NormQuantIdeal` is stated with: the arrays at the entry of the region, the tables, the blocks of the windows.
-/
module

public import proofs.«01_k».proof.Proof.Gen.NormQuantIdeal.Launch
public import proofs.«01_k».proof.Proof.Gen.NormQuantIdeal.Skeleton
public import proofs.«01_k».proof.Proof.NormPointsIdeal
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.NormQuantIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S144 .i32 := Memref.whole main_arg3
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_NormQuantIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).1 9).trans (((dats 0 c).arrAt_in 9 rfl _).trans ((hA c 9).trans (V_main_arg2 m c))),
      ((h c).2 main_arg3 (by decide : main_arg3 ∈ Pipeline.restRefs sig spec0)).trans (V_main_arg3 m c)⟩) h

/-! ## The kernel body on any staging memrefs: a subtype the run finds -/

/-- One staging buffer of output window 10, through which its contents are stated (`View.read_writes_of_cover`: the
    choice does not matter). -/
abbrev VO0_10 : View sig .tc .vmem S8x5x2048 .i8 := (Memref.whole cc0_stg10_0 : Memref sig .tc .vmem S8x5x2048 .i8).view
/-- One staging buffer of output window 11, through which its contents are stated (`View.read_writes_of_cover`: the
    choice does not matter). -/
abbrev VO0_11 : View sig .tc .vmem S8x5 .f32 := (Memref.whole cc0_stg11_0 : Memref sig .tc .vmem S8x5 .f32).view
/-- One staging buffer of output window 12, through which its contents are stated (`View.read_writes_of_cover`: the
    choice does not matter). -/
abbrev VO0_12 : View sig .tc .vmem S40x2048 .bf16 := (Memref.whole cc0_stg12_0 : Memref sig .tc .vmem S40x2048 .bf16).view
/-- One staging buffer of output window 13, through which its contents are stated (`View.read_writes_of_cover`: the
    choice does not matter). -/
abbrev VO0_13 : View sig .tc .vmem S40x128 .f32 := (Memref.whole cc0_stg13_0 : Memref sig .tc .vmem S40x128 .f32).view
/-- One staging buffer of output window 14, through which its contents are stated (`View.read_writes_of_cover`: the
    choice does not matter). -/
abbrev VO0_14 : View sig .tc .vmem S1x36x24x128 .f32 := (Memref.whole cc0_stg14_0 : Memref sig .tc .vmem S1x36x24x128 .f32).view
/-- Each window's current staging memref at point `t`, spelled as the pipeline passes it (`bodyAt0`), and its wholeness. -/
abbrev ms0_0 (hO : Ok m) (t : Fin (cfgM m hO).N) : Memref sig .tc .vmem S8x5x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x3x4608 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x3x4608 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x3x4608 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x3x4608 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x3x4608 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x3x4608 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x3x4608 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x3x4608 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S8x5x2048 .i8 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S8x5 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S40x2048 .bf16 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S40x128 .f32 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x36x24x128 .f32 := spec0_14.stage ((cfgM m hO).slots t 14)
abbrev hs0_14 (hO : Ok m) (t : Fin (cfgM m hO).N) : (ms0_14 m hO t).IsWhole := hstage0_14 (((cfgM m hO).slots t 14).cast nbuf0_14)
/-- The scratch operands: whole scoped buffers of the kernel's own, passed beside the windows. -/
abbrev scM0_0 : Memref sig .tc .vmem S16x40x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.NormQuantIdeal.Gen

end
-- ==== Proof.NormOkIdeal.lean ====
/-
  The launch of `NormQuantIdeal` is admissible where the slots are rows of the cache: each of the eight cache blocks of a grid point lies
  inside the array.
-/
module

public import proofs.«01_k».proof.Proof.NormSlots
public import proofs.«01_k».proof.Proof.NormRunsIdeal
public import Idealize.ShloMosaic.Lib.Affine

@[expose] public section

noncomputable section

namespace Cert.NormQuantIdeal.Gen

open Idealize.ShloMosaic Idealize.ShloMosaic.TcCoe

variable {F : FTy → Type} [FloatOps F]

/-- A block of the cache at a row below 181 lies inside it. -/
theorem inside (n : ℕ) (h : n < 181) (a : Fin S181x3x4608.rank) : ((![n, 0, 0] : Fin 3 → ℕ) a + 1) * S1x3x4608.size a ≤ S181x3x4608.size a := by
  match a with
  | ⟨0, _⟩ => show (n + 1) * 1 ≤ 181; omega
  | ⟨1, _⟩ => show (0 + 1) * 3 ≤ 3; omega
  | ⟨2, _⟩ => show (0 + 1) * 4608 ≤ 4608; omega

/-- The tables are admissible when every slot is below 181. -/
theorem ok_of_lt (m : (ℓ : Loc nD τ sig) → Buf (Elt F) ℓ)
    (h : ∀ i : S144.Idx, (m (((0 : Dev nD).tc : Thread nD τ).loc main_arg3) i : BitVec 32).toNat < 181) : Ok m := by
  have e : ∀ i : S144.Idx, (tbl m 0 i : BitVec 32).toNat < 181 := fun i => by
    have q : tbl m 0 = m (((0 : Dev nD).tc : Thread nD τ).loc main_arg3) := V_main_arg3 m 0
    rw [q]; exact h i
  unfold Ok ok0
  refine ⟨fun i => ⟨inside _ (e _), .inr (Affine.block_words_rows (of_decide_eq_true rfl) (by decide))⟩, fun i => ⟨inside _ (e _), .inr (Affine.block_words_rows (of_decide_eq_true rfl) (by decide))⟩, fun i => ⟨inside _ (e _), .inr (Affine.block_words_rows (of_decide_eq_true rfl) (by decide))⟩, fun i => ⟨inside _ (e _), .inr (Affine.block_words_rows (of_decide_eq_true rfl) (by decide))⟩, fun i => ⟨inside _ (e _), .inr (Affine.block_words_rows (of_decide_eq_true rfl) (by decide))⟩, fun i => ⟨inside _ (e _), .inr (Affine.block_words_rows (of_decide_eq_true rfl) (by decide))⟩, fun i => ⟨inside _ (e _), .inr (Affine.block_words_rows (of_decide_eq_true rfl) (by decide))⟩, fun i => ⟨inside _ (e _), .inr (Affine.block_words_rows (of_decide_eq_true rfl) (by decide))⟩⟩

end Cert.NormQuantIdeal.Gen

end
-- ==== Proof.NormBodyIdeal.lean ====
/-
  The body of `NormQuantIdeal` run once: the pieces that it stores into each result's staging buffer.
-/
module

public import proofs.«01_k».proof.Proof.NormRunsIdeal

@[expose] public section

-- membership in a rectangle of production extents (`View.cover_of_tiled`): the elaborator's structural look
-- recurses once per coordinate of the long axes
set_option maxRecDepth 16384

noncomputable section

namespace Cert.NormQuantIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 7928000 in set_option sl_exec.stridedRows true in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) :
    Σ' (L10 : List (View.Piece (Elt F) S8x5x2048 .i8)), Σ' (L11 : List (View.Piece (Elt F) S8x5 .f32)), Σ' (L12 : List (View.Piece (Elt F) S40x2048 .bf16)), Σ' (L13 : List (View.Piece (Elt F) S40x128 .f32)), { L14 : List (View.Piece (Elt F) S1x36x24x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ d, owns (c : Thread nD τ) arg17 fullShare d) ∗ tbPt0 c tbM0_0 xt0) -∗ K ⟨⟩))
          ⊢ wp frame (wpE (defs₀ (F := F)) Variants.none c none) E (cc0_norm_quant i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_norm_quant_eq_skeleton]; unfold cc0_norm_quant_skel
    simp only [k0_part98_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]
    · iexists _, _; isplitr; swap; · iexact HS0
      ipureintro; rfl
    iexact HT0

end Cert.NormQuantIdeal.Gen

end
-- ==== Proof.NormRunIdeal.lean ====
/-
  What the results of `NormQuantIdeal` hold, grid point by grid point, the body obligation, the run of the launch and the frame.
-/
module

public import proofs.«01_k».proof.Proof.NormBodyIdeal
public import proofs.«01_k».proof.Proof.NormCover
public import Idealize.ShloMosaic.Lib.Claim

@[expose] public section

-- membership in a rectangle of production extents (`View.cover_of_tiled`): the elaborator's structural look
-- recurses once per coordinate of the long axes
set_option maxRecDepth 16384

noncomputable section

namespace Cert.NormQuantIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 10 tile its block (8 stores of `S1x5x2048`, checked by the kernel's evaluation: Lib/Ring.lean `Piece.tiledL`, linear in the pieces, through a loop's `@[irreducible]` trip theorem too), so they cover it. -/
theorem cover0_A_10 (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) (y : S8x5x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).1 S1x5x2048.size (by sl_kernel_rfl) y

/-- What the run leaves in output 10's staging buffer: its pieces read back over junk. -/
def out0_A_10 (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) : Vec F S8x5x2048 .i8 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).1)

/-- The run's pieces for output 11 tile its block (1 store of `S8x5`, checked by the kernel's evaluation: Lib/Ring.lean `Piece.tiledL`, linear in the pieces, through a loop's `@[irreducible]` trip theorem too), so they cover it. -/
theorem cover0_A_11 (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) (y : S8x5.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.1 S8x5.size (by sl_kernel_rfl) y

/-- What the run leaves in output 11's staging buffer: its pieces read back over junk. -/
def out0_A_11 (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) : Vec F S8x5 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.1)

/-- The run's pieces for output 12 tile its block (1 store of `S40x2048`, checked by the kernel's evaluation: Lib/Ring.lean `Piece.tiledL`, linear in the pieces, through a loop's `@[irreducible]` trip theorem too), so they cover it. -/
theorem cover0_A_12 (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) (y : S40x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.2.1 S40x2048.size (by sl_kernel_rfl) y

/-- What the run leaves in output 12's staging buffer: its pieces read back over junk. -/
def out0_A_12 (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) : Vec F S40x2048 .bf16 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.2.1)

/-- The run's pieces for output 13 tile its block (5 stores of `S8x128`, checked by the kernel's evaluation: Lib/Ring.lean `Piece.tiledL`, linear in the pieces, through a loop's `@[irreducible]` trip theorem too), so they cover it. -/
theorem cover0_A_13 (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) (y : S40x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.2.2.1 S8x128.size (by sl_kernel_rfl) y

/-- What the run leaves in output 13's staging buffer: its pieces read back over junk. -/
def out0_A_13 (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) : Vec F S40x128 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.2.2.1)

/-- The run's pieces for output 14 are the 288 strided stores of `NormCover.lean`, so they cover its block. -/
theorem cover0_A_14 (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) (y : S1x36x24x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.2.2.2.1, y ∈ pc.1.set :=
  Cert.NormCover.covers (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.2.2.2.1 (by sl_kernel_rfl) y

/-- What the run leaves in output 14's staging buffer: its pieces read back over junk. -/
def out0_A_14 (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0) : Vec F S1x36x24x128 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.2.2.2.1)

/-! ## What the outputs hold after each point -/

/-- What the outputs' staging buffers hold after the body at point `t` (as a tuple, in window order): the run's contents at
    the point's memrefs and input blocks. -/
def outsAt0 (hO : Ok m) (c : Dev nD) (t : Fin (cfgM m hO).N) : Vec F S8x5x2048 .i8 × Vec F S8x5 .f32 × Vec F S40x2048 .bf16 × Vec F S40x128 .f32 × Vec F S1x36x24x128 .f32 :=
  (out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0), out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0), out0_A_12 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0), out0_A_13 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0), out0_A_14 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => (outsAt0 m hO c t).1
    | ⟨11, _⟩ => (outsAt0 m hO c t).2.1
    | ⟨12, _⟩ => (outsAt0 m hO c t).2.2.1
    | ⟨13, _⟩ => (outsAt0 m hO c t).2.2.2.1
    | ⟨14, _⟩ => (outsAt0 m hO c t).2.2.2.2
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = (outsAt0 m hO c t).1 := by dsimp only [dats]; try rfl
theorem after0_11 (hO : Ok m) (c : Dev nD) (t : Fin (cfgM m hO).N) : (dats m hO 0 c).after 11 t = (outsAt0 m hO c t).2.1 := by dsimp only [dats]; try rfl
theorem after0_12 (hO : Ok m) (c : Dev nD) (t : Fin (cfgM m hO).N) : (dats m hO 0 c).after 12 t = (outsAt0 m hO c t).2.2.1 := by dsimp only [dats]; try rfl
theorem after0_13 (hO : Ok m) (c : Dev nD) (t : Fin (cfgM m hO).N) : (dats m hO 0 c).after 13 t = (outsAt0 m hO c t).2.2.2.1 := by dsimp only [dats]; try rfl
theorem after0_14 (hO : Ok m) (c : Dev nD) (t : Fin (cfgM m hO).N) : (dats m hO 0 c).after 14 t = (outsAt0 m hO c t).2.2.2.2 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14]
  rw [show (dats m hO 0 c).Φ t.castSucc = iprop(Pipeline.ΦA spec0 c ∗ Pipeline.ΦT pre0 (tbl m) c) from rfl, PhiT0_eq, PhiA0_eq]
  unfold outsAt0
  unfold out0_A_10 out0_A_11 out0_A_12 out0_A_13 out0_A_14; (try dsimp only)
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0_A c (grid0.coords t) _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [HS0]; · iexact HS0
  isplitl [HT0]; · iexact HT0
  iintro ⟨H0, H1, H2, H3, H4, H5, H6, H7, H8, H9, ⟨%e10, H10⟩, ⟨%e11, H11⟩, ⟨%e12, H12⟩, ⟨%e13, H13⟩, ⟨%e14, H14⟩, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _)
  unfold owns; iexists _; isplitr
  swap; · iexact H14
  ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

/-- The quantisation of the inputs terminates, leaves its arguments unchanged, and all its semaphores end at zero, if every slot is a row of the cache. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.NormQuantIdeal.Gen

end
-- ==== Proof.NormStore.lean ====
/-
  The stores into the scratch of the quantisation of the inputs, read back. The scratch holds 16 tiles of 40 rows of 128 lanes. First
  the five rows of each of eight members go to every eighth row, tile by tile; later, token by token, eight rows are replaced in each
  tile.
-/
module

public import Idealize.ShloMosaic.Lib.ValueIdx
public import Idealize.ShloMosaic.Lib.ValueLayout
public import Idealize.ShloMosaic.Lib.WritesUnit
public import Idealize.ShloMosaic.Lib.Pipeline.Value
public import Idealize.ShloMosaic.Lib.Pipeline.ValueKit

@[expose] public section

set_option maxRecDepth 16384

noncomputable section

namespace Cert.NormStore

open Idealize.ShloMosaic hiding ix1 ix2 ix3 ix4 eq_ix1 eq_ix2 eq_ix3 eq_ix4
open Idealize.ShloMosaic.ValueIdx

/-- The scratch: tile, row, lane. -/
abbrev Scr : Shape := ⟨3, ![16, 40, 128]⟩

/-- The five rows of one member in one tile. -/
abbrev Five : Shape := ⟨3, ![1, 5, 128]⟩

/-- The eight rows of one token in one tile. -/
abbrev Eight : Shape := ⟨3, ![1, 8, 128]⟩

section

variable {sig : RefSig} {κ : Kind} {sp : Space} {s : Shape} {e : EltTy} {Val : EltTy → Type} (v : View sig κ sp s e) (f : v.ty.Contents Val)

/-- A place of the newest piece reads its payload. -/
theorem hit (r : Rect s) (w : r.shape.Idx → Val e) (L : List (View.Piece Val s e)) (y : s.Idx) (x : r.shape.Idx)
    (h : ∀ a, (y a).val = r.off a + r.stride a * (x a).val) : v.read Val (v.writes Val f (⟨r, w⟩ :: L)) y = w x := by
  have hy : r.emb x = y := funext fun a => Fin.ext (h a).symm
  rw [← hy]
  exact View.read_writes_cons_emb v f r w L x

/-- A place outside the newest piece reads what the other pieces left. -/
theorem miss (r : Rect s) (w : r.shape.Idx → Val e) (L : List (View.Piece Val s e)) (y : s.Idx)
    (h : ∃ a, ∀ j < r.size a, (y a).val ≠ r.off a + r.stride a * j) :
    v.read Val (v.writes Val f (⟨r, w⟩ :: L)) y = v.read Val (v.writes Val f L) y := by
  have hy : y ∉ Finset.univ.map r.emb := by
    rw [Rect.map_emb_univ, LoadRect.mem_set]
    obtain ⟨a, ha⟩ := h
    exact fun hall => by obtain ⟨j, hj, e⟩ := hall a; exact ha j hj e
  rw [View.writes_cons]
  exact View.read_slice_write_of_not_mem _ _ _ _ hy

end

section

variable {e : EltTy} {Val : EltTy → Type}

theorem five_inb (l : Fin 16) (i : Fin 8) (a : Fin 3) :
    Five.size a = 0 ∨ (![l.val, i.val, 0] : Fin 3 → ℕ) a + (![1, 8, 1] : Fin 3 → ℕ) a * (Five.size a - 1) < Scr.size a := Or.inr (by
  match a with
  | ⟨0, _⟩ => show l.val + 1 * 0 < 16; omega
  | ⟨1, _⟩ => show i.val + 8 * 4 < 40; omega
  | ⟨2, _⟩ => show 0 + 1 * 127 < 128; omega)

theorem five_pos (a : Fin 3) : 0 < (![1, 8, 1] : Fin 3 → ℕ) a := by
  match a with
  | ⟨0, _⟩ => show 0 < 1; omega
  | ⟨1, _⟩ => show 0 < 8; omega
  | ⟨2, _⟩ => show 0 < 1; omega

/-- Rows `i`, `i + 8`, …, `i + 32` of tile `l`. -/
def fiveRect (l : Fin 16) (i : Fin 8) : Rect Scr :=
  { off := ![l.val, i.val, 0], size := Five.size, stride := ![1, 8, 1], inb := five_inb l i, stride_pos := five_pos }

theorem eight_inb (l : Fin 16) (t : Fin 5) (a : Fin 3) : (![l.val, 8 * t.val, 0] : Fin 3 → ℕ) a + Eight.size a ≤ Scr.size a := by
  match a with
  | ⟨0, _⟩ => show l.val + 1 ≤ 16; omega
  | ⟨1, _⟩ => show 8 * t.val + 8 ≤ 40; omega
  | ⟨2, _⟩ => show 0 + 128 ≤ 128; omega

/-- Rows `8 * t` to `8 * t + 7` of tile `l`. -/
abbrev eightRect (l : Fin 16) (t : Fin 5) : Rect Scr := Rect.unit ![l.val, 8 * t.val, 0] Eight.size (eight_inb l t)

/-- The stores of member `i` into the first `n` tiles, after those of `L`. -/
def member (i : Fin 8) (P : Fin 16 → Five.Idx → Val e) (L : List (View.Piece Val Scr e)) : (n : ℕ) → n ≤ 16 → List (View.Piece Val Scr e)
  | 0, _ => L
  | n + 1, h => ⟨fiveRect ⟨n, h⟩ i, P ⟨n, h⟩⟩ :: member i P L n (Nat.le_of_succ_le h)

/-- The stores of the first `n` members. -/
def members (P : Fin 8 → Fin 16 → Five.Idx → Val e) : (n : ℕ) → n ≤ 8 → List (View.Piece Val Scr e)
  | 0, _ => []
  | n + 1, h => member ⟨n, h⟩ (P ⟨n, h⟩) (members P n (Nat.le_of_succ_le h)) 16 (Nat.le_refl 16)

/-- The stores of token `t` into the first `n` tiles, after those of `L`. -/
def token (t : Fin 5) (Q : Fin 16 → Eight.Idx → Val e) (L : List (View.Piece Val Scr e)) : (n : ℕ) → n ≤ 16 → List (View.Piece Val Scr e)
  | 0, _ => L
  | n + 1, h => ⟨eightRect ⟨n, h⟩ t, Q ⟨n, h⟩⟩ :: token t Q L n (Nat.le_of_succ_le h)

variable {sig : RefSig} {κ : Kind} {sp : Space} (v : View sig κ sp Scr e) (f : v.ty.Contents Val)

theorem member_hit (i : Fin 8) (P : Fin 16 → Five.Idx → Val e) (L : List (View.Piece Val Scr e)) (l : Fin 16) (r : Fin 40) (k : Fin 128)
    (hr : r.val % 8 = i.val) : (n : ℕ) → (h : n ≤ 16) → l.val < n →
    v.read Val (v.writes Val f (member i P L n h)) (ix3 l r k) = P l (ix3 (0 : Fin 1) (⟨r.val / 8, by omega⟩ : Fin 5) k)
  | n + 1, h, hl => by
    by_cases e : l.val = n
    · obtain rfl : l = ⟨n, h⟩ := Fin.ext e
      exact hit v f (fiveRect ⟨n, h⟩ i) (P ⟨n, h⟩) _ _ (ix3 (0 : Fin 1) (⟨r.val / 8, by omega⟩ : Fin 5) k) fun a => by
        match a with
        | ⟨0, _⟩ => show n = n + 1 * 0; omega
        | ⟨1, _⟩ => show r.val = i.val + 8 * (r.val / 8); omega
        | ⟨2, _⟩ => show k.val = 0 + 1 * k.val; omega
    · refine (miss v f (fiveRect ⟨n, h⟩ i) (P ⟨n, h⟩) _ _ ⟨0, fun j hj => ?_⟩).trans (member_hit i P L l r k hr n (Nat.le_of_succ_le h) (by omega))
      have hj : j < 1 := hj
      show l.val ≠ n + 1 * j
      omega

theorem member_miss (i : Fin 8) (P : Fin 16 → Five.Idx → Val e) (L : List (View.Piece Val Scr e)) (l : Fin 16) (r : Fin 40) (k : Fin 128)
    (hr : r.val % 8 ≠ i.val) : (n : ℕ) → (h : n ≤ 16) →
    v.read Val (v.writes Val f (member i P L n h)) (ix3 l r k) = v.read Val (v.writes Val f L) (ix3 l r k)
  | 0, h => rfl
  | n + 1, h => by
    refine (miss v f (fiveRect ⟨n, h⟩ i) (P ⟨n, h⟩) _ _ ⟨1, fun j hj => ?_⟩).trans (member_miss i P L l r k hr n (Nat.le_of_succ_le h))
    show r.val ≠ i.val + 8 * j
    omega

/-- After the stores of the first `n` members, row `r` is row `r / 8` of member `r % 8`. -/
theorem members_apply (P : Fin 8 → Fin 16 → Five.Idx → Val e) (l : Fin 16) (r : Fin 40) (k : Fin 128) : (n : ℕ) → (h : n ≤ 8) → r.val % 8 < n →
    v.read Val (v.writes Val f (members P n h)) (ix3 l r k) = P ⟨r.val % 8, by omega⟩ l (ix3 (0 : Fin 1) (⟨r.val / 8, by omega⟩ : Fin 5) k)
  | n + 1, h, hr => by
    by_cases e : r.val % 8 = n
    · refine (member_hit v f ⟨n, h⟩ (P ⟨n, h⟩) _ l r k e 16 (Nat.le_refl 16) l.isLt).trans ?_
      exact congrArg (fun q => P q l (ix3 (0 : Fin 1) (⟨r.val / 8, by omega⟩ : Fin 5) k)) (Fin.ext e.symm)
    · exact (member_miss v f ⟨n, h⟩ (P ⟨n, h⟩) _ l r k e 16 (Nat.le_refl 16)).trans (members_apply P l r k n (Nat.le_of_succ_le h) (by omega))

theorem token_hit (t : Fin 5) (Q : Fin 16 → Eight.Idx → Val e) (L : List (View.Piece Val Scr e)) (l : Fin 16) (r : Fin 40) (k : Fin 128)
    (hr : r.val / 8 = t.val) : (n : ℕ) → (h : n ≤ 16) → l.val < n →
    v.read Val (v.writes Val f (token t Q L n h)) (ix3 l r k) = Q l (ix3 (0 : Fin 1) (⟨r.val % 8, by omega⟩ : Fin 8) k)
  | n + 1, h, hl => by
    by_cases e : l.val = n
    · obtain rfl : l = ⟨n, h⟩ := Fin.ext e
      exact hit v f (eightRect ⟨n, h⟩ t) (Q ⟨n, h⟩) _ _ (ix3 (0 : Fin 1) (⟨r.val % 8, by omega⟩ : Fin 8) k) fun a => by
        match a with
        | ⟨0, _⟩ => show n = n + 1 * 0; omega
        | ⟨1, _⟩ => show r.val = 8 * t.val + 1 * (r.val % 8); omega
        | ⟨2, _⟩ => show k.val = 0 + 1 * k.val; omega
    · refine (miss v f (eightRect ⟨n, h⟩ t) (Q ⟨n, h⟩) _ _ ⟨0, fun j hj => ?_⟩).trans (token_hit t Q L l r k hr n (Nat.le_of_succ_le h) (by omega))
      have hj : j < 1 := hj
      show l.val ≠ n + 1 * j
      omega

theorem token_miss (t : Fin 5) (Q : Fin 16 → Eight.Idx → Val e) (L : List (View.Piece Val Scr e)) (l : Fin 16) (r : Fin 40) (k : Fin 128)
    (hr : r.val / 8 ≠ t.val) : (n : ℕ) → (h : n ≤ 16) →
    v.read Val (v.writes Val f (token t Q L n h)) (ix3 l r k) = v.read Val (v.writes Val f L) (ix3 l r k)
  | 0, h => rfl
  | n + 1, h => by
    refine (miss v f (eightRect ⟨n, h⟩ t) (Q ⟨n, h⟩) _ _ ⟨1, fun j hj => ?_⟩).trans (token_miss t Q L l r k hr n (Nat.le_of_succ_le h))
    have hj : j < 8 := hj
    show r.val ≠ 8 * t.val + 1 * j
    omega

end

/-- Sixteen tiles of 128 lanes side by side, `R` rows of them. -/
def cat {α : Type} {R : ℕ} (g : Fin 16 → (⟨2, ![R, 128]⟩ : Shape).Idx → α)
    (h : Shape.Concatenates [⟨2, ![R, 128]⟩, ⟨2, ![R, 128]⟩, ⟨2, ![R, 128]⟩, ⟨2, ![R, 128]⟩, ⟨2, ![R, 128]⟩, ⟨2, ![R, 128]⟩, ⟨2, ![R, 128]⟩, ⟨2, ![R, 128]⟩,
      ⟨2, ![R, 128]⟩, ⟨2, ![R, 128]⟩, ⟨2, ![R, 128]⟩, ⟨2, ![R, 128]⟩, ⟨2, ![R, 128]⟩, ⟨2, ![R, 128]⟩, ⟨2, ![R, 128]⟩, ⟨2, ![R, 128]⟩] ⟨2, ![R, 2048]⟩ 1) :
    (⟨2, ![R, 2048]⟩ : Shape).Idx → α :=
  concatenate ⟨2, ![R, 2048]⟩ 1 [⟨⟨2, ![R, 128]⟩, g 0⟩, ⟨⟨2, ![R, 128]⟩, g 1⟩, ⟨⟨2, ![R, 128]⟩, g 2⟩, ⟨⟨2, ![R, 128]⟩, g 3⟩, ⟨⟨2, ![R, 128]⟩, g 4⟩,
    ⟨⟨2, ![R, 128]⟩, g 5⟩, ⟨⟨2, ![R, 128]⟩, g 6⟩, ⟨⟨2, ![R, 128]⟩, g 7⟩, ⟨⟨2, ![R, 128]⟩, g 8⟩, ⟨⟨2, ![R, 128]⟩, g 9⟩, ⟨⟨2, ![R, 128]⟩, g 10⟩,
    ⟨⟨2, ![R, 128]⟩, g 11⟩, ⟨⟨2, ![R, 128]⟩, g 12⟩, ⟨⟨2, ![R, 128]⟩, g 13⟩, ⟨⟨2, ![R, 128]⟩, g 14⟩, ⟨⟨2, ![R, 128]⟩, g 15⟩] h

/-- Column `n` is lane `n % 128` of tile `n / 128`. -/
theorem cat_apply {α : Type} {R : ℕ} (g : Fin 16 → (⟨2, ![R, 128]⟩ : Shape).Idx → α) (h) (j : Fin R) (n : Fin 2048) :
    cat g h (ix2 j n) = g ⟨n.val / 128, by omega⟩ (ix2 j (⟨n.val % 128, by omega⟩ : Fin 128)) :=
  concatenate_ofFn_apply (t := ⟨2, ![R, 2048]⟩) (s₁ := ⟨2, ![R, 128]⟩) 1 g h rfl 128 rfl (ix2 j n) ⟨n.val / 128, by omega⟩ rfl
    (ix2 j (⟨n.val % 128, by omega⟩ : Fin 128)) rfl (fun b hb => by match b with | ⟨0, _⟩ => rfl | ⟨1, _⟩ => exact absurd rfl hb)

end Cert.NormStore

end
-- ==== Proof.NormLists.lean ====
/-
  What one grid point of the quantisation of the inputs stores, in terms of a few vector functions: the five rows of each of eight
  members go into the scratch; then, token by token, the eight rows of the members are read out, normalised, quantised and put back.
-/
module

public import proofs.«01_k».proof.Proof.NormRunIdeal
public import proofs.«01_k».proof.Proof.NormStore

@[expose] public section

set_option maxRecDepth 16384

noncomputable section

namespace Cert.NormQuantIdeal.Value

open Idealize.ShloMosaic hiding ix1 ix2 ix3 ix4 eq_ix1 eq_ix2 eq_ix3 eq_ix4
open Idealize.ShloMosaic.TcCoe Idealize.SL.Sem Idealize.ShloMosaic.ValueIdx
open Cert.NormQuantIdeal Cert.NormQuantIdeal.Gen Cert.NormStore

variable {F : FTy → Type} [FloatOps F]

/-! ## The vector functions -/

theorem slices5 (l : Fin 16) : Shape.Slices S5x2048 ![0, 128 * l.val] S5x128 := by
  refine ⟨rfl, fun a => ?_⟩
  match a with
  | ⟨0, _⟩ => show 0 + 5 ≤ 5; omega
  | ⟨1, _⟩ => show 128 * l.val + 128 ≤ 2048; omega

theorem slices8 (l : Fin 16) : Shape.Slices S8x2048 ![0, 128 * l.val] S8x128 := by
  refine ⟨rfl, fun a => ?_⟩
  match a with
  | ⟨0, _⟩ => show 0 + 8 ≤ 8; omega
  | ⟨1, _⟩ => show 128 * l.val + 128 ≤ 2048; omega

/-- Tile `l` of the five rows of one member. -/
def tile5 (l : Fin 16) (v : FVec F S1x5x2048 .bf16) : FVec F S1x5x128 .f32 :=
  shapeCast S1x5x128 (extractStridedSlice S5x128 ![0, 128 * l.val] (extf .f32 (shapeCast S5x2048 v shapeCasts_S1x5x2048_S5x2048)) (slices5 l)) shapeCasts_S5x128_S1x5x128

/-- The eight rows, normalised and weighted. -/
def hnVec (X : FVec F S8x2048 .f32) (w : FVec F S1x2048 .f32) : FVec F S8x2048 .f32 :=
  mulf (mulf X (broadcastTo S8x2048 (rsqrt (addf (divf (shapeCast S8x1 (multiReduction .add [1] S8 (mulf X X) 0x00000000#32 reduces_S8x2048_S8 (.inl rfl) rfl) shapeCasts_S8_S8x1)
      (broadcast S8x1 (Scalar.ofBits .f32 0x45000000#32))) (broadcast S8x1 (Scalar.ofBits .f32 0x358637BD#32)))) broadcasts_S8x1_S8x2048))
    (broadcastTo S8x2048 (shapeCast S1x2048 w shapeCasts_S1x2048_S1x2048) broadcasts_S1x2048_S8x2048)

/-- The largest magnitude of each row. -/
def amaxVec (H : FVec F S8x2048 .f32) : FVec F S8x1 .f32 :=
  shapeCast S8x1 (multiReduction .maximumf [1] S8 (absf H) 0xFF800000#32 reduces_S8x2048_S8 (.inl rfl) rfl) shapeCasts_S8_S8x1

/-- The scale of each row. -/
def scaleVec (H : FVec F S8x2048 .f32) : FVec F S8x1 .f32 :=
  select (cmpf .oeq (amaxVec H) (broadcast S8x1 (Scalar.ofBits .f32 0x00000000#32))) (broadcast S8x1 (Scalar.ofBits .f32 0x3F800000#32))
    (divf (amaxVec H) (broadcast S8x1 (Scalar.ofBits .f32 0x42FE0000#32)))

/-- The codes of each row, before the conversion to integers. -/
def codeVec (H : FVec F S8x2048 .f32) : FVec F S8x2048 .f32 :=
  minimumf (broadcast S8x2048 (Scalar.ofBits .f32 0x42FE0000#32)) (maximumf (broadcast S8x2048 (Scalar.ofBits .f32 0xC2FE0000#32))
    (roundeven (divf H (broadcastTo S8x2048 (scaleVec H) broadcasts_S8x1_S8x2048))))

/-- Tile `l` of eight rows. -/
def tile8 (l : Fin 16) (C : FVec F S8x2048 .f32) : FVec F S1x8x128 .f32 :=
  shapeCast S1x8x128 (extractStridedSlice S8x128 ![0, 128 * l.val] C (slices8 l)) shapeCasts_S8x128_S1x8x128

/-! ## The stores -/

section

variable (arg17 : Memref sig .tc .vmem S16x40x128 .f32)

/-- The eight rows of token `t`, read out of the scratch after the stores of `L`. -/
def rows (L : List (View.Piece (Elt F) S16x40x128 .f32)) (t : Fin 5) : FVec F S8x2048 .f32 :=
  cat (fun l => shapeCast S8x128 (arg17.view.readCov L (eightRect l t).toLoadRect) shapeCasts_S1x8x128_S8x128)
    concatenates_S8x128_S8x128_S8x128_S8x128_S8x128_S8x128_S8x128_S8x128_S8x128_S8x128_S8x128_S8x128_S8x128_S8x128_S8x128_S8x128_S8x2048_d1

/-- The stores after token `t`. -/
def step (w : FVec F S1x2048 .f32) (L : List (View.Piece (Elt F) S16x40x128 .f32)) (t : Fin 5) : List (View.Piece (Elt F) S16x40x128 .f32) :=
  token t (fun l => tile8 l (codeVec (hnVec (rows arg17 L t) w))) L 16 (Nat.le_refl 16)

end

variable (c : Dev nD) (arg2 : Memref sig .tc .vmem S8x5x2048 .bf16) (harg2 : arg2.IsWhole) (arg3 : Memref sig .tc .vmem S1x2048 .f32) (harg3 : arg3.IsWhole) (arg17 : Memref sig .tc .vmem S16x40x128 .f32) (x0 : Vec F S8x5x2048 .bf16) (x1 : Vec F S1x2048 .f32)

theorem inb2 (i : Fin 8) (a : Fin 3) : (![i.val, 0, 0] : Fin 3 → ℕ) a + S1x5x2048.size a ≤ S8x5x2048.size a := by
  match a with
  | ⟨0, _⟩ => show i.val + 1 ≤ 8; omega
  | ⟨1, _⟩ => show 0 + 5 ≤ 5; omega
  | ⟨2, _⟩ => show 0 + 2048 ≤ 2048; omega

/-- The rows of member `i`. -/
def load2 (i : Fin 8) : FVec F S1x5x2048 .bf16 := View.readAt (Elt F) arg2.view (Rect.unit (s := S8x5x2048) ![i.val, 0, 0] S1x5x2048.size (inb2 i)).toLoadRect (harg2.unread x0)

/-- The weights. -/
def load3 : FVec F S1x2048 .f32 := View.readAt (Elt F) arg3.view (Rect.unit (s := S1x2048) ![0, 0] S1x2048.size inb_S1x2048_S1x2048_0_0).toLoadRect (harg3.unread x1)

theorem first_eq : kernelRun0_A.sl.HS0_128 c arg2 harg2 x0 = members (fun i l => tile5 l (load2 arg2 harg2 x0 i)) 8 (Nat.le_refl 8) := rfl

theorem step0_eq : kernelRun0_A.sl.HS0_144 c arg2 harg2 arg3 harg3 arg17 x0 x1 = step arg17 (load3 arg3 harg3 x1) (kernelRun0_A.sl.HS0_128 c arg2 harg2 x0) 0 := rfl

theorem step1_eq : kernelRun0_A.sl.HS0_160 c arg2 harg2 arg3 harg3 arg17 x0 x1 = step arg17 (load3 arg3 harg3 x1) (kernelRun0_A.sl.HS0_144 c arg2 harg2 arg3 harg3 arg17 x0 x1) 1 := rfl

theorem step2_eq : kernelRun0_A.sl.HS0_176 c arg2 harg2 arg3 harg3 arg17 x0 x1 = step arg17 (load3 arg3 harg3 x1) (kernelRun0_A.sl.HS0_160 c arg2 harg2 arg3 harg3 arg17 x0 x1) 2 := rfl

theorem step3_eq : kernelRun0_A.sl.HS0_192 c arg2 harg2 arg3 harg3 arg17 x0 x1 = step arg17 (load3 arg3 harg3 x1) (kernelRun0_A.sl.HS0_176 c arg2 harg2 arg3 harg3 arg17 x0 x1) 3 := rfl

theorem step4_eq : kernelRun0_A.sl.HS0_208 c arg2 harg2 arg3 harg3 arg17 x0 x1 = step arg17 (load3 arg3 harg3 x1) (kernelRun0_A.sl.HS0_192 c arg2 harg2 arg3 harg3 arg17 x0 x1) 4 := rfl

end Cert.NormQuantIdeal.Value

end
-- ==== Proof.NormBlocks.lean ====
/-
  What one grid point of the quantisation of the inputs stores into its results, in terms of the scratch.
-/
module

public import proofs.«01_k».proof.Proof.NormLists

@[expose] public section

set_option maxRecDepth 16384

noncomputable section

namespace Cert.NormQuantIdeal.Value

open Idealize.ShloMosaic hiding ix1 ix2 ix3 ix4 eq_ix1 eq_ix2 eq_ix3 eq_ix4
open Idealize.ShloMosaic.TcCoe Idealize.SL.Sem Idealize.ShloMosaic.ValueIdx
open Cert.NormQuantIdeal Cert.NormQuantIdeal.Gen Cert.NormStore

variable {F : FTy → Type} [FloatOps F]

section

variable (arg17 : Memref sig .tc .vmem S16x40x128 .f32) (w : FVec F S1x2048 .f32) (L₀ L : List (View.Piece (Elt F) S16x40x128 .f32))

/-- The stores before token `n`. -/
def before : (n : ℕ) → n ≤ 5 → List (View.Piece (Elt F) S16x40x128 .f32)
  | 0, _ => L₀
  | n + 1, h => step arg17 w (before n (Nat.le_of_succ_le h)) ⟨n, h⟩

/-- The scales of token `t`. -/
def scales (t : Fin 5) : FVec F S8x1 .f32 := scaleVec (hnVec (rows arg17 (before arg17 w L₀ t.val (Nat.le_of_lt t.isLt)) t) w)

/-- The scales of token `t` in every lane. -/
def lanes (t : Fin 5) : FVec F S8x128 .f32 := broadcastTo S8x128 (shapeCast S8x1 (scales arg17 w L₀ t) shapeCasts_S8x1_S8x1) broadcasts_S8x1_S8x128

/-- The scales of the first `n` tokens in their lanes, and the rest. -/
def lanesTo (Z : FVec F S8x128 .f32) : (n : ℕ) → n ≤ 5 → FVec F S8x128 .f32
  | 0, _ => Z
  | n + 1, h => select (cmpi .eq (iota .tc S8x128 32 [1] iota_S8x128_d1_w32) (broadcast S8x128 (BitVec.ofNat 32 n))) (lanes arg17 w L₀ ⟨n, h⟩) (lanesTo Z n (Nat.le_of_succ_le h))

/-- The block of scales. -/
def scaleBlk : FVec F S8x5 .f32 := extractStridedSlice S8x5 ![0, 0] (lanesTo arg17 w L₀ k0_pay151 5 (Nat.le_refl 5)) slices_S8x128_o0_0_S8x5

/-- The codes of member `i`. -/
def codeBlk (i : Fin 8) : Vec F S1x5x2048 .i8 :=
  shapeCast S1x5x2048 (trunci 8 (fptosi 32 (cat (fun l => shapeCast S5x128 (arg17.view.readCov L (fiveRect l i).toLoadRect) shapeCasts_S1x5x128_S5x128)
    concatenates_S5x128_S5x128_S5x128_S5x128_S5x128_S5x128_S5x128_S5x128_S5x128_S5x128_S5x128_S5x128_S5x128_S5x128_S5x128_S5x128_S5x2048_d1)) natLt_8_32) shapeCasts_S5x2048_S1x5x2048

theorem inb40 (l : Fin 16) (a : Fin 3) : (![l.val, 0, 0] : Fin 3 → ℕ) a + S1x40x128.size a ≤ S16x40x128.size a := by
  match a with
  | ⟨0, _⟩ => show l.val + 1 ≤ 16; omega
  | ⟨1, _⟩ => show 0 + 40 ≤ 40; omega
  | ⟨2, _⟩ => show 0 + 128 ≤ 128; omega

/-- The block of rows of codes. -/
def rowBlk : FVec F S40x2048 .bf16 :=
  truncf .bf16 (cat (fun l => shapeCast S40x128 (arg17.view.readCov L (Rect.unit (s := S16x40x128) ![l.val, 0, 0] S1x40x128.size (inb40 l)).toLoadRect) shapeCasts_S1x40x128_S40x128)
    concatenates_S40x128_S40x128_S40x128_S40x128_S40x128_S40x128_S40x128_S40x128_S40x128_S40x128_S40x128_S40x128_S40x128_S40x128_S40x128_S40x128_S40x2048_d1) bitsLt_bf16_f32

/-- The stores of the codes of the first `n` members. -/
def codePieces : (n : ℕ) → n ≤ 8 → List (View.Piece (Elt F) S8x5x2048 .i8)
  | 0, _ => []
  | n + 1, h => ⟨Rect.unit (s := S8x5x2048) ![n, 0, 0] S1x5x2048.size (inb2 ⟨n, h⟩), codeBlk arg17 L ⟨n, h⟩⟩ :: codePieces n (Nat.le_of_succ_le h)

theorem inb13 (t : Fin 5) (a : Fin 2) : (![8 * t.val, 0] : Fin 2 → ℕ) a + S8x128.size a ≤ S40x128.size a := by
  match a with
  | ⟨0, _⟩ => show 8 * t.val + 8 ≤ 40; omega
  | ⟨1, _⟩ => show 0 + 128 ≤ 128; omega

/-- The stores of the scales of the first `n` tokens. -/
def lanePieces : (n : ℕ) → n ≤ 5 → List (View.Piece (Elt F) S40x128 .f32)
  | 0, _ => []
  | n + 1, h => ⟨Rect.unit (s := S40x128) ![8 * n, 0] S8x128.size (inb13 ⟨n, h⟩), lanes arg17 w L₀ ⟨n, h⟩⟩ :: lanePieces n (Nat.le_of_succ_le h)

end

variable (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec F S8x5x2048 .bf16) (x1 : Vec F S1x2048 .f32) (x2 : Vec F S1x3x4608 .bf16) (x3 : Vec F S1x3x4608 .bf16) (x4 : Vec F S1x3x4608 .bf16) (x5 : Vec F S1x3x4608 .bf16) (x6 : Vec F S1x3x4608 .bf16) (x7 : Vec F S1x3x4608 .bf16) (x8 : Vec F S1x3x4608 .bf16) (x9 : Vec F S1x3x4608 .bf16) (xt0 : TbBuf0 (F := F) c tbM0_0)

theorem before_eq : (kernelRun0_A.sl.HS0_208 c arg2 harg2 arg3 harg3 arg17 x0 x1) = before arg17 (load3 arg3 harg3 x1) (kernelRun0_A.sl.HS0_128 c arg2 harg2 x0) 5 (Nat.le_refl 5) := by
  rw [step4_eq, step3_eq, step2_eq, step1_eq, step0_eq]
  rfl

theorem scales_0 : kernelRun0_A.sl.r_16 c arg2 harg2 arg3 harg3 arg17 x0 x1 = scales arg17 (load3 arg3 harg3 x1) (kernelRun0_A.sl.HS0_128 c arg2 harg2 x0) 0 := rfl

theorem scales_1_of : (kernelRun0_A.sl.r_21 c arg2 harg2 arg3 harg3 arg17 x0 x1) = scaleVec (hnVec (rows arg17 (kernelRun0_A.sl.HS0_144 c arg2 harg2 arg3 harg3 arg17 x0 x1) 1) (load3 arg3 harg3 x1)) := rfl

theorem scales_1 : (kernelRun0_A.sl.r_21 c arg2 harg2 arg3 harg3 arg17 x0 x1) = scales arg17 (load3 arg3 harg3 x1) (kernelRun0_A.sl.HS0_128 c arg2 harg2 x0) 1 := by
  rw [scales_1_of, step0_eq]
  rfl

theorem scales_2_of : (kernelRun0_A.sl.r_23 c arg2 harg2 arg3 harg3 arg17 x0 x1) = scaleVec (hnVec (rows arg17 (kernelRun0_A.sl.HS0_160 c arg2 harg2 arg3 harg3 arg17 x0 x1) 2) (load3 arg3 harg3 x1)) := rfl

theorem scales_2 : (kernelRun0_A.sl.r_23 c arg2 harg2 arg3 harg3 arg17 x0 x1) = scales arg17 (load3 arg3 harg3 x1) (kernelRun0_A.sl.HS0_128 c arg2 harg2 x0) 2 := by
  rw [scales_2_of, step1_eq, step0_eq]
  rfl

theorem scales_3_of : (kernelRun0_A.sl.r_26 c arg2 harg2 arg3 harg3 arg17 x0 x1) = scaleVec (hnVec (rows arg17 (kernelRun0_A.sl.HS0_176 c arg2 harg2 arg3 harg3 arg17 x0 x1) 3) (load3 arg3 harg3 x1)) := rfl

theorem scales_3 : (kernelRun0_A.sl.r_26 c arg2 harg2 arg3 harg3 arg17 x0 x1) = scales arg17 (load3 arg3 harg3 x1) (kernelRun0_A.sl.HS0_128 c arg2 harg2 x0) 3 := by
  rw [scales_3_of, step2_eq, step1_eq, step0_eq]
  rfl

theorem scales_4_of : (kernelRun0_A.sl.r_30 c arg2 harg2 arg3 harg3 arg17 x0 x1) = scaleVec (hnVec (rows arg17 (kernelRun0_A.sl.HS0_192 c arg2 harg2 arg3 harg3 arg17 x0 x1) 4) (load3 arg3 harg3 x1)) := rfl

theorem scales_4 : (kernelRun0_A.sl.r_30 c arg2 harg2 arg3 harg3 arg17 x0 x1) = scales arg17 (load3 arg3 harg3 x1) (kernelRun0_A.sl.HS0_128 c arg2 harg2 x0) 4 := by
  rw [scales_4_of, step3_eq, step2_eq, step1_eq, step0_eq]
  rfl

theorem pieces10 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).1 = codePieces arg17 (kernelRun0_A.sl.HS0_208 c arg2 harg2 arg3 harg3 arg17 x0 x1) 8 (Nat.le_refl 8) := rfl

theorem pieces12 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.2.1 = [⟨Rect.unit (s := S40x2048) ![0, 0] S40x2048.size inb_S40x2048_S40x2048_0_0, rowBlk arg17 (kernelRun0_A.sl.HS0_208 c arg2 harg2 arg3 harg3 arg17 x0 x1)⟩] := rfl

theorem lanes_0 : (kernelRun0_A.sl.v666 c arg2 harg2 arg3 harg3 arg17 x0 x1) = lanes arg17 (load3 arg3 harg3 x1) (kernelRun0_A.sl.HS0_128 c arg2 harg2 x0) 0 := rfl

theorem lanes_1 : (kernelRun0_A.sl.v801 c arg2 harg2 arg3 harg3 arg17 x0 x1) = lanes arg17 (load3 arg3 harg3 x1) (kernelRun0_A.sl.HS0_128 c arg2 harg2 x0) 1 := by
  show broadcastTo S8x128 (shapeCast S8x1 (kernelRun0_A.sl.r_21 c arg2 harg2 arg3 harg3 arg17 x0 x1) shapeCasts_S8x1_S8x1) broadcasts_S8x1_S8x128 = _
  rw [scales_1]
  rfl

theorem lanes_2 : (kernelRun0_A.sl.v936 c arg2 harg2 arg3 harg3 arg17 x0 x1) = lanes arg17 (load3 arg3 harg3 x1) (kernelRun0_A.sl.HS0_128 c arg2 harg2 x0) 2 := by
  show broadcastTo S8x128 (shapeCast S8x1 (kernelRun0_A.sl.r_23 c arg2 harg2 arg3 harg3 arg17 x0 x1) shapeCasts_S8x1_S8x1) broadcasts_S8x1_S8x128 = _
  rw [scales_2]
  rfl

theorem lanes_3 : (kernelRun0_A.sl.v1071 c arg2 harg2 arg3 harg3 arg17 x0 x1) = lanes arg17 (load3 arg3 harg3 x1) (kernelRun0_A.sl.HS0_128 c arg2 harg2 x0) 3 := by
  show broadcastTo S8x128 (shapeCast S8x1 (kernelRun0_A.sl.r_26 c arg2 harg2 arg3 harg3 arg17 x0 x1) shapeCasts_S8x1_S8x1) broadcasts_S8x1_S8x128 = _
  rw [scales_3]
  rfl

theorem lanes_4 : (kernelRun0_A.sl.v1206 c arg2 harg2 arg3 harg3 arg17 x0 x1) = lanes arg17 (load3 arg3 harg3 x1) (kernelRun0_A.sl.HS0_128 c arg2 harg2 x0) 4 := by
  show broadcastTo S8x128 (shapeCast S8x1 (kernelRun0_A.sl.r_30 c arg2 harg2 arg3 harg3 arg17 x0 x1) shapeCasts_S8x1_S8x1) broadcasts_S8x1_S8x128 = _
  rw [scales_4]
  rfl

/-- The five stores of the scales of the tokens. -/
def fiveLanes (A₀ A₁ A₂ A₃ A₄ : FVec F S8x128 .f32) : List (View.Piece (Elt F) S40x128 .f32) :=
  [⟨Rect.unit (s := S40x128) ![32, 0] S8x128.size inb_S40x128_S8x128_32_0, A₄⟩, ⟨Rect.unit (s := S40x128) ![24, 0] S8x128.size inb_S40x128_S8x128_24_0, A₃⟩,
    ⟨Rect.unit (s := S40x128) ![16, 0] S8x128.size inb_S40x128_S8x128_16_0, A₂⟩, ⟨Rect.unit (s := S40x128) ![8, 0] S8x128.size inb_S40x128_S8x128_8_0, A₁⟩,
    ⟨Rect.unit (s := S40x128) ![0, 0] S8x128.size inb_S40x128_S8x128_0_0, A₀⟩]

theorem pieces13_five : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.2.2.1 = fiveLanes (kernelRun0_A.sl.v666 c arg2 harg2 arg3 harg3 arg17 x0 x1) (kernelRun0_A.sl.v801 c arg2 harg2 arg3 harg3 arg17 x0 x1) (kernelRun0_A.sl.v936 c arg2 harg2 arg3 harg3 arg17 x0 x1) (kernelRun0_A.sl.v1071 c arg2 harg2 arg3 harg3 arg17 x0 x1) (kernelRun0_A.sl.v1206 c arg2 harg2 arg3 harg3 arg17 x0 x1) := rfl

theorem pieces13 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.2.2.1 = lanePieces arg17 (load3 arg3 harg3 x1) (kernelRun0_A.sl.HS0_128 c arg2 harg2 x0) 5 (Nat.le_refl 5) := by
  rw [pieces13_five, lanes_4, lanes_3, lanes_2, lanes_1, lanes_0]
  rfl

/-- The selects of the lanes, over the scales of the five tokens. -/
def nest (A₀ A₁ A₂ A₃ A₄ : FVec F S8x128 .f32) : FVec F S8x5 .f32 :=
  extractStridedSlice S8x5 ![0, 0] (select (cmpi .eq (iota .tc S8x128 32 [1] iota_S8x128_d1_w32) (broadcast S8x128 4#32)) A₄
    (select (cmpi .eq (iota .tc S8x128 32 [1] iota_S8x128_d1_w32) (broadcast S8x128 3#32)) A₃ (select (cmpi .eq (iota .tc S8x128 32 [1] iota_S8x128_d1_w32) (broadcast S8x128 2#32)) A₂
      (select (cmpi .eq (iota .tc S8x128 32 [1] iota_S8x128_d1_w32) (broadcast S8x128 1#32)) A₁ (select (cmpi .eq (iota .tc S8x128 32 [1] iota_S8x128_d1_w32) (broadcast S8x128 0#32)) A₀ k0_pay151))))) slices_S8x128_o0_0_S8x5

theorem pieces11_nest : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.1 = [⟨Rect.unit (s := S8x5) ![0, 0] S8x5.size inb_S8x5_S8x5_0_0,
    nest (kernelRun0_A.sl.v666 c arg2 harg2 arg3 harg3 arg17 x0 x1) (kernelRun0_A.sl.v801 c arg2 harg2 arg3 harg3 arg17 x0 x1) (kernelRun0_A.sl.v936 c arg2 harg2 arg3 harg3 arg17 x0 x1) (kernelRun0_A.sl.v1071 c arg2 harg2 arg3 harg3 arg17 x0 x1) (kernelRun0_A.sl.v1206 c arg2 harg2 arg3 harg3 arg17 x0 x1)⟩] := rfl

theorem pieces11 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0).2.1 = [⟨Rect.unit (s := S8x5) ![0, 0] S8x5.size inb_S8x5_S8x5_0_0, scaleBlk arg17 (load3 arg3 harg3 x1) (kernelRun0_A.sl.HS0_128 c arg2 harg2 x0)⟩] := by
  rw [pieces11_nest, lanes_4, lanes_3, lanes_2, lanes_1, lanes_0]
  rfl

end Cert.NormQuantIdeal.Value

end
-- ==== Proof.NormSpec.lean ====
/-
  The normalised, quantised row as a function of the row and the weights, over the extended reals.
-/
module

public import Idealize.ShloMosaic.PureOps.Ideal.Laws

@[expose] public section

noncomputable section

namespace Cert.NormSpec

open Idealize.ShloMosaic

/-- Entry `n` of the row `x`, normalised by the row's root mean square and weighted by `w`. -/
def hn (x w : Fin 2048 → EReal) (n : Fin 2048) : EReal :=
  x n * Ideal.rsqrt (Ideal.div (∑ k : Fin 2048, x k * x k) (FloatOps.ofBits (F := Ideal) .f32 0x45000000#32) + FloatOps.ofBits (F := Ideal) .f32 0x358637BD#32) * w n

/-- The largest magnitude of the row `h`. -/
def amax (h : Fin 2048 → EReal) : EReal :=
  (Finset.univ : Finset (Fin 2048)).fold max (FloatOps.ofBits (F := Ideal) .f32 0xFF800000#32) fun k => max (h k) (-h k)

/-- The scale of the row `h`: its largest magnitude over 127, and 1 for a row of zeros. -/
def scale (h : Fin 2048 → EReal) : EReal :=
  Scalar.select (Ideal.cmp .oeq (amax h) (FloatOps.ofBits (F := Ideal) .f32 0x00000000#32)) (FloatOps.ofBits (F := Ideal) .f32 0x3F800000#32)
    (Ideal.div (amax h) (FloatOps.ofBits (F := Ideal) .f32 0x42FE0000#32))

/-- The code of entry `n` of the row `h`: the entry over the scale, rounded to nearest even and clipped at 127. -/
def code (h : Fin 2048 → EReal) (n : Fin 2048) : EReal :=
  min (FloatOps.ofBits (F := Ideal) .f32 0x42FE0000#32) (max (FloatOps.ofBits (F := Ideal) .f32 0xC2FE0000#32) (Ideal.liftRound Ideal.roundHalfEven (Ideal.div (h n) (scale h))))

end Cert.NormSpec

end
-- ==== Proof.NormVec.lean ====
/-
  The vector functions of the quantisation of the inputs, entry by entry, over the extended reals: each row is normalised and quantised
  as NormSpec says.
-/
module

public import proofs.«01_k».proof.Proof.NormLists
public import proofs.«01_k».proof.Proof.NormSpec
public import Idealize.ShloMosaic.Lib.ValueLayoutCasts

@[expose] public section

set_option maxRecDepth 16384

noncomputable section

namespace Cert.NormQuantIdeal.Value

open Idealize.ShloMosaic hiding ix1 ix2 ix3 ix4 eq_ix1 eq_ix2 eq_ix3 eq_ix4
open Idealize.ShloMosaic.TcCoe Idealize.SL.Sem Idealize.ShloMosaic.ValueIdx
open Cert.NormQuantIdeal Cert.NormQuantIdeal.Gen Cert.NormStore

/-- A column of eight over the 2048 columns. -/
theorem col_apply {α : Type} (y : S8x1.Idx → α) (j : Fin 8) (n : Fin 2048) :
    broadcastTo S8x2048 y broadcasts_S8x1_S8x2048 (ix2 j n) = y (ix2 j (0 : Fin 1)) :=
  broadcastTo_apply y broadcasts_S8x1_S8x2048 (ix2 j n) (ix2 j (0 : Fin 1)) fun d => by
    match d with
    | ⟨0, _⟩ => rfl
    | ⟨1, _⟩ => rfl

/-- A row of 2048 over the eight rows. -/
theorem row_apply {α : Type} (y : S1x2048.Idx → α) (j : Fin 8) (n : Fin 2048) :
    broadcastTo S8x2048 y broadcasts_S1x2048_S8x2048 (ix2 j n) = y (ix2 (0 : Fin 1) n) :=
  broadcastTo_apply y broadcasts_S1x2048_S8x2048 (ix2 j n) (ix2 (0 : Fin 1) n) fun d => by
    match d with
    | ⟨0, _⟩ => rfl
    | ⟨1, _⟩ => rfl

theorem same_apply {α : Type} (y : S1x2048.Idx → α) (i : S1x2048.Idx) : shapeCast S1x2048 y shapeCasts_S1x2048_S1x2048 i = y i :=
  shapeCast_apply y shapeCasts_S1x2048_S1x2048 i i rfl

theorem lift8 (j : Fin 8) (k : Fin 2048) : reduces_S8x2048_S8.lift (ix1 j) k = ix2 j k := funext fun a => by
  match a with
  | ⟨0, _⟩ => rfl
  | ⟨1, _⟩ => rfl

theorem hnVec_apply (X : FVec Ideal S8x2048 .f32) (w : FVec Ideal S1x2048 .f32) (j : Fin 8) (n : Fin 2048) :
    hnVec X w (ix2 j n) = NormSpec.hn (fun k => X (ix2 j k)) (fun k => w (ix2 (0 : Fin 1) k)) n := by
  unfold hnVec
  show (X (ix2 j n) * broadcastTo S8x2048 _ broadcasts_S8x1_S8x2048 (ix2 j n)) * broadcastTo S8x2048 _ broadcasts_S1x2048_S8x2048 (ix2 j n) = _
  rw [col_apply, row_apply, same_apply]
  show X (ix2 j n) * Ideal.rsqrt (Ideal.div (shapeCast S8x1 _ shapeCasts_S8_S8x1 (ix2 j (0 : Fin 1))) _ + _) * w (ix2 (0 : Fin 1) n) = _
  rw [shapeCast_a_a1_apply]
  refine congrArg (fun z => X (ix2 j n) * Ideal.rsqrt (Ideal.div z (FloatOps.ofBits (F := Ideal) .f32 0x45000000#32) + FloatOps.ofBits (F := Ideal) .f32 0x358637BD#32) * w (ix2 (0 : Fin 1) n)) ?_
  refine (Ideal.multiReduction_add_single (mulf X X) 0x00000000#32 reduces_S8x2048_S8 (.inl rfl) rfl (ix1 j)).trans (Finset.sum_congr rfl fun (k : Fin 2048) _ => ?_)
  exact (congrArg (mulf X X) (lift8 j k)).trans rfl

theorem amaxVec_apply (H : FVec Ideal S8x2048 .f32) (j : Fin 8) : amaxVec H (ix2 j (0 : Fin 1)) = NormSpec.amax fun k => H (ix2 j k) := by
  unfold amaxVec
  rw [shapeCast_a_a1_apply]
  refine (Ideal.multiReduction_maximumf_single (absf H) 0xFF800000#32 reduces_S8x2048_S8 (.inl rfl) rfl (ix1 j)).trans
    (congrArg (fun g : Fin 2048 → EReal => (Finset.univ : Finset (Fin 2048)).fold max (FloatOps.ofBits (F := Ideal) .f32 0xFF800000#32) g) (funext fun k => ?_))
  exact (congrArg (absf H) (lift8 j k)).trans rfl

theorem scaleVec_apply (H : FVec Ideal S8x2048 .f32) (j : Fin 8) : scaleVec H (ix2 j (0 : Fin 1)) = NormSpec.scale fun k => H (ix2 j k) := by
  unfold scaleVec NormSpec.scale
  rw [select_apply, cmpf_apply, divf_apply, broadcast_apply, broadcast_apply, broadcast_apply, amaxVec_apply]
  rfl

theorem round_apply {s : Shape} (x : FVec Ideal s .f32) (i : s.Idx) : roundeven x i = Ideal.liftRound Ideal.roundHalfEven (x i) := rfl

theorem codeVec_apply (H : FVec Ideal S8x2048 .f32) (j : Fin 8) (n : Fin 2048) : codeVec H (ix2 j n) = NormSpec.code (fun k => H (ix2 j k)) n := by
  unfold codeVec NormSpec.code
  rw [minimumf_apply, maximumf_apply, broadcast_apply, broadcast_apply, round_apply, divf_apply, col_apply, scaleVec_apply]

end Cert.NormQuantIdeal.Value

end
-- ==== Proof.NormScratch.lean ====
/-
  What the scratch of the quantisation of the inputs holds before each token, over the extended reals: the rows of the tokens already
  done are codes, the others are the loaded rows.
-/
module

public import proofs.«01_k».proof.Proof.NormBlocks
public import proofs.«01_k».proof.Proof.NormVec

@[expose] public section

set_option maxRecDepth 16384

noncomputable section

namespace Cert.NormQuantIdeal.Value

open Idealize.ShloMosaic hiding ix1 ix2 ix3 ix4 eq_ix1 eq_ix2 eq_ix3 eq_ix4
open Idealize.ShloMosaic.TcCoe Idealize.SL.Sem Idealize.ShloMosaic.ValueIdx
open Cert.NormQuantIdeal Cert.NormQuantIdeal.Gen Cert.NormStore

section

variable (arg17 : Memref sig .tc .vmem S16x40x128 .f32)

/-- The scratch after the stores of `L`. -/
abbrev held (L : List (View.Piece (Elt Ideal) S16x40x128 .f32)) : S16x40x128.Idx → EReal :=
  arg17.view.read (Elt Ideal) (arg17.view.writes (Elt Ideal) arg17.view.junk L)

theorem rows_apply (L : List (View.Piece (Elt Ideal) S16x40x128 .f32)) (t : Fin 5) (j : Fin 8) (n : Fin 2048) :
    rows arg17 L t (ix2 j n) = held arg17 L (ix3 (⟨n.val / 128, by omega⟩ : Fin 16) (⟨8 * t.val + j.val, by omega⟩ : Fin 40) (⟨n.val % 128, by omega⟩ : Fin 128)) := by
  unfold rows
  rw [cat_apply, shapeCast_1ab_ab_apply]
  exact congrArg (held arg17 L) (funext fun a => Fin.ext (by
    match a with
    | ⟨0, _⟩ => show n.val / 128 + 1 * 0 = n.val / 128; omega
    | ⟨1, _⟩ => show 8 * t.val + 1 * j.val = 8 * t.val + j.val; omega
    | ⟨2, _⟩ => show 0 + 1 * (n.val % 128) = n.val % 128; omega))

/-- The rows of the scratch when the first `n` tokens of the rows `X` have been quantised with the weights `w`. -/
def state (X : Fin 40 → Fin 2048 → EReal) (w : Fin 2048 → EReal) (n : ℕ) (r : Fin 40) (k : Fin 2048) : EReal :=
  if r.val / 8 < n then NormSpec.code (NormSpec.hn (X r) w) k else X r k

/-- The scratch holds the rows `Y`. -/
def Holds (L : List (View.Piece (Elt Ideal) S16x40x128 .f32)) (Y : Fin 40 → Fin 2048 → EReal) : Prop :=
  ∀ (l : Fin 16) (r : Fin 40) (k : Fin 128), held arg17 L (ix3 l r k) = Y r ⟨128 * l.val + k.val, by omega⟩

theorem rows_of (L : List (View.Piece (Elt Ideal) S16x40x128 .f32)) (Y : Fin 40 → Fin 2048 → EReal) (h : Holds arg17 L Y) (t : Fin 5) (j : Fin 8) (n : Fin 2048) :
    rows arg17 L t (ix2 j n) = Y ⟨8 * t.val + j.val, by omega⟩ n := by
  rw [rows_apply, h]
  exact congrArg (Y _) (Fin.ext (Nat.div_add_mod n.val 128))

theorem tile8_apply (l : Fin 16) (C : FVec Ideal S8x2048 .f32) (u : Fin 1) (j : Fin 8) (k : Fin 128) :
    tile8 l C (ix3 u j k) = C (ix2 j (⟨128 * l.val + k.val, by omega⟩ : Fin 2048)) := by
  unfold tile8
  rw [shapeCast_ab_1ab_apply]
  exact extractStridedSlice_apply _ C (slices8 l) (ix2 j k) (ix2 j (⟨128 * l.val + k.val, by omega⟩ : Fin 2048)) fun a => by
    match a with
    | ⟨0, _⟩ => show j.val = 0 + j.val; omega
    | ⟨1, _⟩ => rfl

theorem tile5_apply (l : Fin 16) (v : FVec Ideal S1x5x2048 .bf16) (u : Fin 1) (j : Fin 5) (k : Fin 128) :
    tile5 l v (ix3 u j k) = v (ix3 (0 : Fin 1) j (⟨128 * l.val + k.val, by omega⟩ : Fin 2048)) := by
  unfold tile5
  rw [shapeCast_ab_1ab_apply]
  refine (extractStridedSlice_apply _ _ (slices5 l) (ix2 j k) (ix2 j (⟨128 * l.val + k.val, by omega⟩ : Fin 2048)) fun a => by
    match a with
    | ⟨0, _⟩ => show j.val = 0 + j.val; omega
    | ⟨1, _⟩ => rfl).trans ?_
  rw [extf_apply, shapeCast_1ab_ab_apply]

/-- The weights as a row. -/
abbrev wrow (w : FVec Ideal S1x2048 .f32) : Fin 2048 → EReal := fun k => w (ix2 (0 : Fin 1) k)

theorem hn_of (L : List (View.Piece (Elt Ideal) S16x40x128 .f32)) (Y : Fin 40 → Fin 2048 → EReal) (h : Holds arg17 L Y) (w : FVec Ideal S1x2048 .f32) (t : Fin 5)
    (j : Fin 8) : (fun n => hnVec (rows arg17 L t) w (ix2 j n)) = NormSpec.hn (Y ⟨8 * t.val + j.val, by omega⟩) (wrow w) := by
  funext n
  rw [hnVec_apply]
  exact congrArg (fun f => NormSpec.hn f (wrow w) n) (funext fun k => rows_of arg17 L Y h t j k)

theorem step_holds (X : Fin 40 → Fin 2048 → EReal) (w : FVec Ideal S1x2048 .f32) (L : List (View.Piece (Elt Ideal) S16x40x128 .f32)) (t : Fin 5)
    (h : Holds arg17 L (state X (wrow w) t.val)) : Holds arg17 (step arg17 w L t) (state X (wrow w) (t.val + 1)) := by
  intro l r k
  by_cases e : r.val / 8 = t.val
  · refine (token_hit arg17.view arg17.view.junk t _ L l r k e 16 (Nat.le_refl 16) l.isLt).trans ?_
    rw [tile8_apply, codeVec_apply, hn_of arg17 L _ h]
    have er : (⟨8 * t.val + r.val % 8, by omega⟩ : Fin 40) = r := Fin.ext (by show 8 * t.val + r.val % 8 = r.val; omega)
    have es : state X (wrow w) t.val r = X r := funext fun k => if_neg (by omega)
    show NormSpec.code (NormSpec.hn (state X (wrow w) t.val ⟨8 * t.val + r.val % 8, _⟩) (wrow w)) _ = state X (wrow w) (t.val + 1) r _
    rw [er, es]
    exact (if_pos (by omega)).symm
  · refine (token_miss arg17.view arg17.view.junk t _ L l r k e 16 (Nat.le_refl 16)).trans ((h l r k).trans ?_)
    unfold state
    by_cases g : r.val / 8 < t.val
    · rw [if_pos g, if_pos (by omega)]
    · rw [if_neg g, if_neg (by omega)]

theorem before_holds (X : Fin 40 → Fin 2048 → EReal) (w : FVec Ideal S1x2048 .f32) (L₀ : List (View.Piece (Elt Ideal) S16x40x128 .f32)) (h : Holds arg17 L₀ X) :
    (n : ℕ) → (hn : n ≤ 5) → Holds arg17 (before arg17 w L₀ n hn) (state X (wrow w) n)
  | 0, _ => fun l r k => (h l r k).trans (if_neg (Nat.not_lt_zero _)).symm
  | n + 1, hn => step_holds arg17 X w _ ⟨n, hn⟩ (before_holds X w L₀ h n (Nat.le_of_succ_le hn))

/-- Member `j`'s scale of token `t`. -/
theorem scales_apply (X : Fin 40 → Fin 2048 → EReal) (w : FVec Ideal S1x2048 .f32) (L₀ : List (View.Piece (Elt Ideal) S16x40x128 .f32)) (h : Holds arg17 L₀ X)
    (t : Fin 5) (j : Fin 8) : scales arg17 w L₀ t (ix2 j (0 : Fin 1)) = NormSpec.scale (NormSpec.hn (X ⟨8 * t.val + j.val, by omega⟩) (wrow w)) := by
  unfold scales
  rw [scaleVec_apply, hn_of arg17 _ _ (before_holds arg17 X w L₀ h t.val (Nat.le_of_lt t.isLt))]
  exact congrArg (fun f => NormSpec.scale (NormSpec.hn f (wrow w))) (funext fun k => if_neg (by show ¬ (8 * t.val + j.val) / 8 < t.val; omega))

end

variable (c : Dev nD) (arg2 : Memref sig .tc .vmem S8x5x2048 .bf16) (harg2 : arg2.IsWhole) (arg3 : Memref sig .tc .vmem S1x2048 .f32) (harg3 : arg3.IsWhole) (arg17 : Memref sig .tc .vmem S16x40x128 .f32) (x0 : Vec Ideal S8x5x2048 .bf16) (x1 : Vec Ideal S1x2048 .f32)

/-- Row `r` of the block is token `r / 8` of member `r % 8`. -/
def blockRow (x0 : Vec Ideal S8x5x2048 .bf16) (r : Fin 40) (k : Fin 2048) : EReal := x0 (ix3 (⟨r.val % 8, by omega⟩ : Fin 8) (⟨r.val / 8, by omega⟩ : Fin 5) k)

theorem load2_apply (i : Fin 8) (u : Fin 1) (t : Fin 5) (k : Fin 2048) : load2 arg2 harg2 x0 i (ix3 u t k) = x0 (ix3 i t k) := by
  show arg2.view.read (Elt Ideal) (harg2.unread x0) _ = _
  rw [Memref.IsWhole.read_unread]
  exact congrArg x0 (funext fun a => Fin.ext (by
    match a with
    | ⟨0, _⟩ => show i.val + 1 * u.val = i.val; omega
    | ⟨1, _⟩ => show 0 + 1 * t.val = t.val; omega
    | ⟨2, _⟩ => show 0 + 1 * k.val = k.val; omega))

theorem load3_apply (u : Fin 1) (k : Fin 2048) : load3 arg3 harg3 x1 (ix2 u k) = x1 (ix2 (0 : Fin 1) k) := by
  show arg3.view.read (Elt Ideal) (harg3.unread x1) _ = _
  rw [Memref.IsWhole.read_unread]
  exact congrArg x1 (funext fun a => Fin.ext (by
    match a with
    | ⟨0, _⟩ => show 0 + 1 * u.val = 0; omega
    | ⟨1, _⟩ => show 0 + 1 * k.val = k.val; omega))

/-- After the first stores the scratch holds the rows of the block. -/
theorem first_holds : Holds arg17 (kernelRun0_A.sl.HS0_128 c arg2 harg2 x0) (blockRow x0) := by
  intro l r k
  rw [first_eq]
  refine (members_apply arg17.view arg17.view.junk _ l r k 8 (Nat.le_refl 8) (by omega)).trans ?_
  rw [tile5_apply, load2_apply]
  rfl

end Cert.NormQuantIdeal.Value

end
-- ==== Proof.NormOut.lean ====
/-
  What one grid point of the quantisation of the inputs leaves in its results, over the extended reals: the codes and the scales of the
  rows of its block.
-/
module

public import proofs.«01_k».proof.Proof.NormScratch

@[expose] public section

set_option maxRecDepth 16384

noncomputable section

namespace Cert.NormQuantIdeal.Value

open Idealize.ShloMosaic hiding ix1 ix2 ix3 ix4 eq_ix1 eq_ix2 eq_ix3 eq_ix4
open Idealize.ShloMosaic.TcCoe Idealize.SL.Sem Idealize.ShloMosaic.ValueIdx
open Cert.NormQuantIdeal Cert.NormQuantIdeal.Gen Cert.NormStore

section

variable (arg17 : Memref sig .tc .vmem S16x40x128 .f32) (X : Fin 40 → Fin 2048 → EReal) (w : FVec Ideal S1x2048 .f32)

/-- The code of entry `k` of row `r`. -/
abbrev codeOf (r : Fin 40) (k : Fin 2048) : EReal := NormSpec.code (NormSpec.hn (X r) (wrow w)) k

/-- The scale of row `r`. -/
abbrev scaleOf (r : Fin 40) : EReal := NormSpec.scale (NormSpec.hn (X r) (wrow w))

theorem codeBlk_apply (L : List (View.Piece (Elt Ideal) S16x40x128 .f32)) (Y : Fin 40 → Fin 2048 → EReal) (h : Holds arg17 L Y) (i : Fin 8) (u : Fin 1) (t : Fin 5) (k : Fin 2048) :
    codeBlk arg17 L i (ix3 u t k) = (FloatOps.fptosi (F := Ideal) (φ := .f32) 32 (Y ⟨8 * t.val + i.val, by omega⟩ k) : BitVec 32).setWidth 8 := by
  unfold codeBlk
  rw [shapeCast_ab_1ab_apply]
  refine congrArg (fun z : EReal => (FloatOps.fptosi (F := Ideal) (φ := .f32) 32 z : BitVec 32).setWidth 8) ?_
  rw [cat_apply]
  refine (shapeCast_1ab_ab_apply (arg17.view.readCov L (fiveRect ⟨k.val / 128, by omega⟩ i).toLoadRect) shapeCasts_S1x5x128_S5x128 t (⟨k.val % 128, by omega⟩ : Fin 128)).trans ?_
  refine (congrArg (held arg17 L) (funext fun a => Fin.ext (show _ = ((ix3 (⟨k.val / 128, by omega⟩ : Fin 16) (⟨8 * t.val + i.val, by omega⟩ : Fin 40) (⟨k.val % 128, by omega⟩ : Fin 128) : S16x40x128.Idx) a).val from ?_))).trans
    ((h _ _ _).trans (congrArg (Y _) (Fin.ext (Nat.div_add_mod k.val 128))))
  match a with
  | ⟨0, _⟩ => show k.val / 128 + 1 * 0 = k.val / 128; omega
  | ⟨1, _⟩ => show i.val + 8 * t.val = 8 * t.val + i.val; omega
  | ⟨2, _⟩ => show 0 + 1 * (k.val % 128) = k.val % 128; omega

theorem rowBlk_apply (L : List (View.Piece (Elt Ideal) S16x40x128 .f32)) (Y : Fin 40 → Fin 2048 → EReal) (h : Holds arg17 L Y) (r : Fin 40) (k : Fin 2048) :
    rowBlk arg17 L (ix2 r k) = Y r k := by
  unfold rowBlk
  rw [truncf_apply, cat_apply, shapeCast_1ab_ab_apply]
  refine (congrArg (held arg17 L) (funext fun a => Fin.ext (show _ = ((ix3 (⟨k.val / 128, by omega⟩ : Fin 16) r (⟨k.val % 128, by omega⟩ : Fin 128) : S16x40x128.Idx) a).val from ?_))).trans
    ((h _ _ _).trans (congrArg (Y r) (Fin.ext (Nat.div_add_mod k.val 128))))
  match a with
  | ⟨0, _⟩ => show k.val / 128 + 1 * 0 = k.val / 128; omega
  | ⟨1, _⟩ => show 0 + 1 * r.val = r.val; omega
  | ⟨2, _⟩ => show 0 + 1 * (k.val % 128) = k.val % 128; omega

variable (L₀ : List (View.Piece (Elt Ideal) S16x40x128 .f32)) (h : Holds arg17 L₀ X)

include h in
theorem lanes_apply (t : Fin 5) (j : Fin 8) (n : Fin 128) : lanes arg17 w L₀ t (ix2 j n) = scaleOf X w ⟨8 * t.val + j.val, by omega⟩ := by
  unfold lanes
  refine (broadcastTo_apply _ broadcasts_S8x1_S8x128 (ix2 j n) (ix2 j (0 : Fin 1)) fun d => by
    match d with
    | ⟨0, _⟩ => rfl
    | ⟨1, _⟩ => rfl).trans ?_
  refine (shapeCast_apply _ shapeCasts_S8x1_S8x1 (ix2 j (0 : Fin 1)) (ix2 j (0 : Fin 1)) rfl).trans ?_
  exact scales_apply arg17 X w L₀ h t j

include h in
theorem lanesTo_apply (Z : FVec Ideal S8x128 .f32) (j : Fin 8) (n : Fin 128) : (k : ℕ) → (hk : k ≤ 5) → (hn : n.val < k) →
    lanesTo arg17 w L₀ Z k hk (ix2 j n) = scaleOf X w ⟨8 * n.val + j.val, by omega⟩
  | k + 1, hk, hn => by
    unfold lanesTo
    rw [select_apply]
    have ei : iota .tc S8x128 32 [1] iota_S8x128_d1_w32 (ix2 j n) = BitVec.ofNat 32 n.val := by
      show BitVec.ofNat 32 (0 * 128 + n.val) = _
      rw [Nat.zero_mul, Nat.zero_add]
    have ec : cmpi .eq (iota .tc S8x128 32 [1] iota_S8x128_d1_w32) (broadcast S8x128 (BitVec.ofNat 32 k)) (ix2 j n) = BitVec.ofBool (BitVec.ofNat 32 n.val == BitVec.ofNat 32 k) := by
      rw [← ei]
      rfl
    rw [ec]
    by_cases e : n.val = k
    · rw [show (BitVec.ofNat 32 n.val == BitVec.ofNat 32 k) = true from by rw [e]; exact beq_self_eq_true _]
      refine (if_pos (show BitVec.ofBool true = 1#1 from rfl)).trans ((lanes_apply arg17 X w L₀ h ⟨k, hk⟩ j n).trans ?_)
      exact congrArg (scaleOf X w) (Fin.ext (by show 8 * k + j.val = 8 * n.val + j.val; rw [e]))
    · have hb : (BitVec.ofNat 32 n.val == BitVec.ofNat 32 k) = false := beq_eq_false_iff_ne.mpr fun hc => e (by
        have := congrArg BitVec.toNat hc
        rw [BitVec.toNat_ofNat, BitVec.toNat_ofNat, Nat.mod_eq_of_lt (by omega), Nat.mod_eq_of_lt (by omega)] at this
        exact this)
      rw [hb]
      exact (if_neg (show ¬ BitVec.ofBool false = 1#1 by decide)).trans (lanesTo_apply Z j n k (Nat.le_of_succ_le hk) (by omega))

include h in
theorem scaleBlk_apply (j : Fin 8) (t : Fin 5) : scaleBlk arg17 w L₀ (ix2 j t) = scaleOf X w ⟨8 * t.val + j.val, by omega⟩ := by
  unfold scaleBlk
  refine (extractStridedSlice_apply _ _ slices_S8x128_o0_0_S8x5 (ix2 j t) (ix2 j (⟨t.val, by omega⟩ : Fin 128)) fun a => by
    match a with
    | ⟨0, _⟩ => show j.val = 0 + j.val; omega
    | ⟨1, _⟩ => show t.val = 0 + t.val; omega).trans ?_
  exact lanesTo_apply arg17 X w L₀ h _ j ⟨t.val, by omega⟩ 5 (Nat.le_refl 5) t.isLt

section

variable {sig' : RefSig} {κ : Kind} {sp : Space}

theorem codePieces_apply (v : View sig' κ sp S8x5x2048 .i8) (f : v.ty.Contents (Elt Ideal)) (L : List (View.Piece (Elt Ideal) S16x40x128 .f32)) (i : Fin 8) (t : Fin 5) (k : Fin 2048) :
    (n : ℕ) → (hn : n ≤ 8) → i.val < n → v.read (Elt Ideal) (v.writes (Elt Ideal) f (codePieces arg17 L n hn)) (ix3 i t k) = codeBlk arg17 L i (ix3 (0 : Fin 1) t k)
  | n + 1, hn, hi => by
    by_cases e : i.val = n
    · obtain rfl : i = ⟨n, hn⟩ := Fin.ext e
      exact hit v f (Rect.unit (s := S8x5x2048) ![n, 0, 0] S1x5x2048.size (inb2 ⟨n, hn⟩)) (codeBlk arg17 L ⟨n, hn⟩) _ _ (ix3 (0 : Fin 1) t k) fun a => by
        match a with
        | ⟨0, _⟩ => show n = n + 1 * 0; omega
        | ⟨1, _⟩ => show t.val = 0 + 1 * t.val; omega
        | ⟨2, _⟩ => show k.val = 0 + 1 * k.val; omega
    · refine (miss v f (Rect.unit (s := S8x5x2048) ![n, 0, 0] S1x5x2048.size (inb2 ⟨n, hn⟩)) (codeBlk arg17 L ⟨n, hn⟩) _ _ ⟨0, fun j hj => ?_⟩).trans
        (codePieces_apply v f L i t k n (Nat.le_of_succ_le hn) (by omega))
      have hj : j < 1 := hj
      show i.val ≠ n + 1 * j
      omega

theorem lanePieces_apply (v : View sig' κ sp S40x128 .f32) (f : v.ty.Contents (Elt Ideal)) (r : Fin 40) (k : Fin 128) :
    (n : ℕ) → (hn : n ≤ 5) → (hr : r.val / 8 < n) → v.read (Elt Ideal) (v.writes (Elt Ideal) f (lanePieces arg17 w L₀ n hn)) (ix2 r k)
      = lanes arg17 w L₀ ⟨r.val / 8, by omega⟩ (ix2 (⟨r.val % 8, by omega⟩ : Fin 8) k)
  | n + 1, hn, hr => by
    by_cases e : r.val / 8 = n
    · refine (hit v f (Rect.unit (s := S40x128) ![8 * n, 0] S8x128.size (inb13 ⟨n, hn⟩)) (lanes arg17 w L₀ ⟨n, hn⟩) _ _ (ix2 (⟨r.val % 8, by omega⟩ : Fin 8) k) fun a => by
        match a with
        | ⟨0, _⟩ => show r.val = 8 * n + 1 * (r.val % 8); omega
        | ⟨1, _⟩ => show k.val = 0 + 1 * k.val; omega).trans ?_
      exact congrArg (fun q => lanes arg17 w L₀ q (ix2 (⟨r.val % 8, by omega⟩ : Fin 8) k)) (Fin.ext e.symm)
    · refine (miss v f (Rect.unit (s := S40x128) ![8 * n, 0] S8x128.size (inb13 ⟨n, hn⟩)) (lanes arg17 w L₀ ⟨n, hn⟩) _ _ ⟨0, fun j hj => ?_⟩).trans
        (lanePieces_apply v f r k n (Nat.le_of_succ_le hn) (by omega))
      have hj : j < 8 := hj
      show r.val ≠ 8 * n + 1 * j
      omega

end

end

theorem row_eq (r : Fin 40) : (⟨8 * (r.val / 8) + r.val % 8, by omega⟩ : Fin 40) = r := Fin.ext (Nat.div_add_mod r.val 8)

variable (c : Dev nD) (i : grid0.Coords) (arg2 : Memref sig .tc .vmem S8x5x2048 .bf16) (harg2 : arg2.IsWhole) (arg3 : Memref sig .tc .vmem S1x2048 .f32) (harg3 : arg3.IsWhole) (arg4 : Memref sig .tc .vmem S1x3x4608 .bf16) (harg4 : arg4.IsWhole) (arg5 : Memref sig .tc .vmem S1x3x4608 .bf16) (harg5 : arg5.IsWhole) (arg6 : Memref sig .tc .vmem S1x3x4608 .bf16) (harg6 : arg6.IsWhole) (arg7 : Memref sig .tc .vmem S1x3x4608 .bf16) (harg7 : arg7.IsWhole) (arg8 : Memref sig .tc .vmem S1x3x4608 .bf16) (harg8 : arg8.IsWhole) (arg9 : Memref sig .tc .vmem S1x3x4608 .bf16) (harg9 : arg9.IsWhole) (arg10 : Memref sig .tc .vmem S1x3x4608 .bf16) (harg10 : arg10.IsWhole) (arg11 : Memref sig .tc .vmem S1x3x4608 .bf16) (harg11 : arg11.IsWhole) (arg12 : Memref sig .tc .vmem S8x5x2048 .i8) (harg12 : arg12.IsWhole) (arg13 : Memref sig .tc .vmem S8x5 .f32) (harg13 : arg13.IsWhole) (arg14 : Memref sig .tc .vmem S40x2048 .bf16) (harg14 : arg14.IsWhole) (arg15 : Memref sig .tc .vmem S40x128 .f32) (harg15 : arg15.IsWhole) (arg16 : Memref sig .tc .vmem S1x36x24x128 .f32) (harg16 : arg16.IsWhole) (arg17 : Memref sig .tc .vmem S16x40x128 .f32) (harg17 : arg17.IsWhole)
    (x0 : Vec Ideal S8x5x2048 .bf16) (x1 : Vec Ideal S1x2048 .f32) (x2 : Vec Ideal S1x3x4608 .bf16) (x3 : Vec Ideal S1x3x4608 .bf16) (x4 : Vec Ideal S1x3x4608 .bf16) (x5 : Vec Ideal S1x3x4608 .bf16) (x6 : Vec Ideal S1x3x4608 .bf16) (x7 : Vec Ideal S1x3x4608 .bf16) (x8 : Vec Ideal S1x3x4608 .bf16) (x9 : Vec Ideal S1x3x4608 .bf16) (xt0 : TbBuf0 (F := Ideal) c tbM0_0)

/-- The weights read by the grid point. -/
theorem weights_eq : wrow (load3 arg3 harg3 x1) = fun k => x1 (ix2 (0 : Fin 1) k) := funext fun k => load3_apply arg3 harg3 x1 (0 : Fin 1) k

/-- THE CODES of the block: entry `k` of token `t` of member `j`. -/
theorem out10_apply (j : Fin 8) (t : Fin 5) (k : Fin 2048) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0 (ix3 j t k)
      = (FloatOps.fptosi (F := Ideal) (φ := .f32) 32 (NormSpec.code (NormSpec.hn (fun n => x0 (ix3 j t n)) (fun n => x1 (ix2 (0 : Fin 1) n))) k) : BitVec 32).setWidth 8 := by
  unfold out0_A_10
  rw [pieces10, before_eq]
  refine (codePieces_apply arg17 VO0_10 VO0_10.junk (before arg17 (load3 arg3 harg3 x1) (kernelRun0_A.sl.HS0_128 c arg2 harg2 x0) 5 (Nat.le_refl 5)) j t k 8 (Nat.le_refl 8) j.isLt).trans ?_
  rw [codeBlk_apply arg17 _ _ (before_holds arg17 (blockRow x0) (load3 arg3 harg3 x1) (kernelRun0_A.sl.HS0_128 c arg2 harg2 x0) (first_holds c arg2 harg2 arg17 x0) 5 (Nat.le_refl 5))]
  refine congrArg (fun z : EReal => (FloatOps.fptosi (F := Ideal) (φ := .f32) 32 z : BitVec 32).setWidth 8) ?_
  refine (if_pos (by show (8 * t.val + j.val) / 8 < 5; omega)).trans ?_
  rw [weights_eq]
  refine congrArg (fun f => NormSpec.code (NormSpec.hn f _) k) (funext fun n => ?_)
  exact congrArg x0 (funext fun a => Fin.ext (by
    match a with
    | ⟨0, _⟩ => show (8 * t.val + j.val) % 8 = j.val; omega
    | ⟨1, _⟩ => show (8 * t.val + j.val) / 8 = t.val; omega
    | ⟨2, _⟩ => rfl))

/-- THE SCALES of the block: token `t` of member `j`. -/
theorem out11_apply (j : Fin 8) (t : Fin 5) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0 (ix2 j t)
      = NormSpec.scale (NormSpec.hn (fun n => x0 (ix3 j t n)) (fun n => x1 (ix2 (0 : Fin 1) n))) := by
  unfold out0_A_11
  rw [pieces11]
  refine (hit VO0_11 VO0_11.junk (Rect.unit (s := S8x5) ![0, 0] S8x5.size inb_S8x5_S8x5_0_0) _ [] (ix2 j t) (ix2 j t) fun a => by
    match a with
    | ⟨0, _⟩ => show j.val = 0 + 1 * j.val; omega
    | ⟨1, _⟩ => show t.val = 0 + 1 * t.val; omega).trans ?_
  rw [scaleBlk_apply arg17 (blockRow x0) (load3 arg3 harg3 x1) (kernelRun0_A.sl.HS0_128 c arg2 harg2 x0) (first_holds c arg2 harg2 arg17 x0)]
  unfold scaleOf
  rw [weights_eq]
  refine congrArg (fun f => NormSpec.scale (NormSpec.hn f _)) (funext fun n => ?_)
  exact congrArg x0 (funext fun a => Fin.ext (by
    match a with
    | ⟨0, _⟩ => show (8 * t.val + j.val) % 8 = j.val; omega
    | ⟨1, _⟩ => show (8 * t.val + j.val) / 8 = t.val; omega
    | ⟨2, _⟩ => rfl))

/-- THE ROWS OF CODES: row `r` is token `r / 8` of member `r % 8`. -/
theorem out12_apply (r : Fin 40) (k : Fin 2048) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0 (ix2 r k)
      = NormSpec.code (NormSpec.hn (blockRow x0 r) (fun n => x1 (ix2 (0 : Fin 1) n))) k := by
  unfold out0_A_12
  rw [pieces12, before_eq]
  refine (hit VO0_12 VO0_12.junk (Rect.unit (s := S40x2048) ![0, 0] S40x2048.size inb_S40x2048_S40x2048_0_0) _ [] (ix2 r k) (ix2 r k) fun a => by
    match a with
    | ⟨0, _⟩ => show r.val = 0 + 1 * r.val; omega
    | ⟨1, _⟩ => show k.val = 0 + 1 * k.val; omega).trans ?_
  rw [rowBlk_apply arg17 _ _ (before_holds arg17 (blockRow x0) (load3 arg3 harg3 x1) (kernelRun0_A.sl.HS0_128 c arg2 harg2 x0) (first_holds c arg2 harg2 arg17 x0) 5 (Nat.le_refl 5))]
  refine (if_pos (by omega)).trans ?_
  rw [weights_eq]

/-- THE ROWS OF SCALES: every lane of row `r` holds the scale of token `r / 8` of member `r % 8`. -/
theorem out13_apply (r : Fin 40) (k : Fin 128) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xt0 (ix2 r k)
      = NormSpec.scale (NormSpec.hn (blockRow x0 r) (fun n => x1 (ix2 (0 : Fin 1) n))) := by
  unfold out0_A_13
  rw [pieces13]
  refine (lanePieces_apply arg17 (load3 arg3 harg3 x1) (kernelRun0_A.sl.HS0_128 c arg2 harg2 x0) VO0_13 VO0_13.junk r k 5 (Nat.le_refl 5) (by omega)).trans ?_
  rw [lanes_apply arg17 (blockRow x0) (load3 arg3 harg3 x1) (kernelRun0_A.sl.HS0_128 c arg2 harg2 x0) (first_holds c arg2 harg2 arg17 x0)]
  show scaleOf _ _ (⟨8 * (r.val / 8) + r.val % 8, _⟩ : Fin 40) = _
  rw [row_eq]
  unfold scaleOf
  rw [weights_eq]

end Cert.NormQuantIdeal.Value

end
-- ==== Proof.NormInputs.lean ====
/-
  What each grid point of the quantisation of the inputs is given, and the tokens and rows of its results, over the extended reals.
-/
module

public import proofs.«01_k».proof.Proof.NormOut
public import proofs.«01_k».proof.Proof.NormRunIdeal

@[expose] public section

set_option maxRecDepth 16384

noncomputable section

namespace Cert.NormQuantIdeal.Array

open Idealize.ShloMosaic hiding ix1 ix2 ix3 ix4 eq_ix1 eq_ix2 eq_ix3 eq_ix4
open Idealize.ShloMosaic.TcCoe Idealize.SL.Sem Idealize.ShloMosaic.ValueIdx
open Cert.NormQuantIdeal Cert.NormQuantIdeal.Gen
open Cert.NormQuantIdeal.Value (out10_apply out11_apply out12_apply out13_apply blockRow)
open Idealize.ShloMosaic.Pipeline (Dat)

variable (m : (ℓ : Loc nD τ sig) → Buf (Elt Ideal) ℓ) (ρ : Dev nD → PrngReg) (hO : Ok m)

/-- Where each window's block lies at a grid point, decided over the grid. -/
theorem index_facts : ∀ t : Fin grid0.N,
    cc0_transform_0 (grid0.coords t) 0 = t.val ∧ cc0_transform_0 (grid0.coords t) 1 = 0 ∧ cc0_transform_0 (grid0.coords t) 2 = 0
    ∧ cc0_transform_1 (grid0.coords t) 0 = 0 ∧ cc0_transform_1 (grid0.coords t) 1 = 0
    ∧ cc0_transform_10 (grid0.coords t) 0 = t.val ∧ cc0_transform_10 (grid0.coords t) 1 = 0 ∧ cc0_transform_10 (grid0.coords t) 2 = 0
    ∧ cc0_transform_11 (grid0.coords t) 0 = t.val ∧ cc0_transform_11 (grid0.coords t) 1 = 0
    ∧ cc0_transform_12 (grid0.coords t) 0 = t.val ∧ cc0_transform_12 (grid0.coords t) 1 = 0
    ∧ cc0_transform_13 (grid0.coords t) 0 = t.val ∧ cc0_transform_13 (grid0.coords t) 1 = 0 := by decide +kernel

theorem points : grid0.N = 18 := by decide +kernel

theorem point_lt (t : Fin (cfgM m hO).N) : t.val < 18 := lt_of_lt_of_eq t.isLt points

/-- The weights of the normalisation reach the kernel as one row. -/
theorem weights_row (c : Dev nD) (n : Fin 2048) :
    (V m c main_v0 : S1x2048.Idx → EReal) (ix2 (0 : Fin 1) n) = m ((c : Thread nD τ).loc main_arg1) (ix1 n) := by
  have h : (V m c main_v0 : S1x2048.Idx → EReal) = shapeCast S1x2048 (m ((c : Thread nD τ).loc main_arg1)) shapeCasts_S2048_S1x2048 := by
    unfold V; after_results <;> rfl
  rw [h]
  exact shapeCast_a_1a_apply _ _ _ _

/-- The sequences that point `t` is given. -/
def xblk (c : Dev nD) (t : Fin (cfgM m hO).N) : Vec Ideal S8x5x2048 .bf16 := iblk m hO c 0 t

/-- The weights that point `t` is given. -/
def wblk (c : Dev nD) (t : Fin (cfgM m hO).N) : Vec Ideal S1x2048 .f32 := iblk m hO c 1 t

/-- Point `t` is given the eight sequences from `8 * t`. -/
theorem arg0_block (c : Dev nD) (t : Fin (cfgM m hO).N) (j : Fin 8) (s : Fin 5) (k : Fin 2048) :
    xblk m hO c t (ix3 j s k)
      = m ((c : Thread nD τ).loc main_arg0) (ix3 (⟨8 * t.val + j.val, by have := point_lt m hO t; omega⟩ : Fin 144) s k) := by
  obtain ⟨h0, h1, h2, -⟩ := index_facts t
  unfold xblk iblk
  show V m c main_arg0 ((((cfgM m hO).win 0).blk t).view.emb (ix3 j s k)) = _
  rw [V_main_arg0]
  refine congrArg (m ((c : Thread nD τ).loc main_arg0)) (funext fun a => Fin.ext ?_)
  match a with
  | ⟨0, _⟩ => show cc0_transform_0 (grid0.coords t) 0 * 8 + 1 * j.val = 8 * t.val + j.val; rw [h0]; omega
  | ⟨1, _⟩ => show cc0_transform_0 (grid0.coords t) 1 * 5 + 1 * s.val = s.val; rw [h1]; omega
  | ⟨2, _⟩ => show cc0_transform_0 (grid0.coords t) 2 * 2048 + 1 * k.val = k.val; rw [h2]; omega

/-- Every point is given all the weights. -/
theorem weights_block (c : Dev nD) (t : Fin (cfgM m hO).N) (k : Fin 2048) :
    wblk m hO c t (ix2 (0 : Fin 1) k) = m ((c : Thread nD τ).loc main_arg1) (ix1 k) := by
  obtain ⟨-, -, -, h0, h1, -⟩ := index_facts t
  unfold wblk iblk
  refine Eq.trans ?_ (weights_row m c k)
  show (V m c main_v0 : S1x2048.Idx → EReal) ((((cfgM m hO).win 1).blk t).view.emb (ix2 (0 : Fin 1) k)) = _
  refine congrArg (V m c main_v0 : S1x2048.Idx → EReal) (funext fun a => Fin.ext ?_)
  match a with
  | ⟨0, _⟩ => show cc0_transform_1 (grid0.coords t) 0 * 1 + 1 * 0 = 0; rw [h0]
  | ⟨1, _⟩ => show cc0_transform_1 (grid0.coords t) 1 * 2048 + 1 * k.val = k.val; rw [h1]; omega

/-- Token `s` of sequence `b`, normalised and weighted. -/
def token (c : Dev nD) (b : Fin 144) (s : Fin 5) : Fin 2048 → EReal :=
  NormSpec.hn (fun n => m ((c : Thread nD τ).loc main_arg0) (ix3 b s n)) (fun n => m ((c : Thread nD τ).loc main_arg1) (ix1 n))

/-- The sequence of row `r`: eight sequences share forty rows. -/
def rowSeq (r : Fin 720) : Fin 144 := ⟨8 * (r.val / 40) + r.val % 40 % 8, by omega⟩

/-- The token of row `r`. -/
def rowTok (r : Fin 720) : Fin 5 := ⟨r.val % 40 / 8, by omega⟩

/-- The codes. -/
def codes (c : Dev nD) : S144x5x2048.Idx → BitVec 8 := fun i =>
  (FloatOps.fptosi (F := Ideal) (φ := .f32) 32 (NormSpec.code (token m c (i 0) (i 1)) (i 2)) : BitVec 32).setWidth 8

/-- The scales. -/
def scales (c : Dev nD) : S144x5.Idx → EReal := fun i => NormSpec.scale (token m c (i 0) (i 1))

/-- The codes as rows. -/
def codeRows (c : Dev nD) : S720x2048.Idx → EReal := fun i => NormSpec.code (token m c (rowSeq (i 0)) (rowTok (i 0))) (i 1)

/-- The scales as rows. -/
def scaleRows (c : Dev nD) : S720x128.Idx → EReal := fun i => NormSpec.scale (token m c (rowSeq (i 0)) (rowTok (i 0)))

/-- A point's token, from its blocks. -/
theorem token_block (c : Dev nD) (t : Fin (cfgM m hO).N) (j : Fin 8) (s : Fin 5) :
    NormSpec.hn (fun n => xblk m hO c t (ix3 j s n)) (fun n => wblk m hO c t (ix2 (0 : Fin 1) n))
      = token m c (⟨8 * t.val + j.val, by have := point_lt m hO t; omega⟩ : Fin 144) s := by
  unfold token
  exact congrArg₂ NormSpec.hn (funext fun n => arg0_block m hO c t j s n) (funext fun n => weights_block m hO c t n)

/-- A point's row, from its blocks. -/
theorem row_block (c : Dev nD) (t : Fin (cfgM m hO).N) (r : Fin 40) :
    NormSpec.hn (blockRow (xblk m hO c t) r) (fun n => wblk m hO c t (ix2 (0 : Fin 1) n))
      = token m c (rowSeq (⟨40 * t.val + r.val, by have := point_lt m hO t; omega⟩ : Fin 720)) (rowTok (⟨40 * t.val + r.val, by have := point_lt m hO t; omega⟩ : Fin 720)) := by
  have ht := point_lt m hO t
  refine (token_block m hO c t (⟨r.val % 8, by omega⟩ : Fin 8) (⟨r.val / 8, by omega⟩ : Fin 5)).trans (congrArg₂ (token m c) (Fin.ext ?_) (Fin.ext ?_))
  · show 8 * t.val + r.val % 8 = 8 * ((40 * t.val + r.val) / 40) + (40 * t.val + r.val) % 40 % 8; omega
  · show r.val / 8 = (40 * t.val + r.val) % 40 / 8; omega

end Cert.NormQuantIdeal.Array

end
-- ==== Proof.NormOuts.lean ====
/-
  What each grid point of the quantisation of the inputs leaves in its results, in terms of the arguments, over the extended reals.
-/
module

public import proofs.«01_k».proof.Proof.NormInputs

@[expose] public section

set_option maxRecDepth 16384

noncomputable section

namespace Cert.NormQuantIdeal.Array

open Idealize.ShloMosaic hiding ix1 ix2 ix3 ix4 eq_ix1 eq_ix2 eq_ix3 eq_ix4
open Idealize.ShloMosaic.TcCoe Idealize.SL.Sem Idealize.ShloMosaic.ValueIdx
open Cert.NormQuantIdeal Cert.NormQuantIdeal.Gen
open Cert.NormQuantIdeal.Value (out10_apply out11_apply out12_apply out13_apply blockRow)
open Idealize.ShloMosaic.Pipeline (Dat)

variable (m : (ℓ : Loc nD τ sig) → Buf (Elt Ideal) ℓ) (ρ : Dev nD → PrngReg) (hO : Ok m)

attribute [local irreducible] out0_A_10 out0_A_11 out0_A_12 out0_A_13 NormSpec.code NormSpec.hn NormSpec.scale NormSpec.amax

theorem outsAt10 (c : Dev nD) (t : Fin (cfgM m hO).N) :
    (outsAt0 m hO c t).1 = out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) scM0_0 (Memref.isWhole_whole _) (xblk m hO c t) (wblk m hO c t) (iblk m hO c 2 t) (iblk m hO c 3 t) (iblk m hO c 4 t) (iblk m hO c 5 t) (iblk m hO c 6 t) (iblk m hO c 7 t) (iblk m hO c 8 t) (iblk m hO c 9 t) (tbl m 0) := rfl

/-- The codes of a point. -/
theorem outs10 (c : Dev nD) (t : Fin (cfgM m hO).N) (b : Fin 8) (s : Fin 5) (l : Fin 2048) :
    (outsAt0 m hO c t).1 (ix3 b s l) = (FloatOps.fptosi (F := Ideal) (φ := .f32) 32 (NormSpec.code (token m c (⟨8 * t.val + b.val, by have := point_lt m hO t; omega⟩ : Fin 144) s) l) : BitVec 32).setWidth 8 := by
  refine (congrFun (outsAt10 m hO c t) (ix3 b s l)).trans ((out10_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) scM0_0 (Memref.isWhole_whole _) (xblk m hO c t) (wblk m hO c t) (iblk m hO c 2 t) (iblk m hO c 3 t) (iblk m hO c 4 t) (iblk m hO c 5 t) (iblk m hO c 6 t) (iblk m hO c 7 t) (iblk m hO c 8 t) (iblk m hO c 9 t) (tbl m 0) b s l).trans ?_)
  rw [token_block]

theorem outsAt11 (c : Dev nD) (t : Fin (cfgM m hO).N) :
    (outsAt0 m hO c t).2.1 = out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) scM0_0 (Memref.isWhole_whole _) (xblk m hO c t) (wblk m hO c t) (iblk m hO c 2 t) (iblk m hO c 3 t) (iblk m hO c 4 t) (iblk m hO c 5 t) (iblk m hO c 6 t) (iblk m hO c 7 t) (iblk m hO c 8 t) (iblk m hO c 9 t) (tbl m 0) := rfl

/-- The scales of a point. -/
theorem outs11 (c : Dev nD) (t : Fin (cfgM m hO).N) (b : Fin 8) (s : Fin 5) :
    (outsAt0 m hO c t).2.1 (ix2 b s) = NormSpec.scale (token m c (⟨8 * t.val + b.val, by have := point_lt m hO t; omega⟩ : Fin 144) s) := by
  refine (congrFun (outsAt11 m hO c t) (ix2 b s)).trans ((out11_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) scM0_0 (Memref.isWhole_whole _) (xblk m hO c t) (wblk m hO c t) (iblk m hO c 2 t) (iblk m hO c 3 t) (iblk m hO c 4 t) (iblk m hO c 5 t) (iblk m hO c 6 t) (iblk m hO c 7 t) (iblk m hO c 8 t) (iblk m hO c 9 t) (tbl m 0) b s).trans ?_)
  rw [token_block]

theorem outsAt12 (c : Dev nD) (t : Fin (cfgM m hO).N) :
    (outsAt0 m hO c t).2.2.1 = out0_A_12 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) scM0_0 (Memref.isWhole_whole _) (xblk m hO c t) (wblk m hO c t) (iblk m hO c 2 t) (iblk m hO c 3 t) (iblk m hO c 4 t) (iblk m hO c 5 t) (iblk m hO c 6 t) (iblk m hO c 7 t) (iblk m hO c 8 t) (iblk m hO c 9 t) (tbl m 0) := rfl

/-- The codes of the rows of a point. -/
theorem outs12 (c : Dev nD) (t : Fin (cfgM m hO).N) (r : Fin 40) (l : Fin 2048) :
    (outsAt0 m hO c t).2.2.1 (ix2 r l) = NormSpec.code (token m c (rowSeq (⟨40 * t.val + r.val, by have := point_lt m hO t; omega⟩ : Fin 720)) (rowTok (⟨40 * t.val + r.val, by have := point_lt m hO t; omega⟩ : Fin 720))) l := by
  refine (congrFun (outsAt12 m hO c t) (ix2 r l)).trans ((out12_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) scM0_0 (Memref.isWhole_whole _) (xblk m hO c t) (wblk m hO c t) (iblk m hO c 2 t) (iblk m hO c 3 t) (iblk m hO c 4 t) (iblk m hO c 5 t) (iblk m hO c 6 t) (iblk m hO c 7 t) (iblk m hO c 8 t) (iblk m hO c 9 t) (tbl m 0) r l).trans ?_)
  rw [row_block]

theorem outsAt13 (c : Dev nD) (t : Fin (cfgM m hO).N) :
    (outsAt0 m hO c t).2.2.2.1 = out0_A_13 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) scM0_0 (Memref.isWhole_whole _) (xblk m hO c t) (wblk m hO c t) (iblk m hO c 2 t) (iblk m hO c 3 t) (iblk m hO c 4 t) (iblk m hO c 5 t) (iblk m hO c 6 t) (iblk m hO c 7 t) (iblk m hO c 8 t) (iblk m hO c 9 t) (tbl m 0) := rfl

/-- The scales of the rows of a point. -/
theorem outs13 (c : Dev nD) (t : Fin (cfgM m hO).N) (r : Fin 40) (l : Fin 128) :
    (outsAt0 m hO c t).2.2.2.1 (ix2 r l) = NormSpec.scale (token m c (rowSeq (⟨40 * t.val + r.val, by have := point_lt m hO t; omega⟩ : Fin 720)) (rowTok (⟨40 * t.val + r.val, by have := point_lt m hO t; omega⟩ : Fin 720))) := by
  refine (congrFun (outsAt13 m hO c t) (ix2 r l)).trans ((out13_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) scM0_0 (Memref.isWhole_whole _) (xblk m hO c t) (wblk m hO c t) (iblk m hO c 2 t) (iblk m hO c 3 t) (iblk m hO c 4 t) (iblk m hO c 5 t) (iblk m hO c 6 t) (iblk m hO c 7 t) (iblk m hO c 8 t) (iblk m hO c 9 t) (tbl m 0) r l).trans ?_)
  rw [row_block]

end Cert.NormQuantIdeal.Array

end
-- ==== Proof.NormValue.lean ====
/-
  What the quantisation of the inputs leaves in its result arrays, over the extended reals: the codes and the scales of every token of
  every sequence, and the same laid out as rows, grouped by eight sequences.
-/
module

public import proofs.«01_k».proof.Proof.NormOuts

@[expose] public section

set_option maxRecDepth 16384

noncomputable section

namespace Cert.NormQuantIdeal.Array

open Idealize.ShloMosaic hiding ix1 ix2 ix3 ix4 eq_ix1 eq_ix2 eq_ix3 eq_ix4
open Idealize.ShloMosaic.TcCoe Idealize.SL.Sem Idealize.ShloMosaic.ValueIdx
open Cert.NormQuantIdeal Cert.NormQuantIdeal.Gen
open Cert.NormQuantIdeal.Value (out10_apply out11_apply out12_apply out13_apply blockRow)
open Idealize.ShloMosaic.Pipeline (Dat)

variable (m : (ℓ : Loc nD τ sig) → Buf (Elt Ideal) ℓ) (ρ : Dev nD → PrngReg) (hO : Ok m)

attribute [local irreducible] outsAt0 NormSpec.code NormSpec.hn NormSpec.scale NormSpec.amax

theorem flushed10 (c : Dev nD) (t : Fin (cfgM m hO).N) :
    (dats m hO 0 c).flushed 10 t = (((cfgM m hO).win 10).blk t).view.read (Elt Ideal) (codes m c) := by
  obtain ⟨-, -, -, -, -, h0, h1, h2, -⟩ := index_facts t
  have ht := point_lt m hO t
  refine funext fun (j : S8x5x2048.Idx) => ?_
  obtain ⟨b, s, l, rfl⟩ : ∃ (b : Fin 8) (s : Fin 5) (l : Fin 2048), j = ix3 b s l := ⟨j 0, j 1, j 2, eq_ix3 (n0 := 8) (n1 := 5) (n2 := 2048) j⟩
  refine Eq.trans ?_ (View.read_apply _ _).symm
  show (dats m hO 0 c).after 10 t (ix3 b s l) = codes m c ((((cfgM m hO).win 10).blk t).view.emb (ix3 b s l))
  rw [after0_10]
  refine (outs10 m hO c t b s l).trans ?_
  have hi : ∀ e : Fin 3, ((((cfgM m hO).win 10).blk t).view.emb (ix3 b s l) e).val
      = ((ix3 (⟨8 * t.val + b.val, by omega⟩ : Fin 144) s l : S144x5x2048.Idx) e).val := fun e => by
    match e with
    | ⟨0, _⟩ => show cc0_transform_10 (grid0.coords t) 0 * 8 + 1 * b.val = 8 * t.val + b.val; rw [h0]; omega
    | ⟨1, _⟩ => show cc0_transform_10 (grid0.coords t) 1 * 5 + 1 * s.val = s.val; rw [h1]; omega
    | ⟨2, _⟩ => show cc0_transform_10 (grid0.coords t) 2 * 2048 + 1 * l.val = l.val; rw [h2]; omega
  exact congrArg (codes m c) (show (ix3 (⟨8 * t.val + b.val, by omega⟩ : Fin 144) s l : S144x5x2048.Idx) = (((cfgM m hO).win 10).blk t).view.emb (ix3 b s l) from
    funext fun e => Fin.ext (hi e).symm)

/-- The codes, once every block is written back. -/
theorem final10 (c : Dev nD) : (dats m hO 0 c).arrAt 10 (cfgM m hO).N = codes m c :=
  (dats m hO 0 c).arrAt_eq_of_cover 10 (codes m c) (fun t _ => flushed10 m hO c t) fun (i : S144x5x2048.Idx) => by
    have hi0 : (i 0 : Nat) < 144 := (i 0).isLt
    have hi1 : (i 1 : Nat) < 5 := (i 1).isLt
    have hi2 : (i 2 : Nat) < 2048 := (i 2).isLt
    have hN := points
    obtain ⟨t, ht⟩ : ∃ t : Fin (cfgM m hO).N, t.val = (i 0).val / 8 := ⟨(⟨(i 0).val / 8, by omega⟩ : Fin grid0.N), rfl⟩
    obtain ⟨-, -, -, -, -, h0, h1, h2, -⟩ := index_facts t
    refine ⟨t, flush0_10 (adm m hO) t, ?_⟩
    show i ∈ ((View.whole main_v1_0).slice (show Rect S144x5x2048 from ((cfgM m hO).win 10).rect t)).set
    rw [View.set_slice_whole]
    refine Rect.mem_set_unit.mpr ?_
    intro a
    match a with
    | ⟨0, _⟩ => show cc0_transform_10 (grid0.coords t) 0 * 8 ≤ (i 0 : Nat) ∧ (i 0 : Nat) < cc0_transform_10 (grid0.coords t) 0 * 8 + 8; rw [h0, ht]; omega
    | ⟨1, _⟩ => show cc0_transform_10 (grid0.coords t) 1 * 5 ≤ (i 1 : Nat) ∧ (i 1 : Nat) < cc0_transform_10 (grid0.coords t) 1 * 5 + 5; rw [h1]; omega
    | ⟨2, _⟩ => show cc0_transform_10 (grid0.coords t) 2 * 2048 ≤ (i 2 : Nat) ∧ (i 2 : Nat) < cc0_transform_10 (grid0.coords t) 2 * 2048 + 2048; rw [h2]; omega

theorem flushed11 (c : Dev nD) (t : Fin (cfgM m hO).N) :
    (dats m hO 0 c).flushed 11 t = (((cfgM m hO).win 11).blk t).view.read (Elt Ideal) (scales m c) := by
  obtain ⟨-, -, -, -, -, -, -, -, h0, h1, -⟩ := index_facts t
  have ht := point_lt m hO t
  refine funext fun (j : S8x5.Idx) => ?_
  obtain ⟨b, s, rfl⟩ : ∃ (b : Fin 8) (s : Fin 5), j = ix2 b s := ⟨j 0, j 1, eq_ix2 (n0 := 8) (n1 := 5) j⟩
  refine Eq.trans ?_ (View.read_apply _ _).symm
  show (dats m hO 0 c).after 11 t (ix2 b s) = scales m c ((((cfgM m hO).win 11).blk t).view.emb (ix2 b s))
  rw [after0_11]
  refine (outs11 m hO c t b s).trans ?_
  have hi : ∀ e : Fin 2, ((((cfgM m hO).win 11).blk t).view.emb (ix2 b s) e).val
      = ((ix2 (⟨8 * t.val + b.val, by omega⟩ : Fin 144) s : S144x5.Idx) e).val := fun e => by
    match e with
    | ⟨0, _⟩ => show cc0_transform_11 (grid0.coords t) 0 * 8 + 1 * b.val = 8 * t.val + b.val; rw [h0]; omega
    | ⟨1, _⟩ => show cc0_transform_11 (grid0.coords t) 1 * 5 + 1 * s.val = s.val; rw [h1]; omega
  exact congrArg (scales m c) (show (ix2 (⟨8 * t.val + b.val, by omega⟩ : Fin 144) s : S144x5.Idx) = (((cfgM m hO).win 11).blk t).view.emb (ix2 b s) from
    funext fun e => Fin.ext (hi e).symm)

/-- The scales, once every block is written back. -/
theorem final11 (c : Dev nD) : (dats m hO 0 c).arrAt 11 (cfgM m hO).N = scales m c :=
  (dats m hO 0 c).arrAt_eq_of_cover 11 (scales m c) (fun t _ => flushed11 m hO c t) fun (i : S144x5.Idx) => by
    have hi0 : (i 0 : Nat) < 144 := (i 0).isLt
    have hi1 : (i 1 : Nat) < 5 := (i 1).isLt
    have hN := points
    obtain ⟨t, ht⟩ : ∃ t : Fin (cfgM m hO).N, t.val = (i 0).val / 8 := ⟨(⟨(i 0).val / 8, by omega⟩ : Fin grid0.N), rfl⟩
    obtain ⟨-, -, -, -, -, -, -, -, h0, h1, -⟩ := index_facts t
    refine ⟨t, flush0_11 (adm m hO) t, ?_⟩
    show i ∈ ((View.whole main_v1_1).slice (show Rect S144x5 from ((cfgM m hO).win 11).rect t)).set
    rw [View.set_slice_whole]
    refine Rect.mem_set_unit.mpr ?_
    intro a
    match a with
    | ⟨0, _⟩ => show cc0_transform_11 (grid0.coords t) 0 * 8 ≤ (i 0 : Nat) ∧ (i 0 : Nat) < cc0_transform_11 (grid0.coords t) 0 * 8 + 8; rw [h0, ht]; omega
    | ⟨1, _⟩ => show cc0_transform_11 (grid0.coords t) 1 * 5 ≤ (i 1 : Nat) ∧ (i 1 : Nat) < cc0_transform_11 (grid0.coords t) 1 * 5 + 5; rw [h1]; omega

theorem flushed12 (c : Dev nD) (t : Fin (cfgM m hO).N) :
    (dats m hO 0 c).flushed 12 t = (((cfgM m hO).win 12).blk t).view.read (Elt Ideal) (codeRows m c) := by
  obtain ⟨-, -, -, -, -, -, -, -, -, -, h0, h1, -⟩ := index_facts t
  have ht := point_lt m hO t
  refine funext fun (j : S40x2048.Idx) => ?_
  obtain ⟨r, l, rfl⟩ : ∃ (r : Fin 40) (l : Fin 2048), j = ix2 r l := ⟨j 0, j 1, eq_ix2 (n0 := 40) (n1 := 2048) j⟩
  refine Eq.trans ?_ (View.read_apply _ _).symm
  show (dats m hO 0 c).after 12 t (ix2 r l) = codeRows m c ((((cfgM m hO).win 12).blk t).view.emb (ix2 r l))
  rw [after0_12]
  refine (outs12 m hO c t r l).trans ?_
  have hi : ∀ e : Fin 2, ((((cfgM m hO).win 12).blk t).view.emb (ix2 r l) e).val
      = ((ix2 (⟨40 * t.val + r.val, by omega⟩ : Fin 720) l : S720x2048.Idx) e).val := fun e => by
    match e with
    | ⟨0, _⟩ => show cc0_transform_12 (grid0.coords t) 0 * 40 + 1 * r.val = 40 * t.val + r.val; rw [h0]; omega
    | ⟨1, _⟩ => show cc0_transform_12 (grid0.coords t) 1 * 2048 + 1 * l.val = l.val; rw [h1]; omega
  exact congrArg (codeRows m c) (show (ix2 (⟨40 * t.val + r.val, by omega⟩ : Fin 720) l : S720x2048.Idx) = (((cfgM m hO).win 12).blk t).view.emb (ix2 r l) from
    funext fun e => Fin.ext (hi e).symm)

/-- The rows of codes, once every block is written back. -/
theorem final12 (c : Dev nD) : (dats m hO 0 c).arrAt 12 (cfgM m hO).N = codeRows m c :=
  (dats m hO 0 c).arrAt_eq_of_cover 12 (codeRows m c) (fun t _ => flushed12 m hO c t) fun (i : S720x2048.Idx) => by
    have hi0 : (i 0 : Nat) < 720 := (i 0).isLt
    have hi1 : (i 1 : Nat) < 2048 := (i 1).isLt
    have hN := points
    obtain ⟨t, ht⟩ : ∃ t : Fin (cfgM m hO).N, t.val = (i 0).val / 40 := ⟨(⟨(i 0).val / 40, by omega⟩ : Fin grid0.N), rfl⟩
    obtain ⟨-, -, -, -, -, -, -, -, -, -, h0, h1, -⟩ := index_facts t
    refine ⟨t, flush0_12 (adm m hO) t, ?_⟩
    show i ∈ ((View.whole main_v1_2).slice (show Rect S720x2048 from ((cfgM m hO).win 12).rect t)).set
    rw [View.set_slice_whole]
    refine Rect.mem_set_unit.mpr ?_
    intro a
    match a with
    | ⟨0, _⟩ => show cc0_transform_12 (grid0.coords t) 0 * 40 ≤ (i 0 : Nat) ∧ (i 0 : Nat) < cc0_transform_12 (grid0.coords t) 0 * 40 + 40; rw [h0, ht]; omega
    | ⟨1, _⟩ => show cc0_transform_12 (grid0.coords t) 1 * 2048 ≤ (i 1 : Nat) ∧ (i 1 : Nat) < cc0_transform_12 (grid0.coords t) 1 * 2048 + 2048; rw [h1]; omega

theorem flushed13 (c : Dev nD) (t : Fin (cfgM m hO).N) :
    (dats m hO 0 c).flushed 13 t = (((cfgM m hO).win 13).blk t).view.read (Elt Ideal) (scaleRows m c) := by
  obtain ⟨-, -, -, -, -, -, -, -, -, -, -, -, h0, h1⟩ := index_facts t
  have ht := point_lt m hO t
  refine funext fun (j : S40x128.Idx) => ?_
  obtain ⟨r, l, rfl⟩ : ∃ (r : Fin 40) (l : Fin 128), j = ix2 r l := ⟨j 0, j 1, eq_ix2 (n0 := 40) (n1 := 128) j⟩
  refine Eq.trans ?_ (View.read_apply _ _).symm
  show (dats m hO 0 c).after 13 t (ix2 r l) = scaleRows m c ((((cfgM m hO).win 13).blk t).view.emb (ix2 r l))
  rw [after0_13]
  refine (outs13 m hO c t r l).trans ?_
  have hi : ∀ e : Fin 2, ((((cfgM m hO).win 13).blk t).view.emb (ix2 r l) e).val
      = ((ix2 (⟨40 * t.val + r.val, by omega⟩ : Fin 720) l : S720x128.Idx) e).val := fun e => by
    match e with
    | ⟨0, _⟩ => show cc0_transform_13 (grid0.coords t) 0 * 40 + 1 * r.val = 40 * t.val + r.val; rw [h0]; omega
    | ⟨1, _⟩ => show cc0_transform_13 (grid0.coords t) 1 * 128 + 1 * l.val = l.val; rw [h1]; omega
  exact congrArg (scaleRows m c) (show (ix2 (⟨40 * t.val + r.val, by omega⟩ : Fin 720) l : S720x128.Idx) = (((cfgM m hO).win 13).blk t).view.emb (ix2 r l) from
    funext fun e => Fin.ext (hi e).symm)

/-- The rows of scales, once every block is written back. -/
theorem final13 (c : Dev nD) : (dats m hO 0 c).arrAt 13 (cfgM m hO).N = scaleRows m c :=
  (dats m hO 0 c).arrAt_eq_of_cover 13 (scaleRows m c) (fun t _ => flushed13 m hO c t) fun (i : S720x128.Idx) => by
    have hi0 : (i 0 : Nat) < 720 := (i 0).isLt
    have hi1 : (i 1 : Nat) < 128 := (i 1).isLt
    have hN := points
    obtain ⟨t, ht⟩ : ∃ t : Fin (cfgM m hO).N, t.val = (i 0).val / 40 := ⟨(⟨(i 0).val / 40, by omega⟩ : Fin grid0.N), rfl⟩
    obtain ⟨-, -, -, -, -, -, -, -, -, -, -, -, h0, h1⟩ := index_facts t
    refine ⟨t, flush0_13 (adm m hO) t, ?_⟩
    show i ∈ ((View.whole main_v1_3).slice (show Rect S720x128 from ((cfgM m hO).win 13).rect t)).set
    rw [View.set_slice_whole]
    refine Rect.mem_set_unit.mpr ?_
    intro a
    match a with
    | ⟨0, _⟩ => show cc0_transform_13 (grid0.coords t) 0 * 40 ≤ (i 0 : Nat) ∧ (i 0 : Nat) < cc0_transform_13 (grid0.coords t) 0 * 40 + 40; rw [h0, ht]; omega
    | ⟨1, _⟩ => show cc0_transform_13 (grid0.coords t) 1 * 128 ≤ (i 1 : Nat) ∧ (i 1 : Nat) < cc0_transform_13 (grid0.coords t) 1 * 128 + 128; rw [h1]; omega

include hO in
/-- The kernel's run: the result arrays hold the codes, the scales and both as rows, and the arguments are unchanged. -/
theorem run : θ_run defs (onTc (τ := τ) (main (F := Ideal))) ⟨m, fun _ => 0, ρ⟩ fun r => ∀ c : Dev nD,
      r.2.mem ((c.tc : Thread nD τ).loc main_v1_0) = codes m c
      ∧ r.2.mem ((c.tc : Thread nD τ).loc main_v1_1) = scales m c
      ∧ r.2.mem ((c.tc : Thread nD τ).loc main_v1_2) = codeRows m c
      ∧ r.2.mem ((c.tc : Thread nD τ).loc main_v1_3) = scaleRows m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 10).trans (final10 m hO c), ((h.1 c).1 11).trans (final11 m hO c),
      ((h.1 c).1 12).trans (final12 m hO c), ((h.1 c).1 13).trans (final13 m hO c), h.2 c⟩)
    (θ_run_and (run_main m ρ hO) (unchanged m ρ hO))

end Cert.NormQuantIdeal.Array

end
-- ==== Proof.NormReference.lean ====
/-
  What the reference of the quantisation of the inputs computes, over the extended reals: the codes and the scales of every token of
  every sequence, and the same laid out as rows, grouped by eight sequences.
-/
module

public import proofs.«01_k».proof.Proof.NormSpec
public import proofs.«01_k».proof.Proof.Gen.NormReferenceIdeal.Read
public import Idealize.ShloMosaic.Lib.KernelVsHost

@[expose] public section

set_option maxRecDepth 16384

noncomputable section

namespace Cert.NormReferenceIdeal.Spec

open Idealize.ShloMosaic
open Idealize.ShloMosaic.TcCoe Idealize.SL.Sem Idealize.ShloMosaic.ValueIdx
open Cert.NormReferenceIdeal Cert.NormReferenceIdeal.Gen Cert.NormReferenceIdeal.Read

variable (x0 : FVec Ideal S144x5x2048 .bf16) (x1 : FVec Ideal S2048 .f32)

/-- Token `s` of sequence `b`, normalised and weighted. -/
def token (b : Fin 144) (s : Fin 5) : Fin 2048 → EReal := NormSpec.hn (fun n => x0 (ix3 b s n)) (fun n => x1 (ix1 n))

/-- The sum of the squares of a token. -/
theorem squares (b : Fin 144) (s : Fin 5) : val_main_v2 (F := Ideal) x0 (ix2 b s) = ∑ k : Fin 2048, x0 (ix3 b s k) * x0 (ix3 b s k) := by
  rw [val_main_v2_apply, val_main_cst_apply, show (FloatOps.ofBits (F := Ideal) .f32 0x00000000#32 : EReal) = 0 from Ideal.ofBits_zero_f32, zero_add]
  refine Finset.sum_congr rfl fun k _ => ?_
  rw [val_main_v1_apply, val_main_v0_apply]
  exact congrArg (fun i => x0 i * x0 i) (funext fun a => by match a with | ⟨0, _⟩ => rfl | ⟨1, _⟩ => rfl | ⟨2, _⟩ => rfl)

/-- The normalised tokens. -/
theorem normalised (b : Fin 144) (s : Fin 5) (n : Fin 2048) : val_main_v13 (F := Ideal) x0 x1 (ix3 b s n) = token x0 x1 b s n := by
  rw [val_main_v13_apply, val_main_v10_apply, val_main_v0_apply, val_main_v9_apply, val_main_v8_apply, val_main_v7_apply, val_main_v5_apply,
    val_main_v3_apply, val_main_v4_apply, val_main_v6_apply, val_main_cst_0_apply, val_main_cst_1_apply, val_main_v12_apply, val_main_v11_apply]
  rw [show idx_main_v3 (idx_main_v9 (ix3 b s n)) = ix2 b s from funext fun a => by match a with | ⟨0, _⟩ => rfl | ⟨1, _⟩ => rfl, squares]
  rw [show idx_main_v11 (idx_main_v12 (ix3 b s n)) = ix1 n from funext fun a => by match a with | ⟨0, _⟩ => rfl]
  rfl

/-- The coordinates of the index that a maximum along the entries reads. -/
theorem lift_ix (b : Fin 144) (s : Fin 5) (k : Fin 2048) :
    (show S144x5x2048.Reduces [2] S144x5 by decide).lift (ix2 b s) k = ix3 b s k := by
  funext a
  match a with
  | ⟨0, _⟩ => rfl
  | ⟨1, _⟩ => rfl
  | ⟨2, _⟩ => rfl

/-- A maximum along the entries, from minus infinity. -/
theorem maximum_apply (y : FVec Ideal S144x5x2048 .f32) (b : Fin 144) (s : Fin 5) :
    Host.reduce FloatOps.maximumf y (constant (F := Ideal) S_ .f32 0xFF800000#32) reducesTo_S144x5x2048_S144x5_d2 h_S_ (ix2 b s)
      = (Finset.univ : Finset (Fin 2048)).fold max (FloatOps.ofBits (F := Ideal) .f32 0xFF800000#32) (fun k => y (ix3 b s k)) := by
  have h1 := congrFun (hostReduce_maximumf_eq_multiReduction (F := Ideal) (φ := .f32) y 0xFF800000#32 reducesTo_S144x5x2048_S144x5_d2 h_S_ (by decide) (.inl rfl) rfl) (ix2 b s)
  have h2 := Ideal.multiReduction_maximumf_single y 0xFF800000#32 (show S144x5x2048.Reduces [2] S144x5 by decide) (.inl rfl) rfl (ix2 b s)
  refine h1.trans (h2.trans ?_)
  refine congrArg (fun g : Fin 2048 → EReal => (Finset.univ : Finset (Fin 2048)).fold max (FloatOps.ofBits (F := Ideal) .f32 0xFF800000#32) g) (funext fun k => ?_)
  exact congrArg y (lift_ix b s k)

/-- The largest magnitude of a token. -/
theorem magnitude (b : Fin 144) (s : Fin 5) : val_main_v15 (F := Ideal) x0 x1 (ix2 b s) = NormSpec.amax (token x0 x1 b s) := by
  have hn := normalised x0 x1 b s
  have ha : ∀ i : S144x5x2048.Idx, val_main_v14 (F := Ideal) x0 x1 i = max (val_main_v13 (F := Ideal) x0 x1 i) (-(val_main_v13 (F := Ideal) x0 x1 i) : EReal) := fun i => rfl
  refine (maximum_apply (val_main_v14 (F := Ideal) x0 x1) b s).trans ?_
  unfold NormSpec.amax
  refine congrArg (fun g : Fin 2048 → EReal => (Finset.univ : Finset (Fin 2048)).fold max (FloatOps.ofBits (F := Ideal) .f32 0xFF800000#32) g) (funext fun k => ?_)
  rw [ha, hn]

/-- The scale of a token. -/
theorem scale_eq (b : Fin 144) (s : Fin 5) : val_main_v20 (F := Ideal) x0 x1 (ix2 b s) = NormSpec.scale (token x0 x1 b s) := by
  rw [val_main_v20_apply, val_main_v17_apply, val_main_v19_apply, magnitude, val_main_v16_apply, val_main_v18_apply, val_main_call0_v1_apply,
    val_main_call0_v0_apply, val_main_cst_3_apply, val_main_cst_4_apply, val_main_cst_5_apply]
  rfl

/-- The code of an entry, before it is converted. -/
theorem code_eq (b : Fin 144) (s : Fin 5) (n : Fin 2048) : val_main_v25 (F := Ideal) x0 x1 (ix3 b s n) = NormSpec.code (token x0 x1 b s) n := by
  rw [val_main_v25_apply, val_main_call2_v4_apply, val_main_call2_v3_apply, val_main_cst_7_apply, val_main_call2_v2_apply, val_main_call2_v1_apply,
    val_main_call2_v0_apply, val_main_cst_6_apply, val_main_v24_apply, val_main_v23_apply, normalised, val_main_v22_apply, val_main_v21_apply]
  rw [show idx_main_v21 (idx_main_v22 (ix3 b s n)) = ix2 b s from funext fun a => by match a with | ⟨0, _⟩ => rfl | ⟨1, _⟩ => rfl, scale_eq]
  rfl

/-- The converted code of an entry. -/
theorem int_code_eq (b : Fin 144) (s : Fin 5) (n : Fin 2048) : val_main_v27 (F := Ideal) x0 x1 (ix3 b s n)
    = (FloatOps.fptosi (F := Ideal) (φ := .f32) 32 (NormSpec.code (token x0 x1 b s) n) : BitVec 32).setWidth 8 := by
  rw [val_main_v27_apply, val_main_v26_apply, code_eq]

/-- The row of codes: row `r` is token `r % 40 / 8` of sequence `8 * (r / 40) + r % 8`. -/
theorem code_row_eq (r : Fin 720) (n : Fin 2048) : val_main_v31 (F := Ideal) x0 x1 (ix2 r n)
    = NormSpec.code (token x0 x1 (⟨8 * (r.val / 40) + r.val % 40 % 8, by omega⟩ : Fin 144) (⟨r.val % 40 / 8, by omega⟩ : Fin 5)) n := by
  rw [val_main_v31_apply, val_main_v30_apply, val_main_v29_apply, val_main_v28_apply, ← code_eq]
  have hr := r.isLt
  have hn := n.isLt
  have e0 : (r.val * 2048 + n.val) / 81920 = r.val / 40 := by omega
  have e1 : (r.val * 2048 + n.val) / 16384 % 5 = r.val % 40 / 8 := by omega
  have e2 : (r.val * 2048 + n.val) / 2048 % 8 = r.val % 40 % 8 := by omega
  have e3 : (r.val * 2048 + n.val) % 2048 = n.val := by omega
  refine congrArg (val_main_v25 (F := Ideal) x0 x1) (funext fun a => Fin.ext ?_)
  match a with
  | ⟨0, _⟩ =>
    show ((((r.val * 2048 + n.val) / 81920 * 8 + (r.val * 2048 + n.val) / 2048 % 8) * 5 + (r.val * 2048 + n.val) / 16384 % 5) * 2048 + (r.val * 2048 + n.val) % 2048) / 10240 = 8 * (r.val / 40) + r.val % 40 % 8
    rw [e0, e1, e2, e3]; omega
  | ⟨1, _⟩ =>
    show ((((r.val * 2048 + n.val) / 81920 * 8 + (r.val * 2048 + n.val) / 2048 % 8) * 5 + (r.val * 2048 + n.val) / 16384 % 5) * 2048 + (r.val * 2048 + n.val) % 2048) / 2048 % 5 = r.val % 40 / 8
    rw [e0, e1, e2, e3]; omega
  | ⟨2, _⟩ =>
    show ((((r.val * 2048 + n.val) / 81920 * 8 + (r.val * 2048 + n.val) / 2048 % 8) * 5 + (r.val * 2048 + n.val) / 16384 % 5) * 2048 + (r.val * 2048 + n.val) % 2048) % 2048 = n.val
    rw [e0, e1, e2, e3]; omega

/-- The row of scales, over 128 lanes. -/
theorem scale_row_eq (r : Fin 720) (n : Fin 128) : val_main_v36 (F := Ideal) x0 x1 (ix2 r n)
    = NormSpec.scale (token x0 x1 (⟨8 * (r.val / 40) + r.val % 40 % 8, by omega⟩ : Fin 144) (⟨r.val % 40 / 8, by omega⟩ : Fin 5)) := by
  rw [val_main_v36_apply, val_main_v35_apply, val_main_v34_apply, val_main_v33_apply, val_main_v32_apply, ← scale_eq]
  have hr := r.isLt
  have hn := n.isLt
  have e0 : (r.val * 128 + n.val) / 5120 = r.val / 40 := by omega
  have e1 : (r.val * 128 + n.val) / 1024 % 5 = r.val % 40 / 8 := by omega
  have e2 : (r.val * 128 + n.val) / 128 % 8 = r.val % 40 % 8 := by omega
  have e3 : (r.val * 128 + n.val) % 128 = n.val := by omega
  refine congrArg (val_main_v20 (F := Ideal) x0 x1) (funext fun a => Fin.ext ?_)
  match a with
  | ⟨0, _⟩ =>
    show ((((r.val * 128 + n.val) / 5120 * 8 + (r.val * 128 + n.val) / 128 % 8) * 5 + (r.val * 128 + n.val) / 1024 % 5) * 128 + (r.val * 128 + n.val) % 128) / 640 = 8 * (r.val / 40) + r.val % 40 % 8
    rw [e0, e1, e2, e3]; omega
  | ⟨1, _⟩ =>
    show ((((r.val * 128 + n.val) / 5120 * 8 + (r.val * 128 + n.val) / 128 % 8) * 5 + (r.val * 128 + n.val) / 1024 % 5) * 128 + (r.val * 128 + n.val) % 128) / 128 % 5 = r.val % 40 / 8
    rw [e0, e1, e2, e3]; omega

end Cert.NormReferenceIdeal.Spec

end
-- ==== Proof.lean ====
/-
  The certificate's claims. The algebraic claims give both programs' results as one closed form.
-/
module

public import proofs.«01_k».proof.Defs
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutReferenceIdeal
public import proofs.«01_k».proof.Proof.Gen.OutProjIdeal.Value
public import proofs.«01_k».proof.Proof.Gen.OutReferenceIdeal.Run
public import proofs.«01_k».proof.Proof.Gen.OutReferenceIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProj.Loops
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Loops
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.On_in_proj_defined
public import proofs.«01_k».proof.Proof.Gen.NormQuant
public import proofs.«01_k».proof.Proof.Gen.NormQuant.Skeleton
public import proofs.«01_k».proof.Proof.Gen.NormQuant.Launch
public import proofs.«01_k».proof.Proof.Gen.NormQuantIdeal
public import proofs.«01_k».proof.Proof.Gen.NormQuantIdeal.Skeleton
public import proofs.«01_k».proof.Proof.Gen.NormQuantIdeal.Launch
public import proofs.«01_k».proof.Proof.Gen.NormReferenceIdeal
public import proofs.«01_k».proof.Proof.Gen.NormReferenceIdeal.Run
public import proofs.«01_k».proof.Proof.Gen.NormReferenceIdeal.Read
public import proofs.«01_k».proof.Proof.OutValue
public import proofs.«01_k».proof.Proof.OutReference
public import proofs.«01_k».proof.Proof.InRun
public import proofs.«01_k».proof.Proof.InValue
public import proofs.«01_k».proof.Proof.InGather
public import proofs.«01_k».proof.Proof.InMask
public import proofs.«01_k».proof.Proof.NormOk
public import proofs.«01_k».proof.Proof.NormRun
public import proofs.«01_k».proof.Proof.NormOkIdeal
public import proofs.«01_k».proof.Proof.NormSlots
public import proofs.«01_k».proof.Proof.NormValue
public import proofs.«01_k».proof.Proof.NormReference
public import Idealize.ShloMosaic.Adequacy
public import Idealize.ShloMosaic.Init

@[expose] public section

set_option maxRecDepth 16384

noncomputable section

namespace Cert.Proof

open Idealize.ShloMosaic hiding ix1 ix2 ix3 ix4 eq_ix1 eq_ix2 eq_ix3 eq_ix4
open Idealize.SL.Sem

/-- The reference of the output projection terminates and leaves its arguments unchanged. -/
theorem frame_out_reference : Cert.quiescent_OutReferenceIdeal := fun m ρ _ =>
  (θ_run Cert.OutReferenceIdeal.defs _ _).mono (fun r h => ⟨fun c => (h c).2,
      Idealize.ShloMosaic.sem_eq_zero_of_no_sems (by decide) r.2⟩)
    (Cert.OutReferenceIdeal.Value.run (F := Ideal) m ρ)

/-- The output projection and its reference compute one array. -/
theorem algebraic_out : Cert.algebraic_OutProjIdeal_OutReferenceIdeal := by
  intro m g m' g' _ hargs
  refine ⟨fun c => Cert.OutProjIdeal.Block.result m c, Cert.OutProjIdeal.Block.run m g, ?_⟩
  refine (θ_run (Cert.OutReferenceIdeal.defs (F := Ideal)) _ _).mono (fun r h c => ?_) (Cert.OutReferenceIdeal.Value.run m' g')
  refine ⟨(h c).1.trans ?_, (h c).2⟩
  rw [(hargs c).1, (hargs c).2.1, (hargs c).2.2.1, (hargs c).2.2.2.1, (hargs c).2.2.2.2]
  exact (Cert.OutReferenceIdeal.Read.val_main_v17_eq _ _ _ _ _).trans (Cert.OutReferenceIdeal.Closed.value_eq _ _ _ _ _)

/-- The reference of the input projection terminates and leaves its arguments unchanged. -/
theorem frame_in_reference : Cert.quiescent_InReferenceIdeal := fun m ρ _ =>
  (θ_run Cert.InReferenceIdeal.defs _ _).mono (fun r h => ⟨fun c => (h c).2.2.2.2,
      Idealize.ShloMosaic.sem_eq_zero_of_no_sems (by decide) r.2⟩)
    (Cert.InReferenceIdeal.Value.run (F := Ideal) m ρ)

section
open Cert.InProjIdeal Cert.InProjIdeal.Spec Cert.InProjIdeal.InValue Idealize.ShloMosaic.ValueIdx

/-- The third result: a and b in the lanes below 12. -/
def lanes (m : (ℓ : Loc nD τ sig) → Buf (Elt Ideal) ℓ) (c : Dev nD) (i : S720x128.Idx) : EReal :=
  if h : (i 1).val < 12 then out9 (a0 m c) (a1 m c) (a2 m c) (a3 m c) (i 0) ⟨(i 1).val, h⟩ else 0

theorem lanes_eq (m : (ℓ : Loc nD τ sig) → Buf (Elt Ideal) ℓ) (c : Dev nD) (q : Fin 720) (n : Fin 128) (h : n.val < 12) :
    out9 (a0 m c) (a1 m c) (a2 m c) (a3 m c) q ⟨n.val, h⟩ = lanes m c (ix2 q n) := by
  unfold lanes
  split
  · rfl
  · rename_i h'
    exact absurd h h'

/-- The input projection and its reference compute the same arrays where the mask is set. -/
theorem algebraic_in : Cert.algebraic_InProjIdeal_InReferenceIdeal_on_in_proj_defined (hOn_in_proj_defined := Cert.On_in_proj_defined.Gen.facts) := by
  intro m g m' g' _ hargs
  letI := Cert.On_in_proj_defined.Gen.facts
  refine ⟨fun c => out7 (a0 m c) (a1 m c) (a2 m c) (a3 m c) (a4 m c) (a5 m c), fun c => out8 (a0 m c) (a1 m c) (a2 m c) (a3 m c),
    fun c => lanes m c,
    fun c => out10 (a0 m c) (a1 m c) (a2 m c) (a3 m c) (a5 m c) (a6 m c), ?_, ?_⟩
  · refine (θ_run (Cert.InProjIdeal.defs (F := Ideal)) _ _).mono (fun r h c => ?_) (Cert.InProjIdeal.InValue.run m g)
    obtain ⟨⟨h7, h8, h9, h10⟩, hk⟩ := h c
    refine ⟨fun i _ => congrFun h7 i, fun i _ => congrFun h8 i, fun i hi => ?_, fun i _ => congrFun h10 i, hk⟩
    have hl := Cert.On_in_proj_defined.lane _ _ _ _ _ _ _ i hi
    obtain ⟨q, n, rfl⟩ : ∃ (q : Fin 720) (n : Fin 128), i = ix2 q n := ⟨i 0, i 1, eq_ix2 (n0 := 720) (n1 := 128) i⟩
    exact (h9 q ⟨n.val, hl⟩).trans (lanes_eq m c q n hl)
  · refine (θ_run (Cert.InReferenceIdeal.defs (F := Ideal)) _ _).mono (fun r h c => ?_) (Cert.InReferenceIdeal.Value.run (F := Ideal) m' g')
    obtain ⟨e0, e1, e2, e3, e4, e5, e6⟩ := hargs c
    obtain ⟨h7, h8, h9, h10, hk⟩ := h c
    have k7 := h7.trans (Cert.InReferenceIdeal.Read.val_main_v86_eq _)
    have k8 := h8.trans (Cert.InReferenceIdeal.Read.val_main_v92_eq _)
    have k9 := h9.trans (Cert.InReferenceIdeal.Read.val_main_v97_eq _)
    have k10 := h10.trans (Cert.InReferenceIdeal.Read.val_main_v81_eq _)
    have E0 : StableHlo.launchContents m' c (Proc.devRef .tc Cert.InReferenceIdeal.main_arg0) = a0 m c := e0
    have E1 : StableHlo.launchContents m' c (Proc.devRef .tc Cert.InReferenceIdeal.main_arg1) = a1 m c := e1
    have E2 : StableHlo.launchContents m' c (Proc.devRef .tc Cert.InReferenceIdeal.main_arg2) = a2 m c := e2
    have E3 : StableHlo.launchContents m' c (Proc.devRef .tc Cert.InReferenceIdeal.main_arg3) = a3 m c := e3
    have E4 : StableHlo.launchContents m' c (Proc.devRef .tc Cert.InReferenceIdeal.main_arg4) = a4 m c := e4
    have E5 : StableHlo.launchContents m' c (Proc.devRef .tc Cert.InReferenceIdeal.main_arg5) = a5 m c := e5
    have E6 : StableHlo.launchContents m' c (Proc.devRef .tc Cert.InReferenceIdeal.main_arg6) = a6 m c := e6
    rw [E0, E1, E2, E3, E4, E5] at k7
    rw [E0, E1, E2, E3] at k8 k9
    rw [E0, E1, E2, E3, E5, E6] at k10
    refine ⟨fun i _ => ?_, fun i _ => ?_, fun i hi => ?_, fun i hi => ?_, hk⟩
    · obtain ⟨l, q, n, rfl⟩ : ∃ (l : Fin 36) (q : Fin 720) (n : Fin 128), i = ix3 l q n := ⟨i 0, i 1, i 2, eq_ix3 (n0 := 36) (n1 := 720) (n2 := 128) i⟩
      exact (congrFun k7 _).trans (Cert.InReferenceIdeal.Closed.first _ _ _ _ _ _ l q n)
    · obtain ⟨l, q, n, rfl⟩ : ∃ (l : Fin 24) (q : Fin 720) (n : Fin 128), i = ix3 l q n := ⟨i 0, i 1, i 2, eq_ix3 (n0 := 24) (n1 := 720) (n2 := 128) i⟩
      exact (congrFun k8 _).trans (Cert.InReferenceIdeal.Closed.second _ _ _ _ l q n)
    · have hl := Cert.On_in_proj_defined.lane _ _ _ _ _ _ _ i hi
      obtain ⟨q, n, rfl⟩ : ∃ (q : Fin 720) (n : Fin 128), i = ix2 q n := ⟨i 0, i 1, eq_ix2 (n0 := 720) (n1 := 128) i⟩
      exact (congrFun k9 _).trans ((Cert.InReferenceIdeal.Closed.third _ _ _ _ q ⟨n.val, hl⟩).trans (lanes_eq m c q n hl))
    · obtain ⟨b, d, e, rfl⟩ : ∃ (b : Fin 144) (d : Fin 3) (e : Fin 4608), i = ix3 b d e := ⟨i 0, i 1, i 2, eq_ix3 (n0 := 144) (n1 := 3) (n2 := 4608) i⟩
      exact (congrFun k10 _).trans (Cert.InReferenceIdeal.Closed.fourth _ _ _ _ _ _ b d e (Cert.On_in_proj_defined.length _ _ _ _ _ _ _ b d e hi))

end

/-- The quantisation of the inputs terminates and leaves its arguments unchanged, where the slots are rows of the cache. -/
theorem frame_norm : Cert.quiescent_NormQuant (hPre_slots_in_cache := Cert.NormSlots.facts) := fun m ρ h =>
  Cert.NormQuant.Gen.frame m ρ (Cert.NormQuant.Gen.ok_of_lt m (letI := Cert.NormSlots.facts; Cert.NormSlots.lt_of_pre _ _ _ _ (h 0)))

/-- The same of the ideal program. -/
theorem frame_norm_ideal : Cert.quiescent_NormQuantIdeal (hPre_slots_in_cache := Cert.NormSlots.facts) := fun m ρ h =>
  Cert.NormQuantIdeal.Gen.frame m ρ (Cert.NormQuantIdeal.Gen.ok_of_lt m (letI := Cert.NormSlots.facts; Cert.NormSlots.lt_of_pre _ _ _ _ (h 0)))

/-- The reference of the quantisation of the inputs terminates and leaves its arguments unchanged. -/
theorem frame_norm_reference : Cert.quiescent_NormReferenceIdeal := fun m ρ _ =>
  (θ_run Cert.NormReferenceIdeal.defs _ _).mono (fun r h => ⟨fun c => (h c).2.2.2.2,
      Idealize.ShloMosaic.sem_eq_zero_of_no_sems (by decide) r.2⟩)
    (Cert.NormReferenceIdeal.Value.run (F := Ideal) m ρ)

section
open Cert.NormQuantIdeal.Array Idealize.ShloMosaic.ValueIdx

/-- The quantisation of the inputs and its reference compute the same codes and scales, and the same rows. -/
theorem algebraic_norm : Cert.algebraic_NormQuantIdeal_NormReferenceIdeal (hPre_slots_in_cache := Cert.NormSlots.facts) := by
  intro m g m' g' hpre hargs
  have hO : Cert.NormQuantIdeal.Gen.Ok m :=
    Cert.NormQuantIdeal.Gen.ok_of_lt m (letI := Cert.NormSlots.facts; Cert.NormSlots.lt_of_pre _ _ _ _ (hpre 0))
  refine ⟨fun c => codes m c, fun c => scales m c, fun c => codeRows m c, fun c => scaleRows m c, run m g hO, ?_⟩
  refine (θ_run (Cert.NormReferenceIdeal.defs (F := Ideal)) _ _).mono (fun r h c => ?_) (Cert.NormReferenceIdeal.Value.run (F := Ideal) m' g')
  obtain ⟨e0, e1, e2, e3⟩ := hargs c
  obtain ⟨h0, h1, h2, h3, hk⟩ := h c
  have k0 := h0.trans (Cert.NormReferenceIdeal.Read.val_main_v27_eq _ _)
  have k1 := h1.trans (Cert.NormReferenceIdeal.Read.val_main_v20_eq _ _)
  have k2 := h2.trans (Cert.NormReferenceIdeal.Read.val_main_v31_eq _ _)
  have k3 := h3.trans (Cert.NormReferenceIdeal.Read.val_main_v36_eq _ _)
  rw [e0, e1] at k0 k1 k2 k3
  refine ⟨k0.trans ?_, k1.trans ?_, k2.trans ?_, k3.trans ?_, hk⟩
  · refine funext fun (i : Cert.NormQuantIdeal.S144x5x2048.Idx) => ?_
    obtain ⟨b, s, n, rfl⟩ : ∃ (b : Fin 144) (s : Fin 5) (n : Fin 2048), i = ix3 b s n := ⟨i 0, i 1, i 2, eq_ix3 (n0 := 144) (n1 := 5) (n2 := 2048) i⟩
    exact Cert.NormReferenceIdeal.Spec.int_code_eq _ _ b s n
  · refine funext fun (i : Cert.NormQuantIdeal.S144x5.Idx) => ?_
    obtain ⟨b, s, rfl⟩ : ∃ (b : Fin 144) (s : Fin 5), i = ix2 b s := ⟨i 0, i 1, eq_ix2 (n0 := 144) (n1 := 5) i⟩
    exact Cert.NormReferenceIdeal.Spec.scale_eq _ _ b s
  · refine funext fun (i : Cert.NormQuantIdeal.S720x2048.Idx) => ?_
    obtain ⟨q, n, rfl⟩ : ∃ (q : Fin 720) (n : Fin 2048), i = ix2 q n := ⟨i 0, i 1, eq_ix2 (n0 := 720) (n1 := 2048) i⟩
    exact Cert.NormReferenceIdeal.Spec.code_row_eq _ _ q n
  · refine funext fun (i : Cert.NormQuantIdeal.S720x128.Idx) => ?_
    obtain ⟨q, n, rfl⟩ : ∃ (q : Fin 720) (n : Fin 128), i = ix2 q n := ⟨i 0, i 1, eq_ix2 (n0 := 720) (n1 := 128) i⟩
    exact Cert.NormReferenceIdeal.Spec.scale_row_eq _ _ q n

end

theorem claim : Cert.Claim :=
  ⟨Cert.OutProj.Gen.facts, Cert.OutProjIdeal.Gen.facts, Cert.OutReferenceIdeal.Gen.facts,
    Cert.InProj.Gen.facts, Cert.InProjIdeal.Gen.facts, Cert.InReferenceIdeal.Gen.facts,
    Cert.NormQuant.Gen.facts, Cert.NormQuantIdeal.Gen.facts, Cert.NormReferenceIdeal.Gen.facts, Cert.NormSlots.facts, Cert.On_in_proj_defined.Gen.facts,
    fun m ρ _ => Cert.OutProj.Gen.frame m ρ, fun m ρ _ => Cert.OutProjIdeal.Gen.frame m ρ, frame_out_reference,
    fun m ρ _ => Cert.InProj.Run.frame m ρ, fun m ρ _ => Cert.InProjIdeal.Run.frame m ρ, frame_in_reference,
    frame_norm, frame_norm_ideal, frame_norm_reference, fun m ρ _ => frame_norm_reference m ρ trivial,
    trivial, algebraic_out, trivial, algebraic_in, trivial, algebraic_norm⟩

end Cert.Proof

end
